-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel0 (m : (ℓ : Loc Cert.Kernel0.nD Cert.Kernel0.τ Cert.Kernel0.sig) → Buf (Elt Bits) ℓ) : Prop :=
  True

def Pre_Kernel0Ideal (m : (ℓ : Loc Cert.Kernel0Ideal.nD Cert.Kernel0Ideal.τ Cert.Kernel0Ideal.sig) → Buf (Elt Ideal) ℓ) : Prop :=
  True

def Pre_Reference0Ideal (m : (ℓ : Loc Cert.Reference0Ideal.nD Cert.Reference0Ideal.τ Cert.Reference0Ideal.sig) → Buf (Elt Ideal) ℓ) : Prop :=
  True

def Pre_KernelEven (m : (ℓ : Loc Cert.KernelEven.nD Cert.KernelEven.τ Cert.KernelEven.sig) → Buf (Elt Bits) ℓ) : Prop :=
  True

def Pre_KernelEvenIdeal (m : (ℓ : Loc Cert.KernelEvenIdeal.nD Cert.KernelEvenIdeal.τ Cert.KernelEvenIdeal.sig) → Buf (Elt Ideal) ℓ) : Prop :=
  True

def Pre_KernelEvenIdeal_finite [hPre_finite : Cert.Pre_finite.Facts] (m : (ℓ : Loc Cert.KernelEvenIdeal.nD Cert.KernelEvenIdeal.τ Cert.KernelEvenIdeal.sig) → Buf (Elt Ideal) ℓ) : Prop :=
  ∀ c : Dev Cert.KernelEvenIdeal.nD,
    (Cert.Pre_finite.fn (F := Ideal) (m ((c.tc : Thread Cert.KernelEvenIdeal.nD Cert.KernelEvenIdeal.τ).loc Cert.KernelEvenIdeal.main_arg0)) (m ((c.tc : Thread Cert.KernelEvenIdeal.nD Cert.KernelEvenIdeal.τ).loc Cert.KernelEvenIdeal.main_arg1)) (m ((c.tc : Thread Cert.KernelEvenIdeal.nD Cert.KernelEvenIdeal.τ).loc Cert.KernelEvenIdeal.main_arg2)) (m ((c.tc : Thread Cert.KernelEvenIdeal.nD Cert.KernelEvenIdeal.τ).loc Cert.KernelEvenIdeal.main_arg3)) (m ((c.tc : Thread Cert.KernelEvenIdeal.nD Cert.KernelEvenIdeal.τ).loc Cert.KernelEvenIdeal.main_arg4)) (m ((c.tc : Thread Cert.KernelEvenIdeal.nD Cert.KernelEvenIdeal.τ).loc Cert.KernelEvenIdeal.main_arg5)) (m ((c.tc : Thread Cert.KernelEvenIdeal.nD Cert.KernelEvenIdeal.τ).loc Cert.KernelEvenIdeal.main_arg6)) (m ((c.tc : Thread Cert.KernelEvenIdeal.nD Cert.KernelEvenIdeal.τ).loc Cert.KernelEvenIdeal.main_arg7))).1 = (fun _ => 1#1)
    ∧ (Cert.Pre_finite.fn (F := Ideal) (m ((c.tc : Thread Cert.KernelEvenIdeal.nD Cert.KernelEvenIdeal.τ).loc Cert.KernelEvenIdeal.main_arg0)) (m ((c.tc : Thread Cert.KernelEvenIdeal.nD Cert.KernelEvenIdeal.τ).loc Cert.KernelEvenIdeal.main_arg1)) (m ((c.tc : Thread Cert.KernelEvenIdeal.nD Cert.KernelEvenIdeal.τ).loc Cert.KernelEvenIdeal.main_arg2)) (m ((c.tc : Thread Cert.KernelEvenIdeal.nD Cert.KernelEvenIdeal.τ).loc Cert.KernelEvenIdeal.main_arg3)) (m ((c.tc : Thread Cert.KernelEvenIdeal.nD Cert.KernelEvenIdeal.τ).loc Cert.KernelEvenIdeal.main_arg4)) (m ((c.tc : Thread Cert.KernelEvenIdeal.nD Cert.KernelEvenIdeal.τ).loc Cert.KernelEvenIdeal.main_arg5)) (m ((c.tc : Thread Cert.KernelEvenIdeal.nD Cert.KernelEvenIdeal.τ).loc Cert.KernelEvenIdeal.main_arg6)) (m ((c.tc : Thread Cert.KernelEvenIdeal.nD Cert.KernelEvenIdeal.τ).loc Cert.KernelEvenIdeal.main_arg7))).2 = (fun _ => 1#1)

def Pre_ReferenceEvenIdeal (m : (ℓ : Loc Cert.ReferenceEvenIdeal.nD Cert.ReferenceEvenIdeal.τ Cert.ReferenceEvenIdeal.sig) → Buf (Elt Ideal) ℓ) : Prop :=
  True

def Pre_ReferenceEvenIdeal_finite [hPre_finite : Cert.Pre_finite.Facts] (m : (ℓ : Loc Cert.ReferenceEvenIdeal.nD Cert.ReferenceEvenIdeal.τ Cert.ReferenceEvenIdeal.sig) → Buf (Elt Ideal) ℓ) : Prop :=
  ∀ c : Dev Cert.ReferenceEvenIdeal.nD,
    (Cert.Pre_finite.fn (F := Ideal) (m ((c.tc : Thread Cert.ReferenceEvenIdeal.nD Cert.ReferenceEvenIdeal.τ).loc Cert.ReferenceEvenIdeal.main_arg0)) (m ((c.tc : Thread Cert.ReferenceEvenIdeal.nD Cert.ReferenceEvenIdeal.τ).loc Cert.ReferenceEvenIdeal.main_arg1)) (m ((c.tc : Thread Cert.ReferenceEvenIdeal.nD Cert.ReferenceEvenIdeal.τ).loc Cert.ReferenceEvenIdeal.main_arg2)) (m ((c.tc : Thread Cert.ReferenceEvenIdeal.nD Cert.ReferenceEvenIdeal.τ).loc Cert.ReferenceEvenIdeal.main_arg3)) (m ((c.tc : Thread Cert.ReferenceEvenIdeal.nD Cert.ReferenceEvenIdeal.τ).loc Cert.ReferenceEvenIdeal.main_arg4)) (m ((c.tc : Thread Cert.ReferenceEvenIdeal.nD Cert.ReferenceEvenIdeal.τ).loc Cert.ReferenceEvenIdeal.main_arg5)) (m ((c.tc : Thread Cert.ReferenceEvenIdeal.nD Cert.ReferenceEvenIdeal.τ).loc Cert.ReferenceEvenIdeal.main_arg6)) (m ((c.tc : Thread Cert.ReferenceEvenIdeal.nD Cert.ReferenceEvenIdeal.τ).loc Cert.ReferenceEvenIdeal.main_arg7))).1 = (fun _ => 1#1)
    ∧ (Cert.Pre_finite.fn (F := Ideal) (m ((c.tc : Thread Cert.ReferenceEvenIdeal.nD Cert.ReferenceEvenIdeal.τ).loc Cert.ReferenceEvenIdeal.main_arg0)) (m ((c.tc : Thread Cert.ReferenceEvenIdeal.nD Cert.ReferenceEvenIdeal.τ).loc Cert.ReferenceEvenIdeal.main_arg1)) (m ((c.tc : Thread Cert.ReferenceEvenIdeal.nD Cert.ReferenceEvenIdeal.τ).loc Cert.ReferenceEvenIdeal.main_arg2)) (m ((c.tc : Thread Cert.ReferenceEvenIdeal.nD Cert.ReferenceEvenIdeal.τ).loc Cert.ReferenceEvenIdeal.main_arg3)) (m ((c.tc : Thread Cert.ReferenceEvenIdeal.nD Cert.ReferenceEvenIdeal.τ).loc Cert.ReferenceEvenIdeal.main_arg4)) (m ((c.tc : Thread Cert.ReferenceEvenIdeal.nD Cert.ReferenceEvenIdeal.τ).loc Cert.ReferenceEvenIdeal.main_arg5)) (m ((c.tc : Thread Cert.ReferenceEvenIdeal.nD Cert.ReferenceEvenIdeal.τ).loc Cert.ReferenceEvenIdeal.main_arg6)) (m ((c.tc : Thread Cert.ReferenceEvenIdeal.nD Cert.ReferenceEvenIdeal.τ).loc Cert.ReferenceEvenIdeal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel0 [hKernel0 : Cert.Kernel0.Facts] : Prop :=
  ∀ (m : (ℓ : Loc Cert.Kernel0.nD Cert.Kernel0.τ Cert.Kernel0.sig) → Buf (Elt Bits) ℓ) (g : Dev Cert.Kernel0.nD → PrngReg), Pre_Kernel0 m →
    θ_run (Cert.Kernel0.defs (F := Bits)) (onTc (τ := Cert.Kernel0.τ) (Cert.Kernel0.main (F := Bits))) ⟨m, fun _ => 0, g⟩ (fun r => (∀ c : Dev Cert.Kernel0.nD,
      r.2.mem ((c.tc : Thread Cert.Kernel0.nD Cert.Kernel0.τ).loc Cert.Kernel0.main_arg0) = m ((c.tc : Thread Cert.Kernel0.nD Cert.Kernel0.τ).loc Cert.Kernel0.main_arg0)
      ∧ r.2.mem ((c.tc : Thread Cert.Kernel0.nD Cert.Kernel0.τ).loc Cert.Kernel0.main_arg1) = m ((c.tc : Thread Cert.Kernel0.nD Cert.Kernel0.τ).loc Cert.Kernel0.main_arg1)
      ∧ r.2.mem ((c.tc : Thread Cert.Kernel0.nD Cert.Kernel0.τ).loc Cert.Kernel0.main_arg2) = m ((c.tc : Thread Cert.Kernel0.nD Cert.Kernel0.τ).loc Cert.Kernel0.main_arg2)
      ∧ r.2.mem ((c.tc : Thread Cert.Kernel0.nD Cert.Kernel0.τ).loc Cert.Kernel0.main_arg3) = m ((c.tc : Thread Cert.Kernel0.nD Cert.Kernel0.τ).loc Cert.Kernel0.main_arg3)
      ∧ r.2.mem ((c.tc : Thread Cert.Kernel0.nD Cert.Kernel0.τ).loc Cert.Kernel0.main_arg4) = m ((c.tc : Thread Cert.Kernel0.nD Cert.Kernel0.τ).loc Cert.Kernel0.main_arg4)
      ∧ r.2.mem ((c.tc : Thread Cert.Kernel0.nD Cert.Kernel0.τ).loc Cert.Kernel0.main_arg5) = m ((c.tc : Thread Cert.Kernel0.nD Cert.Kernel0.τ).loc Cert.Kernel0.main_arg5)
      ∧ r.2.mem ((c.tc : Thread Cert.Kernel0.nD Cert.Kernel0.τ).loc Cert.Kernel0.main_arg6) = m ((c.tc : Thread Cert.Kernel0.nD Cert.Kernel0.τ).loc Cert.Kernel0.main_arg6))
      ∧ r.2.sem = fun _ => 0)

def quiescent_Kernel0Ideal [hKernel0Ideal : Cert.Kernel0Ideal.Facts] : Prop :=
  ∀ (m : (ℓ : Loc Cert.Kernel0Ideal.nD Cert.Kernel0Ideal.τ Cert.Kernel0Ideal.sig) → Buf (Elt Ideal) ℓ) (g : Dev Cert.Kernel0Ideal.nD → PrngReg), Pre_Kernel0Ideal m →
    θ_run (Cert.Kernel0Ideal.defs (F := Ideal)) (onTc (τ := Cert.Kernel0Ideal.τ) (Cert.Kernel0Ideal.main (F := Ideal))) ⟨m, fun _ => 0, g⟩ (fun r => (∀ c : Dev Cert.Kernel0Ideal.nD,
      r.2.mem ((c.tc : Thread Cert.Kernel0Ideal.nD Cert.Kernel0Ideal.τ).loc Cert.Kernel0Ideal.main_arg0) = m ((c.tc : Thread Cert.Kernel0Ideal.nD Cert.Kernel0Ideal.τ).loc Cert.Kernel0Ideal.main_arg0)
      ∧ r.2.mem ((c.tc : Thread Cert.Kernel0Ideal.nD Cert.Kernel0Ideal.τ).loc Cert.Kernel0Ideal.main_arg1) = m ((c.tc : Thread Cert.Kernel0Ideal.nD Cert.Kernel0Ideal.τ).loc Cert.Kernel0Ideal.main_arg1)
      ∧ r.2.mem ((c.tc : Thread Cert.Kernel0Ideal.nD Cert.Kernel0Ideal.τ).loc Cert.Kernel0Ideal.main_arg2) = m ((c.tc : Thread Cert.Kernel0Ideal.nD Cert.Kernel0Ideal.τ).loc Cert.Kernel0Ideal.main_arg2)
      ∧ r.2.mem ((c.tc : Thread Cert.Kernel0Ideal.nD Cert.Kernel0Ideal.τ).loc Cert.Kernel0Ideal.main_arg3) = m ((c.tc : Thread Cert.Kernel0Ideal.nD Cert.Kernel0Ideal.τ).loc Cert.Kernel0Ideal.main_arg3)
      ∧ r.2.mem ((c.tc : Thread Cert.Kernel0Ideal.nD Cert.Kernel0Ideal.τ).loc Cert.Kernel0Ideal.main_arg4) = m ((c.tc : Thread Cert.Kernel0Ideal.nD Cert.Kernel0Ideal.τ).loc Cert.Kernel0Ideal.main_arg4)
      ∧ r.2.mem ((c.tc : Thread Cert.Kernel0Ideal.nD Cert.Kernel0Ideal.τ).loc Cert.Kernel0Ideal.main_arg5) = m ((c.tc : Thread Cert.Kernel0Ideal.nD Cert.Kernel0Ideal.τ).loc Cert.Kernel0Ideal.main_arg5)
      ∧ r.2.mem ((c.tc : Thread Cert.Kernel0Ideal.nD Cert.Kernel0Ideal.τ).loc Cert.Kernel0Ideal.main_arg6) = m ((c.tc : Thread Cert.Kernel0Ideal.nD Cert.Kernel0Ideal.τ).loc Cert.Kernel0Ideal.main_arg6))
      ∧ r.2.sem = fun _ => 0)

def quiescent_Reference0Ideal [hReference0Ideal : Cert.Reference0Ideal.Facts] : Prop :=
  ∀ (m : (ℓ : Loc Cert.Reference0Ideal.nD Cert.Reference0Ideal.τ Cert.Reference0Ideal.sig) → Buf (Elt Ideal) ℓ) (g : Dev Cert.Reference0Ideal.nD → PrngReg), Pre_Reference0Ideal m →
    θ_run (Cert.Reference0Ideal.defs (F := Ideal)) (onTc (τ := Cert.Reference0Ideal.τ) (Cert.Reference0Ideal.main (F := Ideal))) ⟨m, fun _ => 0, g⟩ (fun r => (∀ c : Dev Cert.Reference0Ideal.nD,
      r.2.mem ((c.tc : Thread Cert.Reference0Ideal.nD Cert.Reference0Ideal.τ).loc Cert.Reference0Ideal.main_arg0) = m ((c.tc : Thread Cert.Reference0Ideal.nD Cert.Reference0Ideal.τ).loc Cert.Reference0Ideal.main_arg0)
      ∧ r.2.mem ((c.tc : Thread Cert.Reference0Ideal.nD Cert.Reference0Ideal.τ).loc Cert.Reference0Ideal.main_arg1) = m ((c.tc : Thread Cert.Reference0Ideal.nD Cert.Reference0Ideal.τ).loc Cert.Reference0Ideal.main_arg1)
      ∧ r.2.mem ((c.tc : Thread Cert.Reference0Ideal.nD Cert.Reference0Ideal.τ).loc Cert.Reference0Ideal.main_arg2) = m ((c.tc : Thread Cert.Reference0Ideal.nD Cert.Reference0Ideal.τ).loc Cert.Reference0Ideal.main_arg2)
      ∧ r.2.mem ((c.tc : Thread Cert.Reference0Ideal.nD Cert.Reference0Ideal.τ).loc Cert.Reference0Ideal.main_arg3) = m ((c.tc : Thread Cert.Reference0Ideal.nD Cert.Reference0Ideal.τ).loc Cert.Reference0Ideal.main_arg3)
      ∧ r.2.mem ((c.tc : Thread Cert.Reference0Ideal.nD Cert.Reference0Ideal.τ).loc Cert.Reference0Ideal.main_arg4) = m ((c.tc : Thread Cert.Reference0Ideal.nD Cert.Reference0Ideal.τ).loc Cert.Reference0Ideal.main_arg4)
      ∧ r.2.mem ((c.tc : Thread Cert.Reference0Ideal.nD Cert.Reference0Ideal.τ).loc Cert.Reference0Ideal.main_arg5) = m ((c.tc : Thread Cert.Reference0Ideal.nD Cert.Reference0Ideal.τ).loc Cert.Reference0Ideal.main_arg5)
      ∧ r.2.mem ((c.tc : Thread Cert.Reference0Ideal.nD Cert.Reference0Ideal.τ).loc Cert.Reference0Ideal.main_arg6) = m ((c.tc : Thread Cert.Reference0Ideal.nD Cert.Reference0Ideal.τ).loc Cert.Reference0Ideal.main_arg6))
      ∧ r.2.sem = fun _ => 0)

def quiescent_KernelEven [hKernelEven : Cert.KernelEven.Facts] : Prop :=
  ∀ (m : (ℓ : Loc Cert.KernelEven.nD Cert.KernelEven.τ Cert.KernelEven.sig) → Buf (Elt Bits) ℓ) (g : Dev Cert.KernelEven.nD → PrngReg), Pre_KernelEven m →
    θ_run (Cert.KernelEven.defs (F := Bits)) (onTc (τ := Cert.KernelEven.τ) (Cert.KernelEven.main (F := Bits))) ⟨m, fun _ => 0, g⟩ (fun r => (∀ c : Dev Cert.KernelEven.nD,
      r.2.mem ((c.tc : Thread Cert.KernelEven.nD Cert.KernelEven.τ).loc Cert.KernelEven.main_arg0) = m ((c.tc : Thread Cert.KernelEven.nD Cert.KernelEven.τ).loc Cert.KernelEven.main_arg0)
      ∧ r.2.mem ((c.tc : Thread Cert.KernelEven.nD Cert.KernelEven.τ).loc Cert.KernelEven.main_arg1) = m ((c.tc : Thread Cert.KernelEven.nD Cert.KernelEven.τ).loc Cert.KernelEven.main_arg1)
      ∧ r.2.mem ((c.tc : Thread Cert.KernelEven.nD Cert.KernelEven.τ).loc Cert.KernelEven.main_arg2) = m ((c.tc : Thread Cert.KernelEven.nD Cert.KernelEven.τ).loc Cert.KernelEven.main_arg2)
      ∧ r.2.mem ((c.tc : Thread Cert.KernelEven.nD Cert.KernelEven.τ).loc Cert.KernelEven.main_arg3) = m ((c.tc : Thread Cert.KernelEven.nD Cert.KernelEven.τ).loc Cert.KernelEven.main_arg3)
      ∧ r.2.mem ((c.tc : Thread Cert.KernelEven.nD Cert.KernelEven.τ).loc Cert.KernelEven.main_arg4) = m ((c.tc : Thread Cert.KernelEven.nD Cert.KernelEven.τ).loc Cert.KernelEven.main_arg4)
      ∧ r.2.mem ((c.tc : Thread Cert.KernelEven.nD Cert.KernelEven.τ).loc Cert.KernelEven.main_arg5) = m ((c.tc : Thread Cert.KernelEven.nD Cert.KernelEven.τ).loc Cert.KernelEven.main_arg5)
      ∧ r.2.mem ((c.tc : Thread Cert.KernelEven.nD Cert.KernelEven.τ).loc Cert.KernelEven.main_arg6) = m ((c.tc : Thread Cert.KernelEven.nD Cert.KernelEven.τ).loc Cert.KernelEven.main_arg6)
      ∧ r.2.mem ((c.tc : Thread Cert.KernelEven.nD Cert.KernelEven.τ).loc Cert.KernelEven.main_arg7) = m ((c.tc : Thread Cert.KernelEven.nD Cert.KernelEven.τ).loc Cert.KernelEven.main_arg7))
      ∧ r.2.sem = fun _ => 0)

def quiescent_KernelEvenIdeal [hKernelEvenIdeal : Cert.KernelEvenIdeal.Facts] : Prop :=
  ∀ (m : (ℓ : Loc Cert.KernelEvenIdeal.nD Cert.KernelEvenIdeal.τ Cert.KernelEvenIdeal.sig) → Buf (Elt Ideal) ℓ) (g : Dev Cert.KernelEvenIdeal.nD → PrngReg), Pre_KernelEvenIdeal m →
    θ_run (Cert.KernelEvenIdeal.defs (F := Ideal)) (onTc (τ := Cert.KernelEvenIdeal.τ) (Cert.KernelEvenIdeal.main (F := Ideal))) ⟨m, fun _ => 0, g⟩ (fun r => (∀ c : Dev Cert.KernelEvenIdeal.nD,
      r.2.mem ((c.tc : Thread Cert.KernelEvenIdeal.nD Cert.KernelEvenIdeal.τ).loc Cert.KernelEvenIdeal.main_arg0) = m ((c.tc : Thread Cert.KernelEvenIdeal.nD Cert.KernelEvenIdeal.τ).loc Cert.KernelEvenIdeal.main_arg0)
      ∧ r.2.mem ((c.tc : Thread Cert.KernelEvenIdeal.nD Cert.KernelEvenIdeal.τ).loc Cert.KernelEvenIdeal.main_arg1) = m ((c.tc : Thread Cert.KernelEvenIdeal.nD Cert.KernelEvenIdeal.τ).loc Cert.KernelEvenIdeal.main_arg1)
      ∧ r.2.mem ((c.tc : Thread Cert.KernelEvenIdeal.nD Cert.KernelEvenIdeal.τ).loc Cert.KernelEvenIdeal.main_arg2) = m ((c.tc : Thread Cert.KernelEvenIdeal.nD Cert.KernelEvenIdeal.τ).loc Cert.KernelEvenIdeal.main_arg2)
      ∧ r.2.mem ((c.tc : Thread Cert.KernelEvenIdeal.nD Cert.KernelEvenIdeal.τ).loc Cert.KernelEvenIdeal.main_arg3) = m ((c.tc : Thread Cert.KernelEvenIdeal.nD Cert.KernelEvenIdeal.τ).loc Cert.KernelEvenIdeal.main_arg3)
      ∧ r.2.mem ((c.tc : Thread Cert.KernelEvenIdeal.nD Cert.KernelEvenIdeal.τ).loc Cert.KernelEvenIdeal.main_arg4) = m ((c.tc : Thread Cert.KernelEvenIdeal.nD Cert.KernelEvenIdeal.τ).loc Cert.KernelEvenIdeal.main_arg4)
      ∧ r.2.mem ((c.tc : Thread Cert.KernelEvenIdeal.nD Cert.KernelEvenIdeal.τ).loc Cert.KernelEvenIdeal.main_arg5) = m ((c.tc : Thread Cert.KernelEvenIdeal.nD Cert.KernelEvenIdeal.τ).loc Cert.KernelEvenIdeal.main_arg5)
      ∧ r.2.mem ((c.tc : Thread Cert.KernelEvenIdeal.nD Cert.KernelEvenIdeal.τ).loc Cert.KernelEvenIdeal.main_arg6) = m ((c.tc : Thread Cert.KernelEvenIdeal.nD Cert.KernelEvenIdeal.τ).loc Cert.KernelEvenIdeal.main_arg6)
      ∧ r.2.mem ((c.tc : Thread Cert.KernelEvenIdeal.nD Cert.KernelEvenIdeal.τ).loc Cert.KernelEvenIdeal.main_arg7) = m ((c.tc : Thread Cert.KernelEvenIdeal.nD Cert.KernelEvenIdeal.τ).loc Cert.KernelEvenIdeal.main_arg7))
      ∧ r.2.sem = fun _ => 0)

def quiescent_KernelEvenIdeal_pre_finite [hKernelEvenIdeal : Cert.KernelEvenIdeal.Facts] [hPre_finite : Cert.Pre_finite.Facts] : Prop :=
  ∀ (m : (ℓ : Loc Cert.KernelEvenIdeal.nD Cert.KernelEvenIdeal.τ Cert.KernelEvenIdeal.sig) → Buf (Elt Ideal) ℓ) (g : Dev Cert.KernelEvenIdeal.nD → PrngReg), Pre_KernelEvenIdeal_finite m →
    θ_run (Cert.KernelEvenIdeal.defs (F := Ideal)) (onTc (τ := Cert.KernelEvenIdeal.τ) (Cert.KernelEvenIdeal.main (F := Ideal))) ⟨m, fun _ => 0, g⟩ (fun r => (∀ c : Dev Cert.KernelEvenIdeal.nD,
      r.2.mem ((c.tc : Thread Cert.KernelEvenIdeal.nD Cert.KernelEvenIdeal.τ).loc Cert.KernelEvenIdeal.main_arg0) = m ((c.tc : Thread Cert.KernelEvenIdeal.nD Cert.KernelEvenIdeal.τ).loc Cert.KernelEvenIdeal.main_arg0)
      ∧ r.2.mem ((c.tc : Thread Cert.KernelEvenIdeal.nD Cert.KernelEvenIdeal.τ).loc Cert.KernelEvenIdeal.main_arg1) = m ((c.tc : Thread Cert.KernelEvenIdeal.nD Cert.KernelEvenIdeal.τ).loc Cert.KernelEvenIdeal.main_arg1)
      ∧ r.2.mem ((c.tc : Thread Cert.KernelEvenIdeal.nD Cert.KernelEvenIdeal.τ).loc Cert.KernelEvenIdeal.main_arg2) = m ((c.tc : Thread Cert.KernelEvenIdeal.nD Cert.KernelEvenIdeal.τ).loc Cert.KernelEvenIdeal.main_arg2)
      ∧ r.2.mem ((c.tc : Thread Cert.KernelEvenIdeal.nD Cert.KernelEvenIdeal.τ).loc Cert.KernelEvenIdeal.main_arg3) = m ((c.tc : Thread Cert.KernelEvenIdeal.nD Cert.KernelEvenIdeal.τ).loc Cert.KernelEvenIdeal.main_arg3)
      ∧ r.2.mem ((c.tc : Thread Cert.KernelEvenIdeal.nD Cert.KernelEvenIdeal.τ).loc Cert.KernelEvenIdeal.main_arg4) = m ((c.tc : Thread Cert.KernelEvenIdeal.nD Cert.KernelEvenIdeal.τ).loc Cert.KernelEvenIdeal.main_arg4)
      ∧ r.2.mem ((c.tc : Thread Cert.KernelEvenIdeal.nD Cert.KernelEvenIdeal.τ).loc Cert.KernelEvenIdeal.main_arg5) = m ((c.tc : Thread Cert.KernelEvenIdeal.nD Cert.KernelEvenIdeal.τ).loc Cert.KernelEvenIdeal.main_arg5)
      ∧ r.2.mem ((c.tc : Thread Cert.KernelEvenIdeal.nD Cert.KernelEvenIdeal.τ).loc Cert.KernelEvenIdeal.main_arg6) = m ((c.tc : Thread Cert.KernelEvenIdeal.nD Cert.KernelEvenIdeal.τ).loc Cert.KernelEvenIdeal.main_arg6)
      ∧ r.2.mem ((c.tc : Thread Cert.KernelEvenIdeal.nD Cert.KernelEvenIdeal.τ).loc Cert.KernelEvenIdeal.main_arg7) = m ((c.tc : Thread Cert.KernelEvenIdeal.nD Cert.KernelEvenIdeal.τ).loc Cert.KernelEvenIdeal.main_arg7))
      ∧ r.2.sem = fun _ => 0)

def quiescent_ReferenceEvenIdeal [hReferenceEvenIdeal : Cert.ReferenceEvenIdeal.Facts] : Prop :=
  ∀ (m : (ℓ : Loc Cert.ReferenceEvenIdeal.nD Cert.ReferenceEvenIdeal.τ Cert.ReferenceEvenIdeal.sig) → Buf (Elt Ideal) ℓ) (g : Dev Cert.ReferenceEvenIdeal.nD → PrngReg), Pre_ReferenceEvenIdeal m →
    θ_run (Cert.ReferenceEvenIdeal.defs (F := Ideal)) (onTc (τ := Cert.ReferenceEvenIdeal.τ) (Cert.ReferenceEvenIdeal.main (F := Ideal))) ⟨m, fun _ => 0, g⟩ (fun r => (∀ c : Dev Cert.ReferenceEvenIdeal.nD,
      r.2.mem ((c.tc : Thread Cert.ReferenceEvenIdeal.nD Cert.ReferenceEvenIdeal.τ).loc Cert.ReferenceEvenIdeal.main_arg0) = m ((c.tc : Thread Cert.ReferenceEvenIdeal.nD Cert.ReferenceEvenIdeal.τ).loc Cert.ReferenceEvenIdeal.main_arg0)
      ∧ r.2.mem ((c.tc : Thread Cert.ReferenceEvenIdeal.nD Cert.ReferenceEvenIdeal.τ).loc Cert.ReferenceEvenIdeal.main_arg1) = m ((c.tc : Thread Cert.ReferenceEvenIdeal.nD Cert.ReferenceEvenIdeal.τ).loc Cert.ReferenceEvenIdeal.main_arg1)
      ∧ r.2.mem ((c.tc : Thread Cert.ReferenceEvenIdeal.nD Cert.ReferenceEvenIdeal.τ).loc Cert.ReferenceEvenIdeal.main_arg2) = m ((c.tc : Thread Cert.ReferenceEvenIdeal.nD Cert.ReferenceEvenIdeal.τ).loc Cert.ReferenceEvenIdeal.main_arg2)
      ∧ r.2.mem ((c.tc : Thread Cert.ReferenceEvenIdeal.nD Cert.ReferenceEvenIdeal.τ).loc Cert.ReferenceEvenIdeal.main_arg3) = m ((c.tc : Thread Cert.ReferenceEvenIdeal.nD Cert.ReferenceEvenIdeal.τ).loc Cert.ReferenceEvenIdeal.main_arg3)
      ∧ r.2.mem ((c.tc : Thread Cert.ReferenceEvenIdeal.nD Cert.ReferenceEvenIdeal.τ).loc Cert.ReferenceEvenIdeal.main_arg4) = m ((c.tc : Thread Cert.ReferenceEvenIdeal.nD Cert.ReferenceEvenIdeal.τ).loc Cert.ReferenceEvenIdeal.main_arg4)
      ∧ r.2.mem ((c.tc : Thread Cert.ReferenceEvenIdeal.nD Cert.ReferenceEvenIdeal.τ).loc Cert.ReferenceEvenIdeal.main_arg5) = m ((c.tc : Thread Cert.ReferenceEvenIdeal.nD Cert.ReferenceEvenIdeal.τ).loc Cert.ReferenceEvenIdeal.main_arg5)
      ∧ r.2.mem ((c.tc : Thread Cert.ReferenceEvenIdeal.nD Cert.ReferenceEvenIdeal.τ).loc Cert.ReferenceEvenIdeal.main_arg6) = m ((c.tc : Thread Cert.ReferenceEvenIdeal.nD Cert.ReferenceEvenIdeal.τ).loc Cert.ReferenceEvenIdeal.main_arg6)
      ∧ r.2.mem ((c.tc : Thread Cert.ReferenceEvenIdeal.nD Cert.ReferenceEvenIdeal.τ).loc Cert.ReferenceEvenIdeal.main_arg7) = m ((c.tc : Thread Cert.ReferenceEvenIdeal.nD Cert.ReferenceEvenIdeal.τ).loc Cert.ReferenceEvenIdeal.main_arg7))
      ∧ r.2.sem = fun _ => 0)

def quiescent_ReferenceEvenIdeal_pre_finite [hReferenceEvenIdeal : Cert.ReferenceEvenIdeal.Facts] [hPre_finite : Cert.Pre_finite.Facts] : Prop :=
  ∀ (m : (ℓ : Loc Cert.ReferenceEvenIdeal.nD Cert.ReferenceEvenIdeal.τ Cert.ReferenceEvenIdeal.sig) → Buf (Elt Ideal) ℓ) (g : Dev Cert.ReferenceEvenIdeal.nD → PrngReg), Pre_ReferenceEvenIdeal_finite m →
    θ_run (Cert.ReferenceEvenIdeal.defs (F := Ideal)) (onTc (τ := Cert.ReferenceEvenIdeal.τ) (Cert.ReferenceEvenIdeal.main (F := Ideal))) ⟨m, fun _ => 0, g⟩ (fun r => (∀ c : Dev Cert.ReferenceEvenIdeal.nD,
      r.2.mem ((c.tc : Thread Cert.ReferenceEvenIdeal.nD Cert.ReferenceEvenIdeal.τ).loc Cert.ReferenceEvenIdeal.main_arg0) = m ((c.tc : Thread Cert.ReferenceEvenIdeal.nD Cert.ReferenceEvenIdeal.τ).loc Cert.ReferenceEvenIdeal.main_arg0)
      ∧ r.2.mem ((c.tc : Thread Cert.ReferenceEvenIdeal.nD Cert.ReferenceEvenIdeal.τ).loc Cert.ReferenceEvenIdeal.main_arg1) = m ((c.tc : Thread Cert.ReferenceEvenIdeal.nD Cert.ReferenceEvenIdeal.τ).loc Cert.ReferenceEvenIdeal.main_arg1)
      ∧ r.2.mem ((c.tc : Thread Cert.ReferenceEvenIdeal.nD Cert.ReferenceEvenIdeal.τ).loc Cert.ReferenceEvenIdeal.main_arg2) = m ((c.tc : Thread Cert.ReferenceEvenIdeal.nD Cert.ReferenceEvenIdeal.τ).loc Cert.ReferenceEvenIdeal.main_arg2)
      ∧ r.2.mem ((c.tc : Thread Cert.ReferenceEvenIdeal.nD Cert.ReferenceEvenIdeal.τ).loc Cert.ReferenceEvenIdeal.main_arg3) = m ((c.tc : Thread Cert.ReferenceEvenIdeal.nD Cert.ReferenceEvenIdeal.τ).loc Cert.ReferenceEvenIdeal.main_arg3)
      ∧ r.2.mem ((c.tc : Thread Cert.ReferenceEvenIdeal.nD Cert.ReferenceEvenIdeal.τ).loc Cert.ReferenceEvenIdeal.main_arg4) = m ((c.tc : Thread Cert.ReferenceEvenIdeal.nD Cert.ReferenceEvenIdeal.τ).loc Cert.ReferenceEvenIdeal.main_arg4)
      ∧ r.2.mem ((c.tc : Thread Cert.ReferenceEvenIdeal.nD Cert.ReferenceEvenIdeal.τ).loc Cert.ReferenceEvenIdeal.main_arg5) = m ((c.tc : Thread Cert.ReferenceEvenIdeal.nD Cert.ReferenceEvenIdeal.τ).loc Cert.ReferenceEvenIdeal.main_arg5)
      ∧ r.2.mem ((c.tc : Thread Cert.ReferenceEvenIdeal.nD Cert.ReferenceEvenIdeal.τ).loc Cert.ReferenceEvenIdeal.main_arg6) = m ((c.tc : Thread Cert.ReferenceEvenIdeal.nD Cert.ReferenceEvenIdeal.τ).loc Cert.ReferenceEvenIdeal.main_arg6)
      ∧ r.2.mem ((c.tc : Thread Cert.ReferenceEvenIdeal.nD Cert.ReferenceEvenIdeal.τ).loc Cert.ReferenceEvenIdeal.main_arg7) = m ((c.tc : Thread Cert.ReferenceEvenIdeal.nD Cert.ReferenceEvenIdeal.τ).loc Cert.ReferenceEvenIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel0_Kernel0Ideal : Prop :=
  True

def algebraic_Kernel0Ideal_Reference0Ideal [hKernel0Ideal : Cert.Kernel0Ideal.Facts] [hReference0Ideal : Cert.Reference0Ideal.Facts] : Prop :=
  ∀ (m : (ℓ : Loc Cert.Kernel0Ideal.nD Cert.Kernel0Ideal.τ Cert.Kernel0Ideal.sig) → Buf (Elt Ideal) ℓ) (g : Dev Cert.Kernel0Ideal.nD → PrngReg)
    (m' : (ℓ : Loc Cert.Reference0Ideal.nD Cert.Reference0Ideal.τ Cert.Reference0Ideal.sig) → Buf (Elt Ideal) ℓ) (g' : Dev Cert.Reference0Ideal.nD → PrngReg), Pre_Kernel0Ideal m →
    (∀ c : Dev Cert.Kernel0Ideal.nD,
      m' ((c.tc : Thread Cert.Reference0Ideal.nD Cert.Reference0Ideal.τ).loc Cert.Reference0Ideal.main_arg0) = m ((c.tc : Thread Cert.Kernel0Ideal.nD Cert.Kernel0Ideal.τ).loc Cert.Kernel0Ideal.main_arg0)
      ∧ m' ((c.tc : Thread Cert.Reference0Ideal.nD Cert.Reference0Ideal.τ).loc Cert.Reference0Ideal.main_arg1) = m ((c.tc : Thread Cert.Kernel0Ideal.nD Cert.Kernel0Ideal.τ).loc Cert.Kernel0Ideal.main_arg1)
      ∧ m' ((c.tc : Thread Cert.Reference0Ideal.nD Cert.Reference0Ideal.τ).loc Cert.Reference0Ideal.main_arg2) = m ((c.tc : Thread Cert.Kernel0Ideal.nD Cert.Kernel0Ideal.τ).loc Cert.Kernel0Ideal.main_arg2)
      ∧ m' ((c.tc : Thread Cert.Reference0Ideal.nD Cert.Reference0Ideal.τ).loc Cert.Reference0Ideal.main_arg3) = m ((c.tc : Thread Cert.Kernel0Ideal.nD Cert.Kernel0Ideal.τ).loc Cert.Kernel0Ideal.main_arg3)
      ∧ m' ((c.tc : Thread Cert.Reference0Ideal.nD Cert.Reference0Ideal.τ).loc Cert.Reference0Ideal.main_arg4) = m ((c.tc : Thread Cert.Kernel0Ideal.nD Cert.Kernel0Ideal.τ).loc Cert.Kernel0Ideal.main_arg4)
      ∧ m' ((c.tc : Thread Cert.Reference0Ideal.nD Cert.Reference0Ideal.τ).loc Cert.Reference0Ideal.main_arg5) = m ((c.tc : Thread Cert.Kernel0Ideal.nD Cert.Kernel0Ideal.τ).loc Cert.Kernel0Ideal.main_arg5)
      ∧ m' ((c.tc : Thread Cert.Reference0Ideal.nD Cert.Reference0Ideal.τ).loc Cert.Reference0Ideal.main_arg6) = m ((c.tc : Thread Cert.Kernel0Ideal.nD Cert.Kernel0Ideal.τ).loc Cert.Kernel0Ideal.main_arg6)) →
    ∃ (v0 : (c : Dev Cert.Kernel0Ideal.nD) → Buf (Elt Ideal) ((c.tc : Thread Cert.Kernel0Ideal.nD Cert.Kernel0Ideal.τ).loc Cert.Kernel0Ideal.main_v14_0)) (v1 : (c : Dev Cert.Kernel0Ideal.nD) → Buf (Elt Ideal) ((c.tc : Thread Cert.Kernel0Ideal.nD Cert.Kernel0Ideal.τ).loc Cert.Kernel0Ideal.main_v14_1)),
      θ_run (Cert.Kernel0Ideal.defs (F := Ideal)) (onTc (τ := Cert.Kernel0Ideal.τ) (Cert.Kernel0Ideal.main (F := Ideal))) ⟨m, fun _ => 0, g⟩ (fun r => ∀ c : Dev Cert.Kernel0Ideal.nD,
          r.2.mem ((c.tc : Thread Cert.Kernel0Ideal.nD Cert.Kernel0Ideal.τ).loc Cert.Kernel0Ideal.main_v14_0) = v0 c
          ∧ r.2.mem ((c.tc : Thread Cert.Kernel0Ideal.nD Cert.Kernel0Ideal.τ).loc Cert.Kernel0Ideal.main_v14_1) = v1 c
          ∧ r.2.mem ((c.tc : Thread Cert.Kernel0Ideal.nD Cert.Kernel0Ideal.τ).loc Cert.Kernel0Ideal.main_arg0) = m ((c.tc : Thread Cert.Kernel0Ideal.nD Cert.Kernel0Ideal.τ).loc Cert.Kernel0Ideal.main_arg0)
          ∧ r.2.mem ((c.tc : Thread Cert.Kernel0Ideal.nD Cert.Kernel0Ideal.τ).loc Cert.Kernel0Ideal.main_arg1) = m ((c.tc : Thread Cert.Kernel0Ideal.nD Cert.Kernel0Ideal.τ).loc Cert.Kernel0Ideal.main_arg1)
          ∧ r.2.mem ((c.tc : Thread Cert.Kernel0Ideal.nD Cert.Kernel0Ideal.τ).loc Cert.Kernel0Ideal.main_arg2) = m ((c.tc : Thread Cert.Kernel0Ideal.nD Cert.Kernel0Ideal.τ).loc Cert.Kernel0Ideal.main_arg2)
          ∧ r.2.mem ((c.tc : Thread Cert.Kernel0Ideal.nD Cert.Kernel0Ideal.τ).loc Cert.Kernel0Ideal.main_arg3) = m ((c.tc : Thread Cert.Kernel0Ideal.nD Cert.Kernel0Ideal.τ).loc Cert.Kernel0Ideal.main_arg3)
          ∧ r.2.mem ((c.tc : Thread Cert.Kernel0Ideal.nD Cert.Kernel0Ideal.τ).loc Cert.Kernel0Ideal.main_arg4) = m ((c.tc : Thread Cert.Kernel0Ideal.nD Cert.Kernel0Ideal.τ).loc Cert.Kernel0Ideal.main_arg4)
          ∧ r.2.mem ((c.tc : Thread Cert.Kernel0Ideal.nD Cert.Kernel0Ideal.τ).loc Cert.Kernel0Ideal.main_arg5) = m ((c.tc : Thread Cert.Kernel0Ideal.nD Cert.Kernel0Ideal.τ).loc Cert.Kernel0Ideal.main_arg5)
          ∧ r.2.mem ((c.tc : Thread Cert.Kernel0Ideal.nD Cert.Kernel0Ideal.τ).loc Cert.Kernel0Ideal.main_arg6) = m ((c.tc : Thread Cert.Kernel0Ideal.nD Cert.Kernel0Ideal.τ).loc Cert.Kernel0Ideal.main_arg6))
      ∧ θ_run (Cert.Reference0Ideal.defs (F := Ideal)) (onTc (τ := Cert.Reference0Ideal.τ) (Cert.Reference0Ideal.main (F := Ideal))) ⟨m', fun _ => 0, g'⟩ (fun r => ∀ c : Dev Cert.Reference0Ideal.nD,
          r.2.mem ((c.tc : Thread Cert.Reference0Ideal.nD Cert.Reference0Ideal.τ).loc Cert.Reference0Ideal.main_v71) = v0 c
          ∧ r.2.mem ((c.tc : Thread Cert.Reference0Ideal.nD Cert.Reference0Ideal.τ).loc Cert.Reference0Ideal.main_v39) = v1 c
          ∧ r.2.mem ((c.tc : Thread Cert.Reference0Ideal.nD Cert.Reference0Ideal.τ).loc Cert.Reference0Ideal.main_arg0) = m' ((c.tc : Thread Cert.Reference0Ideal.nD Cert.Reference0Ideal.τ).loc Cert.Reference0Ideal.main_arg0)
          ∧ r.2.mem ((c.tc : Thread Cert.Reference0Ideal.nD Cert.Reference0Ideal.τ).loc Cert.Reference0Ideal.main_arg1) = m' ((c.tc : Thread Cert.Reference0Ideal.nD Cert.Reference0Ideal.τ).loc Cert.Reference0Ideal.main_arg1)
          ∧ r.2.mem ((c.tc : Thread Cert.Reference0Ideal.nD Cert.Reference0Ideal.τ).loc Cert.Reference0Ideal.main_arg2) = m' ((c.tc : Thread Cert.Reference0Ideal.nD Cert.Reference0Ideal.τ).loc Cert.Reference0Ideal.main_arg2)
          ∧ r.2.mem ((c.tc : Thread Cert.Reference0Ideal.nD Cert.Reference0Ideal.τ).loc Cert.Reference0Ideal.main_arg3) = m' ((c.tc : Thread Cert.Reference0Ideal.nD Cert.Reference0Ideal.τ).loc Cert.Reference0Ideal.main_arg3)
          ∧ r.2.mem ((c.tc : Thread Cert.Reference0Ideal.nD Cert.Reference0Ideal.τ).loc Cert.Reference0Ideal.main_arg4) = m' ((c.tc : Thread Cert.Reference0Ideal.nD Cert.Reference0Ideal.τ).loc Cert.Reference0Ideal.main_arg4)
          ∧ r.2.mem ((c.tc : Thread Cert.Reference0Ideal.nD Cert.Reference0Ideal.τ).loc Cert.Reference0Ideal.main_arg5) = m' ((c.tc : Thread Cert.Reference0Ideal.nD Cert.Reference0Ideal.τ).loc Cert.Reference0Ideal.main_arg5)
          ∧ r.2.mem ((c.tc : Thread Cert.Reference0Ideal.nD Cert.Reference0Ideal.τ).loc Cert.Reference0Ideal.main_arg6) = m' ((c.tc : Thread Cert.Reference0Ideal.nD Cert.Reference0Ideal.τ).loc Cert.Reference0Ideal.main_arg6))

def preserves_KernelEven_KernelEvenIdeal : Prop :=
  True

def algebraic_KernelEvenIdeal_ReferenceEvenIdeal_pre_finite [hKernelEvenIdeal : Cert.KernelEvenIdeal.Facts] [hReferenceEvenIdeal : Cert.ReferenceEvenIdeal.Facts] [hPre_finite : Cert.Pre_finite.Facts] : Prop :=
  ∀ (m : (ℓ : Loc Cert.KernelEvenIdeal.nD Cert.KernelEvenIdeal.τ Cert.KernelEvenIdeal.sig) → Buf (Elt Ideal) ℓ) (g : Dev Cert.KernelEvenIdeal.nD → PrngReg)
    (m' : (ℓ : Loc Cert.ReferenceEvenIdeal.nD Cert.ReferenceEvenIdeal.τ Cert.ReferenceEvenIdeal.sig) → Buf (Elt Ideal) ℓ) (g' : Dev Cert.ReferenceEvenIdeal.nD → PrngReg), Pre_KernelEvenIdeal_finite m →
    (∀ c : Dev Cert.KernelEvenIdeal.nD,
      m' ((c.tc : Thread Cert.ReferenceEvenIdeal.nD Cert.ReferenceEvenIdeal.τ).loc Cert.ReferenceEvenIdeal.main_arg0) = m ((c.tc : Thread Cert.KernelEvenIdeal.nD Cert.KernelEvenIdeal.τ).loc Cert.KernelEvenIdeal.main_arg0)
      ∧ m' ((c.tc : Thread Cert.ReferenceEvenIdeal.nD Cert.ReferenceEvenIdeal.τ).loc Cert.ReferenceEvenIdeal.main_arg1) = m ((c.tc : Thread Cert.KernelEvenIdeal.nD Cert.KernelEvenIdeal.τ).loc Cert.KernelEvenIdeal.main_arg1)
      ∧ m' ((c.tc : Thread Cert.ReferenceEvenIdeal.nD Cert.ReferenceEvenIdeal.τ).loc Cert.ReferenceEvenIdeal.main_arg2) = m ((c.tc : Thread Cert.KernelEvenIdeal.nD Cert.KernelEvenIdeal.τ).loc Cert.KernelEvenIdeal.main_arg2)
      ∧ m' ((c.tc : Thread Cert.ReferenceEvenIdeal.nD Cert.ReferenceEvenIdeal.τ).loc Cert.ReferenceEvenIdeal.main_arg3) = m ((c.tc : Thread Cert.KernelEvenIdeal.nD Cert.KernelEvenIdeal.τ).loc Cert.KernelEvenIdeal.main_arg3)
      ∧ m' ((c.tc : Thread Cert.ReferenceEvenIdeal.nD Cert.ReferenceEvenIdeal.τ).loc Cert.ReferenceEvenIdeal.main_arg4) = m ((c.tc : Thread Cert.KernelEvenIdeal.nD Cert.KernelEvenIdeal.τ).loc Cert.KernelEvenIdeal.main_arg4)
      ∧ m' ((c.tc : Thread Cert.ReferenceEvenIdeal.nD Cert.ReferenceEvenIdeal.τ).loc Cert.ReferenceEvenIdeal.main_arg5) = m ((c.tc : Thread Cert.KernelEvenIdeal.nD Cert.KernelEvenIdeal.τ).loc Cert.KernelEvenIdeal.main_arg5)
      ∧ m' ((c.tc : Thread Cert.ReferenceEvenIdeal.nD Cert.ReferenceEvenIdeal.τ).loc Cert.ReferenceEvenIdeal.main_arg6) = m ((c.tc : Thread Cert.KernelEvenIdeal.nD Cert.KernelEvenIdeal.τ).loc Cert.KernelEvenIdeal.main_arg6)
      ∧ m' ((c.tc : Thread Cert.ReferenceEvenIdeal.nD Cert.ReferenceEvenIdeal.τ).loc Cert.ReferenceEvenIdeal.main_arg7) = m ((c.tc : Thread Cert.KernelEvenIdeal.nD Cert.KernelEvenIdeal.τ).loc Cert.KernelEvenIdeal.main_arg7)) →
    ∃ (v0 : (c : Dev Cert.KernelEvenIdeal.nD) → Buf (Elt Ideal) ((c.tc : Thread Cert.KernelEvenIdeal.nD Cert.KernelEvenIdeal.τ).loc Cert.KernelEvenIdeal.main_v84_0)) (v1 : (c : Dev Cert.KernelEvenIdeal.nD) → Buf (Elt Ideal) ((c.tc : Thread Cert.KernelEvenIdeal.nD Cert.KernelEvenIdeal.τ).loc Cert.KernelEvenIdeal.main_v84_1)) (v2 : (c : Dev Cert.KernelEvenIdeal.nD) → Buf (Elt Ideal) ((c.tc : Thread Cert.KernelEvenIdeal.nD Cert.KernelEvenIdeal.τ).loc Cert.KernelEvenIdeal.main_v84_2)),
      θ_run (Cert.KernelEvenIdeal.defs (F := Ideal)) (onTc (τ := Cert.KernelEvenIdeal.τ) (Cert.KernelEvenIdeal.main (F := Ideal))) ⟨m, fun _ => 0, g⟩ (fun r => ∀ c : Dev Cert.KernelEvenIdeal.nD,
          r.2.mem ((c.tc : Thread Cert.KernelEvenIdeal.nD Cert.KernelEvenIdeal.τ).loc Cert.KernelEvenIdeal.main_v84_0) = v0 c
          ∧ r.2.mem ((c.tc : Thread Cert.KernelEvenIdeal.nD Cert.KernelEvenIdeal.τ).loc Cert.KernelEvenIdeal.main_v84_1) = v1 c
          ∧ r.2.mem ((c.tc : Thread Cert.KernelEvenIdeal.nD Cert.KernelEvenIdeal.τ).loc Cert.KernelEvenIdeal.main_v84_2) = v2 c
          ∧ r.2.mem ((c.tc : Thread Cert.KernelEvenIdeal.nD Cert.KernelEvenIdeal.τ).loc Cert.KernelEvenIdeal.main_arg0) = m ((c.tc : Thread Cert.KernelEvenIdeal.nD Cert.KernelEvenIdeal.τ).loc Cert.KernelEvenIdeal.main_arg0)
          ∧ r.2.mem ((c.tc : Thread Cert.KernelEvenIdeal.nD Cert.KernelEvenIdeal.τ).loc Cert.KernelEvenIdeal.main_arg1) = m ((c.tc : Thread Cert.KernelEvenIdeal.nD Cert.KernelEvenIdeal.τ).loc Cert.KernelEvenIdeal.main_arg1)
          ∧ r.2.mem ((c.tc : Thread Cert.KernelEvenIdeal.nD Cert.KernelEvenIdeal.τ).loc Cert.KernelEvenIdeal.main_arg2) = m ((c.tc : Thread Cert.KernelEvenIdeal.nD Cert.KernelEvenIdeal.τ).loc Cert.KernelEvenIdeal.main_arg2)
          ∧ r.2.mem ((c.tc : Thread Cert.KernelEvenIdeal.nD Cert.KernelEvenIdeal.τ).loc Cert.KernelEvenIdeal.main_arg3) = m ((c.tc : Thread Cert.KernelEvenIdeal.nD Cert.KernelEvenIdeal.τ).loc Cert.KernelEvenIdeal.main_arg3)
          ∧ r.2.mem ((c.tc : Thread Cert.KernelEvenIdeal.nD Cert.KernelEvenIdeal.τ).loc Cert.KernelEvenIdeal.main_arg4) = m ((c.tc : Thread Cert.KernelEvenIdeal.nD Cert.KernelEvenIdeal.τ).loc Cert.KernelEvenIdeal.main_arg4)
          ∧ r.2.mem ((c.tc : Thread Cert.KernelEvenIdeal.nD Cert.KernelEvenIdeal.τ).loc Cert.KernelEvenIdeal.main_arg5) = m ((c.tc : Thread Cert.KernelEvenIdeal.nD Cert.KernelEvenIdeal.τ).loc Cert.KernelEvenIdeal.main_arg5)
          ∧ r.2.mem ((c.tc : Thread Cert.KernelEvenIdeal.nD Cert.KernelEvenIdeal.τ).loc Cert.KernelEvenIdeal.main_arg6) = m ((c.tc : Thread Cert.KernelEvenIdeal.nD Cert.KernelEvenIdeal.τ).loc Cert.KernelEvenIdeal.main_arg6)
          ∧ r.2.mem ((c.tc : Thread Cert.KernelEvenIdeal.nD Cert.KernelEvenIdeal.τ).loc Cert.KernelEvenIdeal.main_arg7) = m ((c.tc : Thread Cert.KernelEvenIdeal.nD Cert.KernelEvenIdeal.τ).loc Cert.KernelEvenIdeal.main_arg7))
      ∧ θ_run (Cert.ReferenceEvenIdeal.defs (F := Ideal)) (onTc (τ := Cert.ReferenceEvenIdeal.τ) (Cert.ReferenceEvenIdeal.main (F := Ideal))) ⟨m', fun _ => 0, g'⟩ (fun r => ∀ c : Dev Cert.ReferenceEvenIdeal.nD,
          r.2.mem ((c.tc : Thread Cert.ReferenceEvenIdeal.nD Cert.ReferenceEvenIdeal.τ).loc Cert.ReferenceEvenIdeal.main_v295) = v0 c
          ∧ r.2.mem ((c.tc : Thread Cert.ReferenceEvenIdeal.nD Cert.ReferenceEvenIdeal.τ).loc Cert.ReferenceEvenIdeal.main_v123) = v1 c
          ∧ r.2.mem ((c.tc : Thread Cert.ReferenceEvenIdeal.nD Cert.ReferenceEvenIdeal.τ).loc Cert.ReferenceEvenIdeal.main_v234) = v2 c
          ∧ r.2.mem ((c.tc : Thread Cert.ReferenceEvenIdeal.nD Cert.ReferenceEvenIdeal.τ).loc Cert.ReferenceEvenIdeal.main_arg0) = m' ((c.tc : Thread Cert.ReferenceEvenIdeal.nD Cert.ReferenceEvenIdeal.τ).loc Cert.ReferenceEvenIdeal.main_arg0)
          ∧ r.2.mem ((c.tc : Thread Cert.ReferenceEvenIdeal.nD Cert.ReferenceEvenIdeal.τ).loc Cert.ReferenceEvenIdeal.main_arg1) = m' ((c.tc : Thread Cert.ReferenceEvenIdeal.nD Cert.ReferenceEvenIdeal.τ).loc Cert.ReferenceEvenIdeal.main_arg1)
          ∧ r.2.mem ((c.tc : Thread Cert.ReferenceEvenIdeal.nD Cert.ReferenceEvenIdeal.τ).loc Cert.ReferenceEvenIdeal.main_arg2) = m' ((c.tc : Thread Cert.ReferenceEvenIdeal.nD Cert.ReferenceEvenIdeal.τ).loc Cert.ReferenceEvenIdeal.main_arg2)
          ∧ r.2.mem ((c.tc : Thread Cert.ReferenceEvenIdeal.nD Cert.ReferenceEvenIdeal.τ).loc Cert.ReferenceEvenIdeal.main_arg3) = m' ((c.tc : Thread Cert.ReferenceEvenIdeal.nD Cert.ReferenceEvenIdeal.τ).loc Cert.ReferenceEvenIdeal.main_arg3)
          ∧ r.2.mem ((c.tc : Thread Cert.ReferenceEvenIdeal.nD Cert.ReferenceEvenIdeal.τ).loc Cert.ReferenceEvenIdeal.main_arg4) = m' ((c.tc : Thread Cert.ReferenceEvenIdeal.nD Cert.ReferenceEvenIdeal.τ).loc Cert.ReferenceEvenIdeal.main_arg4)
          ∧ r.2.mem ((c.tc : Thread Cert.ReferenceEvenIdeal.nD Cert.ReferenceEvenIdeal.τ).loc Cert.ReferenceEvenIdeal.main_arg5) = m' ((c.tc : Thread Cert.ReferenceEvenIdeal.nD Cert.ReferenceEvenIdeal.τ).loc Cert.ReferenceEvenIdeal.main_arg5)
          ∧ r.2.mem ((c.tc : Thread Cert.ReferenceEvenIdeal.nD Cert.ReferenceEvenIdeal.τ).loc Cert.ReferenceEvenIdeal.main_arg6) = m' ((c.tc : Thread Cert.ReferenceEvenIdeal.nD Cert.ReferenceEvenIdeal.τ).loc Cert.ReferenceEvenIdeal.main_arg6)
          ∧ r.2.mem ((c.tc : Thread Cert.ReferenceEvenIdeal.nD Cert.ReferenceEvenIdeal.τ).loc Cert.ReferenceEvenIdeal.main_arg7) = m' ((c.tc : Thread Cert.ReferenceEvenIdeal.nD Cert.ReferenceEvenIdeal.τ).loc Cert.ReferenceEvenIdeal.main_arg7))

def Claim : Prop :=
  ∃ (hKernel : Cert.Kernel.Facts) (hKernelIdeal : Cert.KernelIdeal.Facts) (hReferenceIdeal : Cert.ReferenceIdeal.Facts) (hKernel0 : Cert.Kernel0.Facts) (hKernel0Ideal : Cert.Kernel0Ideal.Facts) (hReference0Ideal : Cert.Reference0Ideal.Facts) (hKernelEven : Cert.KernelEven.Facts) (hKernelEvenIdeal : Cert.KernelEvenIdeal.Facts) (hReferenceEvenIdeal : Cert.ReferenceEvenIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel0 (hKernel0 := hKernel0)
    ∧ quiescent_Kernel0Ideal (hKernel0Ideal := hKernel0Ideal)
    ∧ quiescent_Reference0Ideal (hReference0Ideal := hReference0Ideal)
    ∧ quiescent_KernelEven (hKernelEven := hKernelEven)
    ∧ quiescent_KernelEvenIdeal (hKernelEvenIdeal := hKernelEvenIdeal)
    ∧ quiescent_KernelEvenIdeal_pre_finite (hKernelEvenIdeal := hKernelEvenIdeal) (hPre_finite := hPre_finite)
    ∧ quiescent_ReferenceEvenIdeal (hReferenceEvenIdeal := hReferenceEvenIdeal)
    ∧ quiescent_ReferenceEvenIdeal_pre_finite (hReferenceEvenIdeal := hReferenceEvenIdeal) (hPre_finite := hPre_finite)
    ∧ preserves_Kernel_KernelIdeal
    ∧ algebraic_KernelIdeal_ReferenceIdeal (hKernelIdeal := hKernelIdeal) (hReferenceIdeal := hReferenceIdeal)
    ∧ preserves_Kernel0_Kernel0Ideal
    ∧ algebraic_Kernel0Ideal_Reference0Ideal (hKernel0Ideal := hKernel0Ideal) (hReference0Ideal := hReference0Ideal)
    ∧ preserves_KernelEven_KernelEvenIdeal
    ∧ algebraic_KernelEvenIdeal_ReferenceEvenIdeal_pre_finite (hKernelEvenIdeal := hKernelEvenIdeal) (hReferenceEvenIdeal := hReferenceEvenIdeal) (hPre_finite := hPre_finite)
-- ==== Pre_finite.lean ====
abbrev S8x2048x1024 : Shape := ⟨3, ![8, 2048, 1024]⟩
abbrev S1x1024x2560 : Shape := ⟨3, ![1, 1024, 2560]⟩
abbrev S1x4x128x128 : Shape := ⟨4, ![1, 4, 128, 128]⟩
abbrev S1x512 : Shape := ⟨2, ![1, 512]⟩
abbrev S1x1024x1024 : Shape := ⟨3, ![1, 1024, 1024]⟩
abbrev S2x1024 : Shape := ⟨2, ![2, 1024]⟩
abbrev S_ : Shape := ⟨0, ![]⟩

class Facts : Prop where
  bcast_S_S8x2048x1024 : S_.BroadcastsInDim S8x2048x1024 (![] : Fin 0 → Fin S8x2048x1024.rank)
  bcast_S_S1x1024x2560 : S_.BroadcastsInDim S1x1024x2560 (![] : Fin 0 → Fin S1x1024x2560.rank)

variable [Facts]

def fn {F : FTy → Type} [FloatOps F] (main_arg0 : FVec F S8x2048x1024 .f32) (main_arg1 : FVec F S1x1024x2560 .f32) (main_arg2 : FVec F S1x4x128x128 .f32) (main_arg3 : FVec F S1x512 .f32) (main_arg4 : FVec F S1x512 .f32) (main_arg5 : FVec F S1x1024x1024 .f32) (main_arg6 : FVec F S2x1024 .f32) (main_arg7 : FVec F S2x1024 .f32) : IVec S8x2048x1024 1 × IVec S1x1024x2560 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : FVec F S1x1024x2560 .f32 := Host.absf main_arg1
  let main_cst_0 : FVec F S_ .f32 := constant S_ .f32 0x7F800000#32
  let main_v4 : FVec F S1x1024x2560 .f32 := broadcastInDim S1x1024x2560 ![] bcast_S_S1x1024x2560 main_cst_0
  let main_v5 : IVec S1x1024x2560 1 := cmpf .olt main_v3 main_v4
  (main_v2, main_v5)
-- ==== Kernel.lean ====
abbrev S8x2048x1024 : Shape := ⟨3, ![8, 2048, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S2x3x2816 : Shape := ⟨3, ![2, 3, 2816]⟩
abbrev S2x2816 : Shape := ⟨2, ![2, 2816]⟩
abbrev S16384x1024 : Shape := ⟨2, ![16384, 1024]⟩
abbrev S1024x1024 : Shape := ⟨2, ![1024, 1024]⟩
abbrev S1x1024 : Shape := ⟨2, ![1, 1024]⟩
abbrev S1024 : Shape := ⟨1, ![1024]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S8x8x2816 : Shape := ⟨3, ![8, 8, 2816]⟩
abbrev S512x1024 : Shape := ⟨2, ![512, 1024]⟩
abbrev S1x1024x5632 : Shape := ⟨3, ![1, 1024, 5632]⟩
abbrev S1x2816x1024 : Shape := ⟨3, ![1, 2816, 1024]⟩
abbrev S1x8x2816 : Shape := ⟨3, ![1, 8, 2816]⟩
abbrev S8x2816 : Shape := ⟨2, ![8, 2816]⟩
abbrev S512 : Shape := ⟨1, ![512]⟩
abbrev S512x1 : Shape := ⟨2, ![512, 1]⟩
abbrev S512x2816 : Shape := ⟨2, ![512, 2816]⟩
abbrev S1x1024x2816 : Shape := ⟨3, ![1, 1024, 2816]⟩
abbrev S1024x2816 : Shape := ⟨2, ![1024, 2816]⟩
abbrev S2816x1024 : Shape := ⟨2, ![2816, 1024]⟩

abbrev nBuf : Space → Nat
  | .hbm => 37
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1x1024x1024, .f32⟩
  | .hbm, ⟨3, _⟩ => ⟨S2x1024, .f32⟩
  | .hbm, ⟨4, _⟩ => ⟨S2x1024, .f32⟩
  | .hbm, ⟨5, _⟩ => ⟨S2x1024x5632, .f32⟩
  | .hbm, ⟨6, _⟩ => ⟨S2x2816x1024, .f32⟩
  | .hbm, ⟨7, _⟩ => ⟨S2x3x2816, .f32⟩
  | .hbm, ⟨8, _⟩ => ⟨S2x2816, .f32⟩
  | .hbm, ⟨9, _⟩ => ⟨S2x1024, .f32⟩
  | .hbm, ⟨10, _⟩ => ⟨S2x1024, .f32⟩
  | .hbm, ⟨11, _⟩ => ⟨S16384x1024, .f32⟩
  | .hbm, ⟨12, _⟩ => ⟨S16384x1024, .bf16⟩
  | .hbm, ⟨13, _⟩ => ⟨S1024x1024, .f32⟩
  | .hbm, ⟨14, _⟩ => ⟨S1024x1024, .bf16⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S16384x1024, .f32⟩
  | .hbm, ⟨20, _⟩ => ⟨S2x1024x5632, .bf16⟩
  | .hbm, ⟨21, _⟩ => ⟨S2x2816x1024, .bf16⟩
  | .hbm, ⟨22, _⟩ => ⟨S1x3x2816, .f32⟩
  | .hbm, ⟨23, _⟩ => ⟨S3x2816, .f32⟩
  | .hbm, ⟨24, _⟩ => ⟨S1x2816, .f32⟩
  | .hbm, ⟨25, _⟩ => ⟨S2816, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1x1024, .f32⟩
  | .hbm, ⟨32, _⟩ => ⟨S1x2816, .f32⟩
  | .hbm, ⟨33, _⟩ => ⟨S1x1024, .f32⟩
  | .hbm, ⟨34, _⟩ => ⟨S1x1024, .f32⟩
  | .hbm, ⟨35, _⟩ => ⟨S16384x1024, .f32⟩
  | .hbm, ⟨36, _⟩ => ⟨S8x8x2816, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024x5632, .bf16⟩
  | .local _ .vmem, ⟨8, _⟩ => ⟨S1x2816x1024, .bf16⟩
  | .local _ .vmem, ⟨9, _⟩ => ⟨S3x2816, .f32⟩
  | .local _ .vmem, ⟨10, _⟩ => ⟨S1x2816, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S1x8x2816, .f32⟩
  | .local _ .vmem, ⟨16, _⟩ => ⟨S1x8x2816, .f32⟩
  | .local _ .vmem, ⟨17, _⟩ => ⟨S8x2816, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x2816 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S8x2048x1024 : Shape := ⟨3, ![8, 2048, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S2x3x2816 : Shape := ⟨3, ![2, 3, 2816]⟩
abbrev S2x2816 : Shape := ⟨2, ![2, 2816]⟩
abbrev S_ : Shape := ⟨0, ![]⟩
abbrev S1024x1024 : Shape := ⟨2, ![1024, 1024]⟩
abbrev S1x1024 : Shape := ⟨2, ![1, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S8x2x2816 : Shape := ⟨3, ![8, 2, 2816]⟩
abbrev S1x1024x5632 : Shape := ⟨3, ![1, 1024, 5632]⟩
abbrev S1024x5632 : Shape := ⟨2, ![1024, 5632]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x2816x1024 : Shape := ⟨3, ![1, 2816, 1024]⟩
abbrev S2816x1024 : Shape := ⟨2, ![2816, 1024]⟩
abbrev S8x2048x5632 : Shape := ⟨3, ![8, 2048, 5632]⟩
abbrev S8x2048x2816 : Shape := ⟨3, ![8, 2048, 2816]⟩
abbrev S8x2050x2816 : Shape := ⟨3, ![8, 2050, 2816]⟩
abbrev S1x1x2816 : Shape := ⟨3, ![1, 1, 2816]⟩
abbrev S8x8x2816 : Shape := ⟨3, ![8, 8, 2816]⟩
abbrev S16384x1024 : Shape := ⟨2, ![16384, 1024]⟩

abbrev nBuf : Space → Nat
  | .hbm => 137
  | .vmem => 0
  | .smem => 0
  | _ => 0

abbrev hbmTy0_0 (i : Nat) : BufTy := match i % 128 with
  | 0 => ⟨S8x2048x1024, .f32⟩
  | 1 => ⟨S8x2048x1024, .f32⟩
  | 2 => ⟨S1x1024x1024, .f32⟩
  | 3 => ⟨S2x1024, .f32⟩
  | 4 => ⟨S2x1024, .f32⟩
  | 5 => ⟨S2x1024x5632, .f32⟩
  | 6 => ⟨S2x2816x1024, .f32⟩
  | 7 => ⟨S2x3x2816, .f32⟩
  | 8 => ⟨S2x2816, .f32⟩
  | 9 => ⟨S2x1024, .f32⟩
  | 10 => ⟨S2x1024, .f32⟩
  | 11 => ⟨S_, .f32⟩
  | 12 => ⟨S8x2048x1024, .f32⟩
  | 13 => ⟨S8x2048x1024, .f32⟩
  | 14 => ⟨S1024x1024, .f32⟩
  | 15 => ⟨S8x2048x1024, .f32⟩
  | 16 => ⟨S8x2048x1024, .f32⟩
  | 17 => ⟨S1x1024, .f32⟩
  | 18 => ⟨S1024, .f32⟩
  | 19 => ⟨S1x1024, .f32⟩
  | 20 => ⟨S1024, .f32⟩
  | 21 => ⟨S_, .f32⟩
  | 22 => ⟨S8x2048, .f32⟩
  | 23 => ⟨S8x2048x1, .f32⟩
  | 24 => ⟨S_, .f32⟩
  | 25 => ⟨S8x2048x1, .f32⟩
  | 26 => ⟨S8x2048x1, .f32⟩
  | 27 => ⟨S8x2048x1024, .f32⟩
  | 28 => ⟨S8x2048x1024, .f32⟩
  | 29 => ⟨S8x2048x1024, .f32⟩
  | 30 => ⟨S_, .f32⟩
  | 31 => ⟨S8x2048, .f32⟩
  | 32 => ⟨S8x2048x1, .f32⟩
  | 33 => ⟨S_, .f32⟩
  | 34 => ⟨S8x2048x1, .f32⟩
  | 35 => ⟨S8x2048x1, .f32⟩
  | 36 => ⟨S8x2048x1024, .f32⟩
  | 37 => ⟨S8x2048x1024, .f32⟩
  | 38 => ⟨S_, .f32⟩
  | 39 => ⟨S8x2048x1, .f32⟩
  | 40 => ⟨S8x2048x1, .f32⟩
  | 41 => ⟨S8x2048x1, .f32⟩
  | 42 => ⟨S8x2048x1024, .f32⟩
  | 43 => ⟨S8x2048x1024, .f32⟩
  | 44 => ⟨S1x1x1024, .f32⟩
  | 45 => ⟨S8x2048x1024, .f32⟩
  | 46 => ⟨S8x2048x1024, .f32⟩
  | 47 => ⟨S1x1x1024, .f32⟩
  | 48 => ⟨S8x2048x1024, .f32⟩
  | 49 => ⟨S8x2048x1024, .f32⟩
  | 50 => ⟨S_, .f32⟩
  | 51 => ⟨S8x2x2816, .f32⟩
  | 52 => ⟨S1x1024x5632, .f32⟩
  | 53 => ⟨S1024x5632, .f32⟩
  | 54 => ⟨S1x3x2816, .f32⟩
  | 55 => ⟨S3x2816, .f32⟩
  | 56 => ⟨S1x2816, .f32⟩
  | 57 => ⟨S2816, .f32⟩
  | 58 => ⟨S1x2816x1024, .f32⟩
  | 59 => ⟨S2816x1024, .f32⟩
  | 60 => ⟨S8x2048x5632, .f32⟩
  | 61 => ⟨S8x2048x2816, .f32⟩
  | 62 => ⟨S8x2048x2816, .f32⟩
  | 63 => ⟨S8x2050x2816, .f32⟩
  | 64 => ⟨S1x2816, .f32⟩
  | 65 => ⟨S2816, .f32⟩
  | 66 => ⟨S8x2048x2816, .f32⟩
  | 67 => ⟨S1x1x2816, .f32⟩
  | 68 => ⟨S8x2048x2816, .f32⟩
  | 69 => ⟨S8x2048x2816, .f32⟩
  | 70 => ⟨S1x1x2816, .f32⟩
  | 71 => ⟨S8x2048x2816, .f32⟩
  | 72 => ⟨S8x2048x2816, .f32⟩
  | 73 => ⟨S1x2816, .f32⟩
  | 74 => ⟨S2816, .f32⟩
  | 75 => ⟨S8x2048x2816, .f32⟩
  | 76 => ⟨S1x1x2816, .f32⟩
  | 77 => ⟨S8x2048x2816, .f32⟩
  | 78 => ⟨S8x2048x2816, .f32⟩
  | 79 => ⟨S8x2048x2816, .f32⟩
  | 80 => ⟨S1x2816, .f32⟩
  | 81 => ⟨S2816, .f32⟩
  | 82 => ⟨S8x2048x2816, .f32⟩
  | 83 => ⟨S1x1x2816, .f32⟩
  | 84 => ⟨S8x2048x2816, .f32⟩
  | 85 => ⟨S8x2048x2816, .f32⟩
  | 86 => ⟨S8x2048x2816, .f32⟩
  | 87 => ⟨S8x2048x2816, .f32⟩
  | 88 => ⟨S8x2048x2816, .f32⟩
  | 89 => ⟨S_, .f32⟩
  | 90 => ⟨S8x2048x2816, .f32⟩
  | 91 => ⟨S8x2048x2816, .f32⟩
  | 92 => ⟨S_, .f32⟩
  | 93 => ⟨S8x2048x2816, .f32⟩
  | 94 => ⟨S8x2048x2816, .f32⟩
  | 95 => ⟨S8x2048x2816, .f32⟩
  | 96 => ⟨S8x2048x2816, .f32⟩
  | 97 => ⟨S8x2048x1024, .f32⟩
  | 98 => ⟨S8x8x2816, .f32⟩
  | 99 => ⟨S_, .f32⟩
  | 100 => ⟨S8x2048x1024, .f32⟩
  | 101 => ⟨S8x2048x1024, .f32⟩
  | 102 => ⟨S8x2048x1024, .f32⟩
  | 103 => ⟨S1x1024, .f32⟩
  | 104 => ⟨S1024, .f32⟩
  | 105 => ⟨S1x1024, .f32⟩
  | 106 => ⟨S1024, .f32⟩
  | 107 => ⟨S_, .f32⟩
  | 108 => ⟨S8x2048, .f32⟩
  | 109 => ⟨S8x2048x1, .f32⟩
  | 110 => ⟨S_, .f32⟩
  | 111 => ⟨S8x2048x1, .f32⟩
  | 112 => ⟨S8x2048x1, .f32⟩
  | 113 => ⟨S8x2048x1024, .f32⟩
  | 114 => ⟨S8x2048x1024, .f32⟩
  | 115 => ⟨S8x2048x1024, .f32⟩
  | 116 => ⟨S_, .f32⟩
  | 117 => ⟨S8x2048, .f32⟩
  | 118 => ⟨S8x2048x1, .f32⟩
  | 119 => ⟨S_, .f32⟩
  | 120 => ⟨S8x2048x1, .f32⟩
  | 121 => ⟨S8x2048x1, .f32⟩
  | 122 => ⟨S8x2048x1024, .f32⟩
  | 123 => ⟨S8x2048x1024, .f32⟩
  | 124 => ⟨S_, .f32⟩
  | 125 => ⟨S8x2048x1, .f32⟩
  | 126 => ⟨S8x2048x1, .f32⟩
  | 127 => ⟨S8x2048x1, .f32⟩
  | _ => ⟨S8x2048x1024, .f32⟩

abbrev hbmTy0_1 (i : Nat) : BufTy := match i % 128 with
  | 0 => ⟨S8x2048x1024, .f32⟩
  | 1 => ⟨S8x2048x1024, .f32⟩
  | 2 => ⟨S1x1x1024, .f32⟩
  | 3 => ⟨S8x2048x1024, .f32⟩
  | 4 => ⟨S8x2048x1024, .f32⟩
  | 5 => ⟨S1x1x1024, .f32⟩
  | 6 => ⟨S8x2048x1024, .f32⟩
  | 7 => ⟨S8x2048x1024, .f32⟩
  | 8 => ⟨S16384x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_call0_v0 : Ref sig .tc := ⟨.hbm, 87, rfl⟩
abbrev main_call0_v1 : Ref sig .tc := ⟨.hbm, 88, rfl⟩
abbrev main_call0_cst : Ref sig .tc := ⟨.hbm, 89, rfl⟩
abbrev main_call0_v2 : Ref sig .tc := ⟨.hbm, 90, rfl⟩
abbrev main_call0_v3 : Ref sig .tc := ⟨.hbm, 91, rfl⟩
abbrev main_call0_cst_0 : Ref sig .tc := ⟨.hbm, 92, rfl⟩
abbrev main_call0_v4 : Ref sig .tc := ⟨.hbm, 93, rfl⟩
abbrev main_call0_v5 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_6 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_7 : Ref sig .tc := ⟨.hbm, 107, rfl⟩
abbrev main_v80 : Ref sig .tc := ⟨.hbm, 108, rfl⟩
abbrev main_v81 : Ref sig .tc := ⟨.hbm, 109, rfl⟩
abbrev main_cst_8 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_9 : Ref sig .tc := ⟨.hbm, 116, rfl⟩
abbrev main_v87 : Ref sig .tc := ⟨.hbm, 117, rfl⟩
abbrev main_v88 : Ref sig .tc := ⟨.hbm, 118, rfl⟩
abbrev main_cst_10 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_11 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩

abbrev nD : Nat := 1
abbrev τ : Topo := Topo.v7x

variable {F : FTy → Type} [FloatOps F]
-- ==== Kernel0.lean ====
abbrev S8x2048x1024 : Shape := ⟨3, ![8, 2048, 1024]⟩
abbrev S2x1024x5632 : Shape := ⟨3, ![2, 1024, 5632]⟩
abbrev S2x2816x1024 : Shape := ⟨3, ![2, 2816, 1024]⟩
abbrev S2x3x2816 : Shape := ⟨3, ![2, 3, 2816]⟩
abbrev S2x2816 : Shape := ⟨2, ![2, 2816]⟩
abbrev S2x1024 : Shape := ⟨2, ![2, 1024]⟩
abbrev S16384x1024 : Shape := ⟨2, ![16384, 1024]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x1024 : Shape := ⟨2, ![1, 1024]⟩
abbrev S1024 : Shape := ⟨1, ![1024]⟩
abbrev S8x8x2816 : Shape := ⟨3, ![8, 8, 2816]⟩
abbrev S512x1024 : Shape := ⟨2, ![512, 1024]⟩
abbrev S1x1024x5632 : Shape := ⟨3, ![1, 1024, 5632]⟩
abbrev S1x2816x1024 : Shape := ⟨3, ![1, 2816, 1024]⟩
abbrev S1x8x2816 : Shape := ⟨3, ![1, 8, 2816]⟩
abbrev S8x2816 : Shape := ⟨2, ![8, 2816]⟩
abbrev S512x2816 : Shape := ⟨2, ![512, 2816]⟩
abbrev S1x1024x2816 : Shape := ⟨3, ![1, 1024, 2816]⟩
abbrev S1024x2816 : Shape := ⟨2, ![1024, 2816]⟩
abbrev S2816x1024 : Shape := ⟨2, ![2816, 1024]⟩
abbrev S512 : Shape := ⟨1, ![512]⟩
abbrev S512x1 : Shape := ⟨2, ![512, 1]⟩

abbrev nBuf : Space → Nat
  | .hbm => 23
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S2x1024x5632, .f32⟩
  | .hbm, ⟨2, _⟩ => ⟨S2x2816x1024, .f32⟩
  | .hbm, ⟨3, _⟩ => ⟨S2x3x2816, .f32⟩
  | .hbm, ⟨4, _⟩ => ⟨S2x2816, .f32⟩
  | .hbm, ⟨5, _⟩ => ⟨S2x1024, .f32⟩
  | .hbm, ⟨6, _⟩ => ⟨S2x1024, .f32⟩
  | .hbm, ⟨7, _⟩ => ⟨S16384x1024, .f32⟩
  | .hbm, ⟨8, _⟩ => ⟨S2x1024x5632, .bf16⟩
  | .hbm, ⟨9, _⟩ => ⟨S2x2816x1024, .bf16⟩
  | .hbm, ⟨10, _⟩ => ⟨S1x3x2816, .f32⟩
  | .hbm, ⟨11, _⟩ => ⟨S3x2816, .f32⟩
  | .hbm, ⟨12, _⟩ => ⟨S1x2816, .f32⟩
  | .hbm, ⟨13, _⟩ => ⟨S2816, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x2816, .f32⟩
  | .hbm, ⟨19, _⟩ => ⟨S1x1024, .f32⟩
  | .hbm, ⟨20, _⟩ => ⟨S1x1024, .f32⟩
  | .hbm, ⟨21, _⟩ => ⟨S16384x1024, .f32⟩
  | .hbm, ⟨22, _⟩ => ⟨S8x8x2816, .f32⟩
  | .local _ .vmem, ⟨0, _⟩ => ⟨S512x1024, .f32⟩
  | .local _ .vmem, ⟨1, _⟩ => ⟨S512x1024, .f32⟩
  | .local _ .vmem, ⟨2, _⟩ => ⟨S1x1024x5632, .bf16⟩
  | .local _ .vmem, ⟨3, _⟩ => ⟨S1x2816x1024, .bf16⟩
  | .local _ .vmem, ⟨4, _⟩ => ⟨S3x2816, .f32⟩
  | .local _ .vmem, ⟨5, _⟩ => ⟨S1x2816, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x8x2816, .f32⟩
  | .local _ .vmem, ⟨11, _⟩ => ⟨S1x8x2816, .f32⟩
  | .local _ .vmem, ⟨12, _⟩ => ⟨S8x2816, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference0Ideal.lean ====
abbrev S8x2048x1024 : Shape := ⟨3, ![8, 2048, 1024]⟩
abbrev S2x1024x5632 : Shape := ⟨3, ![2, 1024, 5632]⟩
abbrev S2x2816x1024 : Shape := ⟨3, ![2, 2816, 1024]⟩
abbrev S2x3x2816 : Shape := ⟨3, ![2, 3, 2816]⟩
abbrev S2x2816 : Shape := ⟨2, ![2, 2816]⟩
abbrev S2x1024 : Shape := ⟨2, ![2, 1024]⟩
abbrev S_ : Shape := ⟨0, ![]⟩
abbrev S8x2x2816 : Shape := ⟨3, ![8, 2, 2816]⟩
abbrev S1x1024x5632 : Shape := ⟨3, ![1, 1024, 5632]⟩
abbrev S1024x5632 : Shape := ⟨2, ![1024, 5632]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x2816x1024 : Shape := ⟨3, ![1, 2816, 1024]⟩
abbrev S2816x1024 : Shape := ⟨2, ![2816, 1024]⟩
abbrev S8x2048x5632 : Shape := ⟨3, ![8, 2048, 5632]⟩
abbrev S8x2048x2816 : Shape := ⟨3, ![8, 2048, 2816]⟩
abbrev S8x2050x2816 : Shape := ⟨3, ![8, 2050, 2816]⟩
abbrev S1x1x2816 : Shape := ⟨3, ![1, 1, 2816]⟩
abbrev S8x8x2816 : Shape := ⟨3, ![8, 8, 2816]⟩
abbrev S1x1024 : Shape := ⟨2, ![1, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 94
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024x5632, .f32⟩
  | .hbm, ⟨2, _⟩ => ⟨S2x2816x1024, .f32⟩
  | .hbm, ⟨3, _⟩ => ⟨S2x3x2816, .f32⟩
  | .hbm, ⟨4, _⟩ => ⟨S2x2816, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S8x2x2816, .f32⟩
  | .hbm, ⟨9, _⟩ => ⟨S1x1024x5632, .f32⟩
  | .hbm, ⟨10, _⟩ => ⟨S1024x5632, .f32⟩
  | .hbm, ⟨11, _⟩ => ⟨S1x3x2816, .f32⟩
  | .hbm, ⟨12, _⟩ => ⟨S3x2816, .f32⟩
  | .hbm, ⟨13, _⟩ => ⟨S1x2816, .f32⟩
  | .hbm, ⟨14, _⟩ => ⟨S2816, .f32⟩
  | .hbm, ⟨15, _⟩ => ⟨S1x2816x1024, .f32⟩
  | .hbm, ⟨16, _⟩ => ⟨S2816x1024, .f32⟩
  | .hbm, ⟨17, _⟩ => ⟨S8x2048x5632, .f32⟩
  | .hbm, ⟨18, _⟩ => ⟨S8x2048x2816, .f32⟩
  | .hbm, ⟨19, _⟩ => ⟨S8x2048x2816, .f32⟩
  | .hbm, ⟨20, _⟩ => ⟨S8x2050x2816, .f32⟩
  | .hbm, ⟨21, _⟩ => ⟨S1x2816, .f32⟩
  | .hbm, ⟨22, _⟩ => ⟨S2816, .f32⟩
  | .hbm, ⟨23, _⟩ => ⟨S8x2048x2816, .f32⟩
  | .hbm, ⟨24, _⟩ => ⟨S1x1x2816, .f32⟩
  | .hbm, ⟨25, _⟩ => ⟨S8x2048x2816, .f32⟩
  | .hbm, ⟨26, _⟩ => ⟨S8x2048x2816, .f32⟩
  | .hbm, ⟨27, _⟩ => ⟨S1x1x2816, .f32⟩
  | .hbm, ⟨28, _⟩ => ⟨S8x2048x2816, .f32⟩
  | .hbm, ⟨29, _⟩ => ⟨S8x2048x2816, .f32⟩
  | .hbm, ⟨30, _⟩ => ⟨S1x2816, .f32⟩
  | .hbm, ⟨31, _⟩ => ⟨S2816, .f32⟩
  | .hbm, ⟨32, _⟩ => ⟨S8x2048x2816, .f32⟩
  | .hbm, ⟨33, _⟩ => ⟨S1x1x2816, .f32⟩
  | .hbm, ⟨34, _⟩ => ⟨S8x2048x2816, .f32⟩
  | .hbm, ⟨35, _⟩ => ⟨S8x2048x2816, .f32⟩
  | .hbm, ⟨36, _⟩ => ⟨S8x2048x2816, .f32⟩
  | .hbm, ⟨37, _⟩ => ⟨S1x2816, .f32⟩
  | .hbm, ⟨38, _⟩ => ⟨S2816, .f32⟩
  | .hbm, ⟨39, _⟩ => ⟨S8x2048x2816, .f32⟩
  | .hbm, ⟨40, _⟩ => ⟨S1x1x2816, .f32⟩
  | .hbm, ⟨41, _⟩ => ⟨S8x2048x2816, .f32⟩
  | .hbm, ⟨42, _⟩ => ⟨S8x2048x2816, .f32⟩
  | .hbm, ⟨43, _⟩ => ⟨S8x2048x2816, .f32⟩
  | .hbm, ⟨44, _⟩ => ⟨S8x2048x2816, .f32⟩
  | .hbm, ⟨45, _⟩ => ⟨S8x2048x2816, .f32⟩
  | .hbm, ⟨46, _⟩ => ⟨S_, .f32⟩
  | .hbm, ⟨47, _⟩ => ⟨S8x2048x2816, .f32⟩
  | .hbm, ⟨48, _⟩ => ⟨S8x2048x2816, .f32⟩
  | .hbm, ⟨49, _⟩ => ⟨S_, .f32⟩
  | .hbm, ⟨50, _⟩ => ⟨S8x2048x2816, .f32⟩
  | .hbm, ⟨51, _⟩ => ⟨S8x2048x2816, .f32⟩
  | .hbm, ⟨52, _⟩ => ⟨S8x2048x2816, .f32⟩
  | .hbm, ⟨53, _⟩ => ⟨S8x2048x2816, .f32⟩
  | .hbm, ⟨54, _⟩ => ⟨S8x2048x1024, .f32⟩
  | .hbm, ⟨55, _⟩ => ⟨S8x8x2816, .f32⟩
  | .hbm, ⟨56, _⟩ => ⟨S_, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S1x1024, .f32⟩
  | .hbm, ⟨61, _⟩ => ⟨S1024, .f32⟩
  | .hbm, ⟨62, _⟩ => ⟨S1x1024, .f32⟩
  | .hbm, ⟨63, _⟩ => ⟨S1024, .f32⟩
  | .hbm, ⟨64, _⟩ => ⟨S_, .f32⟩
  | .hbm, ⟨65, _⟩ => ⟨S8x2048, .f32⟩
  | .hbm, ⟨66, _⟩ => ⟨S8x2048x1, .f32⟩
  | .hbm, ⟨67, _⟩ => ⟨S_, .f32⟩
  | .hbm, ⟨68, _⟩ => ⟨S8x2048x1, .f32⟩
  | .hbm, ⟨69, _⟩ => ⟨S8x2048x1, .f32⟩
  | .hbm, ⟨70, _⟩ => ⟨S8x2048x1024, .f32⟩
  | .hbm, ⟨71, _⟩ => ⟨S8x2048x1024, .f32⟩
  | .hbm, ⟨72, _⟩ => ⟨S8x2048x1024, .f32⟩
  | .hbm, ⟨73, _⟩ => ⟨S_, .f32⟩
  | .hbm, ⟨74, _⟩ => ⟨S8x2048, .f32⟩
  | .hbm, ⟨75, _⟩ => ⟨S8x2048x1, .f32⟩
  | .hbm, ⟨76, _⟩ => ⟨S_, .f32⟩
  | .hbm, ⟨77, _⟩ => ⟨S8x2048x1, .f32⟩
  | .hbm, ⟨78, _⟩ => ⟨S8x2048x1, .f32⟩
  | .hbm, ⟨79, _⟩ => ⟨S8x2048x1024, .f32⟩
  | .hbm, ⟨80, _⟩ => ⟨S8x2048x1024, .f32⟩
  | .hbm, ⟨81, _⟩ => ⟨S_, .f32⟩
  | .hbm, ⟨82, _⟩ => ⟨S8x2048x1, .f32⟩
  | .hbm, ⟨83, _⟩ => ⟨S8x2048x1, .f32⟩
  | .hbm, ⟨84, _⟩ => ⟨S8x2048x1, .f32⟩
  | .hbm, ⟨85, _⟩ => ⟨S8x2048x1024, .f32⟩
  | .hbm, ⟨86, _⟩ => ⟨S8x2048x1024, .f32⟩
  | .hbm, ⟨87, _⟩ => ⟨S1x1x1024, .f32⟩
  | .hbm, ⟨88, _⟩ => ⟨S8x2048x1024, .f32⟩
  | .hbm, ⟨89, _⟩ => ⟨S8x2048x1024, .f32⟩
  | .hbm, ⟨90, _⟩ => ⟨S1x1x1024, .f32⟩
  | .hbm, ⟨91, _⟩ => ⟨S8x2048x1024, .f32⟩
  | .hbm, ⟨92, _⟩ => ⟨S8x2048x1024, .f32⟩
  | .hbm, ⟨93, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_0 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_1 : Ref sig .tc := ⟨.hbm, 64, rfl⟩
abbrev main_v47 : Ref sig .tc := ⟨.hbm, 65, rfl⟩
abbrev main_v48 : Ref sig .tc := ⟨.hbm, 66, rfl⟩
abbrev main_cst_2 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_3 : Ref sig .tc := ⟨.hbm, 73, rfl⟩
abbrev main_v54 : Ref sig .tc := ⟨.hbm, 74, rfl⟩
abbrev main_v55 : Ref sig .tc := ⟨.hbm, 75, rfl⟩
abbrev main_cst_4 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_5 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== KernelEven.lean ====
abbrev S8x2048x1024 : Shape := ⟨3, ![8, 2048, 1024]⟩
abbrev S1x1024x2560 : Shape := ⟨3, ![1, 1024, 2560]⟩
abbrev S1x4x128x128 : Shape := ⟨4, ![1, 4, 128, 128]⟩
abbrev S1x512 : Shape := ⟨2, ![1, 512]⟩
abbrev S1x1024x1024 : Shape := ⟨3, ![1, 1024, 1024]⟩
abbrev S2x1024 : Shape := ⟨2, ![2, 1024]⟩
abbrev S16384x1024 : Shape := ⟨2, ![16384, 1024]⟩
abbrev S1024x2560 : Shape := ⟨2, ![1024, 2560]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S4x1 : Shape := ⟨2, ![4, 1]⟩
abbrev S4x256 : Shape := ⟨2, ![4, 256]⟩
abbrev S2048x128 : Shape := ⟨2, ![2048, 128]⟩
abbrev S4x256x1 : Shape := ⟨3, ![4, 256, 1]⟩
abbrev S4x256x128 : Shape := ⟨3, ![4, 256, 128]⟩
abbrev S4x1x128 : Shape := ⟨3, ![4, 1, 128]⟩
abbrev S4x128x128 : Shape := ⟨3, ![4, 128, 128]⟩
abbrev S512 : Shape := ⟨1, ![512]⟩
abbrev S1024x1024 : Shape := ⟨2, ![1024, 1024]⟩
abbrev S1x1024 : Shape := ⟨2, ![1, 1024]⟩
abbrev S1024 : Shape := ⟨1, ![1024]⟩
abbrev S8x15x512 : Shape := ⟨3, ![8, 15, 512]⟩
abbrev S8x4x128x128 : Shape := ⟨4, ![8, 4, 128, 128]⟩
abbrev S512x1024 : Shape := ⟨2, ![512, 1024]⟩
abbrev S512x128 : Shape := ⟨2, ![512, 128]⟩
abbrev S1x15x512 : Shape := ⟨3, ![1, 15, 512]⟩
abbrev S528x512 : Shape := ⟨2, ![528, 512]⟩
abbrev S256x2560 : Shape := ⟨2, ![256, 2560]⟩
abbrev S16x512 : Shape := ⟨2, ![16, 512]⟩
abbrev S256x1024 : Shape := ⟨2, ![256, 1024]⟩
abbrev S1024x512 : Shape := ⟨2, ![1024, 512]⟩
abbrev S256x512 : Shape := ⟨2, ![256, 512]⟩
abbrev S272x128 : Shape := ⟨2, ![272, 128]⟩
abbrev S256x128 : Shape := ⟨2, ![256, 128]⟩
abbrev S1x128x128 : Shape := ⟨3, ![1, 128, 128]⟩
abbrev S128x128 : Shape := ⟨2, ![128, 128]⟩
abbrev S1x128 : Shape := ⟨2, ![1, 128]⟩
abbrev S1x256x128 : Shape := ⟨3, ![1, 256, 128]⟩
abbrev S1x1x128 : Shape := ⟨3, ![1, 1, 128]⟩
abbrev S15x512 : Shape := ⟨2, ![15, 512]⟩

abbrev nBuf : Space → Nat
  | .hbm => 109
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S1x1024x2560, .f32⟩
  | .hbm, ⟨2, _⟩ => ⟨S1x4x128x128, .f32⟩
  | .hbm, ⟨3, _⟩ => ⟨S1x512, .f32⟩
  | .hbm, ⟨4, _⟩ => ⟨S1x512, .f32⟩
  | .hbm, ⟨5, _⟩ => ⟨S1x1024x1024, .f32⟩
  | .hbm, ⟨6, _⟩ => ⟨S2x1024, .f32⟩
  | .hbm, ⟨7, _⟩ => ⟨S2x1024, .f32⟩
  | .hbm, ⟨8, _⟩ => ⟨S16384x1024, .f32⟩
  | .hbm, ⟨9, _⟩ => ⟨S1024x2560, .f32⟩
  | .hbm, ⟨10, _⟩ => ⟨S1024x2560, .bf16⟩
  | .hbm, ⟨11, _⟩ => ⟨S2048, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S2048x1, .f32⟩
  | .hbm, ⟨21, _⟩ => ⟨S1x64, .f32⟩
  | .hbm, ⟨22, _⟩ => ⟨S2048x64, .f32⟩
  | .hbm, ⟨23, _⟩ => ⟨S2048x64, .f32⟩
  | .hbm, ⟨24, _⟩ => ⟨S2048x64, .f32⟩
  | .hbm, ⟨25, _⟩ => ⟨S2048x64, .f32⟩
  | .hbm, ⟨26, _⟩ => ⟨S2048x64, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S4, .f32⟩
  | .hbm, ⟨34, _⟩ => ⟨S_, .f32⟩
  | .hbm, ⟨35, _⟩ => ⟨S4, .f32⟩
  | .hbm, ⟨36, _⟩ => ⟨S4, .f32⟩
  | .hbm, ⟨37, _⟩ => ⟨S4, .f32⟩
  | .hbm, ⟨38, _⟩ => ⟨S256, .f32⟩
  | .hbm, ⟨39, _⟩ => ⟨S256x1, .f32⟩
  | .hbm, ⟨40, _⟩ => ⟨S1x256, .f32⟩
  | .hbm, ⟨41, _⟩ => ⟨S256x256, .f32⟩
  | .hbm, ⟨42, _⟩ => ⟨S256x256, .f32⟩
  | .hbm, ⟨43, _⟩ => ⟨S256x256, .f32⟩
  | .hbm, ⟨44, _⟩ => ⟨S_, .f32⟩
  | .hbm, ⟨45, _⟩ => ⟨S256x256, .f32⟩
  | .hbm, ⟨46, _⟩ => ⟨S256x256, .i1⟩
  | .hbm, ⟨47, _⟩ => ⟨S_, .f32⟩
  | .hbm, ⟨48, _⟩ => ⟨S256x256, .f32⟩
  | .hbm, ⟨49, _⟩ => ⟨S256x256, .f32⟩
  | .hbm, ⟨50, _⟩ => ⟨S1x256x256, .f32⟩
  | .hbm, ⟨51, _⟩ => ⟨S4x1x1, .f32⟩
  | .hbm, ⟨52, _⟩ => ⟨S4x256x256, .f32⟩
  | .hbm, ⟨53, _⟩ => ⟨S4x256x256, .f32⟩
  | .hbm, ⟨54, _⟩ => ⟨S4x256x256, .f32⟩
  | .hbm, ⟨55, _⟩ => ⟨S4x256x256, .f32⟩
  | .hbm, ⟨56, _⟩ => ⟨S_, .f32⟩
  | .hbm, ⟨57, _⟩ => ⟨S_, .f32⟩
  | .hbm, ⟨58, _⟩ => ⟨S4x256x256, .i1⟩
  | .hbm, ⟨59, _⟩ => ⟨S4x256x256, .f32⟩
  | .hbm, ⟨60, _⟩ => ⟨S4x256x256, .f32⟩
  | .hbm, ⟨61, _⟩ => ⟨S_, .f32⟩
  | .hbm, ⟨62, _⟩ => ⟨S256, .f32⟩
  | .hbm, ⟨63, _⟩ => ⟨S256, .f32⟩
  | .hbm, ⟨64, _⟩ => ⟨S1x256, .f32⟩
  | .hbm, ⟨65, _⟩ => ⟨S4x1, .f32⟩
  | .hbm, ⟨66, _⟩ => ⟨S4x256, .f32⟩
  | .hbm, ⟨67, _⟩ => ⟨S4x256, .f32⟩
  | .hbm, ⟨68, _⟩ => ⟨S4x256, .f32⟩
  | .hbm, ⟨69, _⟩ => ⟨S4x256, .f32⟩
  | .hbm, ⟨70, _⟩ => ⟨S_, .f32⟩
  | .hbm, ⟨71, _⟩ => ⟨S256, .f32⟩
  | .hbm, ⟨72, _⟩ => ⟨S256, .f32⟩
  | .hbm, ⟨73, _⟩ => ⟨S1x256, .f32⟩
  | .hbm, ⟨74, _⟩ => ⟨S4x1, .f32⟩
  | .hbm, ⟨75, _⟩ => ⟨S4x256, .f32⟩
  | .hbm, ⟨76, _⟩ => ⟨S4x256, .f32⟩
  | .hbm, ⟨77, _⟩ => ⟨S4x256, .f32⟩
  | .hbm, ⟨78, _⟩ => ⟨S4x256, .f32⟩
  | .hbm, ⟨79, _⟩ => ⟨S_, .f32⟩
  | .hbm, ⟨80, _⟩ => ⟨S4, .f32⟩
  | .hbm, ⟨81, _⟩ => ⟨S4, .f32⟩
  | .hbm, ⟨82, _⟩ => ⟨S4, .f32⟩
  | .hbm, ⟨83, _⟩ => ⟨S2048x128, .f32⟩
  | .hbm, ⟨84, _⟩ => ⟨S2048x64, .f32⟩
  | .hbm, ⟨85, _⟩ => ⟨S2048x128, .f32⟩
  | .hbm, ⟨86, _⟩ => ⟨S4x256x1, .f32⟩
  | .hbm, ⟨87, _⟩ => ⟨S4x256x128, .f32⟩
  | .hbm, ⟨88, _⟩ => ⟨S4x256x1, .f32⟩
  | .hbm, ⟨89, _⟩ => ⟨S4x256x128, .f32⟩
  | .hbm, ⟨90, _⟩ => ⟨S4x1x1, .f32⟩
  | .hbm, ⟨91, _⟩ => ⟨S4x1x128, .f32⟩
  | .hbm, ⟨92, _⟩ => ⟨S4x128x128, .f32⟩
  | .hbm, ⟨93, _⟩ => ⟨S4x128x128, .bf16⟩
  | .hbm, ⟨94, _⟩ => ⟨S512, .f32⟩
  | .hbm, ⟨95, _⟩ => ⟨S512, .f32⟩
  | .hbm, ⟨96, _⟩ => ⟨S1024x1024, .f32⟩
  | .hbm, ⟨97, _⟩ => ⟨S1024x1024, .bf16⟩
  | .hbm, ⟨98, _⟩ => ⟨S1x1024, .f32⟩
  | .hbm, ⟨99, _⟩ => ⟨S1024, .f32⟩
  | .hbm, ⟨100, _⟩ => ⟨S1x1024, .f32⟩
  | .hbm, ⟨101, _⟩ => ⟨S1024, .f32⟩
  | .hbm, ⟨102, _⟩ => ⟨S1x512, .f32⟩
  | .hbm, ⟨103, _⟩ => ⟨S1x512, .f32⟩
  | .hbm, ⟨104, _⟩ => ⟨S1x1024, .f32⟩
  | .hbm, ⟨105, _⟩ => ⟨S1x1024, .f32⟩
  | .hbm, ⟨106, _⟩ => ⟨S16384x1024, .f32⟩
  | .hbm, ⟨107, _⟩ => ⟨S8x15x512, .f32⟩
  | .hbm, ⟨108, _⟩ => ⟨S8x4x128x128, .f32⟩
  | .local _ .vmem, ⟨0, _⟩ => ⟨S512x1024, .f32⟩
  | .local _ .vmem, ⟨1, _⟩ => ⟨S512x1024, .f32⟩
  | .local _ .vmem, ⟨2, _⟩ => ⟨S1024x2560, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S4x256x256, .f32⟩
  | .local _ .vmem, ⟨8, _⟩ => ⟨S4x256x128, .f32⟩
  | .local _ .vmem, ⟨9, _⟩ => ⟨S4x256x128, .f32⟩
  | .local _ .vmem, ⟨10, _⟩ => ⟨S4x1x128, .f32⟩
  | .local _ .vmem, ⟨11, _⟩ => ⟨S4x128x128, .bf16⟩
  | .local _ .vmem, ⟨12, _⟩ => ⟨S1x512, .f32⟩
  | .local _ .vmem, ⟨13, _⟩ => ⟨S1x512, .f32⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S1x15x512, .f32⟩
  | .local _ .vmem, ⟨20, _⟩ => ⟨S1x15x512, .f32⟩
  | .local _ .vmem, ⟨21, _⟩ => ⟨S1x4x128x128, .f32⟩
  | .local _ .vmem, ⟨22, _⟩ => ⟨S1x4x128x128, .f32⟩
  | .local _ .vmem, ⟨23, _⟩ => ⟨S512x1024, .bf16⟩
  | .local _ .vmem, ⟨24, _⟩ => ⟨S528x512, .f32⟩
  | .local _ .vmem, ⟨25, _⟩ => ⟨S4x128x128, .f32⟩
  | .local _ .vmem, ⟨26, _⟩ => ⟨S256x2560, .f32⟩
  | .local _ .vmem, ⟨27, _⟩ => ⟨S256x2560, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84_0 : Ref sig .tc := ⟨.hbm, 106, rfl⟩
abbrev main_v84_1 : Ref sig .tc := ⟨.hbm, 107, rfl⟩
abbrev main_v84_2 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v960 : BitVec 1 := Scalar.cmpi .eq arg1 c3_i32
  let v961 : BitVec 32 := Scalar.extui v960
  let c0_i32_534 : BitVec 32 := 0#32
  let v962 : BitVec 1 := Scalar.cmpi .ne v961 c0_i32_534
  v962

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S4x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x15x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x4x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ReferenceEvenIdeal.lean ====
abbrev S8x2048x1024 : Shape := ⟨3, ![8, 2048, 1024]⟩
abbrev S1x1024x2560 : Shape := ⟨3, ![1, 1024, 2560]⟩
abbrev S1x4x128x128 : Shape := ⟨4, ![1, 4, 128, 128]⟩
abbrev S1x512 : Shape := ⟨2, ![1, 512]⟩
abbrev S1x1024x1024 : Shape := ⟨3, ![1, 1024, 1024]⟩
abbrev S2x1024 : Shape := ⟨2, ![2, 1024]⟩
abbrev S1024x2560 : Shape := ⟨2, ![1024, 2560]⟩
abbrev S8x2048x2560 : Shape := ⟨3, ![8, 2048, 2560]⟩
abbrev S8x2048x512 : Shape := ⟨3, ![8, 2048, 512]⟩
abbrev S8x2048x4x128 : Shape := ⟨4, ![8, 2048, 4, 128]⟩
abbrev S_ : Shape := ⟨0, ![]⟩
abbrev S8x15x512 : Shape := ⟨3, ![8, 15, 512]⟩
abbrev S4x128x128 : Shape := ⟨3, ![4, 128, 128]⟩
abbrev S512 : Shape := ⟨1, ![512]⟩
abbrev S2048 : Shape := ⟨1, ![2048]⟩
abbrev S8x2063x512 : Shape := ⟨3, ![8, 2063, 512]⟩
abbrev S8x2048x128 : Shape := ⟨3, ![8, 2048, 128]⟩
abbrev S1x2048x1 : Shape := ⟨3, ![1, 2048, 1]⟩
abbrev S1x128x128 : Shape := ⟨3, ![1, 128, 128]⟩
abbrev S128x128 : Shape := ⟨2, ![128, 128]⟩
abbrev S1x1x512 : Shape := ⟨3, ![1, 1, 512]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S8x2048x4x64 : Shape := ⟨4, ![8, 2048, 4, 64]⟩
abbrev S1x2048x1x64 : Shape := ⟨4, ![1, 2048, 1, 64]⟩
abbrev S4 : Shape := ⟨1, ![4]⟩
abbrev S1x2048 : Shape := ⟨2, ![1, 2048]⟩
abbrev S2048x2048 : Shape := ⟨2, ![2048, 2048]⟩
abbrev S1x2048x2048 : Shape := ⟨3, ![1, 2048, 2048]⟩
abbrev S4x1x1 : Shape := ⟨3, ![4, 1, 1]⟩
abbrev S4x2048x2048 : Shape := ⟨3, ![4, 2048, 2048]⟩
abbrev S8x4x2048x2048 : Shape := ⟨4, ![8, 4, 2048, 2048]⟩
abbrev S1x4x2048x2048 : Shape := ⟨4, ![1, 4, 2048, 2048]⟩
abbrev S8x4x128x2048 : Shape := ⟨4, ![8, 4, 128, 2048]⟩
abbrev S1x4 : Shape := ⟨2, ![1, 4]⟩
abbrev S2048x4 : Shape := ⟨2, ![2048, 4]⟩
abbrev S1x2048x4x1 : Shape := ⟨4, ![1, 2048, 4, 1]⟩
abbrev S8x4x128x128 : Shape := ⟨4, ![8, 4, 128, 128]⟩
abbrev S8x2048x4 : Shape := ⟨3, ![8, 2048, 4]⟩
abbrev S8x2048x4x1 : Shape := ⟨4, ![8, 2048, 4, 1]⟩
abbrev S4x128 : Shape := ⟨2, ![4, 128]⟩
abbrev S1x1x4x128 : Shape := ⟨4, ![1, 1, 4, 128]⟩
abbrev S1024x1024 : Shape := ⟨2, ![1024, 1024]⟩
abbrev S1x1024 : Shape := ⟨2, ![1, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 347
  | .vmem => 0
  | .smem => 0
  | _ => 0

abbrev hbmTy0_0 (i : Nat) : BufTy := match i % 128 with
  | 0 => ⟨S8x2048x1024, .f32⟩
  | 1 => ⟨S1x1024x2560, .f32⟩
  | 2 => ⟨S1x4x128x128, .f32⟩
  | 3 => ⟨S1x512, .f32⟩
  | 4 => ⟨S1x512, .f32⟩
  | 5 => ⟨S1x1024x1024, .f32⟩
  | 6 => ⟨S2x1024, .f32⟩
  | 7 => ⟨S2x1024, .f32⟩
  | 8 => ⟨S1024x2560, .f32⟩
  | 9 => ⟨S8x2048x2560, .f32⟩
  | 10 => ⟨S8x2048x512, .f32⟩
  | 11 => ⟨S8x2048x512, .f32⟩
  | 12 => ⟨S8x2048x4x128, .f32⟩
  | 13 => ⟨S8x2048x512, .f32⟩
  | 14 => ⟨S8x2048x4x128, .f32⟩
  | 15 => ⟨S8x2048x512, .f32⟩
  | 16 => ⟨S8x2048x4x128, .f32⟩
  | 17 => ⟨S8x2048x512, .f32⟩
  | 18 => ⟨S_, .f32⟩
  | 19 => ⟨S8x15x512, .f32⟩
  | 20 => ⟨S4x128x128, .f32⟩
  | 21 => ⟨S512, .f32⟩
  | 22 => ⟨S2048, .f32⟩
  | 23 => ⟨S8x2063x512, .f32⟩
  | 24 => ⟨S8x2048x128, .f32⟩
  | 25 => ⟨S8x2048x128, .f32⟩
  | 26 => ⟨S8x2048x128, .f32⟩
  | 27 => ⟨S_, .f32⟩
  | 28 => ⟨S2048, .f32⟩
  | 29 => ⟨S2048, .f32⟩
  | 30 => ⟨S_, .f32⟩
  | 31 => ⟨S2048, .f32⟩
  | 32 => ⟨S2048, .f32⟩
  | 33 => ⟨S1x2048x1, .f32⟩
  | 34 => ⟨S8x2048x128, .f32⟩
  | 35 => ⟨S8x2048x128, .f32⟩
  | 36 => ⟨S8x2048x128, .f32⟩
  | 37 => ⟨S8x2048x128, .f32⟩
  | 38 => ⟨S1x128x128, .f32⟩
  | 39 => ⟨S128x128, .f32⟩
  | 40 => ⟨S8x2048x128, .f32⟩
  | 41 => ⟨S8x2048x128, .f32⟩
  | 42 => ⟨S8x2048x128, .f32⟩
  | 43 => ⟨S8x2048x128, .f32⟩
  | 44 => ⟨S8x2048x128, .f32⟩
  | 45 => ⟨S8x2048x128, .f32⟩
  | 46 => ⟨S8x2048x128, .f32⟩
  | 47 => ⟨S8x2048x128, .f32⟩
  | 48 => ⟨S_, .f32⟩
  | 49 => ⟨S2048, .f32⟩
  | 50 => ⟨S2048, .f32⟩
  | 51 => ⟨S_, .f32⟩
  | 52 => ⟨S2048, .f32⟩
  | 53 => ⟨S2048, .f32⟩
  | 54 => ⟨S1x2048x1, .f32⟩
  | 55 => ⟨S8x2048x128, .f32⟩
  | 56 => ⟨S8x2048x128, .f32⟩
  | 57 => ⟨S8x2048x128, .f32⟩
  | 58 => ⟨S8x2048x128, .f32⟩
  | 59 => ⟨S1x128x128, .f32⟩
  | 60 => ⟨S128x128, .f32⟩
  | 61 => ⟨S8x2048x128, .f32⟩
  | 62 => ⟨S8x2048x128, .f32⟩
  | 63 => ⟨S8x2048x128, .f32⟩
  | 64 => ⟨S8x2048x128, .f32⟩
  | 65 => ⟨S8x2048x128, .f32⟩
  | 66 => ⟨S8x2048x128, .f32⟩
  | 67 => ⟨S8x2048x128, .f32⟩
  | 68 => ⟨S8x2048x128, .f32⟩
  | 69 => ⟨S8x2048x128, .f32⟩
  | 70 => ⟨S8x2048x128, .f32⟩
  | 71 => ⟨S8x2048x128, .f32⟩
  | 72 => ⟨S8x2048x128, .f32⟩
  | 73 => ⟨S8x2048x128, .f32⟩
  | 74 => ⟨S8x2048x128, .f32⟩
  | 75 => ⟨S8x2048x128, .f32⟩
  | 76 => ⟨S8x2048x128, .f32⟩
  | 77 => ⟨S_, .f32⟩
  | 78 => ⟨S2048, .f32⟩
  | 79 => ⟨S2048, .f32⟩
  | 80 => ⟨S_, .f32⟩
  | 81 => ⟨S2048, .f32⟩
  | 82 => ⟨S2048, .f32⟩
  | 83 => ⟨S1x2048x1, .f32⟩
  | 84 => ⟨S8x2048x128, .f32⟩
  | 85 => ⟨S8x2048x128, .f32⟩
  | 86 => ⟨S8x2048x128, .f32⟩
  | 87 => ⟨S8x2048x128, .f32⟩
  | 88 => ⟨S1x128x128, .f32⟩
  | 89 => ⟨S128x128, .f32⟩
  | 90 => ⟨S8x2048x128, .f32⟩
  | 91 => ⟨S8x2048x128, .f32⟩
  | 92 => ⟨S8x2048x128, .f32⟩
  | 93 => ⟨S8x2048x128, .f32⟩
  | 94 => ⟨S8x2048x128, .f32⟩
  | 95 => ⟨S8x2048x128, .f32⟩
  | 96 => ⟨S8x2048x128, .f32⟩
  | 97 => ⟨S8x2048x128, .f32⟩
  | 98 => ⟨S8x2048x128, .f32⟩
  | 99 => ⟨S8x2048x128, .f32⟩
  | 100 => ⟨S8x2048x128, .f32⟩
  | 101 => ⟨S8x2048x128, .f32⟩
  | 102 => ⟨S8x2048x128, .f32⟩
  | 103 => ⟨S8x2048x128, .f32⟩
  | 104 => ⟨S8x2048x128, .f32⟩
  | 105 => ⟨S8x2048x128, .f32⟩
  | 106 => ⟨S8x2048x128, .f32⟩
  | 107 => ⟨S8x2048x128, .f32⟩
  | 108 => ⟨S8x2048x128, .f32⟩
  | 109 => ⟨S8x2048x128, .f32⟩
  | 110 => ⟨S8x2048x128, .f32⟩
  | 111 => ⟨S8x2048x128, .f32⟩
  | 112 => ⟨S8x2048x128, .f32⟩
  | 113 => ⟨S8x2048x128, .f32⟩
  | 114 => ⟨S8x2048x128, .f32⟩
  | 115 => ⟨S8x2048x128, .f32⟩
  | 116 => ⟨S8x2048x128, .f32⟩
  | 117 => ⟨S8x2048x128, .f32⟩
  | 118 => ⟨S8x2048x128, .f32⟩
  | 119 => ⟨S8x2048x128, .f32⟩
  | 120 => ⟨S8x2048x128, .f32⟩
  | 121 => ⟨S8x2048x128, .f32⟩
  | 122 => ⟨S_, .f32⟩
  | 123 => ⟨S2048, .f32⟩
  | 124 => ⟨S2048, .f32⟩
  | 125 => ⟨S_, .f32⟩
  | 126 => ⟨S2048, .f32⟩
  | 127 => ⟨S2048, .f32⟩
  | _ => ⟨S8x2048x1024, .f32⟩

abbrev hbmTy0_1 (i : Nat) : BufTy := match i % 128 with
  | 0 => ⟨S1x2048x1, .f32⟩
  | 1 => ⟨S8x2048x128, .f32⟩
  | 2 => ⟨S8x2048x128, .f32⟩
  | 3 => ⟨S8x2048x128, .f32⟩
  | 4 => ⟨S8x2048x128, .f32⟩
  | 5 => ⟨S1x128x128, .f32⟩
  | 6 => ⟨S128x128, .f32⟩
  | 7 => ⟨S8x2048x128, .f32⟩
  | 8 => ⟨S8x2048x512, .f32⟩
  | 9 => ⟨S1x1x512, .f32⟩
  | 10 => ⟨S8x2048x512, .f32⟩
  | 11 => ⟨S8x2048x512, .f32⟩
  | 12 => ⟨S8x15x512, .f32⟩
  | 13 => ⟨S2048, .f32⟩
  | 14 => ⟨S64, .f32⟩
  | 15 => ⟨S64, .f32⟩
  | 16 => ⟨S_, .f32⟩
  | 17 => ⟨S64, .f32⟩
  | 18 => ⟨S64, .f32⟩
  | 19 => ⟨S_, .f32⟩
  | 20 => ⟨S64, .f32⟩
  | 21 => ⟨S64, .f32⟩
  | 22 => ⟨S2048x1, .f32⟩
  | 23 => ⟨S1x64, .f32⟩
  | 24 => ⟨S2048x64, .f32⟩
  | 25 => ⟨S2048x64, .f32⟩
  | 26 => ⟨S2048x64, .f32⟩
  | 27 => ⟨S2048x64, .f32⟩
  | 28 => ⟨S2048x1x64, .f32⟩
  | 29 => ⟨S2048x64, .f32⟩
  | 30 => ⟨S2048x1x64, .f32⟩
  | 31 => ⟨S8x2048x4x64, .f32⟩
  | 32 => ⟨S8x2048x4x64, .f32⟩
  | 33 => ⟨S1x2048x1x64, .f32⟩
  | 34 => ⟨S8x2048x4x64, .f32⟩
  | 35 => ⟨S8x2048x4x64, .f32⟩
  | 36 => ⟨S1x2048x1x64, .f32⟩
  | 37 => ⟨S8x2048x4x64, .f32⟩
  | 38 => ⟨S8x2048x4x64, .f32⟩
  | 39 => ⟨S8x2048x4x64, .f32⟩
  | 40 => ⟨S1x2048x1x64, .f32⟩
  | 41 => ⟨S8x2048x4x64, .f32⟩
  | 42 => ⟨S8x2048x4x64, .f32⟩
  | 43 => ⟨S1x2048x1x64, .f32⟩
  | 44 => ⟨S8x2048x4x64, .f32⟩
  | 45 => ⟨S8x2048x4x64, .f32⟩
  | 46 => ⟨S8x2048x4x64, .f32⟩
  | 47 => ⟨S8x2048x4x128, .f32⟩
  | 48 => ⟨S2048, .f32⟩
  | 49 => ⟨S64, .f32⟩
  | 50 => ⟨S64, .f32⟩
  | 51 => ⟨S_, .f32⟩
  | 52 => ⟨S64, .f32⟩
  | 53 => ⟨S64, .f32⟩
  | 54 => ⟨S_, .f32⟩
  | 55 => ⟨S64, .f32⟩
  | 56 => ⟨S64, .f32⟩
  | 57 => ⟨S2048x1, .f32⟩
  | 58 => ⟨S1x64, .f32⟩
  | 59 => ⟨S2048x64, .f32⟩
  | 60 => ⟨S2048x64, .f32⟩
  | 61 => ⟨S2048x64, .f32⟩
  | 62 => ⟨S2048x64, .f32⟩
  | 63 => ⟨S2048x1x64, .f32⟩
  | 64 => ⟨S2048x64, .f32⟩
  | 65 => ⟨S2048x1x64, .f32⟩
  | 66 => ⟨S8x2048x4x64, .f32⟩
  | 67 => ⟨S8x2048x4x64, .f32⟩
  | 68 => ⟨S1x2048x1x64, .f32⟩
  | 69 => ⟨S8x2048x4x64, .f32⟩
  | 70 => ⟨S8x2048x4x64, .f32⟩
  | 71 => ⟨S1x2048x1x64, .f32⟩
  | 72 => ⟨S8x2048x4x64, .f32⟩
  | 73 => ⟨S8x2048x4x64, .f32⟩
  | 74 => ⟨S8x2048x4x64, .f32⟩
  | 75 => ⟨S1x2048x1x64, .f32⟩
  | 76 => ⟨S8x2048x4x64, .f32⟩
  | 77 => ⟨S8x2048x4x64, .f32⟩
  | 78 => ⟨S1x2048x1x64, .f32⟩
  | 79 => ⟨S8x2048x4x64, .f32⟩
  | 80 => ⟨S8x2048x4x64, .f32⟩
  | 81 => ⟨S8x2048x4x64, .f32⟩
  | 82 => ⟨S8x2048x4x128, .f32⟩
  | 83 => ⟨S_, .f32⟩
  | 84 => ⟨S8x2048x4x128, .f32⟩
  | 85 => ⟨S8x2048x4x128, .f32⟩
  | 86 => ⟨S4, .f32⟩
  | 87 => ⟨S_, .f32⟩
  | 88 => ⟨S4, .f32⟩
  | 89 => ⟨S4, .f32⟩
  | 90 => ⟨S_, .f32⟩
  | 91 => ⟨S4, .f32⟩
  | 92 => ⟨S4, .f32⟩
  | 93 => ⟨S_, .f32⟩
  | 94 => ⟨S4, .f32⟩
  | 95 => ⟨S4, .f32⟩
  | 96 => ⟨S4, .f32⟩
  | 97 => ⟨S2048, .f32⟩
  | 98 => ⟨S2048x1, .f32⟩
  | 99 => ⟨S1x2048, .f32⟩
  | 100 => ⟨S2048x2048, .f32⟩
  | 101 => ⟨S2048x2048, .f32⟩
  | 102 => ⟨S2048x2048, .f32⟩
  | 103 => ⟨S_, .f32⟩
  | 104 => ⟨S2048x2048, .f32⟩
  | 105 => ⟨S2048x2048, .i1⟩
  | 106 => ⟨S_, .f32⟩
  | 107 => ⟨S2048x2048, .f32⟩
  | 108 => ⟨S2048x2048, .f32⟩
  | 109 => ⟨S1x2048x2048, .f32⟩
  | 110 => ⟨S4x1x1, .f32⟩
  | 111 => ⟨S4x2048x2048, .f32⟩
  | 112 => ⟨S4x2048x2048, .f32⟩
  | 113 => ⟨S4x2048x2048, .f32⟩
  | 114 => ⟨S4x2048x2048, .f32⟩
  | 115 => ⟨S_, .f32⟩
  | 116 => ⟨S_, .f32⟩
  | 117 => ⟨S4x2048x2048, .i1⟩
  | 118 => ⟨S4x2048x2048, .f32⟩
  | 119 => ⟨S4x2048x2048, .f32⟩
  | 120 => ⟨S8x4x2048x2048, .f32⟩
  | 121 => ⟨S1x4x2048x2048, .f32⟩
  | 122 => ⟨S8x4x2048x2048, .f32⟩
  | 123 => ⟨S8x4x2048x2048, .f32⟩
  | 124 => ⟨S8x4x128x2048, .f32⟩
  | 125 => ⟨S8x2048x4x128, .f32⟩
  | 126 => ⟨S_, .f32⟩
  | 127 => ⟨S2048, .f32⟩
  | _ => ⟨S8x2048x1024, .f32⟩

abbrev hbmTy0_2 (i : Nat) : BufTy := match i % 128 with
  | 0 => ⟨S2048, .f32⟩
  | 1 => ⟨S2048x1, .f32⟩
  | 2 => ⟨S1x4, .f32⟩
  | 3 => ⟨S2048x4, .f32⟩
  | 4 => ⟨S2048x4, .f32⟩
  | 5 => ⟨S2048x4, .f32⟩
  | 6 => ⟨S2048x4, .f32⟩
  | 7 => ⟨S1x2048x4x1, .f32⟩
  | 8 => ⟨S8x2048x4x128, .f32⟩
  | 9 => ⟨S8x2048x4x128, .f32⟩
  | 10 => ⟨S8x4x128x128, .f32⟩
  | 11 => ⟨S_, .f32⟩
  | 12 => ⟨S8x2048x4, .f32⟩
  | 13 => ⟨S8x2048x4x1, .f32⟩
  | 14 => ⟨S_, .f32⟩
  | 15 => ⟨S8x2048x4x1, .f32⟩
  | 16 => ⟨S8x2048x4x1, .f32⟩
  | 17 => ⟨S8x2048x4x128, .f32⟩
  | 18 => ⟨S8x2048x4x128, .f32⟩
  | 19 => ⟨S8x2048x4x128, .f32⟩
  | 20 => ⟨S_, .f32⟩
  | 21 => ⟨S8x2048x4, .f32⟩
  | 22 => ⟨S8x2048x4x1, .f32⟩
  | 23 => ⟨S_, .f32⟩
  | 24 => ⟨S8x2048x4x1, .f32⟩
  | 25 => ⟨S8x2048x4x1, .f32⟩
  | 26 => ⟨S8x2048x4x128, .f32⟩
  | 27 => ⟨S8x2048x4x128, .f32⟩
  | 28 => ⟨S_, .f32⟩
  | 29 => ⟨S8x2048x4x1, .f32⟩
  | 30 => ⟨S8x2048x4x1, .f32⟩
  | 31 => ⟨S8x2048x4x1, .f32⟩
  | 32 => ⟨S8x2048x4x128, .f32⟩
  | 33 => ⟨S8x2048x4x128, .f32⟩
  | 34 => ⟨S512, .f32⟩
  | 35 => ⟨S4x128, .f32⟩
  | 36 => ⟨S1x1x4x128, .f32⟩
  | 37 => ⟨S8x2048x4x128, .f32⟩
  | 38 => ⟨S8x2048x4x128, .f32⟩
  | 39 => ⟨S8x2048x512, .f32⟩
  | 40 => ⟨S8x2048x512, .f32⟩
  | 41 => ⟨S_, .f32⟩
  | 42 => ⟨S8x2048x512, .f32⟩
  | 43 => ⟨S8x2048x512, .f32⟩
  | 44 => ⟨S_, .f32⟩
  | 45 => ⟨S8x2048x512, .f32⟩
  | 46 => ⟨S8x2048x512, .f32⟩
  | 47 => ⟨S8x2048x512, .f32⟩
  | 48 => ⟨S8x2048x512, .f32⟩
  | 49 => ⟨S8x2048x512, .f32⟩
  | 50 => ⟨S8x2048x1024, .f32⟩
  | 51 => ⟨S1024x1024, .f32⟩
  | 52 => ⟨S8x2048x1024, .f32⟩
  | 53 => ⟨S_, .f32⟩
  | 54 => ⟨S8x2048x1024, .f32⟩
  | 55 => ⟨S8x2048x1024, .f32⟩
  | 56 => ⟨S8x2048x1024, .f32⟩
  | 57 => ⟨S1x1024, .f32⟩
  | 58 => ⟨S1024, .f32⟩
  | 59 => ⟨S1x1024, .f32⟩
  | 60 => ⟨S1024, .f32⟩
  | 61 => ⟨S_, .f32⟩
  | 62 => ⟨S8x2048, .f32⟩
  | 63 => ⟨S8x2048x1, .f32⟩
  | 64 => ⟨S_, .f32⟩
  | 65 => ⟨S8x2048x1, .f32⟩
  | 66 => ⟨S8x2048x1, .f32⟩
  | 67 => ⟨S8x2048x1024, .f32⟩
  | 68 => ⟨S8x2048x1024, .f32⟩
  | 69 => ⟨S8x2048x1024, .f32⟩
  | 70 => ⟨S_, .f32⟩
  | 71 => ⟨S8x2048, .f32⟩
  | 72 => ⟨S8x2048x1, .f32⟩
  | 73 => ⟨S_, .f32⟩
  | 74 => ⟨S8x2048x1, .f32⟩
  | 75 => ⟨S8x2048x1, .f32⟩
  | 76 => ⟨S8x2048x1024, .f32⟩
  | 77 => ⟨S8x2048x1024, .f32⟩
  | 78 => ⟨S_, .f32⟩
  | 79 => ⟨S8x2048x1, .f32⟩
  | 80 => ⟨S8x2048x1, .f32⟩
  | 81 => ⟨S8x2048x1, .f32⟩
  | 82 => ⟨S8x2048x1024, .f32⟩
  | 83 => ⟨S8x2048x1024, .f32⟩
  | 84 => ⟨S1x1x1024, .f32⟩
  | 85 => ⟨S8x2048x1024, .f32⟩
  | 86 => ⟨S8x2048x1024, .f32⟩
  | 87 => ⟨S1x1x1024, .f32⟩
  | 88 => ⟨S8x2048x1024, .f32⟩
  | 89 => ⟨S8x2048x1024, .f32⟩
  | 90 => ⟨S16384x1024, .f32⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_2 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_4 : Ref sig .tc := ⟨.hbm, 77, rfl⟩
abbrev main_v64 : Ref sig .tc := ⟨.hbm, 78, rfl⟩
abbrev main_v65 : Ref sig .tc := ⟨.hbm, 79, rfl⟩
abbrev main_cst_5 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_cst_6 : Ref sig .tc := ⟨.hbm, 122, rfl⟩
abbrev main_v107 : Ref sig .tc := ⟨.hbm, 123, rfl⟩
abbrev main_v108 : Ref sig .tc := ⟨.hbm, 124, rfl⟩
abbrev main_cst_7 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_cst_8 : Ref sig .tc := ⟨.hbm, 144, rfl⟩
abbrev main_v127 : Ref sig .tc := ⟨.hbm, 145, rfl⟩
abbrev main_v128 : Ref sig .tc := ⟨.hbm, 146, rfl⟩
abbrev main_cst_9 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_cst_10 : Ref sig .tc := ⟨.hbm, 179, rfl⟩
abbrev main_v160 : Ref sig .tc := ⟨.hbm, 180, rfl⟩
abbrev main_v161 : Ref sig .tc := ⟨.hbm, 181, rfl⟩
abbrev main_cst_11 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_cst_12 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_cst_13 : Ref sig .tc := ⟨.hbm, 215, rfl⟩
abbrev main_v193 : Ref sig .tc := ⟨.hbm, 216, rfl⟩
abbrev main_v194 : Ref sig .tc := ⟨.hbm, 217, rfl⟩
abbrev main_cst_14 : Ref sig .tc := ⟨.hbm, 218, rfl⟩
abbrev main_v195 : Ref sig .tc := ⟨.hbm, 219, rfl⟩
abbrev main_v196 : Ref sig .tc := ⟨.hbm, 220, rfl⟩
abbrev main_cst_15 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_cst_16 : Ref sig .tc := ⟨.hbm, 231, rfl⟩
abbrev main_v206 : Ref sig .tc := ⟨.hbm, 232, rfl⟩
abbrev main_v207 : Ref sig .tc := ⟨.hbm, 233, rfl⟩
abbrev main_cst_17 : Ref sig .tc := ⟨.hbm, 234, rfl⟩
abbrev main_v208 : Ref sig .tc := ⟨.hbm, 235, rfl⟩
abbrev main_v209 : Ref sig .tc := ⟨.hbm, 236, rfl⟩
abbrev main_v210 : Ref sig .tc := ⟨.hbm, 237, rfl⟩
abbrev main_v211 : Ref sig .tc := ⟨.hbm, 238, rfl⟩
abbrev main_v212 : Ref sig .tc := ⟨.hbm, 239, rfl⟩
abbrev main_v213 : Ref sig .tc := ⟨.hbm, 240, rfl⟩
abbrev main_v214 : Ref sig .tc := ⟨.hbm, 241, rfl⟩
abbrev main_v215 : Ref sig .tc := ⟨.hbm, 242, rfl⟩
abbrev main_cst_18 : Ref sig .tc := ⟨.hbm, 243, rfl⟩
abbrev main_call0_v0 : Ref sig .tc := ⟨.hbm, 244, rfl⟩
abbrev main_call0_v1 : Ref sig .tc := ⟨.hbm, 245, rfl⟩
abbrev main_call0_v2 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_v220 : Ref sig .tc := ⟨.hbm, 251, rfl⟩
abbrev main_v221 : Ref sig .tc := ⟨.hbm, 252, rfl⟩
abbrev main_v222 : Ref sig .tc := ⟨.hbm, 253, rfl⟩
abbrev main_cst_19 : Ref sig .tc := ⟨.hbm, 254, rfl⟩
abbrev main_v223 : Ref sig .tc := ⟨.hbm, 255, rfl⟩
abbrev main_v224 : Ref sig .tc := ⟨.hbm, 256, rfl⟩
abbrev main_v225 : Ref sig .tc := ⟨.hbm, 257, rfl⟩
abbrev main_v226 : Ref sig .tc := ⟨.hbm, 258, rfl⟩
abbrev main_v227 : Ref sig .tc := ⟨.hbm, 259, rfl⟩
abbrev main_v228 : Ref sig .tc := ⟨.hbm, 260, rfl⟩
abbrev main_v229 : Ref sig .tc := ⟨.hbm, 261, rfl⟩
abbrev main_v230 : Ref sig .tc := ⟨.hbm, 262, rfl⟩
abbrev main_v231 : Ref sig .tc := ⟨.hbm, 263, rfl⟩
abbrev main_v232 : Ref sig .tc := ⟨.hbm, 264, rfl⟩
abbrev main_v233 : Ref sig .tc := ⟨.hbm, 265, rfl⟩
abbrev main_v234 : Ref sig .tc := ⟨.hbm, 266, rfl⟩
abbrev main_cst_20 : Ref sig .tc := ⟨.hbm, 267, rfl⟩
abbrev main_v235 : Ref sig .tc := ⟨.hbm, 268, rfl⟩
abbrev main_v236 : Ref sig .tc := ⟨.hbm, 269, rfl⟩
abbrev main_cst_21 : Ref sig .tc := ⟨.hbm, 270, rfl⟩
abbrev main_v237 : Ref sig .tc := ⟨.hbm, 271, rfl⟩
abbrev main_v238 : Ref sig .tc := ⟨.hbm, 272, rfl⟩
abbrev main_v239 : Ref sig .tc := ⟨.hbm, 273, rfl⟩
abbrev main_v240 : Ref sig .tc := ⟨.hbm, 274, rfl⟩
abbrev main_v241 : Ref sig .tc := ⟨.hbm, 275, rfl⟩
abbrev main_cst_22 : Ref sig .tc := ⟨.hbm, 276, rfl⟩
abbrev main_v242 : Ref sig .tc := ⟨.hbm, 277, rfl⟩
abbrev main_v243 : Ref sig .tc := ⟨.hbm, 278, rfl⟩
abbrev main_cst_23 : Ref sig .tc := ⟨.hbm, 279, rfl⟩
abbrev main_v244 : Ref sig .tc := ⟨.hbm, 280, rfl⟩
abbrev main_v245 : Ref sig .tc := ⟨.hbm, 281, rfl⟩
abbrev main_v246 : Ref sig .tc := ⟨.hbm, 282, rfl⟩
abbrev main_v247 : Ref sig .tc := ⟨.hbm, 283, rfl⟩
abbrev main_cst_24 : Ref sig .tc := ⟨.hbm, 284, rfl⟩
abbrev main_v248 : Ref sig .tc := ⟨.hbm, 285, rfl⟩
abbrev main_v249 : Ref sig .tc := ⟨.hbm, 286, rfl⟩
abbrev main_v250 : Ref sig .tc := ⟨.hbm, 287, rfl⟩
abbrev main_v251 : Ref sig .tc := ⟨.hbm, 288, rfl⟩
abbrev main_v252 : Ref sig .tc := ⟨.hbm, 289, rfl⟩
abbrev main_v253 : Ref sig .tc := ⟨.hbm, 290, rfl⟩
abbrev main_v254 : Ref sig .tc := ⟨.hbm, 291, rfl⟩
abbrev main_v255 : Ref sig .tc := ⟨.hbm, 292, rfl⟩
abbrev main_v256 : Ref sig .tc := ⟨.hbm, 293, rfl⟩
abbrev main_v257 : Ref sig .tc := ⟨.hbm, 294, rfl⟩
abbrev main_call1_v0 : Ref sig .tc := ⟨.hbm, 295, rfl⟩
abbrev main_call1_v1 : Ref sig .tc := ⟨.hbm, 296, rfl⟩
abbrev main_call1_cst : Ref sig .tc := ⟨.hbm, 297, rfl⟩
abbrev main_call1_v2 : Ref sig .tc := ⟨.hbm, 298, rfl⟩
abbrev main_call1_v3 : Ref sig .tc := ⟨.hbm, 299, rfl⟩
abbrev main_call1_cst_0 : Ref sig .tc := ⟨.hbm, 300, rfl⟩
abbrev main_call1_v4 : Ref sig .tc := ⟨.hbm, 301, rfl⟩
abbrev main_call1_v5 : Ref sig .tc := ⟨.hbm, 302, rfl⟩
abbrev main_v258 : Ref sig .tc := ⟨.hbm, 303, rfl⟩
abbrev main_v259 : Ref sig .tc := ⟨.hbm, 304, rfl⟩
abbrev main_v260 : Ref sig .tc := ⟨.hbm, 305, rfl⟩
abbrev main_v261 : Ref sig .tc := ⟨.hbm, 306, rfl⟩
abbrev main_v262 : Ref sig .tc := ⟨.hbm, 307, rfl⟩
abbrev main_v263 : Ref sig .tc := ⟨.hbm, 308, rfl⟩
abbrev main_cst_25 : Ref sig .tc := ⟨.hbm, 309, rfl⟩
abbrev main_v264 : Ref sig .tc := ⟨.hbm, 310, rfl⟩
abbrev main_v265 : Ref sig .tc := ⟨.hbm, 311, rfl⟩
abbrev main_v266 : Ref sig .tc := ⟨.hbm, 312, rfl⟩
abbrev main_v267 : Ref sig .tc := ⟨.hbm, 313, rfl⟩
abbrev main_v268 : Ref sig .tc := ⟨.hbm, 314, rfl⟩
abbrev main_v269 : Ref sig .tc := ⟨.hbm, 315, rfl⟩
abbrev main_v270 : Ref sig .tc := ⟨.hbm, 316, rfl⟩
abbrev main_cst_26 : Ref sig .tc := ⟨.hbm, 317, rfl⟩
abbrev main_v271 : Ref sig .tc := ⟨.hbm, 318, rfl⟩
abbrev main_v272 : Ref sig .tc := ⟨.hbm, 319, rfl⟩
abbrev main_cst_27 : Ref sig .tc := ⟨.hbm, 320, rfl⟩
abbrev main_v273 : Ref sig .tc := ⟨.hbm, 321, rfl⟩
abbrev main_v274 : Ref sig .tc := ⟨.hbm, 322, rfl⟩
abbrev main_v275 : Ref sig .tc := ⟨.hbm, 323, rfl⟩
abbrev main_v276 : Ref sig .tc := ⟨.hbm, 324, rfl⟩
abbrev main_v277 : Ref sig .tc := ⟨.hbm, 325, rfl⟩
abbrev main_cst_28 : Ref sig .tc := ⟨.hbm, 326, rfl⟩
abbrev main_v278 : Ref sig .tc := ⟨.hbm, 327, rfl⟩
abbrev main_v279 : Ref sig .tc := ⟨.hbm, 328, rfl⟩
abbrev main_cst_29 : Ref sig .tc := ⟨.hbm, 329, rfl⟩
abbrev main_v280 : Ref sig .tc := ⟨.hbm, 330, rfl⟩
abbrev main_v281 : Ref sig .tc := ⟨.hbm, 331, rfl⟩
abbrev main_v282 : Ref sig .tc := ⟨.hbm, 332, rfl⟩
abbrev main_v283 : Ref sig .tc := ⟨.hbm, 333, rfl⟩
abbrev main_cst_30 : Ref sig .tc := ⟨.hbm, 334, rfl⟩
abbrev main_v284 : Ref sig .tc := ⟨.hbm, 335, rfl⟩
abbrev main_v285 : Ref sig .tc := ⟨.hbm, 336, rfl⟩
abbrev main_v286 : Ref sig .tc := ⟨.hbm, 337, rfl⟩
abbrev main_v287 : Ref sig .tc := ⟨.hbm, 338, rfl⟩
abbrev main_v288 : Ref sig .tc := ⟨.hbm, 339, rfl⟩
abbrev main_v289 : Ref sig .tc := ⟨.hbm, 340, rfl⟩
abbrev main_v290 : Ref sig .tc := ⟨.hbm, 341, rfl⟩
abbrev main_v291 : Ref sig .tc := ⟨.hbm, 342, rfl⟩
abbrev main_v292 : Ref sig .tc := ⟨.hbm, 343, rfl⟩
abbrev main_v293 : Ref sig .tc := ⟨.hbm, 344, rfl⟩
abbrev main_v294 : Ref sig .tc := ⟨.hbm, 345, rfl⟩
abbrev main_v295 : Ref sig .tc := ⟨.hbm, 346, rfl⟩

abbrev nD : Nat := 1
abbrev τ : Topo := Topo.v7x

variable {F : FTy → Type} [FloatOps F]
-- ==== Proof.FfnSpec.lean ====
module

public import Idealize.ShloMosaic.Lib.Pointwise
public import Idealize.ShloMosaic.Lib.ValueIdx
public import Idealize.ShloMosaic.PureOps.Ideal.Laws

@[expose] public section

noncomputable section

open Idealize.ShloMosaic

namespace Cert.Ffn

/-- The scale of the residual branch, as the programs' constant. -/
abbrev alpha : EReal := Ideal.ofBits .f32 0x3FB504F3#32

/-- The length of a normalised row, as the programs' constant. -/
abbrev width : EReal := Ideal.ofBits .f32 0x44800000#32

/-- The constant added to a variance. -/
abbrev eps : EReal := Ideal.ofBits .f32 0x3727C5AC#32

/-- The mean of a row. -/
def rowMean (z : Fin 1024 → EReal) : EReal := Ideal.div (∑ k, z k) width

/-- Layer normalisation of one row `z` with gain `g` and shift `b`, read at position `j`. -/
def lnRow (z g b : Fin 1024 → EReal) (j : Fin 1024) : EReal :=
  (z j - rowMean z) * Ideal.rsqrt (Ideal.div (∑ k, (z k - rowMean z) * (z k - rowMean z)) width + eps) * g j + b j

/-- One column of the product of a row with a matrix of 1024 rows. -/
def proj (x w : Fin 1024 → EReal) : EReal := ∑ k, x k * w k

/-- The causal convolution of width three at one place: the two earlier values and the present one. -/
def conv3 (cb c0 c1 c2 a2 a1 a0 : EReal) : EReal := cb + c0 * a2 + c1 * a1 + c2 * a0

/-- The gated unit: the smoothly rectified convolution times the gate. -/
def glu (u gate : EReal) : EReal := u * Ideal.logistic u * gate

/-- One row of the gated feed-forward layer with its residual and normalisation: `x` is the row of the layer's
    input, `h0`, `h1`, `h2` the gate projections of this row and of the two before it. -/
def ffnRow (x : Fin 1024 → EReal) (h2 h1 h0 lin : Fin 2816 → EReal) (cb c0 c1 c2 : Fin 2816 → EReal)
    (wd : Fin 2816 → Fin 1024 → EReal) (g b : Fin 1024 → EReal) (j : Fin 1024) : EReal :=
  lnRow (fun i => alpha * x i + ∑ d, glu (conv3 (cb d) (c0 d) (c1 d) (c2 d) (h2 d) (h1 d) (h0 d)) (lin d) * wd d i) g b j

/-- The same rows and weights give the same feed-forward row. -/
theorem ffnRow_congr {x x' : Fin 1024 → EReal} {h2 h2' h1 h1' h0 h0' lin lin' cb cb' c0 c0' c1 c1' c2 c2' : Fin 2816 → EReal}
    {wd wd' : Fin 2816 → Fin 1024 → EReal} {g g' b b' : Fin 1024 → EReal}
    (hx : ∀ k, x k = x' k) (e2 : ∀ d, h2 d = h2' d) (e1 : ∀ d, h1 d = h1' d) (e0 : ∀ d, h0 d = h0' d)
    (el : ∀ d, lin d = lin' d) (eb : ∀ d, cb d = cb' d) (ec0 : ∀ d, c0 d = c0' d) (ec1 : ∀ d, c1 d = c1' d)
    (ec2 : ∀ d, c2 d = c2' d) (ew : ∀ d k, wd d k = wd' d k) (eg : ∀ k, g k = g' k) (es : ∀ k, b k = b' k) (j : Fin 1024) :
    ffnRow x h2 h1 h0 lin cb c0 c1 c2 wd g b j = ffnRow x' h2' h1' h0' lin' cb' c0' c1' c2' wd' g' b' j := by
  obtain rfl : x = x' := funext hx
  obtain rfl : h2 = h2' := funext e2
  obtain rfl : h1 = h1' := funext e1
  obtain rfl : h0 = h0' := funext e0
  obtain rfl : lin = lin' := funext el
  obtain rfl : cb = cb' := funext eb
  obtain rfl : c0 = c0' := funext ec0
  obtain rfl : c1 = c1' := funext ec1
  obtain rfl : c2 = c2' := funext ec2
  obtain rfl : wd = wd' := funext fun d => funext (ew d)
  obtain rfl : g = g' := funext eg
  obtain rfl : b = b' := funext es
  rfl

/-- The same row, gain and shift give the same normalised row. -/
theorem lnRow_congr {z z' g g' b b' : Fin 1024 → EReal} (hz : ∀ k, z k = z' k) (eg : ∀ k, g k = g' k)
    (es : ∀ k, b k = b' k) (j : Fin 1024) : lnRow z g b j = lnRow z' g' b' j := by
  obtain rfl : z = z' := funext hz
  obtain rfl : g = g' := funext eg
  obtain rfl : b = b' := funext es
  rfl

/-- The row of the layer's input after the attention's output product, its residual and its normalisation. -/
def midAt (x o : FVec Ideal ⟨3, ![8, 2048, 1024]⟩ .f32) (wo : FVec Ideal ⟨3, ![1, 1024, 1024]⟩ .f32)
    (g b : FVec Ideal ⟨2, ![2, 1024]⟩ .f32) (n : Fin 8) (l : Fin 2048) (j : Fin 1024) : EReal :=
  lnRow (fun i => alpha * x (ix3 n l i) + proj (fun k => o (ix3 n l k)) (fun k => wo (ix3 0 k i)))
    (fun i => g (ix2 1 i)) (fun i => b (ix2 1 i)) j

/-- The gate half of the up projection of one row. -/
def upGate (w : FVec Ideal ⟨3, ![2, 1024, 5632]⟩ .f32) (y : Fin 2) (x : Fin 1024 → EReal) (d : Fin 2816) : EReal :=
  proj x fun k => w (ix3 y k ⟨d.val, by omega⟩)

/-- The linear half of the up projection of one row. -/
def upLin (w : FVec Ideal ⟨3, ![2, 1024, 5632]⟩ .f32) (y : Fin 2) (x : Fin 1024 → EReal) (d : Fin 2816) : EReal :=
  proj x fun k => w (ix3 y k ⟨2816 + d.val, by omega⟩)

/-- The gate projection `s` tokens before token `l`, zero before the sequence starts. -/
def upBack (w : FVec Ideal ⟨3, ![2, 1024, 5632]⟩ .f32) (y : Fin 2) (xm : Fin 2048 → Fin 1024 → EReal) (s l : ℕ) (hl : l < 2048)
    (d : Fin 2816) : EReal :=
  if s ≤ l then upGate w y (xm ⟨l - s, by omega⟩) d else 0

/-- The feed-forward layer `y` at token `l` of a sequence whose rows are `xm`. -/
def ffnAt (xm : Fin 2048 → Fin 1024 → EReal) (y : Fin 2) (w : FVec Ideal ⟨3, ![2, 1024, 5632]⟩ .f32)
    (wd : FVec Ideal ⟨3, ![2, 2816, 1024]⟩ .f32) (cw : FVec Ideal ⟨3, ![2, 3, 2816]⟩ .f32) (cb : FVec Ideal ⟨2, ![2, 2816]⟩ .f32)
    (g b : FVec Ideal ⟨2, ![2, 1024]⟩ .f32) (l : Fin 2048) (j : Fin 1024) : EReal :=
  ffnRow (xm l) (upBack w y xm 2 l.val l.isLt) (upBack w y xm 1 l.val l.isLt) (upGate w y (xm l)) (upLin w y (xm l))
    (fun d => cb (ix2 y d)) (fun d => cw (ix3 y 0 d)) (fun d => cw (ix3 y 1 d)) (fun d => cw (ix3 y 2 d))
    (fun d i => wd (ix3 y d i)) (fun i => g (ix2 y i)) (fun i => b (ix2 y i)) j

/-- The gate projection at the last eight tokens of a sequence. -/
def tailAt (xm : Fin 2048 → Fin 1024 → EReal) (y : Fin 2) (w : FVec Ideal ⟨3, ![2, 1024, 5632]⟩ .f32) (s : Fin 8) (d : Fin 2816) : EReal :=
  upGate w y (xm ⟨2040 + s.val, by omega⟩) d

/-- The whole result of the feed-forward layer `y`, the tokens of the eight sequences one after another. -/
def ffnRes (xm : Fin 8 → Fin 2048 → Fin 1024 → EReal) (y : Fin 2) (w : FVec Ideal ⟨3, ![2, 1024, 5632]⟩ .f32)
    (wd : FVec Ideal ⟨3, ![2, 2816, 1024]⟩ .f32) (cw : FVec Ideal ⟨3, ![2, 3, 2816]⟩ .f32) (cb : FVec Ideal ⟨2, ![2, 2816]⟩ .f32)
    (g b : FVec Ideal ⟨2, ![2, 1024]⟩ .f32) : FVec Ideal ⟨2, ![16384, 1024]⟩ .f32 := fun i =>
  ffnAt (xm ⟨(i 0).val / 2048, by have h : (i 0).val < 16384 := (i 0).isLt; omega⟩) y w wd cw cb g b ⟨(i 0).val % 2048, by omega⟩ (i 1)

/-- The gate projection at the last eight tokens of each of the eight sequences. -/
def tailRes (xm : Fin 8 → Fin 2048 → Fin 1024 → EReal) (y : Fin 2) (w : FVec Ideal ⟨3, ![2, 1024, 5632]⟩ .f32) :
    FVec Ideal ⟨3, ![8, 8, 2816]⟩ .f32 := fun i => tailAt (xm (i 0)) y w (i 1) (i 2)

/-- The layer's result at the place of a token. -/
theorem ffnRes_at (xm : Fin 8 → Fin 2048 → Fin 1024 → EReal) (y : Fin 2) (w : FVec Ideal ⟨3, ![2, 1024, 5632]⟩ .f32)
    (wd : FVec Ideal ⟨3, ![2, 2816, 1024]⟩ .f32) (cw : FVec Ideal ⟨3, ![2, 3, 2816]⟩ .f32) (cb : FVec Ideal ⟨2, ![2, 2816]⟩ .f32)
    (g b : FVec Ideal ⟨2, ![2, 1024]⟩ .f32) (i : (⟨2, ![16384, 1024]⟩ : Shape).Idx) (n : Fin 8) (l : Fin 2048) (j : Fin 1024)
    (h0 : (i 0).val = 2048 * n.val + l.val) (h1 : (i 1).val = j.val) :
    ffnRes xm y w wd cw cb g b i = ffnAt (xm n) y w wd cw cb g b l j := by
  unfold ffnRes
  have e1 : (⟨(i 0).val / 2048, by have h : (i 0).val < 16384 := (i 0).isLt; omega⟩ : Fin 8) = n := Fin.ext (by show (i 0).val / 2048 = n.val; omega)
  have e2 : (⟨(i 0).val % 2048, by omega⟩ : Fin 2048) = l := Fin.ext (by show (i 0).val % 2048 = l.val; omega)
  have e3 : (i 1 : Fin 1024) = j := Fin.ext h1
  rw [e1, e2]
  exact congrArg _ e3

/-- The rows handed out, at a sequence, a row and a column. -/
theorem tailRes_at (xm : Fin 8 → Fin 2048 → Fin 1024 → EReal) (y : Fin 2) (w : FVec Ideal ⟨3, ![2, 1024, 5632]⟩ .f32)
    (i : (⟨3, ![8, 8, 2816]⟩ : Shape).Idx) (n s : Fin 8) (d : Fin 2816) (h0 : (i 0).val = n.val) (h1 : (i 1).val = s.val) (h2 : (i 2).val = d.val) :
    tailRes xm y w i = tailAt (xm n) y w s d := by
  obtain rfl : i 0 = n := Fin.ext h0
  obtain rfl : i 1 = s := Fin.ext h1
  obtain rfl : i 2 = d := Fin.ext h2
  rfl

end Cert.Ffn
-- ==== Proof.FfnTile1.lean ====
module

public import proofs.«01_k».proof.Proof.Gen.KernelIdeal.Skeleton
public import proofs.«01_k».proof.Proof.FfnSpec
public import Idealize.ShloMosaic.Lib.Pointwise

@[expose] public section

set_option maxRecDepth 16384

noncomputable section

open Idealize.ShloMosaic Idealize.ShloMosaic.TcCoe Idealize.SL.Sem

namespace Cert.KernelIdeal.Value1

open Cert.KernelIdeal Cert.KernelIdeal.Gen Cert.Ffn

/-- The rows of a tile after the attention's output product and its normalisation. -/
theorem mid_at (x : FVec Ideal S512x1024 .f32) (att : FVec Ideal S512x1024 .bf16) (wo : FVec Ideal S1024x1024 .bf16)
    (mg mb : FVec Ideal S1x1024 .f32) (r : Fin 512) (j : Fin 1024) :
    k0_pay3 (F := Ideal) x att wo mg mb (ix2 r j)
      = lnRow (fun i => alpha * x (ix2 r i) + proj (fun k => att (ix2 r k)) (fun k => wo (ix2 k i)))
          (fun i => mg (ix2 0 i)) (fun i => mb (ix2 0 i)) j := by
  pointwise [k0_pay3, lnRow, rowMean, proj]

/-- The gate projection of a tile's rows. -/
theorem gate_at (x : FVec Ideal S512x1024 .f32) (w : FVec Ideal S1x1024x2816 .bf16) (r : Fin 512) (d : Fin 2816) :
    k0_pay5 (F := Ideal) x w (ix2 r d) = proj (fun k => x (ix2 r k)) (fun k => w (ix3 0 k d)) := by
  pointwise [k0_pay5, k0_pay4, proj]

/-- The linear projection of a tile's rows. -/
theorem lin_at (x : FVec Ideal S512x1024 .f32) (w : FVec Ideal S1x1024x2816 .bf16) (r : Fin 512) (d : Fin 2816) :
    k0_pay6 (F := Ideal) x w (ix2 r d) = proj (fun k => x (ix2 r k)) (fun k => w (ix3 0 k d)) := by
  pointwise [k0_pay6, k0_pay4, proj]

/-- The rows carried to the next tile are the last eight of the gate projection. -/
theorem carry_at (a : FVec Ideal S512x2816 .f32) (s : Fin 8) (d : Fin 2816) :
    k0_pay11 (F := Ideal) a (ix2 s d) = a (ix2 ⟨504 + s.val, by omega⟩ d) := by
  pointwise [k0_pay11, k0_pay10]

/-- The rows handed out are the same eight. -/
theorem tail_at (a : FVec Ideal S512x2816 .f32) (s : Fin 8) (d : Fin 2816) :
    k0_pay12 (F := Ideal) a (ix3 0 s d) = a (ix2 ⟨504 + s.val, by omega⟩ d) := by
  pointwise [k0_pay12, k0_pay10]

/-- The rows carried into the first tile of a sequence are zero. -/
theorem zero_at (s : Fin 8) (d : Fin 2816) : k0_pay2 (F := Ideal) (ix2 s d) = 0 := by
  pointwise [k0_pay2]

/-- The row numbers of a tile. -/
abbrev rows : IVec S512x2816 32 := iota .tc S512x2816 32 [0] iota_S512x2816_d0_w32

/-- Comparing a tile's row number with a small number. -/
theorem row_eq (r n : ℕ) (hr : r < 512) (hn : n < 512) :
    IntOp.cmpi .eq (BitVec.ofNat 32 r) (BitVec.ofNat 32 n) = if r = n then 1#1 else 0#1 := by
  have h : (BitVec.ofNat 32 r = BitVec.ofNat 32 n) ↔ r = n := by
    constructor
    · intro h
      have := congrArg BitVec.toNat h
      rw [BitVec.toNat_ofNat, BitVec.toNat_ofNat, Nat.mod_eq_of_lt (by omega), Nat.mod_eq_of_lt (by omega)] at this
      exact this
    · rintro rfl; rfl
  by_cases e : r = n
  · rw [if_pos e]
    subst e
    simp [IntOp.cmpi]
  · rw [if_neg e]
    have hb : (BitVec.ofNat 32 r == BitVec.ofNat 32 n) = false := beq_eq_false_iff_ne.mpr fun q => e (h.mp q)
    simp [IntOp.cmpi, hb]

/-- The gate projection one row earlier, the carried row before the tile's first. -/
theorem back1_at (x : FVec Ideal S512x1024 .f32) (w : FVec Ideal S1x1024x2816 .bf16) (c : FVec Ideal S8x2816 .f32) (r : Fin 512)
    (d : Fin 2816) : k0_pay7 (F := Ideal) x rows w c (ix2 r d)
      = if h : r.val = 0 then c (ix2 7 d) else k0_pay5 (F := Ideal) x w (ix2 ⟨r.val - 1, by omega⟩ d) := by
  pointwise [k0_pay7]
  rw [show (0#32) = BitVec.ofNat 32 0 from rfl, row_eq r.val 0 r.isLt (by decide)]
  by_cases h : r.val = 0
  · rw [if_pos h, dif_pos h]; rfl
  · rw [if_neg h, dif_neg h]
    refine congrArg (k0_pay5 (F := Ideal) x w) ?_
    refine (ix2_inj ..).2 ⟨Fin.ext ?_, rfl⟩
    show (r.val + 512 - 1) % 512 = r.val - 1
    omega

/-- The convolution's first two terms. -/
theorem head_at (x : FVec Ideal S512x1024 .f32) (w : FVec Ideal S1x1024x2816 .bf16) (c : FVec Ideal S8x2816 .f32)
    (cb cw : FVec Ideal S1x2816 .f32) (r : Fin 512)
    (d : Fin 2816) : k0_pay8 (F := Ideal) x rows w c cb cw (ix2 r d)
      = cb (ix2 0 d) + cw (ix2 0 d) * (if h : r.val < 2 then c (ix2 ⟨6 + r.val, by omega⟩ d) else k0_pay5 (F := Ideal) x w (ix2 ⟨r.val - 2, by omega⟩ d)) := by
  pointwise [k0_pay8]
  rw [show (0#32) = BitVec.ofNat 32 0 from rfl, row_eq r.val 0 r.isLt (by decide),
    show (1#32) = BitVec.ofNat 32 1 from rfl, row_eq r.val 1 r.isLt (by decide)]
  refine congrArg (fun z : EReal => cb (ix2 0 d) + cw (ix2 0 d) * z) ?_
  by_cases h : r.val = 0
  · rw [if_pos h, dif_pos (by omega)]
    refine congrArg c ((ix2_inj ..).2 ⟨Fin.ext ?_, rfl⟩)
    show 6 = 6 + r.val
    omega
  · rw [if_neg h]
    by_cases h1 : r.val = 1
    · rw [if_pos h1, dif_pos (by omega)]
      refine congrArg c ((ix2_inj ..).2 ⟨Fin.ext ?_, rfl⟩)
      show 7 = 6 + r.val
      omega
    · rw [if_neg h1, dif_neg (by omega)]
      refine congrArg (k0_pay5 (F := Ideal) x w) ((ix2_inj ..).2 ⟨Fin.ext ?_, rfl⟩)
      show (r.val + 512 - 2) % 512 = r.val - 2
      omega

/-- The whole tile: what the body stores, row by row. -/
theorem out_at (x : FVec Ideal S512x1024 .f32) (a l b1 u : FVec Ideal S512x2816 .f32) (c1 c2 : FVec Ideal S1x2816 .f32)
   (wd : FVec Ideal S1x2816x1024 .bf16) (g b : FVec Ideal S1x1024 .f32) (r : Fin 512) (j : Fin 1024) :
   k0_pay1 (F := Ideal) (k0_pay13 g) (k0_pay14 b) (k0_pay15 x a l b1 u (k0_pay9 c1) c2 wd) (k0_pay16 x a l b1 u (k0_pay9 c1) c2 wd) k0_pay17 (ix2 r j)
    = lnRow (fun i => alpha * x (ix2 r i) + ∑ d, glu (u (ix2 r d) + c1 (ix2 0 d) * b1 (ix2 r d) + c2 (ix2 0 d) * a (ix2 r d)) (l (ix2 r d)) * wd (ix3 0 d i))
       (fun i => g (ix2 0 i)) (fun i => b (ix2 0 i)) j := by
  pointwise [k0_pay1, k0_pay13, k0_pay14, k0_pay15, k0_pay16, k0_pay17, k0_pay9, lnRow, rowMean, glu]

/-- A tile's feed-forward rows, from the rows `x`, the two halves of the up projection's weights and the carried rows. -/
theorem tile_at (x : FVec Ideal S512x1024 .f32) (wa wb : FVec Ideal S1x1024x2816 .bf16) (cr : FVec Ideal S8x2816 .f32)
    (cb c0 c1 c2 : FVec Ideal S1x2816 .f32) (wd : FVec Ideal S1x2816x1024 .bf16) (g b : FVec Ideal S1x1024 .f32)
    (r : Fin 512) (j : Fin 1024) :
    k0_pay1 (F := Ideal) (k0_pay13 g) (k0_pay14 b)
      (k0_pay15 x (k0_pay5 x wa) (k0_pay6 x wb) (k0_pay7 x rows wa cr) (k0_pay8 x rows wa cr cb c0) (k0_pay9 c1) c2 wd)
      (k0_pay16 x (k0_pay5 x wa) (k0_pay6 x wb) (k0_pay7 x rows wa cr) (k0_pay8 x rows wa cr cb c0) (k0_pay9 c1) c2 wd) k0_pay17 (ix2 r j)
    = ffnRow (fun k => x (ix2 r k))
        (fun d => if h : r.val < 2 then cr (ix2 ⟨6 + r.val, by omega⟩ d) else proj (fun k => x (ix2 ⟨r.val - 2, by omega⟩ k)) (fun k => wa (ix3 0 k d)))
        (fun d => if h : r.val = 0 then cr (ix2 7 d) else proj (fun k => x (ix2 ⟨r.val - 1, by omega⟩ k)) (fun k => wa (ix3 0 k d)))
        (fun d => proj (fun k => x (ix2 r k)) (fun k => wa (ix3 0 k d))) (fun d => proj (fun k => x (ix2 r k)) (fun k => wb (ix3 0 k d)))
        (fun d => cb (ix2 0 d)) (fun d => c0 (ix2 0 d)) (fun d => c1 (ix2 0 d)) (fun d => c2 (ix2 0 d)) (fun d i => wd (ix3 0 d i))
        (fun i => g (ix2 0 i)) (fun i => b (ix2 0 i)) j := by
  rw [out_at]
  unfold ffnRow
  refine lnRow_congr (fun i => ?_) (fun _ => rfl) (fun _ => rfl) j
  refine congrArg (fun z : EReal => alpha * x (ix2 r i) + z) (Finset.sum_congr rfl fun d _ => ?_)
  rw [gate_at, lin_at, back1_at, head_at]
  unfold conv3
  simp only [gate_at]

end Cert.KernelIdeal.Value1
-- ==== Proof.FfnPoint1.lean ====
module

public import proofs.«01_k».proof.Proof.Gen.KernelIdeal.Frame
public import proofs.«01_k».proof.Proof.FfnTile1
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value1

open Cert.KernelIdeal Cert.KernelIdeal.Gen Cert.Ffn

variable (m : (ℓ : Loc nD τ sig) → Buf (Elt Ideal) ℓ)

/-- The blocks' places at every grid point. -/
theorem idx : ∀ t : Fin cfg0.N, win0_0.index t = ![t.val, 0] ∧ win0_1.index t = ![t.val, 0] ∧ win0_2.index t = ![0, 0]
  ∧ win0_3.index t = ![0, 0] ∧ win0_4.index t = ![0, 0] ∧ win0_5.index t = ![1, 0, 0] ∧ win0_6.index t = ![1, 0, 0]
  ∧ win0_7.index t = ![0, 0] ∧ win0_8.index t = ![0, 0] ∧ win0_9.index t = ![0, 0] ∧ win0_10.index t = ![0, 0]
  ∧ win0_11.index t = ![t.val, 0] ∧ win0_12.index t = ![t.val / 4, 0, 0] ∧ t.val < 32 :=
  (by decide +kernel : ∀ t : Fin grid0.N, _)

/-- There are 32 grid points. -/
theorem lt32 (t : Fin cfg0.N) : t.val < 32 := (idx t).2.2.2.2.2.2.2.2.2.2.2.2.2

/-- The sequence a grid point works on. -/
abbrev seqOf (t : Fin cfg0.N) : Fin 8 := ⟨t.val / 4, by have := lt32 t; omega⟩

/-- The token at row `r` of a grid point's tile. -/
abbrev tokOf (t : Fin cfg0.N) (r : Fin 512) : Fin 2048 := ⟨512 * (t.val % 4) + r.val, by omega⟩

/-- The rows after the attention's output product, of one sequence, from the argument arrays. -/
abbrev mids (c : Dev nD) (n : Fin 8) : Fin 2048 → Fin 1024 → EReal :=
  midAt (m ((c : Thread nD τ).loc main_arg0)) (m ((c : Thread nD τ).loc main_arg1)) (m ((c : Thread nD τ).loc main_arg2))
    (m ((c : Thread nD τ).loc main_arg3)) (m ((c : Thread nD τ).loc main_arg4)) n

/-- A tile's rows after the attention's output product. -/
abbrev xs (c : Dev nD) (t : Fin cfg0.N) : FVec Ideal S512x1024 .f32 :=
  k0_pay3 (iblk m c 0 t) (iblk m c 1 t) (iblk m c 2 t) (iblk m c 3 t) (iblk m c 4 t)

/-- A tile's rows of the layer's input. -/
theorem in_at (c : Dev nD) (t : Fin cfg0.N) (r : Fin 512) (k : Fin 1024) :
    (show FVec Ideal S512x1024 .f32 from iblk m c 0 t) (ix2 r k) = m ((c : Thread nD τ).loc main_arg0) (ix3 (seqOf t) (tokOf t r) k) := by
  blk_point [iblk, V, idx t]

/-- A tile's rows of the attention's output. -/
theorem att_at (c : Dev nD) (t : Fin cfg0.N) (r : Fin 512) (k : Fin 1024) :
    (show FVec Ideal S512x1024 .bf16 from iblk m c 1 t) (ix2 r k) = m ((c : Thread nD τ).loc main_arg1) (ix3 (seqOf t) (tokOf t r) k) := by
  blk_point [iblk, V, idx t]

/-- The output weights. -/
theorem wo_at (c : Dev nD) (t : Fin cfg0.N) (k i : Fin 1024) :
    (show FVec Ideal S1024x1024 .bf16 from iblk m c 2 t) (ix2 k i) = m ((c : Thread nD τ).loc main_arg2) (ix3 0 k i) := by
  blk_point [iblk, V, idx t]

/-- They are the rows of the tile's tokens. -/
theorem xs_at (c : Dev nD) (t : Fin cfg0.N) (r : Fin 512) (j : Fin 1024) :
    xs m c t (ix2 r j) = mids m c (seqOf t) (tokOf t r) j := by
  refine (mid_at _ _ _ _ _ r j).trans (lnRow_congr (fun i => ?_) (fun i => ?_) (fun i => ?_) j)
  · refine Ideal.add_congr (Ideal.mul_congr rfl (in_at m c t r i)) ?_
    unfold proj
    exact Finset.sum_congr rfl fun k _ => Ideal.mul_congr (att_at m c t r k) (wo_at m c t k i)
  · blk_point [iblk, V, idx t]
  · blk_point [iblk, V, idx t]

/-- The gate half of the weights, as the body loads it. -/
theorem wa_at (c : Dev nD) (t : Fin cfg0.N) (k : Fin 1024) (d : Fin 2816) :
    View.ld (iblk m c 5 t) (Rect.unit ![0, 0, 0] ![1, 1024, 2816] inb_S1x1024x5632_S1x1024x2816_0_0_0) (ix3 0 k d)
      = m ((c : Thread nD τ).loc main_arg5) (ix3 1 k ⟨d.val, by omega⟩) := by
  pointwise
  blk_point [iblk, V, idx t]

/-- The linear half of the weights, as the body loads it. -/
theorem wb_at (c : Dev nD) (t : Fin cfg0.N) (k : Fin 1024) (d : Fin 2816) :
    View.ld (iblk m c 5 t) (Rect.unit ![0, 0, 2816] ![1, 1024, 2816] inb_S1x1024x5632_S1x1024x2816_0_0_2816) (ix3 0 k d)
      = m ((c : Thread nD τ).loc main_arg5) (ix3 1 k ⟨2816 + d.val, by omega⟩) := by
  pointwise
  blk_point [iblk, V, idx t]

/-- The convolution's weights and shift, the down projection's weights, the gain and the shift. -/
theorem small_at (c : Dev nD) (t : Fin cfg0.N) :
    (∀ d, View.ld (iblk m c 7 t) (Rect.unit ![0, 0] ![1, 2816] inb_S3x2816_S1x2816_0_0) (ix2 0 d) = m ((c : Thread nD τ).loc main_arg7) (ix3 1 0 d))
    ∧ (∀ d, View.ld (iblk m c 7 t) (Rect.unit ![1, 0] ![1, 2816] inb_S3x2816_S1x2816_1_0) (ix2 0 d) = m ((c : Thread nD τ).loc main_arg7) (ix3 1 1 d))
    ∧ (∀ d, View.ld (iblk m c 7 t) (Rect.unit ![2, 0] ![1, 2816] inb_S3x2816_S1x2816_2_0) (ix2 0 d) = m ((c : Thread nD τ).loc main_arg7) (ix3 1 2 d))
    ∧ (∀ d, (show FVec Ideal S1x2816 .f32 from iblk m c 8 t) (ix2 0 d) = m ((c : Thread nD τ).loc main_arg8) (ix2 1 d))
    ∧ (∀ d i, (show FVec Ideal S1x2816x1024 .bf16 from iblk m c 6 t) (ix3 0 d i) = m ((c : Thread nD τ).loc main_arg6) (ix3 1 d i))
    ∧ (∀ i, (show FVec Ideal S1x1024 .f32 from iblk m c 9 t) (ix2 0 i) = m ((c : Thread nD τ).loc main_arg9) (ix2 1 i))
    ∧ (∀ i, (show FVec Ideal S1x1024 .f32 from iblk m c 10 t) (ix2 0 i) = m ((c : Thread nD τ).loc main_arg10) (ix2 1 i)) := by
  refine ⟨fun d => ?_, fun d => ?_, fun d => ?_, fun d => ?_, fun d i => ?_, fun i => ?_, fun i => ?_⟩
  · pointwise
    blk_point [iblk, V, idx t]
  · pointwise
    blk_point [iblk, V, idx t]
  · pointwise
    blk_point [iblk, V, idx t]
  · blk_point [iblk, V, idx t]
  · blk_point [iblk, V, idx t]
  · blk_point [iblk, V, idx t]
  · blk_point [iblk, V, idx t]

end Cert.KernelIdeal.Value1
-- ==== Proof.FfnOut1.lean ====
module

public import proofs.«01_k».proof.Proof.Gen.KernelIdeal.Frame
public import proofs.«01_k».proof.Proof.FfnPoint1
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value1

open Cert.KernelIdeal Cert.KernelIdeal.Gen Cert.Ffn

variable (m : (ℓ : Loc nD τ sig) → Buf (Elt Ideal) ℓ)

/-- After every point the carried rows are the gate projection of the tile's last eight tokens. -/
theorem carry (c : Dev nD) (t : Fin cfg0.N) (s : Fin 8) (d : Fin 2816) : (outsAt0 m c t.val t.isLt).2.2 (ix2 s d)
    = upGate (m ((c : Thread nD τ).loc main_arg5)) 1 (mids m c (seqOf t) (tokOf t ⟨504 + s.val, by omega⟩)) d := by
  by_cases h : t.val % 4 = 0
  · rw [outsAt0_A m c t h]
    frame_out
    refine (carry_at _ s d).trans ((gate_at _ _ _ d).trans ?_)
    unfold upGate proj
    refine Finset.sum_congr rfl fun k _ => ?_
    exact Ideal.mul_congr (xs_at m c t _ k) (wa_at m c t k d)
  · rw [outsAt0_B m c t h]
    frame_out
    refine (carry_at _ s d).trans ((gate_at _ _ _ d).trans ?_)
    unfold upGate proj
    refine Finset.sum_congr rfl fun k _ => ?_
    exact Ideal.mul_congr (xs_at m c t _ k) (wa_at m c t k d)

/-- The rows handed out at every point. -/
theorem tail (c : Dev nD) (t : Fin cfg0.N) (s : Fin 8) (d : Fin 2816) : (outsAt0 m c t.val t.isLt).2.1 (ix3 0 s d)
    = upGate (m ((c : Thread nD τ).loc main_arg5)) 1 (mids m c (seqOf t) (tokOf t ⟨504 + s.val, by omega⟩)) d := by
  by_cases h : t.val % 4 = 0
  · rw [outsAt0_A m c t h]
    frame_out
    refine (tail_at _ s d).trans ((gate_at _ _ _ d).trans ?_)
    unfold upGate proj
    refine Finset.sum_congr rfl fun k _ => ?_
    exact Ideal.mul_congr (xs_at m c t _ k) (wa_at m c t k d)
  · rw [outsAt0_B m c t h]
    frame_out
    refine (tail_at _ s d).trans ((gate_at _ _ _ d).trans ?_)
    unfold upGate proj
    refine Finset.sum_congr rfl fun k _ => ?_
    exact Ideal.mul_congr (xs_at m c t _ k) (wa_at m c t k d)

/-- The projection of a tile's row is that of its token. -/
theorem proj_at (c : Dev nD) (t : Fin cfg0.N) (r : Fin 512) (d : Fin 2816) :
    proj (fun k => xs m c t (ix2 r k)) (fun k => View.ld (iblk m c 5 t) (Rect.unit ![0, 0, 0] ![1, 1024, 2816] inb_S1x1024x5632_S1x1024x2816_0_0_0) (ix3 0 k d))
      = upGate (m ((c : Thread nD τ).loc main_arg5)) 1 (mids m c (seqOf t) (tokOf t r)) d := by
  unfold upGate proj
  exact Finset.sum_congr rfl fun k _ => Ideal.mul_congr (xs_at m c t r k) (wa_at m c t k d)

/-- A tile's feed-forward rows are those of its tokens. -/
theorem out (c : Dev nD) (t : Fin cfg0.N) (r : Fin 512) (j : Fin 1024) : (outsAt0 m c t.val t.isLt).1 (ix2 r j)
    = ffnAt (mids m c (seqOf t)) 1 (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (tokOf t r) j := by
  obtain ⟨e0, e1, e2, eb, ed, eg, es⟩ := small_at m c t
  by_cases h : t.val % 4 = 0
  · rw [outsAt0_A m c t h]
    frame_out
    refine (tile_at _ _ _ _ _ _ _ _ _ _ _ r j).trans (ffnRow_congr (xs_at m c t r) (fun d => ?_) (fun d => ?_) (proj_at m c t r) (fun d => ?_)
      eb e0 e1 e2 ed eg es j)
    · unfold upBack
      by_cases hr : r.val < 2
      · rw [dif_pos hr, if_neg (by show ¬ 2 ≤ 512 * (t.val % 4) + r.val; omega)]
        exact zero_at _ _
      · rw [dif_neg hr, if_pos (by show 2 ≤ 512 * (t.val % 4) + r.val; omega)]
        refine (proj_at m c t ⟨r.val - 2, _⟩ d).trans ?_
        refine congrArg (fun l => upGate (m ((c : Thread nD τ).loc main_arg5)) 1 (mids m c (seqOf t) l) d) (Fin.ext ?_)
        show 512 * (t.val % 4) + (r.val - 2) = 512 * (t.val % 4) + r.val - 2
        omega
    · unfold upBack
      by_cases hr : r.val = 0
      · rw [dif_pos hr, if_neg (by show ¬ 1 ≤ 512 * (t.val % 4) + r.val; omega)]
        exact zero_at _ _
      · rw [dif_neg hr, if_pos (by show 1 ≤ 512 * (t.val % 4) + r.val; omega)]
        refine (proj_at m c t ⟨r.val - 1, _⟩ d).trans ?_
        refine congrArg (fun l => upGate (m ((c : Thread nD τ).loc main_arg5)) 1 (mids m c (seqOf t) l) d) (Fin.ext ?_)
        show 512 * (t.val % 4) + (r.val - 1) = 512 * (t.val % 4) + r.val - 1
        omega
    · unfold upLin proj
      exact Finset.sum_congr rfl fun k _ => Ideal.mul_congr (xs_at m c t r k) (wb_at m c t k d)
  · have h1 : t.val - 1 < cfg0.N := by have := t.isLt; omega
    have hs : seqOf ⟨t.val - 1, h1⟩ = seqOf t := Fin.ext (by show (t.val - 1) / 4 = t.val / 4; omega)
    rw [outsAt0_B m c t h]
    frame_out
    refine (tile_at _ _ _ _ _ _ _ _ _ _ _ r j).trans (ffnRow_congr (xs_at m c t r) (fun d => ?_) (fun d => ?_) (proj_at m c t r) (fun d => ?_)
      eb e0 e1 e2 ed eg es j)
    · unfold upBack
      rw [if_pos (by show 2 ≤ 512 * (t.val % 4) + r.val; omega)]
      by_cases hr : r.val < 2
      · rw [dif_pos hr, read_unread_whole]
        refine (carry m c ⟨t.val - 1, h1⟩ ⟨6 + r.val, _⟩ d).trans ?_
        rw [hs]
        refine congrArg (fun l => upGate (m ((c : Thread nD τ).loc main_arg5)) 1 (mids m c (seqOf t) l) d) (Fin.ext ?_)
        show 512 * ((t.val - 1) % 4) + (504 + (6 + r.val)) = 512 * (t.val % 4) + r.val - 2
        omega
      · rw [dif_neg hr]
        refine (proj_at m c t ⟨r.val - 2, _⟩ d).trans ?_
        refine congrArg (fun l => upGate (m ((c : Thread nD τ).loc main_arg5)) 1 (mids m c (seqOf t) l) d) (Fin.ext ?_)
        show 512 * (t.val % 4) + (r.val - 2) = 512 * (t.val % 4) + r.val - 2
        omega
    · unfold upBack
      rw [if_pos (by show 1 ≤ 512 * (t.val % 4) + r.val; omega)]
      by_cases hr : r.val = 0
      · rw [dif_pos hr, read_unread_whole]
        refine (carry m c ⟨t.val - 1, h1⟩ 7 d).trans ?_
        rw [hs]
        refine congrArg (fun l => upGate (m ((c : Thread nD τ).loc main_arg5)) 1 (mids m c (seqOf t) l) d) (Fin.ext ?_)
        show 512 * ((t.val - 1) % 4) + (504 + 7) = 512 * (t.val % 4) + r.val - 1
        omega
      · rw [dif_neg hr]
        refine (proj_at m c t ⟨r.val - 1, _⟩ d).trans ?_
        refine congrArg (fun l => upGate (m ((c : Thread nD τ).loc main_arg5)) 1 (mids m c (seqOf t) l) d) (Fin.ext ?_)
        show 512 * (t.val % 4) + (r.val - 1) = 512 * (t.val % 4) + r.val - 1
        omega
    · unfold upLin proj
      exact Finset.sum_congr rfl fun k _ => Ideal.mul_congr (xs_at m c t r k) (wb_at m c t k d)

end Cert.KernelIdeal.Value1
-- ==== Proof.FfnFinal1.lean ====
module

public import proofs.«01_k».proof.Proof.Gen.KernelIdeal.Frame
public import proofs.«01_k».proof.Proof.FfnOut1
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value1

open Cert.KernelIdeal Cert.KernelIdeal.Gen Cert.Ffn

variable (m : (ℓ : Loc nD τ sig) → Buf (Elt Ideal) ℓ)

/-- The result's rows after the run. -/
theorem final11 (c : Dev nD) : (dats m 0 c).arrAt 11 (cfgs 0).N
    = ffnRes (mids m c) 1 (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  refine (dats m 0 c).arrAt_eq_of_covers 11 _ (by decide +kernel) fun t hf y => ?_
  have key : ∀ (r : Fin 512) (j : Fin 1024) (i : S16384x1024.Idx), (i 0).val = 512 * t.val + r.val → (i 1).val = j.val →
      (outsAt0 m c t.val t.isLt).1 (ix2 r j)
        = ffnRes (mids m c) 1 (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) i := fun r j i h0 h1 =>
    (out m c t r j).trans (ffnRes_at _ _ _ _ _ _ _ _ i (seqOf t) (tokOf t r) j
      (by show (i 0).val = 2048 * (t.val / 4) + (512 * (t.val % 4) + r.val); omega) h1).symm
  blk_simp
  rw [after0_11]
  refine (congrArg _ (eq_ix2 y)).trans (key (y 0) (y 1) _ ?_ ?_)
  · blk_simp [idx t]; omega
  · blk_simp [idx t]

/-- The rows handed out, after the run. -/
theorem final12 (c : Dev nD) : (dats m 0 c).arrAt 12 (cfgs 0).N
    = tailRes (mids m c) 1 (m ((c : Thread nD τ).loc main_arg5)) := by
  refine (dats m 0 c).arrAt_eq_of_covers 12 _ (by decide +kernel) fun t hf y => ?_
  have hm : t.val % 4 = 3 := (flush0_12 t).mp hf
  have key : ∀ (s : Fin 8) (d : Fin 2816) (i : S8x8x2816.Idx), (i 0).val = t.val / 4 → (i 1).val = s.val → (i 2).val = d.val →
      (outsAt0 m c t.val t.isLt).2.1 (ix3 0 s d) = tailRes (mids m c) 1 (m ((c : Thread nD τ).loc main_arg5)) i := fun s d i h0 h1 h2 =>
    (tail m c t s d).trans ((congrArg (fun l => upGate (m ((c : Thread nD τ).loc main_arg5)) 1 (mids m c (seqOf t) l) d)
      (Fin.ext (by show 512 * (t.val % 4) + (504 + s.val) = 2040 + s.val; omega))).trans
      (tailRes_at _ _ _ i (seqOf t) s d h0 h1 h2).symm)
  blk_simp
  rw [after0_12]
  have hy : y = ix3 0 (y 1) (y 2) := (eq_ix3 y).trans ((ix3_inj ..).2 ⟨Subsingleton.elim _ _, rfl, rfl⟩)
  refine (congrArg _ hy).trans (key (y 1) (y 2) _ ?_ ?_ ?_)
  · blk_simp [idx t]
  · blk_simp [idx t]
  · blk_simp [idx t]

end Cert.KernelIdeal.Value1
-- ==== Proof.FfnRef1.lean ====
module

public import proofs.«01_k».proof.Proof.Gen.ReferenceIdeal.Read
public import proofs.«01_k».proof.Proof.FfnSpec
public import Idealize.ShloMosaic.Lib.Pointwise

@[expose] public section

set_option maxRecDepth 16384

noncomputable section

open Idealize.ShloMosaic Idealize.ShloMosaic.TcCoe Idealize.SL.Sem

namespace Cert.ReferenceIdeal.Value1

open Cert.ReferenceIdeal Cert.ReferenceIdeal.Gen Cert.ReferenceIdeal.Read Cert.Ffn

/-- The rows after the attention's output product, its residual and its normalisation. -/
theorem mid_at (x0 x1 : FVec Ideal S8x2048x1024 .f32) (x2 : FVec Ideal S1x1024x1024 .f32) (x3 x4 : FVec Ideal S2x1024 .f32) (n : Fin 8) (l : Fin 2048) (j : Fin 1024) :
    val_main_v32 (F := Ideal) x0 x1 x2 x3 x4 (ix3 n l j) = midAt x0 x1 x2 x3 x4 n l j := by
  pointwise [val_main_cst, val_main_v0, val_main_v1, val_main_v2, val_main_v3, val_main_v4, val_main_v5, val_main_v6, val_main_v7, val_main_v8, val_main_cst_0, val_main_v9, val_main_v10, val_main_cst_1, val_main_v11, val_main_v12, val_main_v13, val_main_v14, val_main_v15, val_main_cst_2, val_main_v16, val_main_v17, val_main_cst_3, val_main_v18, val_main_v19, val_main_v20, val_main_v21, val_main_cst_4, val_main_v22, val_main_v23, val_main_v24, val_main_v25, val_main_v26, val_main_v27, val_main_v28, val_main_v29, val_main_v30, val_main_v31, val_main_v32, midAt, lnRow, rowMean, proj]

/-- The gate half of the up projection. -/
theorem gate_at (x0 x1 : FVec Ideal S8x2048x1024 .f32) (x2 : FVec Ideal S1x1024x1024 .f32) (x3 x4 : FVec Ideal S2x1024 .f32) (x5 : FVec Ideal S2x1024x5632 .f32) (n : Fin 8) (l : Fin 2048) (d : Fin 2816) :
    val_main_v43 (F := Ideal) x0 x1 x2 x3 x4 x5 (ix3 n l d) = upGate x5 1 (fun k => val_main_v32 (F := Ideal) x0 x1 x2 x3 x4 (ix3 n l k)) d := by
  pointwise [val_main_v34, val_main_v35, val_main_v42, val_main_v43, upGate, proj]

/-- The linear half of the up projection. -/
theorem lin_at (x0 x1 : FVec Ideal S8x2048x1024 .f32) (x2 : FVec Ideal S1x1024x1024 .f32) (x3 x4 : FVec Ideal S2x1024 .f32) (x5 : FVec Ideal S2x1024x5632 .f32) (n : Fin 8) (l : Fin 2048) (d : Fin 2816) :
    val_main_v44 (F := Ideal) x0 x1 x2 x3 x4 x5 (ix3 n l d) = upLin x5 1 (fun k => val_main_v32 (F := Ideal) x0 x1 x2 x3 x4 (ix3 n l k)) d := by
  pointwise [val_main_v34, val_main_v35, val_main_v42, val_main_v44, upLin, proj]

/-- The gate projection after the zero history: two zero rows, then the sequence. -/
theorem ext_at (x0 x1 : FVec Ideal S8x2048x1024 .f32) (x2 : FVec Ideal S1x1024x1024 .f32) (x3 x4 : FVec Ideal S2x1024 .f32) (x5 : FVec Ideal S2x1024x5632 .f32) (n : Fin 8) (p : Fin 2050) (d : Fin 2816) :
    val_main_v45 (F := Ideal) x0 x1 x2 x3 x4 x5 (ix3 n p d)
      = if h : 2 ≤ p.val then val_main_v43 (F := Ideal) x0 x1 x2 x3 x4 x5 (ix3 n ⟨p.val - 2, by omega⟩ d) else 0 := by
  pointwise [val_main_v45, val_main_v33, val_main_cst_5]
  by_cases h : p.val < 2
  · rw [dif_pos h, dif_neg (by omega)]
  · rw [dif_neg h, dif_pos (by omega)]

/-- The gate projection 2 rows earlier. -/
theorem back2_at (x0 x1 : FVec Ideal S8x2048x1024 .f32) (x2 : FVec Ideal S1x1024x1024 .f32) (x3 x4 : FVec Ideal S2x1024 .f32) (x5 : FVec Ideal S2x1024x5632 .f32) (n : Fin 8) (l : Fin 2048) (d : Fin 2816) :
    val_main_v48 (F := Ideal) x0 x1 x2 x3 x4 x5 (ix3 n l d) = upBack x5 1 (fun l k => val_main_v32 (F := Ideal) x0 x1 x2 x3 x4 (ix3 n l k)) 2 l.val l.isLt d := by
  have h : val_main_v48 (F := Ideal) x0 x1 x2 x3 x4 x5 (ix3 n l d)
      = val_main_v45 (F := Ideal) x0 x1 x2 x3 x4 x5 (ix3 n ⟨l.val, by omega⟩ d) := by
    pointwise [val_main_v48]
  rw [h, ext_at]
  unfold upBack
  by_cases q : 2 ≤ l.val
  · rw [dif_pos (by show 2 ≤ l.val; omega), if_pos q, gate_at]
  · rw [dif_neg (by show ¬ 2 ≤ l.val; omega), if_neg q]

/-- The gate projection 1 rows earlier. -/
theorem back1_at (x0 x1 : FVec Ideal S8x2048x1024 .f32) (x2 : FVec Ideal S1x1024x1024 .f32) (x3 x4 : FVec Ideal S2x1024 .f32) (x5 : FVec Ideal S2x1024x5632 .f32) (n : Fin 8) (l : Fin 2048) (d : Fin 2816) :
    val_main_v57 (F := Ideal) x0 x1 x2 x3 x4 x5 (ix3 n l d) = upBack x5 1 (fun l k => val_main_v32 (F := Ideal) x0 x1 x2 x3 x4 (ix3 n l k)) 1 l.val l.isLt d := by
  have h : val_main_v57 (F := Ideal) x0 x1 x2 x3 x4 x5 (ix3 n l d)
      = val_main_v45 (F := Ideal) x0 x1 x2 x3 x4 x5 (ix3 n ⟨1 + l.val, by omega⟩ d) := by
    pointwise [val_main_v57]
  rw [h, ext_at]
  unfold upBack
  by_cases q : 1 ≤ l.val
  · rw [dif_pos (by show 2 ≤ 1 + l.val; omega), if_pos q, gate_at]
    refine congrArg (fun l => upGate x5 1 (fun k => val_main_v32 (F := Ideal) x0 x1 x2 x3 x4 (ix3 n l k)) d) (Fin.ext ?_)
    show 1 + l.val - 2 = l.val - 1
    omega
  · rw [dif_neg (by show ¬ 2 ≤ 1 + l.val; omega), if_neg q]

/-- The gate projection 0 rows earlier. -/
theorem back0_at (x0 x1 : FVec Ideal S8x2048x1024 .f32) (x2 : FVec Ideal S1x1024x1024 .f32) (x3 x4 : FVec Ideal S2x1024 .f32) (x5 : FVec Ideal S2x1024x5632 .f32) (n : Fin 8) (l : Fin 2048) (d : Fin 2816) :
    val_main_v64 (F := Ideal) x0 x1 x2 x3 x4 x5 (ix3 n l d) = upBack x5 1 (fun l k => val_main_v32 (F := Ideal) x0 x1 x2 x3 x4 (ix3 n l k)) 0 l.val l.isLt d := by
  have h : val_main_v64 (F := Ideal) x0 x1 x2 x3 x4 x5 (ix3 n l d)
      = val_main_v45 (F := Ideal) x0 x1 x2 x3 x4 x5 (ix3 n ⟨2 + l.val, by omega⟩ d) := by
    pointwise [val_main_v64]
  rw [h, ext_at]
  unfold upBack
  by_cases q : 0 ≤ l.val
  · rw [dif_pos (by show 2 ≤ 2 + l.val; omega), if_pos q, gate_at]
    refine congrArg (fun l => upGate x5 1 (fun k => val_main_v32 (F := Ideal) x0 x1 x2 x3 x4 (ix3 n l k)) d) (Fin.ext ?_)
    show 2 + l.val - 2 = l.val - 0
    omega
  · rw [dif_neg (by show ¬ 2 ≤ 2 + l.val; omega), if_neg q]

/-- The rows handed out, at a sequence, a row and a column. -/
theorem last_at (x0 x1 : FVec Ideal S8x2048x1024 .f32) (x2 : FVec Ideal S1x1024x1024 .f32) (x3 x4 : FVec Ideal S2x1024 .f32) (x5 : FVec Ideal S2x1024x5632 .f32) (n s : Fin 8) (d : Fin 2816) : val_main_v72 (F := Ideal) x0 x1 x2 x3 x4 x5 (ix3 n s d)
    = tailAt (fun l k => val_main_v32 (F := Ideal) x0 x1 x2 x3 x4 (ix3 n l k)) 1 x5 s d := by
  have h : val_main_v72 (F := Ideal) x0 x1 x2 x3 x4 x5 (ix3 n s d)
      = val_main_v45 (F := Ideal) x0 x1 x2 x3 x4 x5 (ix3 n ⟨2042 + s.val, by omega⟩ d) := by
    pointwise [val_main_v72]
  refine h.trans ((ext_at ..).trans ?_)
  rw [dif_pos (by show 2 ≤ 2042 + s.val; omega), gate_at]
  refine congrArg (fun l => upGate x5 1 (fun k => val_main_v32 (F := Ideal) x0 x1 x2 x3 x4 (ix3 n l k)) d) (Fin.ext ?_)
  show 2042 + s.val - 2 = 2040 + s.val
  omega

/-- The rows handed out. -/
theorem tail_at (x0 x1 : FVec Ideal S8x2048x1024 .f32) (x2 : FVec Ideal S1x1024x1024 .f32) (x3 x4 : FVec Ideal S2x1024 .f32) (x5 : FVec Ideal S2x1024x5632 .f32) : val_main_v72 (F := Ideal) x0 x1 x2 x3 x4 x5 = tailRes (fun n l k => val_main_v32 (F := Ideal) x0 x1 x2 x3 x4 (ix3 n l k)) 1 x5 := by
  funext i
  exact (congrArg (val_main_v72 (F := Ideal) x0 x1 x2 x3 x4 x5) (eq_ix3 i)).trans (last_at _ _ _ _ _ _ (i 0) (i 1) (i 2))

/-- The convolution of the gate projection. -/
theorem conv_at (x0 x1 : FVec Ideal S8x2048x1024 .f32) (x2 : FVec Ideal S1x1024x1024 .f32) (x3 x4 : FVec Ideal S2x1024 .f32) (x5 : FVec Ideal S2x1024x5632 .f32) (x7 : FVec Ideal S2x3x2816 .f32) (x8 : FVec Ideal S2x2816 .f32) (n : Fin 8) (l : Fin 2048) (d : Fin 2816) :
    val_main_v68 (F := Ideal) x0 x1 x2 x3 x4 x5 x7 x8 (ix3 n l d)
      = conv3 (x8 (ix2 1 d)) (x7 (ix3 1 0 d)) (x7 (ix3 1 1 d)) (x7 (ix3 1 2 d))
          (val_main_v48 (F := Ideal) x0 x1 x2 x3 x4 x5 (ix3 n l d)) (val_main_v57 (F := Ideal) x0 x1 x2 x3 x4 x5 (ix3 n l d)) (val_main_v64 (F := Ideal) x0 x1 x2 x3 x4 x5 (ix3 n l d)) := by
  pointwise [val_main_v36, val_main_v37, val_main_v38, val_main_v39, val_main_v46, val_main_v47, val_main_v49, val_main_v50, val_main_v51, val_main_v52, val_main_v53, val_main_v54, val_main_v55, val_main_v56, val_main_v58, val_main_v59, val_main_v60, val_main_v61, val_main_v62, val_main_v63, val_main_v65, val_main_v66, val_main_v67, val_main_v68, conv3]

/-- The gated unit. -/
theorem glu_at (x0 x1 : FVec Ideal S8x2048x1024 .f32) (x2 : FVec Ideal S1x1024x1024 .f32) (x3 x4 : FVec Ideal S2x1024 .f32) (x5 : FVec Ideal S2x1024x5632 .f32) (x7 : FVec Ideal S2x3x2816 .f32) (x8 : FVec Ideal S2x2816 .f32) (n : Fin 8) (l : Fin 2048) (d : Fin 2816) :
    val_main_v70 (F := Ideal) x0 x1 x2 x3 x4 x5 x7 x8 (ix3 n l d)
      = glu (val_main_v68 (F := Ideal) x0 x1 x2 x3 x4 x5 x7 x8 (ix3 n l d)) (val_main_v44 (F := Ideal) x0 x1 x2 x3 x4 x5 (ix3 n l d)) := by
  pointwise [val_main_call0_v0, val_main_call0_v1, val_main_call0_cst, val_main_call0_v2, val_main_call0_v3, val_main_call0_cst_0, val_main_call0_v4, val_main_call0_v5, val_main_v69, val_main_v70, glu, Ideal.logistic]

/-- The layer's row before its normalisation. -/
theorem res_at (x0 x1 : FVec Ideal S8x2048x1024 .f32) (x2 : FVec Ideal S1x1024x1024 .f32) (x3 x4 : FVec Ideal S2x1024 .f32) (x5 : FVec Ideal S2x1024x5632 .f32) (x6 : FVec Ideal S2x2816x1024 .f32) (x7 : FVec Ideal S2x3x2816 .f32) (x8 : FVec Ideal S2x2816 .f32) (n : Fin 8) (l : Fin 2048) (j : Fin 1024) :
    val_main_v75 (F := Ideal) x0 x1 x2 x3 x4 x5 x6 x7 x8 (ix3 n l j)
      = alpha * val_main_v32 (F := Ideal) x0 x1 x2 x3 x4 (ix3 n l j) + ∑ d, val_main_v70 (F := Ideal) x0 x1 x2 x3 x4 x5 x7 x8 (ix3 n l d) * x6 (ix3 1 d j) := by
  pointwise [val_main_v40, val_main_v41, val_main_v71, val_main_cst_6, val_main_v73, val_main_v74, val_main_v75]

/-- The layer's row. -/
theorem norm_at (x0 x1 : FVec Ideal S8x2048x1024 .f32) (x2 : FVec Ideal S1x1024x1024 .f32) (x3 x4 : FVec Ideal S2x1024 .f32) (x5 : FVec Ideal S2x1024x5632 .f32) (x6 : FVec Ideal S2x2816x1024 .f32) (x7 : FVec Ideal S2x3x2816 .f32) (x8 : FVec Ideal S2x2816 .f32) (x9 x10 : FVec Ideal S2x1024 .f32) (n : Fin 8) (l : Fin 2048) (j : Fin 1024) :
    val_main_v103 (F := Ideal) x0 x1 x2 x3 x4 x5 x6 x7 x8 x9 x10 (ix3 n l j)
      = lnRow (fun i => val_main_v75 (F := Ideal) x0 x1 x2 x3 x4 x5 x6 x7 x8 (ix3 n l i)) (fun i => x9 (ix2 1 i)) (fun i => x10 (ix2 1 i)) j := by
  pointwise [val_main_v76, val_main_v77, val_main_v78, val_main_v79, val_main_cst_7, val_main_v80, val_main_v81, val_main_cst_8, val_main_v82, val_main_v83, val_main_v84, val_main_v85, val_main_v86, val_main_cst_9, val_main_v87, val_main_v88, val_main_cst_10, val_main_v89, val_main_v90, val_main_v91, val_main_v92, val_main_cst_11, val_main_v93, val_main_v94, val_main_v95, val_main_v96, val_main_v97, val_main_v98, val_main_v99, val_main_v100, val_main_v101, val_main_v102, val_main_v103, lnRow, rowMean]

/-- The layer at every token. -/
theorem row_at (x0 x1 : FVec Ideal S8x2048x1024 .f32) (x2 : FVec Ideal S1x1024x1024 .f32) (x3 x4 : FVec Ideal S2x1024 .f32) (x5 : FVec Ideal S2x1024x5632 .f32) (x6 : FVec Ideal S2x2816x1024 .f32) (x7 : FVec Ideal S2x3x2816 .f32) (x8 : FVec Ideal S2x2816 .f32) (x9 x10 : FVec Ideal S2x1024 .f32) (n : Fin 8) (l : Fin 2048) (j : Fin 1024) :
    val_main_v103 (F := Ideal) x0 x1 x2 x3 x4 x5 x6 x7 x8 x9 x10 (ix3 n l j)
      = ffnAt (fun l k => val_main_v32 (F := Ideal) x0 x1 x2 x3 x4 (ix3 n l k)) 1 x5 x6 x7 x8 x9 x10 l j := by
  rw [norm_at]
  unfold ffnAt ffnRow
  refine lnRow_congr (fun i => ?_) (fun _ => rfl) (fun _ => rfl) j
  rw [res_at]
  refine congrArg (fun z : EReal => alpha * val_main_v32 (F := Ideal) x0 x1 x2 x3 x4 (ix3 n l i) + z) (Finset.sum_congr rfl fun d _ => ?_)
  rw [glu_at, conv_at, back2_at, back1_at, back0_at, lin_at]
  rfl

/-- The layer's result. -/
theorem out_at (x0 x1 : FVec Ideal S8x2048x1024 .f32) (x2 : FVec Ideal S1x1024x1024 .f32) (x3 x4 : FVec Ideal S2x1024 .f32) (x5 : FVec Ideal S2x1024x5632 .f32) (x6 : FVec Ideal S2x2816x1024 .f32) (x7 : FVec Ideal S2x3x2816 .f32) (x8 : FVec Ideal S2x2816 .f32) (x9 x10 : FVec Ideal S2x1024 .f32) : val_main_v104 (F := Ideal) x0 x1 x2 x3 x4 x5 x6 x7 x8 x9 x10
    = ffnRes (fun n l k => val_main_v32 (F := Ideal) x0 x1 x2 x3 x4 (ix3 n l k)) 1 x5 x6 x7 x8 x9 x10 := by
  funext i
  have h0 : (i 0).val < 16384 := (i 0).isLt
  have h1 : (i 1).val < 1024 := (i 1).isLt
  refine (val_main_v104_apply (F := Ideal) x0 x1 x2 x3 x4 x5 x6 x7 x8 x9 x10 i).trans ?_
  refine (congrArg (val_main_v103 (F := Ideal) x0 x1 x2 x3 x4 x5 x6 x7 x8 x9 x10) (eq_ix3 _)).trans ?_
  refine (row_at x0 x1 x2 x3 x4 x5 x6 x7 x8 x9 x10 (idx_main_v104 i 0) (idx_main_v104 i 1) (idx_main_v104 i 2)).trans ?_
  refine (ffnRes_at (fun n l k => val_main_v32 (F := Ideal) x0 x1 x2 x3 x4 (ix3 n l k)) 1 x5 x6 x7 x8 x9 x10 i (idx_main_v104 i 0) (idx_main_v104 i 1) (idx_main_v104 i 2) ?_ ?_).symm
  · show (i 0).val = 2048 * (((i 0).val * 1024 + (i 1).val) / 2097152) + ((i 0).val * 1024 + (i 1).val) / 1024 % 2048
    omega
  · show (i 1).val = ((i 0).val * 1024 + (i 1).val) % 1024
    omega

end Cert.ReferenceIdeal.Value1
-- ==== Proof.FfnClaim1.lean ====
module

public import proofs.«01_k».proof.Defs
public import proofs.«01_k».proof.Proof.Gen.KernelIdeal.Frame
public import proofs.«01_k».proof.Proof.Gen.ReferenceIdeal.Run
public import proofs.«01_k».proof.Proof.FfnFinal1
public import proofs.«01_k».proof.Proof.FfnRef1
public import Idealize.ShloMosaic.Lib.Claim

@[expose] public section

set_option maxRecDepth 16384

noncomputable section

open Idealize.ShloMosaic Idealize.ShloMosaic.TcCoe Idealize.SL.Sem

namespace Cert.Layer1

/-- The reference's run, its two results the feed-forward layer and the last rows of the gate projection. -/
theorem refRun (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v104)
        = Cert.Ffn.ffnRes (fun n => Cert.Ffn.midAt (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) n) 1 (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))
      ∧ r.2.mem ((c.tc : Thread Cert.ReferenceIdeal.nD Cert.ReferenceIdeal.τ).loc Cert.ReferenceIdeal.main_v72)
        = Cert.Ffn.tailRes (fun n => Cert.Ffn.midAt (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) n) 1 (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_arg1) = (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg2) = (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg3) = (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg4) = (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg5) = (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg6) = (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_arg7) = (m ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg8) = (m ((c.tc : Thread Cert.ReferenceIdeal.nD Cert.ReferenceIdeal.τ).loc Cert.ReferenceIdeal.main_arg8))
      ∧ r.2.mem ((c.tc : Thread Cert.ReferenceIdeal.nD Cert.ReferenceIdeal.τ).loc Cert.ReferenceIdeal.main_arg9) = (m ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_arg10) = (m ((c.tc : Thread Cert.ReferenceIdeal.nD Cert.ReferenceIdeal.τ).loc Cert.ReferenceIdeal.main_arg10)) :=
  (θ_run (Cert.ReferenceIdeal.defs (F := Ideal)) _ _).mono (fun _ h c =>
    ⟨(h c).1.trans ((Cert.ReferenceIdeal.Read.val_main_v104_eq (F := Ideal) (StableHlo.launchContents m c)).trans ((Cert.ReferenceIdeal.Value1.out_at (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).trans (congrArg (fun z => Cert.Ffn.ffnRes z 1 (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) (funext fun n => funext fun l => funext fun k => Cert.ReferenceIdeal.Value1.mid_at (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) n l k)))),
     (h c).2.1.trans ((Cert.ReferenceIdeal.Read.val_main_v72_eq (F := Ideal) (StableHlo.launchContents m c)).trans ((Cert.ReferenceIdeal.Value1.tail_at (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).trans (congrArg (fun z => Cert.Ffn.tailRes z 1 (m ((c.tc : Thread Cert.ReferenceIdeal.nD Cert.ReferenceIdeal.τ).loc Cert.ReferenceIdeal.main_arg5))) (funext fun n => funext fun l => funext fun k => Cert.ReferenceIdeal.Value1.mid_at (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) n l k)))),
     (h c).2.2⟩) (Cert.ReferenceIdeal.Value.run (F := Ideal) m ρ)

/-- The call and the mathematics of feed-forward layer 1 end with equal results. -/
theorem algebraic : Cert.algebraic_KernelIdeal_ReferenceIdeal (hKernelIdeal := Cert.KernelIdeal.Gen.facts) (hReferenceIdeal := Cert.ReferenceIdeal.Gen.facts) := by
  pair_intro
  · run_from Cert.KernelIdeal.Gen.run_main m g
  · run_from refRun m' g'
    · exact (Cert.KernelIdeal.Value1.final11 m c).symm
    · exact (Cert.KernelIdeal.Value1.final12 m c).symm

end Cert.Layer1
-- ==== Proof.FfnTile0.lean ====
module

public import proofs.«01_k».proof.Proof.Gen.Kernel0Ideal.Skeleton
public import proofs.«01_k».proof.Proof.FfnSpec
public import Idealize.ShloMosaic.Lib.Pointwise

@[expose] public section

set_option maxRecDepth 16384

noncomputable section

open Idealize.ShloMosaic Idealize.ShloMosaic.TcCoe Idealize.SL.Sem

namespace Cert.Kernel0Ideal.Value0

open Cert.Kernel0Ideal Cert.Kernel0Ideal.Gen Cert.Ffn

/-- The rows of a tile, as the body passes them on. -/
theorem pass_at (x : FVec Ideal S512x1024 .f32) : k0_pay3 (F := Ideal) x = x := by
  funext i
  rw [eq_ix2 i]
  pointwise [k0_pay3]

/-- The gate projection of a tile's rows. -/
theorem gate_at (x : FVec Ideal S512x1024 .f32) (w : FVec Ideal S1x1024x2816 .bf16) (r : Fin 512) (d : Fin 2816) :
    k0_pay5 (F := Ideal) x w (ix2 r d) = proj (fun k => x (ix2 r k)) (fun k => w (ix3 0 k d)) := by
  pointwise [k0_pay5, k0_pay4, k0_pay3, proj]

/-- The linear projection of a tile's rows. -/
theorem lin_at (x : FVec Ideal S512x1024 .f32) (w : FVec Ideal S1x1024x2816 .bf16) (r : Fin 512) (d : Fin 2816) :
    k0_pay6 (F := Ideal) x w (ix2 r d) = proj (fun k => x (ix2 r k)) (fun k => w (ix3 0 k d)) := by
  pointwise [k0_pay6, k0_pay4, k0_pay3, proj]

/-- The rows carried to the next tile are the last eight of the gate projection. -/
theorem carry_at (a : FVec Ideal S512x2816 .f32) (s : Fin 8) (d : Fin 2816) :
    k0_pay11 (F := Ideal) a (ix2 s d) = a (ix2 ⟨504 + s.val, by omega⟩ d) := by
  pointwise [k0_pay11, k0_pay10]

/-- The rows handed out are the same eight. -/
theorem tail_at (a : FVec Ideal S512x2816 .f32) (s : Fin 8) (d : Fin 2816) :
    k0_pay12 (F := Ideal) a (ix3 0 s d) = a (ix2 ⟨504 + s.val, by omega⟩ d) := by
  pointwise [k0_pay12, k0_pay10]

/-- The rows carried into the first tile of a sequence are zero. -/
theorem zero_at (s : Fin 8) (d : Fin 2816) : k0_pay2 (F := Ideal) (ix2 s d) = 0 := by
  pointwise [k0_pay2]

/-- The row numbers of a tile. -/
abbrev rows : IVec S512x2816 32 := iota .tc S512x2816 32 [0] iota_S512x2816_d0_w32

/-- Comparing a tile's row number with a small number. -/
theorem row_eq (r n : ℕ) (hr : r < 512) (hn : n < 512) :
    IntOp.cmpi .eq (BitVec.ofNat 32 r) (BitVec.ofNat 32 n) = if r = n then 1#1 else 0#1 := by
  have h : (BitVec.ofNat 32 r = BitVec.ofNat 32 n) ↔ r = n := by
    constructor
    · intro h
      have := congrArg BitVec.toNat h
      rw [BitVec.toNat_ofNat, BitVec.toNat_ofNat, Nat.mod_eq_of_lt (by omega), Nat.mod_eq_of_lt (by omega)] at this
      exact this
    · rintro rfl; rfl
  by_cases e : r = n
  · rw [if_pos e]
    subst e
    simp [IntOp.cmpi]
  · rw [if_neg e]
    have hb : (BitVec.ofNat 32 r == BitVec.ofNat 32 n) = false := beq_eq_false_iff_ne.mpr fun q => e (h.mp q)
    simp [IntOp.cmpi, hb]

/-- The gate projection one row earlier, the carried row before the tile's first. -/
theorem back1_at (x : FVec Ideal S512x1024 .f32) (w : FVec Ideal S1x1024x2816 .bf16) (c : FVec Ideal S8x2816 .f32) (r : Fin 512)
    (d : Fin 2816) : k0_pay7 (F := Ideal) x w c (ix2 r d)
      = if h : r.val = 0 then c (ix2 7 d) else k0_pay5 (F := Ideal) x w (ix2 ⟨r.val - 1, by omega⟩ d) := by
  pointwise [k0_pay7]
  rw [show (0#32) = BitVec.ofNat 32 0 from rfl, row_eq r.val 0 r.isLt (by decide)]
  by_cases h : r.val = 0
  · rw [if_pos h, dif_pos h]; rfl
  · rw [if_neg h, dif_neg h]
    refine congrArg (k0_pay5 (F := Ideal) x w) ?_
    refine (ix2_inj ..).2 ⟨Fin.ext ?_, rfl⟩
    show (r.val + 512 - 1) % 512 = r.val - 1
    omega

/-- The gate projection two rows earlier, the carried rows before the tile's first. -/
theorem back2_at (x : FVec Ideal S512x1024 .f32) (w : FVec Ideal S1x1024x2816 .bf16) (c : FVec Ideal S8x2816 .f32) (r : Fin 512)
    (d : Fin 2816) : k0_pay8 (F := Ideal) x w c (ix2 r d)
      = if h : r.val < 2 then c (ix2 ⟨6 + r.val, by omega⟩ d) else k0_pay5 (F := Ideal) x w (ix2 ⟨r.val - 2, by omega⟩ d) := by
  pointwise [k0_pay8]
  rw [show (0#32) = BitVec.ofNat 32 0 from rfl, row_eq r.val 0 r.isLt (by decide),
    show (1#32) = BitVec.ofNat 32 1 from rfl, row_eq r.val 1 r.isLt (by decide)]
  by_cases h : r.val = 0
  · rw [if_pos h, dif_pos (by omega)]
    refine congrArg c ((ix2_inj ..).2 ⟨Fin.ext ?_, rfl⟩)
    show 6 = 6 + r.val
    omega
  · rw [if_neg h]
    by_cases h1 : r.val = 1
    · rw [if_pos h1, dif_pos (by omega)]
      refine congrArg c ((ix2_inj ..).2 ⟨Fin.ext ?_, rfl⟩)
      show 7 = 6 + r.val
      omega
    · rw [if_neg h1, dif_neg (by omega)]
      refine congrArg (k0_pay5 (F := Ideal) x w) ((ix2_inj ..).2 ⟨Fin.ext ?_, rfl⟩)
      show (r.val + 512 - 2) % 512 = r.val - 2
      omega

/-- The whole tile: what the body stores, row by row. -/
theorem out_at (x : FVec Ideal S512x1024 .f32) (a l b1 b2 : FVec Ideal S512x2816 .f32) (cb c0 c1 c2 : FVec Ideal S1x2816 .f32)
   (wd : FVec Ideal S1x2816x1024 .bf16) (g b : FVec Ideal S1x1024 .f32) (r : Fin 512) (j : Fin 1024) :
   k0_pay1 (F := Ideal) (k0_pay13 x a l b1 b2 (k0_pay9 cb) c0 c1 c2 wd) (k0_pay14 g) (k0_pay15 b) (ix2 r j)
    = lnRow (fun i => alpha * x (ix2 r i) + ∑ d, glu (conv3 (cb (ix2 0 d)) (c0 (ix2 0 d)) (c1 (ix2 0 d)) (c2 (ix2 0 d)) (b2 (ix2 r d)) (b1 (ix2 r d)) (a (ix2 r d)))
          (l (ix2 r d)) * wd (ix3 0 d i))
       (fun i => g (ix2 0 i)) (fun i => b (ix2 0 i)) j := by
  pointwise [k0_pay1, k0_pay13, k0_pay14, k0_pay15, k0_pay9, lnRow, rowMean, glu, conv3]

/-- A tile's feed-forward rows, from the rows `x`, the two halves of the up projection's weights and the carried rows. -/
theorem tile_at (x : FVec Ideal S512x1024 .f32) (wa wb : FVec Ideal S1x1024x2816 .bf16) (cr : FVec Ideal S8x2816 .f32)
    (cb c0 c1 c2 : FVec Ideal S1x2816 .f32) (wd : FVec Ideal S1x2816x1024 .bf16) (g b : FVec Ideal S1x1024 .f32)
    (r : Fin 512) (j : Fin 1024) :
    k0_pay1 (F := Ideal) (k0_pay13 (k0_pay3 x) (k0_pay5 x wa) (k0_pay6 x wb) (k0_pay7 x wa cr) (k0_pay8 x wa cr) (k0_pay9 cb) c0 c1 c2 wd)
      (k0_pay14 g) (k0_pay15 b) (ix2 r j)
    = ffnRow (fun k => x (ix2 r k))
        (fun d => if h : r.val < 2 then cr (ix2 ⟨6 + r.val, by omega⟩ d) else proj (fun k => x (ix2 ⟨r.val - 2, by omega⟩ k)) (fun k => wa (ix3 0 k d)))
        (fun d => if h : r.val = 0 then cr (ix2 7 d) else proj (fun k => x (ix2 ⟨r.val - 1, by omega⟩ k)) (fun k => wa (ix3 0 k d)))
        (fun d => proj (fun k => x (ix2 r k)) (fun k => wa (ix3 0 k d))) (fun d => proj (fun k => x (ix2 r k)) (fun k => wb (ix3 0 k d)))
        (fun d => cb (ix2 0 d)) (fun d => c0 (ix2 0 d)) (fun d => c1 (ix2 0 d)) (fun d => c2 (ix2 0 d)) (fun d i => wd (ix3 0 d i))
        (fun i => g (ix2 0 i)) (fun i => b (ix2 0 i)) j := by
  rw [pass_at, out_at]
  unfold ffnRow
  refine lnRow_congr (fun i => ?_) (fun _ => rfl) (fun _ => rfl) j
  refine congrArg (fun z : EReal => alpha * x (ix2 r i) + z) (Finset.sum_congr rfl fun d _ => ?_)
  rw [gate_at, lin_at, back1_at, back2_at]
  simp only [gate_at]

end Cert.Kernel0Ideal.Value0
-- ==== Proof.FfnPoint0.lean ====
module

public import proofs.«01_k».proof.Proof.Gen.Kernel0Ideal.Frame
public import proofs.«01_k».proof.Proof.FfnTile0
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel0Ideal.Value0

open Cert.Kernel0Ideal Cert.Kernel0Ideal.Gen Cert.Ffn

variable (m : (ℓ : Loc nD τ sig) → Buf (Elt Ideal) ℓ)

/-- The blocks' places at every grid point. -/
theorem idx : ∀ t : Fin cfg0.N, win0_0.index t = ![t.val, 0] ∧ win0_1.index t = ![0, 0, 0] ∧ win0_2.index t = ![0, 0, 0]
  ∧ win0_3.index t = ![0, 0] ∧ win0_4.index t = ![0, 0] ∧ win0_5.index t = ![0, 0] ∧ win0_6.index t = ![0, 0]
  ∧ win0_7.index t = ![t.val, 0] ∧ win0_8.index t = ![t.val / 4, 0, 0] ∧ t.val < 32 :=
  (by decide +kernel : ∀ t : Fin grid0.N, _)

/-- There are 32 grid points. -/
theorem lt32 (t : Fin cfg0.N) : t.val < 32 := (idx t).2.2.2.2.2.2.2.2.2

/-- The sequence a grid point works on. -/
abbrev seqOf (t : Fin cfg0.N) : Fin 8 := ⟨t.val / 4, by have := lt32 t; omega⟩

/-- The token at row `r` of a grid point's tile. -/
abbrev tokOf (t : Fin cfg0.N) (r : Fin 512) : Fin 2048 := ⟨512 * (t.val % 4) + r.val, by omega⟩

/-- The rows of the layer's input, of one sequence. -/
abbrev mids (c : Dev nD) (n : Fin 8) : Fin 2048 → Fin 1024 → EReal := fun l k => m ((c : Thread nD τ).loc main_arg0) (ix3 n l k)

/-- A tile's rows of the layer's input, as the body loads them. -/
abbrev xs (c : Dev nD) (t : Fin cfg0.N) : FVec Ideal S512x1024 .f32 := iblk m c 0 t

/-- A tile's rows of the layer's input. -/
theorem xs_at (c : Dev nD) (t : Fin cfg0.N) (r : Fin 512) (k : Fin 1024) :
    xs m c t (ix2 r k) = mids m c (seqOf t) (tokOf t r) k := by
  blk_point [iblk, V, idx t]

/-- The gate half of the weights, as the body loads it. -/
theorem wa_at (c : Dev nD) (t : Fin cfg0.N) (k : Fin 1024) (d : Fin 2816) :
    View.ld (iblk m c 1 t) (Rect.unit ![0, 0, 0] ![1, 1024, 2816] inb_S1x1024x5632_S1x1024x2816_0_0_0) (ix3 0 k d)
      = m ((c : Thread nD τ).loc main_arg1) (ix3 0 k ⟨d.val, by omega⟩) := by
  pointwise
  blk_point [iblk, V, idx t]

/-- The linear half of the weights, as the body loads it. -/
theorem wb_at (c : Dev nD) (t : Fin cfg0.N) (k : Fin 1024) (d : Fin 2816) :
    View.ld (iblk m c 1 t) (Rect.unit ![0, 0, 2816] ![1, 1024, 2816] inb_S1x1024x5632_S1x1024x2816_0_0_2816) (ix3 0 k d)
      = m ((c : Thread nD τ).loc main_arg1) (ix3 0 k ⟨2816 + d.val, by omega⟩) := by
  pointwise
  blk_point [iblk, V, idx t]

/-- The convolution's weights and shift, the down projection's weights, the gain and the shift. -/
theorem small_at (c : Dev nD) (t : Fin cfg0.N) :
    (∀ d, View.ld (iblk m c 3 t) (Rect.unit ![0, 0] ![1, 2816] inb_S3x2816_S1x2816_0_0) (ix2 0 d) = m ((c : Thread nD τ).loc main_arg3) (ix3 0 0 d))
    ∧ (∀ d, View.ld (iblk m c 3 t) (Rect.unit ![1, 0] ![1, 2816] inb_S3x2816_S1x2816_1_0) (ix2 0 d) = m ((c : Thread nD τ).loc main_arg3) (ix3 0 1 d))
    ∧ (∀ d, View.ld (iblk m c 3 t) (Rect.unit ![2, 0] ![1, 2816] inb_S3x2816_S1x2816_2_0) (ix2 0 d) = m ((c : Thread nD τ).loc main_arg3) (ix3 0 2 d))
    ∧ (∀ d, (show FVec Ideal S1x2816 .f32 from iblk m c 4 t) (ix2 0 d) = m ((c : Thread nD τ).loc main_arg4) (ix2 0 d))
    ∧ (∀ d i, (show FVec Ideal S1x2816x1024 .bf16 from iblk m c 2 t) (ix3 0 d i) = m ((c : Thread nD τ).loc main_arg2) (ix3 0 d i))
    ∧ (∀ i, (show FVec Ideal S1x1024 .f32 from iblk m c 5 t) (ix2 0 i) = m ((c : Thread nD τ).loc main_arg5) (ix2 0 i))
    ∧ (∀ i, (show FVec Ideal S1x1024 .f32 from iblk m c 6 t) (ix2 0 i) = m ((c : Thread nD τ).loc main_arg6) (ix2 0 i)) := by
  refine ⟨fun d => ?_, fun d => ?_, fun d => ?_, fun d => ?_, fun d i => ?_, fun i => ?_, fun i => ?_⟩
  · pointwise
    blk_point [iblk, V, idx t]
  · pointwise
    blk_point [iblk, V, idx t]
  · pointwise
    blk_point [iblk, V, idx t]
  · blk_point [iblk, V, idx t]
  · blk_point [iblk, V, idx t]
  · blk_point [iblk, V, idx t]
  · blk_point [iblk, V, idx t]

end Cert.Kernel0Ideal.Value0
-- ==== Proof.FfnOut0.lean ====
module

public import proofs.«01_k».proof.Proof.Gen.Kernel0Ideal.Frame
public import proofs.«01_k».proof.Proof.FfnPoint0
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel0Ideal.Value0

open Cert.Kernel0Ideal Cert.Kernel0Ideal.Gen Cert.Ffn

variable (m : (ℓ : Loc nD τ sig) → Buf (Elt Ideal) ℓ)

/-- After every point the carried rows are the gate projection of the tile's last eight tokens. -/
theorem carry (c : Dev nD) (t : Fin cfg0.N) (s : Fin 8) (d : Fin 2816) : (outsAt0 m c t.val t.isLt).2.2 (ix2 s d)
    = upGate (m ((c : Thread nD τ).loc main_arg1)) 0 (mids m c (seqOf t) (tokOf t ⟨504 + s.val, by omega⟩)) d := by
  by_cases h : t.val % 4 = 0
  · rw [outsAt0_A m c t h]
    frame_out
    refine (carry_at _ s d).trans ((gate_at _ _ _ d).trans ?_)
    unfold upGate proj
    refine Finset.sum_congr rfl fun k _ => ?_
    exact Ideal.mul_congr (xs_at m c t _ k) (wa_at m c t k d)
  · rw [outsAt0_B m c t h]
    frame_out
    refine (carry_at _ s d).trans ((gate_at _ _ _ d).trans ?_)
    unfold upGate proj
    refine Finset.sum_congr rfl fun k _ => ?_
    exact Ideal.mul_congr (xs_at m c t _ k) (wa_at m c t k d)

/-- The rows handed out at every point. -/
theorem tail (c : Dev nD) (t : Fin cfg0.N) (s : Fin 8) (d : Fin 2816) : (outsAt0 m c t.val t.isLt).2.1 (ix3 0 s d)
    = upGate (m ((c : Thread nD τ).loc main_arg1)) 0 (mids m c (seqOf t) (tokOf t ⟨504 + s.val, by omega⟩)) d := by
  by_cases h : t.val % 4 = 0
  · rw [outsAt0_A m c t h]
    frame_out
    refine (tail_at _ s d).trans ((gate_at _ _ _ d).trans ?_)
    unfold upGate proj
    refine Finset.sum_congr rfl fun k _ => ?_
    exact Ideal.mul_congr (xs_at m c t _ k) (wa_at m c t k d)
  · rw [outsAt0_B m c t h]
    frame_out
    refine (tail_at _ s d).trans ((gate_at _ _ _ d).trans ?_)
    unfold upGate proj
    refine Finset.sum_congr rfl fun k _ => ?_
    exact Ideal.mul_congr (xs_at m c t _ k) (wa_at m c t k d)

/-- The projection of a tile's row is that of its token. -/
theorem proj_at (c : Dev nD) (t : Fin cfg0.N) (r : Fin 512) (d : Fin 2816) :
    proj (fun k => xs m c t (ix2 r k)) (fun k => View.ld (iblk m c 1 t) (Rect.unit ![0, 0, 0] ![1, 1024, 2816] inb_S1x1024x5632_S1x1024x2816_0_0_0) (ix3 0 k d))
      = upGate (m ((c : Thread nD τ).loc main_arg1)) 0 (mids m c (seqOf t) (tokOf t r)) d := by
  unfold upGate proj
  exact Finset.sum_congr rfl fun k _ => Ideal.mul_congr (xs_at m c t r k) (wa_at m c t k d)

/-- A tile's feed-forward rows are those of its tokens. -/
theorem out (c : Dev nD) (t : Fin cfg0.N) (r : Fin 512) (j : Fin 1024) : (outsAt0 m c t.val t.isLt).1 (ix2 r j)
    = ffnAt (mids m c (seqOf t)) 0 (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (tokOf t r) j := by
  obtain ⟨e0, e1, e2, eb, ed, eg, es⟩ := small_at m c t
  by_cases h : t.val % 4 = 0
  · rw [outsAt0_A m c t h]
    frame_out
    refine (tile_at _ _ _ _ _ _ _ _ _ _ _ r j).trans (ffnRow_congr (xs_at m c t r) (fun d => ?_) (fun d => ?_) (proj_at m c t r) (fun d => ?_)
      eb e0 e1 e2 ed eg es j)
    · unfold upBack
      by_cases hr : r.val < 2
      · rw [dif_pos hr, if_neg (by show ¬ 2 ≤ 512 * (t.val % 4) + r.val; omega)]
        exact zero_at _ _
      · rw [dif_neg hr, if_pos (by show 2 ≤ 512 * (t.val % 4) + r.val; omega)]
        refine (proj_at m c t ⟨r.val - 2, _⟩ d).trans ?_
        refine congrArg (fun l => upGate (m ((c : Thread nD τ).loc main_arg1)) 0 (mids m c (seqOf t) l) d) (Fin.ext ?_)
        show 512 * (t.val % 4) + (r.val - 2) = 512 * (t.val % 4) + r.val - 2
        omega
    · unfold upBack
      by_cases hr : r.val = 0
      · rw [dif_pos hr, if_neg (by show ¬ 1 ≤ 512 * (t.val % 4) + r.val; omega)]
        exact zero_at _ _
      · rw [dif_neg hr, if_pos (by show 1 ≤ 512 * (t.val % 4) + r.val; omega)]
        refine (proj_at m c t ⟨r.val - 1, _⟩ d).trans ?_
        refine congrArg (fun l => upGate (m ((c : Thread nD τ).loc main_arg1)) 0 (mids m c (seqOf t) l) d) (Fin.ext ?_)
        show 512 * (t.val % 4) + (r.val - 1) = 512 * (t.val % 4) + r.val - 1
        omega
    · unfold upLin proj
      exact Finset.sum_congr rfl fun k _ => Ideal.mul_congr (xs_at m c t r k) (wb_at m c t k d)
  · have h1 : t.val - 1 < cfg0.N := by have := t.isLt; omega
    have hs : seqOf ⟨t.val - 1, h1⟩ = seqOf t := Fin.ext (by show (t.val - 1) / 4 = t.val / 4; omega)
    rw [outsAt0_B m c t h]
    frame_out
    refine (tile_at _ _ _ _ _ _ _ _ _ _ _ r j).trans (ffnRow_congr (xs_at m c t r) (fun d => ?_) (fun d => ?_) (proj_at m c t r) (fun d => ?_)
      eb e0 e1 e2 ed eg es j)
    · unfold upBack
      rw [if_pos (by show 2 ≤ 512 * (t.val % 4) + r.val; omega)]
      by_cases hr : r.val < 2
      · rw [dif_pos hr, read_unread_whole]
        refine (carry m c ⟨t.val - 1, h1⟩ ⟨6 + r.val, _⟩ d).trans ?_
        rw [hs]
        refine congrArg (fun l => upGate (m ((c : Thread nD τ).loc main_arg1)) 0 (mids m c (seqOf t) l) d) (Fin.ext ?_)
        show 512 * ((t.val - 1) % 4) + (504 + (6 + r.val)) = 512 * (t.val % 4) + r.val - 2
        omega
      · rw [dif_neg hr]
        refine (proj_at m c t ⟨r.val - 2, _⟩ d).trans ?_
        refine congrArg (fun l => upGate (m ((c : Thread nD τ).loc main_arg1)) 0 (mids m c (seqOf t) l) d) (Fin.ext ?_)
        show 512 * (t.val % 4) + (r.val - 2) = 512 * (t.val % 4) + r.val - 2
        omega
    · unfold upBack
      rw [if_pos (by show 1 ≤ 512 * (t.val % 4) + r.val; omega)]
      by_cases hr : r.val = 0
      · rw [dif_pos hr, read_unread_whole]
        refine (carry m c ⟨t.val - 1, h1⟩ 7 d).trans ?_
        rw [hs]
        refine congrArg (fun l => upGate (m ((c : Thread nD τ).loc main_arg1)) 0 (mids m c (seqOf t) l) d) (Fin.ext ?_)
        show 512 * ((t.val - 1) % 4) + (504 + 7) = 512 * (t.val % 4) + r.val - 1
        omega
      · rw [dif_neg hr]
        refine (proj_at m c t ⟨r.val - 1, _⟩ d).trans ?_
        refine congrArg (fun l => upGate (m ((c : Thread nD τ).loc main_arg1)) 0 (mids m c (seqOf t) l) d) (Fin.ext ?_)
        show 512 * (t.val % 4) + (r.val - 1) = 512 * (t.val % 4) + r.val - 1
        omega
    · unfold upLin proj
      exact Finset.sum_congr rfl fun k _ => Ideal.mul_congr (xs_at m c t r k) (wb_at m c t k d)

end Cert.Kernel0Ideal.Value0
-- ==== Proof.FfnFinal0.lean ====
module

public import proofs.«01_k».proof.Proof.Gen.Kernel0Ideal.Frame
public import proofs.«01_k».proof.Proof.FfnOut0
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel0Ideal.Value0

open Cert.Kernel0Ideal Cert.Kernel0Ideal.Gen Cert.Ffn

variable (m : (ℓ : Loc nD τ sig) → Buf (Elt Ideal) ℓ)

/-- The result's rows after the run. -/
theorem final7 (c : Dev nD) : (dats m 0 c).arrAt 7 (cfgs 0).N
    = ffnRes (mids m c) 0 (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (dats m 0 c).arrAt_eq_of_covers 7 _ (by decide +kernel) fun t hf y => ?_
  have key : ∀ (r : Fin 512) (j : Fin 1024) (i : S16384x1024.Idx), (i 0).val = 512 * t.val + r.val → (i 1).val = j.val →
      (outsAt0 m c t.val t.isLt).1 (ix2 r j)
        = ffnRes (mids m c) 0 (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) i := fun r j i h0 h1 =>
    (out m c t r j).trans (ffnRes_at _ _ _ _ _ _ _ _ i (seqOf t) (tokOf t r) j
      (by show (i 0).val = 2048 * (t.val / 4) + (512 * (t.val % 4) + r.val); omega) h1).symm
  blk_simp
  rw [after0_7]
  refine (congrArg _ (eq_ix2 y)).trans (key (y 0) (y 1) _ ?_ ?_)
  · blk_simp [idx t]; omega
  · blk_simp [idx t]

/-- The rows handed out, after the run. -/
theorem final8 (c : Dev nD) : (dats m 0 c).arrAt 8 (cfgs 0).N
    = tailRes (mids m c) 0 (m ((c : Thread nD τ).loc main_arg1)) := by
  refine (dats m 0 c).arrAt_eq_of_covers 8 _ (by decide +kernel) fun t hf y => ?_
  have hm : t.val % 4 = 3 := (flush0_8 t).mp hf
  have key : ∀ (s : Fin 8) (d : Fin 2816) (i : S8x8x2816.Idx), (i 0).val = t.val / 4 → (i 1).val = s.val → (i 2).val = d.val →
      (outsAt0 m c t.val t.isLt).2.1 (ix3 0 s d) = tailRes (mids m c) 0 (m ((c : Thread nD τ).loc main_arg1)) i := fun s d i h0 h1 h2 =>
    (tail m c t s d).trans ((congrArg (fun l => upGate (m ((c : Thread nD τ).loc main_arg1)) 0 (mids m c (seqOf t) l) d)
      (Fin.ext (by show 512 * (t.val % 4) + (504 + s.val) = 2040 + s.val; omega))).trans
      (tailRes_at _ _ _ i (seqOf t) s d h0 h1 h2).symm)
  blk_simp
  rw [after0_8]
  have hy : y = ix3 0 (y 1) (y 2) := (eq_ix3 y).trans ((ix3_inj ..).2 ⟨Subsingleton.elim _ _, rfl, rfl⟩)
  refine (congrArg _ hy).trans (key (y 1) (y 2) _ ?_ ?_ ?_)
  · blk_simp [idx t]
  · blk_simp [idx t]
  · blk_simp [idx t]

end Cert.Kernel0Ideal.Value0
-- ==== Proof.FfnRef0.lean ====
module

public import proofs.«01_k».proof.Proof.Gen.Reference0Ideal.Read
public import proofs.«01_k».proof.Proof.FfnSpec
public import Idealize.ShloMosaic.Lib.Pointwise

@[expose] public section

set_option maxRecDepth 16384

noncomputable section

open Idealize.ShloMosaic Idealize.ShloMosaic.TcCoe Idealize.SL.Sem

namespace Cert.Reference0Ideal.Value0

open Cert.Reference0Ideal Cert.Reference0Ideal.Gen Cert.Reference0Ideal.Read Cert.Ffn

/-- The gate half of the up projection. -/
theorem gate_at (x0 : FVec Ideal S8x2048x1024 .f32) (x1 : FVec Ideal S2x1024x5632 .f32) (n : Fin 8) (l : Fin 2048) (d : Fin 2816) :
    val_main_v10 (F := Ideal) x0 x1 (ix3 n l d) = upGate x1 0 (fun k => x0 (ix3 n l k)) d := by
  pointwise [val_main_v1, val_main_v2, val_main_v9, val_main_v10, upGate, proj]

/-- The linear half of the up projection. -/
theorem lin_at (x0 : FVec Ideal S8x2048x1024 .f32) (x1 : FVec Ideal S2x1024x5632 .f32) (n : Fin 8) (l : Fin 2048) (d : Fin 2816) :
    val_main_v11 (F := Ideal) x0 x1 (ix3 n l d) = upLin x1 0 (fun k => x0 (ix3 n l k)) d := by
  pointwise [val_main_v1, val_main_v2, val_main_v9, val_main_v11, upLin, proj]

/-- The gate projection after the zero history: two zero rows, then the sequence. -/
theorem ext_at (x0 : FVec Ideal S8x2048x1024 .f32) (x1 : FVec Ideal S2x1024x5632 .f32) (n : Fin 8) (p : Fin 2050) (d : Fin 2816) :
    val_main_v12 (F := Ideal) x0 x1 (ix3 n p d)
      = if h : 2 ≤ p.val then val_main_v10 (F := Ideal) x0 x1 (ix3 n ⟨p.val - 2, by omega⟩ d) else 0 := by
  pointwise [val_main_v12, val_main_v0, val_main_cst]
  by_cases h : p.val < 2
  · rw [dif_pos h, dif_neg (by omega)]
  · rw [dif_neg h, dif_pos (by omega)]

/-- The gate projection 2 rows earlier. -/
theorem back2_at (x0 : FVec Ideal S8x2048x1024 .f32) (x1 : FVec Ideal S2x1024x5632 .f32) (n : Fin 8) (l : Fin 2048) (d : Fin 2816) :
    val_main_v15 (F := Ideal) x0 x1 (ix3 n l d) = upBack x1 0 (fun l k => x0 (ix3 n l k)) 2 l.val l.isLt d := by
  have h : val_main_v15 (F := Ideal) x0 x1 (ix3 n l d)
      = val_main_v12 (F := Ideal) x0 x1 (ix3 n ⟨l.val, by omega⟩ d) := by
    pointwise [val_main_v15]
  rw [h, ext_at]
  unfold upBack
  by_cases q : 2 ≤ l.val
  · rw [dif_pos (by show 2 ≤ l.val; omega), if_pos q, gate_at]
  · rw [dif_neg (by show ¬ 2 ≤ l.val; omega), if_neg q]

/-- The gate projection 1 rows earlier. -/
theorem back1_at (x0 : FVec Ideal S8x2048x1024 .f32) (x1 : FVec Ideal S2x1024x5632 .f32) (n : Fin 8) (l : Fin 2048) (d : Fin 2816) :
    val_main_v24 (F := Ideal) x0 x1 (ix3 n l d) = upBack x1 0 (fun l k => x0 (ix3 n l k)) 1 l.val l.isLt d := by
  have h : val_main_v24 (F := Ideal) x0 x1 (ix3 n l d)
      = val_main_v12 (F := Ideal) x0 x1 (ix3 n ⟨1 + l.val, by omega⟩ d) := by
    pointwise [val_main_v24]
  rw [h, ext_at]
  unfold upBack
  by_cases q : 1 ≤ l.val
  · rw [dif_pos (by show 2 ≤ 1 + l.val; omega), if_pos q, gate_at]
    refine congrArg (fun l => upGate x1 0 (fun k => x0 (ix3 n l k)) d) (Fin.ext ?_)
    show 1 + l.val - 2 = l.val - 1
    omega
  · rw [dif_neg (by show ¬ 2 ≤ 1 + l.val; omega), if_neg q]

/-- The gate projection 0 rows earlier. -/
theorem back0_at (x0 : FVec Ideal S8x2048x1024 .f32) (x1 : FVec Ideal S2x1024x5632 .f32) (n : Fin 8) (l : Fin 2048) (d : Fin 2816) :
    val_main_v31 (F := Ideal) x0 x1 (ix3 n l d) = upBack x1 0 (fun l k => x0 (ix3 n l k)) 0 l.val l.isLt d := by
  have h : val_main_v31 (F := Ideal) x0 x1 (ix3 n l d)
      = val_main_v12 (F := Ideal) x0 x1 (ix3 n ⟨2 + l.val, by omega⟩ d) := by
    pointwise [val_main_v31]
  rw [h, ext_at]
  unfold upBack
  by_cases q : 0 ≤ l.val
  · rw [dif_pos (by show 2 ≤ 2 + l.val; omega), if_pos q, gate_at]
    refine congrArg (fun l => upGate x1 0 (fun k => x0 (ix3 n l k)) d) (Fin.ext ?_)
    show 2 + l.val - 2 = l.val - 0
    omega
  · rw [dif_neg (by show ¬ 2 ≤ 2 + l.val; omega), if_neg q]

/-- The rows handed out, at a sequence, a row and a column. -/
theorem last_at (x0 : FVec Ideal S8x2048x1024 .f32) (x1 : FVec Ideal S2x1024x5632 .f32) (n s : Fin 8) (d : Fin 2816) : val_main_v39 (F := Ideal) x0 x1 (ix3 n s d)
    = tailAt (fun l k => x0 (ix3 n l k)) 0 x1 s d := by
  have h : val_main_v39 (F := Ideal) x0 x1 (ix3 n s d)
      = val_main_v12 (F := Ideal) x0 x1 (ix3 n ⟨2042 + s.val, by omega⟩ d) := by
    pointwise [val_main_v39]
  refine h.trans ((ext_at ..).trans ?_)
  rw [dif_pos (by show 2 ≤ 2042 + s.val; omega), gate_at]
  refine congrArg (fun l => upGate x1 0 (fun k => x0 (ix3 n l k)) d) (Fin.ext ?_)
  show 2042 + s.val - 2 = 2040 + s.val
  omega

/-- The rows handed out. -/
theorem tail_at (x0 : FVec Ideal S8x2048x1024 .f32) (x1 : FVec Ideal S2x1024x5632 .f32) : val_main_v39 (F := Ideal) x0 x1 = tailRes (fun n l k => x0 (ix3 n l k)) 0 x1 := by
  funext i
  exact (congrArg (val_main_v39 (F := Ideal) x0 x1) (eq_ix3 i)).trans (last_at _ _ (i 0) (i 1) (i 2))

/-- The convolution of the gate projection. -/
theorem conv_at (x0 : FVec Ideal S8x2048x1024 .f32) (x1 : FVec Ideal S2x1024x5632 .f32) (x3 : FVec Ideal S2x3x2816 .f32) (x4 : FVec Ideal S2x2816 .f32) (n : Fin 8) (l : Fin 2048) (d : Fin 2816) :
    val_main_v35 (F := Ideal) x0 x1 x3 x4 (ix3 n l d)
      = conv3 (x4 (ix2 0 d)) (x3 (ix3 0 0 d)) (x3 (ix3 0 1 d)) (x3 (ix3 0 2 d))
          (val_main_v15 (F := Ideal) x0 x1 (ix3 n l d)) (val_main_v24 (F := Ideal) x0 x1 (ix3 n l d)) (val_main_v31 (F := Ideal) x0 x1 (ix3 n l d)) := by
  pointwise [val_main_v3, val_main_v4, val_main_v5, val_main_v6, val_main_v13, val_main_v14, val_main_v16, val_main_v17, val_main_v18, val_main_v19, val_main_v20, val_main_v21, val_main_v22, val_main_v23, val_main_v25, val_main_v26, val_main_v27, val_main_v28, val_main_v29, val_main_v30, val_main_v32, val_main_v33, val_main_v34, val_main_v35, conv3]

/-- The gated unit. -/
theorem glu_at (x0 : FVec Ideal S8x2048x1024 .f32) (x1 : FVec Ideal S2x1024x5632 .f32) (x3 : FVec Ideal S2x3x2816 .f32) (x4 : FVec Ideal S2x2816 .f32) (n : Fin 8) (l : Fin 2048) (d : Fin 2816) :
    val_main_v37 (F := Ideal) x0 x1 x3 x4 (ix3 n l d)
      = glu (val_main_v35 (F := Ideal) x0 x1 x3 x4 (ix3 n l d)) (val_main_v11 (F := Ideal) x0 x1 (ix3 n l d)) := by
  pointwise [val_main_call0_v0, val_main_call0_v1, val_main_call0_cst, val_main_call0_v2, val_main_call0_v3, val_main_call0_cst_0, val_main_call0_v4, val_main_call0_v5, val_main_v36, val_main_v37, glu, Ideal.logistic]

/-- The layer's row before its normalisation. -/
theorem res_at (x0 : FVec Ideal S8x2048x1024 .f32) (x1 : FVec Ideal S2x1024x5632 .f32) (x2 : FVec Ideal S2x2816x1024 .f32) (x3 : FVec Ideal S2x3x2816 .f32) (x4 : FVec Ideal S2x2816 .f32) (n : Fin 8) (l : Fin 2048) (j : Fin 1024) :
    val_main_v42 (F := Ideal) x0 x1 x2 x3 x4 (ix3 n l j)
      = alpha * x0 (ix3 n l j) + ∑ d, val_main_v37 (F := Ideal) x0 x1 x3 x4 (ix3 n l d) * x2 (ix3 0 d j) := by
  pointwise [val_main_v7, val_main_v8, val_main_v38, val_main_cst_0, val_main_v40, val_main_v41, val_main_v42]

/-- The layer's row. -/
theorem norm_at (x0 : FVec Ideal S8x2048x1024 .f32) (x1 : FVec Ideal S2x1024x5632 .f32) (x2 : FVec Ideal S2x2816x1024 .f32) (x3 : FVec Ideal S2x3x2816 .f32) (x4 : FVec Ideal S2x2816 .f32) (x5 x6 : FVec Ideal S2x1024 .f32) (n : Fin 8) (l : Fin 2048) (j : Fin 1024) :
    val_main_v70 (F := Ideal) x0 x1 x2 x3 x4 x5 x6 (ix3 n l j)
      = lnRow (fun i => val_main_v42 (F := Ideal) x0 x1 x2 x3 x4 (ix3 n l i)) (fun i => x5 (ix2 0 i)) (fun i => x6 (ix2 0 i)) j := by
  pointwise [val_main_v43, val_main_v44, val_main_v45, val_main_v46, val_main_cst_1, val_main_v47, val_main_v48, val_main_cst_2, val_main_v49, val_main_v50, val_main_v51, val_main_v52, val_main_v53, val_main_cst_3, val_main_v54, val_main_v55, val_main_cst_4, val_main_v56, val_main_v57, val_main_v58, val_main_v59, val_main_cst_5, val_main_v60, val_main_v61, val_main_v62, val_main_v63, val_main_v64, val_main_v65, val_main_v66, val_main_v67, val_main_v68, val_main_v69, val_main_v70, lnRow, rowMean]

/-- The layer at every token. -/
theorem row_at (x0 : FVec Ideal S8x2048x1024 .f32) (x1 : FVec Ideal S2x1024x5632 .f32) (x2 : FVec Ideal S2x2816x1024 .f32) (x3 : FVec Ideal S2x3x2816 .f32) (x4 : FVec Ideal S2x2816 .f32) (x5 x6 : FVec Ideal S2x1024 .f32) (n : Fin 8) (l : Fin 2048) (j : Fin 1024) :
    val_main_v70 (F := Ideal) x0 x1 x2 x3 x4 x5 x6 (ix3 n l j)
      = ffnAt (fun l k => x0 (ix3 n l k)) 0 x1 x2 x3 x4 x5 x6 l j := by
  rw [norm_at]
  unfold ffnAt ffnRow
  refine lnRow_congr (fun i => ?_) (fun _ => rfl) (fun _ => rfl) j
  rw [res_at]
  refine congrArg (fun z : EReal => alpha * x0 (ix3 n l i) + z) (Finset.sum_congr rfl fun d _ => ?_)
  rw [glu_at, conv_at, back2_at, back1_at, back0_at, lin_at]
  rfl

/-- The layer's result. -/
theorem out_at (x0 : FVec Ideal S8x2048x1024 .f32) (x1 : FVec Ideal S2x1024x5632 .f32) (x2 : FVec Ideal S2x2816x1024 .f32) (x3 : FVec Ideal S2x3x2816 .f32) (x4 : FVec Ideal S2x2816 .f32) (x5 x6 : FVec Ideal S2x1024 .f32) : val_main_v71 (F := Ideal) x0 x1 x2 x3 x4 x5 x6
    = ffnRes (fun n l k => x0 (ix3 n l k)) 0 x1 x2 x3 x4 x5 x6 := by
  funext i
  have h0 : (i 0).val < 16384 := (i 0).isLt
  have h1 : (i 1).val < 1024 := (i 1).isLt
  refine (val_main_v71_apply (F := Ideal) x0 x1 x2 x3 x4 x5 x6 i).trans ?_
  refine (congrArg (val_main_v70 (F := Ideal) x0 x1 x2 x3 x4 x5 x6) (eq_ix3 _)).trans ?_
  refine (row_at x0 x1 x2 x3 x4 x5 x6 (idx_main_v71 i 0) (idx_main_v71 i 1) (idx_main_v71 i 2)).trans ?_
  refine (ffnRes_at (fun n l k => x0 (ix3 n l k)) 0 x1 x2 x3 x4 x5 x6 i (idx_main_v71 i 0) (idx_main_v71 i 1) (idx_main_v71 i 2) ?_ ?_).symm
  · show (i 0).val = 2048 * (((i 0).val * 1024 + (i 1).val) / 2097152) + ((i 0).val * 1024 + (i 1).val) / 1024 % 2048
    omega
  · show (i 1).val = ((i 0).val * 1024 + (i 1).val) % 1024
    omega

end Cert.Reference0Ideal.Value0
-- ==== Proof.FfnClaim0.lean ====
module

public import proofs.«01_k».proof.Defs
public import proofs.«01_k».proof.Proof.Gen.Kernel0Ideal.Frame
public import proofs.«01_k».proof.Proof.Gen.Reference0Ideal.Run
public import proofs.«01_k».proof.Proof.FfnFinal0
public import proofs.«01_k».proof.Proof.FfnRef0
public import Idealize.ShloMosaic.Lib.Claim

@[expose] public section

set_option maxRecDepth 16384

noncomputable section

open Idealize.ShloMosaic Idealize.ShloMosaic.TcCoe Idealize.SL.Sem

namespace Cert.Layer0

/-- The reference's run, its two results the feed-forward layer and the last rows of the gate projection. -/
theorem refRun (m : (ℓ : Loc Cert.Reference0Ideal.nD Cert.Reference0Ideal.τ Cert.Reference0Ideal.sig) → Buf (Elt Ideal) ℓ) (ρ : Dev Cert.Reference0Ideal.nD → PrngReg) :
    θ_run (Cert.Reference0Ideal.defs (F := Ideal)) (onTc (τ := Cert.Reference0Ideal.τ) (Cert.Reference0Ideal.main (F := Ideal))) ⟨m, fun _ => 0, ρ⟩ fun r => ∀ c : Dev Cert.Reference0Ideal.nD,
      r.2.mem ((c.tc : Thread Cert.Reference0Ideal.nD Cert.Reference0Ideal.τ).loc Cert.Reference0Ideal.main_v71)
        = Cert.Ffn.ffnRes (fun n l k => (m ((c.tc : Thread Cert.Reference0Ideal.nD Cert.Reference0Ideal.τ).loc Cert.Reference0Ideal.main_arg0)) (ix3 n l k)) 0 (m ((c.tc : Thread Cert.Reference0Ideal.nD Cert.Reference0Ideal.τ).loc Cert.Reference0Ideal.main_arg1)) (m ((c.tc : Thread Cert.Reference0Ideal.nD Cert.Reference0Ideal.τ).loc Cert.Reference0Ideal.main_arg2)) (m ((c.tc : Thread Cert.Reference0Ideal.nD Cert.Reference0Ideal.τ).loc Cert.Reference0Ideal.main_arg3)) (m ((c.tc : Thread Cert.Reference0Ideal.nD Cert.Reference0Ideal.τ).loc Cert.Reference0Ideal.main_arg4)) (m ((c.tc : Thread Cert.Reference0Ideal.nD Cert.Reference0Ideal.τ).loc Cert.Reference0Ideal.main_arg5)) (m ((c.tc : Thread Cert.Reference0Ideal.nD Cert.Reference0Ideal.τ).loc Cert.Reference0Ideal.main_arg6))
      ∧ r.2.mem ((c.tc : Thread Cert.Reference0Ideal.nD Cert.Reference0Ideal.τ).loc Cert.Reference0Ideal.main_v39)
        = Cert.Ffn.tailRes (fun n l k => (m ((c.tc : Thread Cert.Reference0Ideal.nD Cert.Reference0Ideal.τ).loc Cert.Reference0Ideal.main_arg0)) (ix3 n l k)) 0 (m ((c.tc : Thread Cert.Reference0Ideal.nD Cert.Reference0Ideal.τ).loc Cert.Reference0Ideal.main_arg1))
      ∧ r.2.mem ((c.tc : Thread Cert.Reference0Ideal.nD Cert.Reference0Ideal.τ).loc Cert.Reference0Ideal.main_arg0) = (m ((c.tc : Thread Cert.Reference0Ideal.nD Cert.Reference0Ideal.τ).loc Cert.Reference0Ideal.main_arg0))
      ∧ r.2.mem ((c.tc : Thread Cert.Reference0Ideal.nD Cert.Reference0Ideal.τ).loc Cert.Reference0Ideal.main_arg1) = (m ((c.tc : Thread Cert.Reference0Ideal.nD Cert.Reference0Ideal.τ).loc Cert.Reference0Ideal.main_arg1))
      ∧ r.2.mem ((c.tc : Thread Cert.Reference0Ideal.nD Cert.Reference0Ideal.τ).loc Cert.Reference0Ideal.main_arg2) = (m ((c.tc : Thread Cert.Reference0Ideal.nD Cert.Reference0Ideal.τ).loc Cert.Reference0Ideal.main_arg2))
      ∧ r.2.mem ((c.tc : Thread Cert.Reference0Ideal.nD Cert.Reference0Ideal.τ).loc Cert.Reference0Ideal.main_arg3) = (m ((c.tc : Thread Cert.Reference0Ideal.nD Cert.Reference0Ideal.τ).loc Cert.Reference0Ideal.main_arg3))
      ∧ r.2.mem ((c.tc : Thread Cert.Reference0Ideal.nD Cert.Reference0Ideal.τ).loc Cert.Reference0Ideal.main_arg4) = (m ((c.tc : Thread Cert.Reference0Ideal.nD Cert.Reference0Ideal.τ).loc Cert.Reference0Ideal.main_arg4))
      ∧ r.2.mem ((c.tc : Thread Cert.Reference0Ideal.nD Cert.Reference0Ideal.τ).loc Cert.Reference0Ideal.main_arg5) = (m ((c.tc : Thread Cert.Reference0Ideal.nD Cert.Reference0Ideal.τ).loc Cert.Reference0Ideal.main_arg5))
      ∧ r.2.mem ((c.tc : Thread Cert.Reference0Ideal.nD Cert.Reference0Ideal.τ).loc Cert.Reference0Ideal.main_arg6) = (m ((c.tc : Thread Cert.Reference0Ideal.nD Cert.Reference0Ideal.τ).loc Cert.Reference0Ideal.main_arg6)) :=
  (θ_run (Cert.Reference0Ideal.defs (F := Ideal)) _ _).mono (fun _ h c =>
    ⟨(h c).1.trans ((Cert.Reference0Ideal.Read.val_main_v71_eq (F := Ideal) m c).trans ((Cert.Reference0Ideal.Value0.out_at (m ((c.tc : Thread Cert.Reference0Ideal.nD Cert.Reference0Ideal.τ).loc Cert.Reference0Ideal.main_arg0)) (m ((c.tc : Thread Cert.Reference0Ideal.nD Cert.Reference0Ideal.τ).loc Cert.Reference0Ideal.main_arg1)) (m ((c.tc : Thread Cert.Reference0Ideal.nD Cert.Reference0Ideal.τ).loc Cert.Reference0Ideal.main_arg2)) (m ((c.tc : Thread Cert.Reference0Ideal.nD Cert.Reference0Ideal.τ).loc Cert.Reference0Ideal.main_arg3)) (m ((c.tc : Thread Cert.Reference0Ideal.nD Cert.Reference0Ideal.τ).loc Cert.Reference0Ideal.main_arg4)) (m ((c.tc : Thread Cert.Reference0Ideal.nD Cert.Reference0Ideal.τ).loc Cert.Reference0Ideal.main_arg5)) (m ((c.tc : Thread Cert.Reference0Ideal.nD Cert.Reference0Ideal.τ).loc Cert.Reference0Ideal.main_arg6))))),
     (h c).2.1.trans ((Cert.Reference0Ideal.Read.val_main_v39_eq (F := Ideal) (m ((c.tc : Thread Cert.Reference0Ideal.nD Cert.Reference0Ideal.τ).loc Cert.Reference0Ideal.main_arg0)) (m ((c.tc : Thread Cert.Reference0Ideal.nD Cert.Reference0Ideal.τ).loc Cert.Reference0Ideal.main_arg1))).trans ((Cert.Reference0Ideal.Value0.tail_at (m ((c.tc : Thread Cert.Reference0Ideal.nD Cert.Reference0Ideal.τ).loc Cert.Reference0Ideal.main_arg0)) (m ((c.tc : Thread Cert.Reference0Ideal.nD Cert.Reference0Ideal.τ).loc Cert.Reference0Ideal.main_arg1))))),
     (h c).2.2⟩) (Cert.Reference0Ideal.Value.run (F := Ideal) m ρ)

/-- The call and the mathematics of feed-forward layer 0 end with equal results. -/
theorem algebraic : Cert.algebraic_Kernel0Ideal_Reference0Ideal (hKernel0Ideal := Cert.Kernel0Ideal.Gen.facts) (hReference0Ideal := Cert.Reference0Ideal.Gen.facts) := by
  pair_intro
  · run_from Cert.Kernel0Ideal.Gen.run_main m g
  · run_from refRun m' g'
    · exact (Cert.Kernel0Ideal.Value0.final7 m c).symm
    · exact (Cert.Kernel0Ideal.Value0.final8 m c).symm

end Cert.Layer0
-- ==== Proof.EvenMath.lean ====
module

public import proofs.«01_k».proof.Proof.FfnSpec

@[expose] public section

noncomputable section

open Idealize.ShloMosaic

namespace Cert.Even

/-- A value that is a real number, neither of the infinities. -/
def Real' (a : EReal) : Prop := ∃ r : ℝ, a = (r : EReal)

theorem Real'.coe (r : ℝ) : Real' (r : EReal) := ⟨r, rfl⟩

/-- Sums of real numbers are real. -/
theorem Real'.add {a b : EReal} (ha : Real' a) (hb : Real' b) : Real' (a + b) := by
  obtain ⟨x, rfl⟩ := ha; obtain ⟨y, rfl⟩ := hb; exact ⟨x + y, (EReal.coe_add x y).symm⟩

/-- Products of real numbers are real. -/
theorem Real'.mul {a b : EReal} (ha : Real' a) (hb : Real' b) : Real' (a * b) := by
  obtain ⟨x, rfl⟩ := ha; obtain ⟨y, rfl⟩ := hb; exact ⟨x * y, (EReal.coe_mul x y).symm⟩

/-- The opposite of a real number is real. -/
theorem Real'.neg {a : EReal} (ha : Real' a) : Real' (-a) := by
  obtain ⟨x, rfl⟩ := ha; exact ⟨-x, (EReal.coe_neg x).symm⟩

/-- A finite sum of coerced reals is the coerced sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A finite sum of real numbers is real. -/
theorem Real'.sum {ι : Type} (s : Finset ι) (f : ι → EReal) (h : ∀ i, Real' (f i)) : Real' (∑ i ∈ s, f i) := by
  choose g hg using h
  exact ⟨∑ i ∈ s, g i, by rw [← coe_sum]; exact Finset.sum_congr rfl fun i _ => hg i⟩

/-- The decay over `n` steps at rate `lg`. -/
def dk (lg : ℝ) (n : ℕ) : ℝ := Real.exp ((n : ℝ) * lg)

/-- Decays compose. -/
theorem dk_add (lg : ℝ) (a b : ℕ) : dk lg a * dk lg b = dk lg (a + b) := by
  unfold dk
  rw [← Real.exp_add, ← add_mul, Nat.cast_add]

variable (lg : ℝ) (q k v : ℕ → Fin 128 → ℝ)

/-- The retention state after `n` tokens: every earlier key and value, decayed to the present. -/
def stR (n : ℕ) (d e : Fin 128) : ℝ := ∑ m ∈ Finset.range n, k m d * dk lg (n - 1 - m) * v m e

/-- The retention of token `l` over a sequence of `N` tokens. -/
def outR (N l : ℕ) (e : Fin 128) : ℝ :=
  ∑ m ∈ Finset.range N, ((∑ d, q l d * k m d) * (if m ≤ l then dk lg (l - m) else 0)) * v m e

/-- One chunk of 256 tokens moves the state forward. -/
theorem stR_step (c : ℕ) (d e : Fin 128) : stR lg k v (256 * c + 256) d e
    = dk lg 256 * stR lg k v (256 * c) d e + ∑ j ∈ Finset.range 256, (k (256 * c + j) d * dk lg (255 - j)) * v (256 * c + j) e := by
  unfold stR
  rw [Finset.sum_range_add, Finset.mul_sum]
  congr 1
  · refine Finset.sum_congr rfl fun m hm => ?_
    have h : m < 256 * c := Finset.mem_range.mp hm
    rw [show 256 * c + 256 - 1 - m = 256 + (256 * c - 1 - m) by omega, ← dk_add]
    ring
  · refine Finset.sum_congr rfl fun j hj => ?_
    have h : j < 256 := Finset.mem_range.mp hj
    rw [show 256 * c + 256 - 1 - (256 * c + j) = 255 - j by omega]

/-- The retention of a token of chunk `c`: the part inside the chunk and the part read off the state. -/
theorem outR_split (s r i : ℕ) (hi : i < 256) (e : Fin 128) : outR lg q k v (s + 256 + r) (s + i) e
    = (∑ j ∈ Finset.range 256, ((∑ d, q (s + i) d * k (s + j) d) * (if j ≤ i then dk lg (i - j) else 0)) * v (s + j) e)
      + ∑ d, (q (s + i) d * dk lg (i + 1)) * stR lg k v s d e := by
  unfold outR stR
  rw [Finset.sum_range_add, Finset.sum_range_add]
  have z : (∑ x ∈ Finset.range r, ((∑ d, q (s + i) d * k (s + 256 + x) d)
      * (if s + 256 + x ≤ s + i then dk lg (s + i - (s + 256 + x)) else 0)) * v (s + 256 + x) e) = 0 :=
    Finset.sum_eq_zero fun x _ => by rw [if_neg (by omega)]; ring
  rw [z, add_zero, add_comm]
  congr 1
  · refine Finset.sum_congr rfl fun j hj => ?_
    by_cases h : j ≤ i
    · rw [if_pos h, if_pos (by omega), show s + i - (s + j) = i - j by omega]
    · rw [if_neg h, if_neg (by omega)]
  · simp only [Finset.mul_sum]
    rw [Finset.sum_comm]
    refine Finset.sum_congr rfl fun m hm => ?_
    have h : m < s := Finset.mem_range.mp hm
    rw [if_pos (by omega), show s + i - m = (i + 1) + (s - 1 - m) by omega, ← dk_add, Finset.sum_mul, Finset.sum_mul]
    refine Finset.sum_congr rfl fun d _ => ?_
    ring

/-- The same over the problem's 2048 tokens. -/
theorem outR_chunk (c i : ℕ) (hc : c < 8) (hi : i < 256) (e : Fin 128) : outR lg q k v 2048 (256 * c + i) e
    = (∑ j ∈ Finset.range 256, ((∑ d, q (256 * c + i) d * k (256 * c + j) d) * (if j ≤ i then dk lg (i - j) else 0)) * v (256 * c + j) e)
      + ∑ d, (q (256 * c + i) d * dk lg (i + 1)) * stR lg k v (256 * c) d e := by
  have h := outR_split lg q k v (256 * c) (2048 - (256 * c + 256)) i hi e
  rwa [Nat.add_sub_cancel' (by omega)] at h

end Cert.Even
-- ==== Proof.EvenSpec.lean ====
module

public import proofs.«01_k».proof.Proof.EvenMath
public import Idealize.ShloMosaic.Lib.IdealHost
public import Idealize.ShloMosaic.Lib.WordCmp
public import Idealize.ShloMosaic.Lib.DynamicIndex

@[expose] public section

noncomputable section

open Idealize.ShloMosaic Cert.Ffn

namespace Cert.Even

/-- The constant 2. -/
theorem lit_two : Ideal.ofBits .f32 0x40000000#32 = ((2 : ℝ) : EReal) := by
  simp [Ideal.ofBits, Ideal.ieee, -EReal.coe_mul, -EReal.coe_neg]; norm_num

/-- The constant minus five. -/
theorem lit_m5 : Ideal.ofBits .f32 0xC0A00000#32 = ((-5 : ℝ) : EReal) := by
  simp [Ideal.ofBits, Ideal.ieee, -EReal.coe_mul, -EReal.coe_neg]; norm_num

/-- The constant 64. -/
theorem lit_64 : Ideal.ofBits .f32 0x42800000#32 = ((64 : ℝ) : EReal) := by
  simp [Ideal.ofBits, Ideal.ieee, -EReal.coe_mul, -EReal.coe_neg]; norm_num

/-- The constant 255. -/
theorem lit_255 : Ideal.ofBits .f32 0x437F0000#32 = ((255 : ℝ) : EReal) := by
  simp [Ideal.ofBits, Ideal.ieee, -EReal.coe_mul, -EReal.coe_neg]; norm_num

/-- The constant 256. -/
theorem lit_256 : Ideal.ofBits .f32 0x43800000#32 = ((256 : ℝ) : EReal) := by
  simp [Ideal.ofBits, Ideal.ieee, -EReal.coe_mul, -EReal.coe_neg]; norm_num

/-- The constant 2047. -/
theorem lit_2047 : Ideal.ofBits .f32 0x44FFE000#32 = ((2047 : ℝ) : EReal) := by
  simp [Ideal.ofBits, Ideal.ieee, -EReal.coe_mul, -EReal.coe_neg]; norm_num

/-- The constant ten thousand. -/
theorem lit_theta : Ideal.ofBits .f32 0x461C4000#32 = ((10000 : ℝ) : EReal) := by
  simp [Ideal.ofBits, Ideal.ieee, -EReal.coe_mul, -EReal.coe_neg]; norm_num

/-- The constant the key scale. -/
theorem lit_scale : Ideal.ofBits .f32 0x3DB504F3#32 = ((11863283 / 2 ^ 27 : ℝ) : EReal) := by
  simp [Ideal.ofBits, Ideal.ieee, -EReal.coe_mul, -EReal.coe_neg]; norm_num

/-- A position's number, as a float. -/
theorem pos_eq (n : ℕ) (hn : n < 2048) : FloatOps.sitofp (F := Ideal) .f32 (BitVec.ofNat 32 n) = ((n : ℝ) : EReal) := by
  show (((BitVec.ofNat 32 n).toInt : ℝ) : EReal) = _
  rw [show (BitVec.ofNat 32 n).toInt = (n : ℤ) by
    rw [BitVec.toInt_eq_toNat_of_lt (by rw [BitVec.toNat_ofNat]; omega), BitVec.toNat_ofNat, Nat.mod_eq_of_lt (by omega)]]
  rfl

/-- The logarithm of a head's decay per token. -/
def lgR (h : ℕ) : ℝ := Real.log (1 - Real.rpow 2 (-5 - (h : ℝ)))

/-- The logarithm of a head's decay, as the programs compute it. -/
theorem lg_eq (h : ℕ) : Ideal.log (1 - Ideal.pow (Ideal.ofBits .f32 0x40000000#32) (Ideal.ofBits .f32 0xC0A00000#32 - (((h : ℝ)) : EReal)))
    = ((lgR h : ℝ) : EReal) := by
  rw [lit_two, lit_m5, ← EReal.coe_sub]
  have e : Ideal.pow ((2 : ℝ) : EReal) ((-5 - (h : ℝ) : ℝ) : EReal) = ((Real.rpow 2 (-5 - (h : ℝ)) : ℝ) : EReal) := rfl
  rw [e, ← EReal.coe_one, ← EReal.coe_sub]
  have p : ¬ (1 - Real.rpow 2 (-5 - (h : ℝ)) ≤ 0) := by
    have : Real.rpow 2 (-5 - (h : ℝ)) < 1 := Real.rpow_lt_one_of_one_lt_of_neg (by norm_num) (by have : (0 : ℝ) ≤ h := Nat.cast_nonneg h; linarith)
    linarith
  show (if 1 - Real.rpow 2 (-5 - (h : ℝ)) ≤ 0 then (⊥ : EReal) else ((Real.log (1 - Real.rpow 2 (-5 - (h : ℝ))) : ℝ) : EReal)) = _
  rw [if_neg p]; rfl

/-- The rotary angle of position `l` in plane `i`. -/
def angR (l i : ℕ) : ℝ := (l : ℝ) * Real.rpow 10000 (-(i : ℝ) * (1 / 64))

/-- The rotary angle, as the programs compute it. -/
theorem ang_eq (l i : ℕ) : (((l : ℝ)) : EReal) * Ideal.pow (Ideal.ofBits .f32 0x461C4000#32) (Ideal.div (-(((i : ℝ)) : EReal)) (Ideal.ofBits .f32 0x42800000#32))
    = ((angR l i : ℝ) : EReal) := by
  rw [lit_theta, lit_64, Ideal.div_coe (by norm_num), ← EReal.coe_neg, ← EReal.coe_mul]
  have e : Ideal.pow ((10000 : ℝ) : EReal) ((-(i : ℝ) * (1 / 64) : ℝ) : EReal) = ((Real.rpow 10000 (-(i : ℝ) * (1 / 64)) : ℝ) : EReal) := rfl
  rw [e, ← EReal.coe_mul]; rfl

/-- The exponential of a number of tokens times a head's decay. -/
theorem exp_eq (n : ℕ) (lg : ℝ) : Ideal.exp (((n : ℝ) : EReal) * (lg : EReal)) = ((dk lg n : ℝ) : EReal) := by
  rw [← EReal.coe_mul]; rfl

/-- The cosine of a rotary angle. -/
def cosT (l i : ℕ) : EReal := ((Real.cos (angR l i) : ℝ) : EReal)

/-- The sine of a rotary angle. -/
def sinT (l i : ℕ) : EReal := ((Real.sin (angR l i) : ℝ) : EReal)

/-- The decay between tokens `l` and `m` of a sequence, zero for later tokens. -/
def decT (lg : ℝ) (l m : ℕ) : EReal := (((if m ≤ l then dk lg (l - m) else 0) : ℝ) : EReal)

/-- The decay between two tokens, as the programs compute it: a comparison, a maximum and an exponential. -/
theorem dec_eq (lg : ℝ) (l m : ℕ) (z : EReal) (hz : z = 0) :
    (if z ≤ ((l : ℝ) : EReal) - ((m : ℝ) : EReal) then Ideal.exp (max (((l : ℝ) : EReal) - ((m : ℝ) : EReal)) z * (lg : EReal)) else z)
      = decT lg l m := by
  subst hz
  unfold decT
  rw [← EReal.coe_sub, ← EReal.coe_zero]
  by_cases h : m ≤ l
  · have e : ((l : ℝ) - (m : ℝ)) = ((l - m : ℕ) : ℝ) := (Nat.cast_sub h).symm
    have p : (0 : ℝ) ≤ ((l - m : ℕ) : ℝ) := Nat.cast_nonneg _
    rw [if_pos h, e, if_pos (EReal.coe_le_coe_iff.2 p), max_eq_left (EReal.coe_le_coe_iff.2 p), exp_eq]
  · have p : (l : ℝ) - (m : ℝ) < 0 := by
      have : (l : ℝ) < (m : ℝ) := by exact_mod_cast (Nat.lt_of_not_le h)
      linarith
    rw [if_neg h, if_neg (by rw [EReal.coe_le_coe_iff]; exact not_le.2 p)]

/-- Rotary embedding of one row at position `l`. -/
def rot (l : ℕ) (f : Fin 128 → EReal) (d : Fin 128) : EReal :=
  if h : d.val < 64 then f d * cosT l d.val + f ⟨d.val + 64, by omega⟩ * -sinT l d.val
  else f d * cosT l (d.val - 64) + f ⟨d.val - 64, by omega⟩ * sinT l (d.val - 64)

/-- The scale of the keys, as the programs' constant. -/
abbrev kscale : EReal := Ideal.ofBits .f32 0x3DB504F3#32

/-- The length of a head's row, as the programs' constant. -/
abbrev hwidth : EReal := Ideal.ofBits .f32 0x43000000#32

/-- The constant added to a head's variance. -/
abbrev geps : EReal := Ideal.ofBits .f32 0x358637BD#32

/-- The normalisation of one head's row with gain `g`, and its gate. -/
def gnRow (o gate g : Fin 128 → EReal) (e : Fin 128) : EReal :=
  gate e * Ideal.logistic (gate e)
    * ((o e - Ideal.div (∑ d, o d) hwidth)
        * Ideal.rsqrt (Ideal.div (∑ d, (o d - Ideal.div (∑ d, o d) hwidth) * (o d - Ideal.div (∑ d, o d) hwidth)) hwidth + geps) * g e)

/-- The same rows give the same normalised row. -/
theorem gnRow_congr {o o' gate gate' g g' : Fin 128 → EReal} (ho : ∀ e, o e = o' e) (hg : ∀ e, gate e = gate' e) (hn : ∀ e, g e = g' e)
    (e : Fin 128) : gnRow o gate g e = gnRow o' gate' g' e := by
  obtain rfl : o = o' := funext ho
  obtain rfl : gate = gate' := funext hg
  obtain rfl : g = g' := funext hn
  rfl

/-- The sum of `b 0` and the next `n` values, in order. -/
def acc (b : ℕ → EReal) : ℕ → EReal
  | 0 => b 0
  | n + 1 => acc b n + b (n + 1)

/-- The same values give the same sum. -/
theorem acc_congr {b b' : ℕ → EReal} (n : ℕ) (h : ∀ i ≤ n, b i = b' i) : acc b n = acc b' n := by
  induction n with
  | zero => exact h 0 le_rfl
  | succ n ih => exact Ideal.add_congr (ih fun i hi => h i (by omega)) (h (n + 1) le_rfl)

/-- One pooled value: the mean of the last `w` rows (fewer at the sequence's start) less the present row. -/
def poolRow (w : EReal) (n : ℕ) (pos : EReal) (b : ℕ → EReal) : EReal := Ideal.div (acc b n) (min w (pos + 1)) - b 0

section Arrays

variable (x : FVec Ideal ⟨3, ![8, 2048, 1024]⟩ .f32) (w : FVec Ideal ⟨3, ![1, 1024, 2560]⟩ .f32)
  (pw : FVec Ideal ⟨4, ![1, 4, 128, 128]⟩ .f32) (ps gn : FVec Ideal ⟨2, ![1, 512]⟩ .f32)
  (wo : FVec Ideal ⟨3, ![1, 1024, 1024]⟩ .f32) (lg lb : FVec Ideal ⟨2, ![2, 1024]⟩ .f32)

/-- The input projection of token `l` of sequence `n`. -/
def hAt (n : Fin 8) (l : Fin 2048) (c : Fin 2560) : EReal := ∑ k : Fin 1024, x (ix3 n l k) * w (ix3 0 k c)

/-- The pooled part of the projection `i` tokens before token `l`, zero before the sequence's start. -/
def backAt (n : Fin 8) (l : Fin 2048) (c : Fin 512) (i : ℕ) : EReal :=
  if h : i ≤ l.val then hAt x w n ⟨l.val - i, by omega⟩ ⟨c.val, by omega⟩ else 0

/-- One column of the pooling mixer, of the group `g` with window `wd` (`k + 1` rows). -/
def poolAt (wd : EReal) (k : ℕ) (g : Fin 4) (n : Fin 8) (l : Fin 2048) (e : Fin 128) : EReal :=
  (∑ c : Fin 128, poolRow wd k ((l.val : ℝ) : EReal) (backAt x w n l ⟨128 * g.val + c.val, by omega⟩) * pw (ix4 0 g c e))
    * ps (ix2 0 ⟨128 * g.val + e.val, by omega⟩)

/-- The query of token `l`, rotated. -/
def qAt (n : Fin 8) (h : Fin 4) (l : Fin 2048) : Fin 128 → EReal :=
  rot l.val fun d => hAt x w n l ⟨512 + 128 * h.val + d.val, by omega⟩

/-- The key of token `l`, rotated and scaled. -/
def kAt (n : Fin 8) (h : Fin 4) (l : Fin 2048) (d : Fin 128) : EReal :=
  rot l.val (fun d => hAt x w n l ⟨1024 + 128 * h.val + d.val, by omega⟩) d * kscale

/-- The value of token `l`. -/
def vAt (n : Fin 8) (h : Fin 4) (l : Fin 2048) (e : Fin 128) : EReal := hAt x w n l ⟨1536 + 128 * h.val + e.val, by omega⟩

/-- The gate of token `l`. -/
def gAt (n : Fin 8) (h : Fin 4) (l : Fin 2048) (e : Fin 128) : EReal := hAt x w n l ⟨2048 + 128 * h.val + e.val, by omega⟩

/-- The retention of token `l`: the decayed scores with every token times their values. -/
def retAt (n : Fin 8) (h : Fin 4) (l : Fin 2048) (e : Fin 128) : EReal :=
  ∑ m : Fin 2048, ((∑ d, qAt x w n h l d * kAt x w n h m d) * decT (lgR h.val) l.val m.val) * vAt x w n h m e

/-- The state left after the sequence. -/
def stateAt (n : Fin 8) (h : Fin 4) (d e : Fin 128) : EReal :=
  ∑ m : Fin 2048, (kAt x w n h m d * ((dk (lgR h.val) (2047 - m.val) : ℝ) : EReal)) * vAt x w n h m e

/-- One head's normalised and gated retention. -/
def headAt (n : Fin 8) (h : Fin 4) (l : Fin 2048) (e : Fin 128) : EReal :=
  gnRow (retAt x w n h l) (gAt x w n h l) (fun e => gn (ix2 0 ⟨128 * h.val + e.val, by omega⟩)) e

/-- The mixed columns of token `l`: the pooling groups, then the retention heads. -/
def mixAt (n : Fin 8) (l : Fin 2048) (p : Fin 1024) : EReal :=
  if h0 : p.val < 128 then poolAt x w pw ps (Ideal.ofBits .f32 0x40000000#32) 1 0 n l ⟨p.val, h0⟩
  else if h1 : p.val < 256 then poolAt x w pw ps (Ideal.ofBits .f32 0x40800000#32) 3 1 n l ⟨p.val - 128, by omega⟩
  else if h2 : p.val < 384 then poolAt x w pw ps (Ideal.ofBits .f32 0x41000000#32) 7 2 n l ⟨p.val - 256, by omega⟩
  else if h3 : p.val < 512 then poolAt x w pw ps (Ideal.ofBits .f32 0x41800000#32) 15 3 n l ⟨p.val - 384, by omega⟩
  else headAt x w gn n ⟨(p.val - 512) / 128, by omega⟩ l ⟨(p.val - 512) % 128, by omega⟩

/-- The mixer's output row with its residual and normalisation. -/
def evenAt (n : Fin 8) (l : Fin 2048) (j : Fin 1024) : EReal :=
  lnRow (fun i => alpha * x (ix3 n l i) + ∑ p, mixAt x w pw ps gn n l p * wo (ix3 0 p i))
    (fun i => lg (ix2 0 i)) (fun i => lb (ix2 0 i)) j

end Arrays

end Cert.Even
-- ==== Proof.EvenTab.lean ====
module

public import proofs.«01_k».proof.Proof.Gen.KernelEvenIdeal.Frame
public import proofs.«01_k».proof.Proof.EvenSpec
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelEvenIdeal.Value1

open Cert.KernelEvenIdeal Cert.KernelEvenIdeal.Gen Cert.Ffn Cert.Even

variable (m : (ℓ : Loc nD τ sig) → Buf (Elt Ideal) ℓ)

/-- The blocks' places at every grid point. -/
theorem idx : ∀ t : Fin cfg0.N, win0_0.index t = ![t.val, 0] ∧ win0_1.index t = ![0, 0] ∧ win0_2.index t = ![t.val % 4, 0] ∧ win0_3.index t = ![t.val % 4, 0] ∧ win0_4.index t = ![0, 0, 0] ∧ win0_5.index t = ![0, 0, 0] ∧ win0_6.index t = ![0, 0, 0] ∧ win0_7.index t = ![0, 0, 0] ∧ win0_8.index t = ![0, 0, 0] ∧ win0_9.index t = ![0, 0] ∧ win0_10.index t = ![0, 0] ∧ win0_11.index t = ![0, 0] ∧ win0_12.index t = ![0, 0] ∧ win0_13.index t = ![0, 0] ∧ win0_14.index t = ![t.val, 0] ∧ win0_15.index t = ![t.val / 4, 0, 0] ∧ win0_16.index t = ![t.val / 4, 0, 0, 0] ∧ t.val < 32 :=
  (by decide +kernel : ∀ t : Fin grid0.N, _)

/-- There are 32 grid points. -/
theorem lt32 (t : Fin cfg0.N) : t.val < 32 := (idx t).2.2.2.2.2.2.2.2.2.2.2.2.2.2.2.2.2

/-- The sequence a grid point works on. -/
abbrev seqOf (t : Fin cfg0.N) : Fin 8 := ⟨t.val / 4, by have := lt32 t; omega⟩

/-- The token at row `r` of a grid point's tile. -/
abbrev tokOf (t : Fin cfg0.N) (r : Fin 512) : Fin 2048 := ⟨512 * (t.val % 4) + r.val, by omega⟩

/-- The rotary angles, as the program computes them. -/
def angV : FVec Ideal S2048x64 .f32 :=
  mulf (broadcastInDim S2048x64 ![0, 1] bcast_S2048x1_S2048x64_0_1 (broadcastInDim S2048x1 ![0] bcast_S2048_S2048x1_0 (sitofp .f32 (iotaInDim S2048 32 0))))
    (broadcastInDim S2048x64 ![0, 1] bcast_S1x64_S2048x64_0_1 (broadcastInDim S1x64 ![1] bcast_S64_S1x64_1
      (Host.powf (F := Ideal) (φ := .f32) (broadcastInDim S64 ![] bcast_S_S64 (constant S_ .f32 0x461C4000#32))
        (Host.divf (Host.negf (sitofp .f32 (iotaInDim S64 32 0))) (broadcastInDim S64 ![] bcast_S_S64 (constant S_ .f32 0x42800000#32))))))

/-- A rotary angle. -/
theorem angV_at (l : Fin 2048) (i : Fin 64) : angV (ix2 l i) = ((angR l.val i.val : ℝ) : EReal) := by
  unfold angV
  pointwise
  rw [pos_eq _ l.isLt, pos_eq _ (by omega), ang_eq]

/-- The logarithms of the heads' decays, as the program computes them. -/
def lgV : FVec Ideal S4 .f32 :=
  Host.log (F := Ideal) (φ := .f32) (subf (broadcastInDim S4 ![] bcast_S_S4 (constant S_ .f32 0x3F800000#32))
    (Host.powf (F := Ideal) (φ := .f32) (broadcastInDim S4 ![] bcast_S_S4 (constant S_ .f32 0x40000000#32))
      (subf (broadcastInDim S4 ![] bcast_S_S4 (constant S_ .f32 0xC0A00000#32)) (sitofp .f32 (iotaInDim S4 32 0)))))

/-- A head's logarithm. -/
theorem lgV_at (h : Fin 4) : lgV (ix1 h) = ((lgR h.val : ℝ) : EReal) := by
  unfold lgV
  pointwise
  rw [pos_eq _ (by omega), lg_eq]

/-- The cosines and sines of the angles. -/
def cosV : FVec Ideal S2048x128 .f32 :=
  concatenate S2048x128 1 [⟨S2048x64, (Host.cos angV : FVec Ideal S2048x64 .f32)⟩, ⟨S2048x64, (Host.cos angV : FVec Ideal S2048x64 .f32)⟩] concatenates_S2048x64_S2048x64_S2048x128_d1

/-- The sines of the angles, negated in the first half. -/
def sinV : FVec Ideal S2048x128 .f32 :=
  concatenate S2048x128 1 [⟨S2048x64, (Host.negf (Host.sin angV) : FVec Ideal S2048x64 .f32)⟩, ⟨S2048x64, (Host.sin angV : FVec Ideal S2048x64 .f32)⟩] concatenates_S2048x64_S2048x64_S2048x128_d1

/-- A token number's row. -/
def rowV : FVec Ideal S256 .f32 := sitofp .f32 (iotaInDim S256 32 0)

/-- The differences of token numbers. -/
def diffV : FVec Ideal S256x256 .f32 :=
  subf (broadcastInDim S256x256 ![0, 1] bcast_S256x1_S256x256_0_1 (broadcastInDim S256x1 ![0] bcast_S256_S256x1_0 rowV))
    (broadcastInDim S256x256 ![0, 1] bcast_S1x256_S256x256_0_1 (broadcastInDim S1x256 ![1] bcast_S256_S1x256_1 rowV))

/-- The decays inside a chunk. -/
def decV : FVec Ideal S4x256x256 .f32 :=
  select (broadcastInDim S4x256x256 ![1, 2] bcast_S256x256_S4x256x256_1_2 (cmpf (F := Ideal) (φ := .f32) .oge diffV (broadcastInDim S256x256 ![] bcast_S_S256x256 (constant S_ .f32 0x00000000#32))))
    (Host.exp (F := Ideal) (φ := .f32) (mulf (broadcastInDim S4x256x256 ![0, 1, 2] bcast_S1x256x256_S4x256x256_0_1_2 (broadcastInDim S1x256x256 ![1, 2] bcast_S256x256_S1x256x256_1_2
        (maximumf (F := Ideal) (φ := .f32) diffV (broadcastInDim S256x256 ![] bcast_S_S256x256 (constant S_ .f32 0x00000000#32)))))
      (broadcastInDim S4x256x256 ![0, 1, 2] bcast_S4x1x1_S4x256x256_0_1_2 (broadcastInDim S4x1x1 ![0] bcast_S4_S4x1x1_0 lgV))))
    (broadcastInDim S4x256x256 ![] bcast_S_S4x256x256 (id (constant S_ .f32 0x00000000#32)))

/-- The decays of a chunk's start to its rows. -/
def qdV : FVec Ideal S4x256x128 .f32 :=
  broadcastInDim S4x256x128 ![0, 1, 2] bcast_S4x256x1_S4x256x128_0_1_2 (broadcastInDim S4x256x1 ![0, 1] bcast_S4x256_S4x256x1_0_1
    (Host.exp (F := Ideal) (φ := .f32) (mulf (broadcastInDim S4x256 ![0, 1] bcast_S1x256_S4x256_0_1 (broadcastInDim S1x256 ![1] bcast_S256_S1x256_1
        (addf rowV (broadcastInDim S256 ![] bcast_S_S256 (constant S_ .f32 0x3F800000#32)))))
      (broadcastInDim S4x256 ![0, 1] bcast_S4x1_S4x256_0_1 (broadcastInDim S4x1 ![0] bcast_S4_S4x1_0 lgV)))))

/-- The decays of a chunk's rows to its end. -/
def kdV : FVec Ideal S4x256x128 .f32 :=
  broadcastInDim S4x256x128 ![0, 1, 2] bcast_S4x256x1_S4x256x128_0_1_2 (broadcastInDim S4x256x1 ![0, 1] bcast_S4x256_S4x256x1_0_1
    (Host.exp (F := Ideal) (φ := .f32) (mulf (broadcastInDim S4x256 ![0, 1] bcast_S1x256_S4x256_0_1 (broadcastInDim S1x256 ![1] bcast_S256_S1x256_1
        (subf (broadcastInDim S256 ![] bcast_S_S256 (constant S_ .f32 0x437F0000#32)) rowV)))
      (broadcastInDim S4x256 ![0, 1] bcast_S4x1_S4x256_0_1 (broadcastInDim S4x1 ![0] bcast_S4_S4x1_0 lgV)))))

/-- The decay over a chunk. -/
def gcV : FVec Ideal S4x1x128 .f32 :=
  broadcastInDim S4x1x128 ![0, 1, 2] bcast_S4x1x1_S4x1x128_0_1_2 (broadcastInDim S4x1x1 ![0] bcast_S4_S4x1x1_0
    (Host.exp (F := Ideal) (φ := .f32) (mulf (broadcastInDim S4 ![] bcast_S_S4 (constant S_ .f32 0x43800000#32)) lgV)))

/-- A cosine of the table. -/
theorem cosV_at (l : Fin 2048) (d : Fin 128) : cosV (ix2 l d) = if d.val < 64 then cosT l.val d.val else cosT l.val (d.val - 64) := by
  unfold cosV
  pointwise
  by_cases h : d.val < 64
  · rw [dif_pos h, if_pos h, angV_at]; rfl
  · rw [dif_neg h, if_neg h, angV_at]; rfl

/-- A sine of the table. -/
theorem sinV_at (l : Fin 2048) (d : Fin 128) : sinV (ix2 l d) = if d.val < 64 then -sinT l.val d.val else sinT l.val (d.val - 64) := by
  unfold sinV
  pointwise
  by_cases h : d.val < 64
  · rw [dif_pos h, if_pos h, angV_at]; rfl
  · rw [dif_neg h, if_neg h, angV_at]; rfl

/-- A decay of the table. -/
theorem decV_at (h : Fin 4) (i j : Fin 256) : decV (ix3 h i j) = decT (lgR h.val) i.val j.val := by
  have z : id (constant (F := Ideal) S_ .f32 0#32) ix0 = 0 := by
    show constant (F := Ideal) S_ .f32 0#32 ix0 = 0
    pointwise [S_]
  unfold decV diffV rowV
  pointwise
  rw [z, pos_eq _ (by omega), pos_eq _ (by omega), lgV_at]
  exact dec_eq (lgR h.val) i.val j.val 0 rfl

/-- A decay from a chunk's start. -/
theorem qdV_at (h : Fin 4) (i : Fin 256) (d : Fin 128) : qdV (ix3 h i d) = ((dk (lgR h.val) (i.val + 1) : ℝ) : EReal) := by
  unfold qdV rowV
  pointwise
  rw [pos_eq _ (by omega), lgV_at, ← exp_eq, ← EReal.coe_one, ← EReal.coe_add]
  push_cast
  rfl

/-- A decay to a chunk's end. -/
theorem kdV_at (h : Fin 4) (i : Fin 256) (d : Fin 128) : kdV (ix3 h i d) = ((dk (lgR h.val) (255 - i.val) : ℝ) : EReal) := by
  unfold kdV rowV
  pointwise
  rw [pos_eq _ (by omega), lgV_at, lit_255, ← EReal.coe_sub,
    (by rw [Nat.cast_sub (show i.val ≤ 255 by omega)]; norm_num : (255 : ℝ) - (i.val : ℝ) = ((255 - i.val : ℕ) : ℝ)), exp_eq]

/-- A decay over a chunk. -/
theorem gcV_at (h : Fin 4) (d : Fin 128) : gcV (ix3 h 0 d) = ((dk (lgR h.val) 256 : ℝ) : EReal) := by
  unfold gcV
  pointwise
  rw [lgV_at, lit_256, ← exp_eq]
  norm_num

/-- The rows. -/
theorem V_v0 (c : Dev nD) : V m c main_v0 = shapeCast S16384x1024 (m ((c : Thread nD τ).loc main_arg0)) shapeCasts_S8x2048x1024_S16384x1024 := by
  rfl

/-- The projection's weights. -/
theorem V_v2 (c : Dev nD) : V m c main_v2 = truncf (F := Ideal) (φ := .f32) .bf16 (shapeCast S1024x2560 (m ((c : Thread nD τ).loc main_arg1)) shapeCasts_S1x1024x2560_S1024x2560) bitsLt_bf16_f32 := by
  rfl

/-- The cosine table. -/
theorem V_v61 (c : Dev nD) : V m c main_v61 = cosV := by
  rfl

/-- The sine table. -/
theorem V_v63 (c : Dev nD) : V m c main_v63 = sinV := by
  rfl

/-- The decay table. -/
theorem V_v41 (c : Dev nD) : V m c main_v41 = decV := by
  rfl

/-- The decays from a chunk's start. -/
theorem V_v65 (c : Dev nD) : V m c main_v65 = qdV := by
  rfl

/-- The decays to a chunk's end. -/
theorem V_v67 (c : Dev nD) : V m c main_v67 = kdV := by
  rfl

/-- The decays over a chunk. -/
theorem V_v69 (c : Dev nD) : V m c main_v69 = gcV := by
  rfl

/-- The pooling weights. -/
theorem V_v71 (c : Dev nD) : V m c main_v71 = truncf (F := Ideal) (φ := .f32) .bf16 (shapeCast S4x128x128 (m ((c : Thread nD τ).loc main_arg2)) shapeCasts_S1x4x128x128_S4x128x128) bitsLt_bf16_f32 := by
  rfl

/-- The pooling scale. -/
theorem V_v80 (c : Dev nD) : V m c main_v80 = shapeCast S1x512 (shapeCast S512 (m ((c : Thread nD τ).loc main_arg3)) shapeCasts_S1x512_S512) shapeCasts_S512_S1x512 := by
  rfl

/-- The heads' gain. -/
theorem V_v81 (c : Dev nD) : V m c main_v81 = shapeCast S1x512 (shapeCast S512 (m ((c : Thread nD τ).loc main_arg4)) shapeCasts_S1x512_S512) shapeCasts_S512_S1x512 := by
  rfl

/-- The output weights. -/
theorem V_v75 (c : Dev nD) : V m c main_v75 = truncf (F := Ideal) (φ := .f32) .bf16 (shapeCast S1024x1024 (m ((c : Thread nD τ).loc main_arg5)) shapeCasts_S1x1024x1024_S1024x1024) bitsLt_bf16_f32 := by
  rfl

/-- The norm's gain. -/
theorem V_v82 (c : Dev nD) : V m c main_v82 = shapeCast S1x1024 (shapeCast S1024 (extractStridedSlice S1x1024 ![0, 0] (m ((c : Thread nD τ).loc main_arg6)) slices_S2x1024_S1x1024_0_0) shapeCasts_S1x1024_S1024) shapeCasts_S1024_S1x1024 := by
  rfl

/-- The norm's shift. -/
theorem V_v83 (c : Dev nD) : V m c main_v83 = shapeCast S1x1024 (shapeCast S1024 (extractStridedSlice S1x1024 ![0, 0] (m ((c : Thread nD τ).loc main_arg7)) slices_S2x1024_S1x1024_0_0) shapeCasts_S1x1024_S1024) shapeCasts_S1024_S1x1024 := by
  rfl

/-- Reading the rows' flattening. -/
theorem rd0 (A : FVec Ideal S8x2048x1024 .f32) (t : Fin cfg0.N) (r : Fin 512) (e : Fin 1024) :
    shapeCast S16384x1024 A shapeCasts_S8x2048x1024_S16384x1024 (ix2 ⟨512 * t.val + r.val, by have := lt32 t; omega⟩ e) = A (ix3 (seqOf t) (tokOf t r) e) := by
  have := lt32 t
  pointwise
  refine congrArg A ?_
  refine (eq_ix3 _).trans ?_
  have a : (512 * t.val + r.val) / 2048 = t.val / 4 := by omega
  have b : (512 * t.val + r.val) % 2048 = 512 * (t.val % 4) + r.val := by omega
  congr 1 <;> first | rfl | (apply Fin.ext; first | exact a | exact b | simp [a, b])

/-- Reading the projection weights' flattening. -/
theorem rd1 (A : FVec Ideal S1x1024x2560 .f32) (r : Fin 1024) (e : Fin 2560) :
    truncf (F := Ideal) (φ := .f32) .bf16 (shapeCast S1024x2560 A shapeCasts_S1x1024x2560_S1024x2560) bitsLt_bf16_f32 (ix2 r e) = A (ix3 0 r e) := by
  pointwise

/-- Reading the pooling weights' flattening. -/
theorem rd8 (A : FVec Ideal S1x4x128x128 .f32) (h : Fin 4) (r : Fin 128) (e : Fin 128) :
    truncf (F := Ideal) (φ := .f32) .bf16 (shapeCast S4x128x128 A shapeCasts_S1x4x128x128_S4x128x128) bitsLt_bf16_f32 (ix3 h r e) = A (ix4 0 h r e) := by
  pointwise

/-- Reading the output weights' flattening. -/
theorem rd11 (A : FVec Ideal S1x1024x1024 .f32) (r : Fin 1024) (e : Fin 1024) :
    truncf (F := Ideal) (φ := .f32) .bf16 (shapeCast S1024x1024 A shapeCasts_S1x1024x1024_S1024x1024) bitsLt_bf16_f32 (ix2 r e) = A (ix3 0 r e) := by
  pointwise

/-- Window 0's block at an index. -/
theorem blk0 (c : Dev nD) (t : Fin cfg0.N) (r : Fin 512) (e : Fin 1024) : (show FVec Ideal S512x1024 .f32 from iblk m c 0 t) (ix2 r e) = (m ((c : Thread nD τ).loc main_arg0)) (ix3 (seqOf t) (tokOf t r) e) := by
  show V m c main_v0 ((win0_0.blk t).view.emb (ix2 r e)) = _
  rw [show (win0_0.blk t).view.emb (ix2 r e) = (ix2 ⟨512 * t.val + r.val, by have := lt32 t; omega⟩ e) from by blk_ext [idx t], V_v0]
  exact rd0 _ t r e

/-- Window 1's block at an index. -/
theorem blk1 (c : Dev nD) (t : Fin cfg0.N) (r : Fin 1024) (e : Fin 2560) : (show FVec Ideal S1024x2560 .bf16 from iblk m c 1 t) (ix2 r e) = (m ((c : Thread nD τ).loc main_arg1)) (ix3 0 r e) := by
  show V m c main_v2 ((win0_1.blk t).view.emb (ix2 r e)) = _
  rw [show (win0_1.blk t).view.emb (ix2 r e) = (ix2 r e) from by blk_ext [idx t], V_v2]
  exact rd1 _ r e

/-- Window 2's block at an index. -/
theorem blk2 (c : Dev nD) (t : Fin cfg0.N) (r : Fin 512) (e : Fin 128) : (show FVec Ideal S512x128 .f32 from iblk m c 2 t) (ix2 r e) = cosV (ix2 (tokOf t r) e) := by
  show V m c main_v61 ((win0_2.blk t).view.emb (ix2 r e)) = _
  rw [show (win0_2.blk t).view.emb (ix2 r e) = (ix2 ⟨512 * (t.val % 4) + r.val, by omega⟩ e) from by blk_ext [idx t], V_v61]

/-- Window 3's block at an index. -/
theorem blk3 (c : Dev nD) (t : Fin cfg0.N) (r : Fin 512) (e : Fin 128) : (show FVec Ideal S512x128 .f32 from iblk m c 3 t) (ix2 r e) = sinV (ix2 (tokOf t r) e) := by
  show V m c main_v63 ((win0_3.blk t).view.emb (ix2 r e)) = _
  rw [show (win0_3.blk t).view.emb (ix2 r e) = (ix2 ⟨512 * (t.val % 4) + r.val, by omega⟩ e) from by blk_ext [idx t], V_v63]

/-- Window 4's block at an index. -/
theorem blk4 (c : Dev nD) (t : Fin cfg0.N) (h : Fin 4) (r : Fin 256) (e : Fin 256) : (show FVec Ideal S4x256x256 .f32 from iblk m c 4 t) (ix3 h r e) = decV (ix3 h r e) := by
  show V m c main_v41 ((win0_4.blk t).view.emb (ix3 h r e)) = _
  rw [show (win0_4.blk t).view.emb (ix3 h r e) = (ix3 h r e) from by blk_ext [idx t], V_v41]

/-- Window 5's block at an index. -/
theorem blk5 (c : Dev nD) (t : Fin cfg0.N) (h : Fin 4) (r : Fin 256) (e : Fin 128) : (show FVec Ideal S4x256x128 .f32 from iblk m c 5 t) (ix3 h r e) = qdV (ix3 h r e) := by
  show V m c main_v65 ((win0_5.blk t).view.emb (ix3 h r e)) = _
  rw [show (win0_5.blk t).view.emb (ix3 h r e) = (ix3 h r e) from by blk_ext [idx t], V_v65]

/-- Window 6's block at an index. -/
theorem blk6 (c : Dev nD) (t : Fin cfg0.N) (h : Fin 4) (r : Fin 256) (e : Fin 128) : (show FVec Ideal S4x256x128 .f32 from iblk m c 6 t) (ix3 h r e) = kdV (ix3 h r e) := by
  show V m c main_v67 ((win0_6.blk t).view.emb (ix3 h r e)) = _
  rw [show (win0_6.blk t).view.emb (ix3 h r e) = (ix3 h r e) from by blk_ext [idx t], V_v67]

/-- Window 7's block at an index. -/
theorem blk7 (c : Dev nD) (t : Fin cfg0.N) (h : Fin 4) (e : Fin 128) : (show FVec Ideal S4x1x128 .f32 from iblk m c 7 t) (ix3 h 0 e) = gcV (ix3 h 0 e) := by
  show V m c main_v69 ((win0_7.blk t).view.emb (ix3 h 0 e)) = _
  rw [show (win0_7.blk t).view.emb (ix3 h 0 e) = (ix3 h 0 e) from by blk_ext [idx t], V_v69]

/-- Window 8's block at an index. -/
theorem blk8 (c : Dev nD) (t : Fin cfg0.N) (h : Fin 4) (r : Fin 128) (e : Fin 128) : (show FVec Ideal S4x128x128 .bf16 from iblk m c 8 t) (ix3 h r e) = (m ((c : Thread nD τ).loc main_arg2)) (ix4 0 h r e) := by
  show V m c main_v71 ((win0_8.blk t).view.emb (ix3 h r e)) = _
  rw [show (win0_8.blk t).view.emb (ix3 h r e) = (ix3 h r e) from by blk_ext [idx t], V_v71]
  exact rd8 _ h r e

/-- Window 9's block at an index. -/
theorem blk9 (c : Dev nD) (t : Fin cfg0.N) (e : Fin 512) : (show FVec Ideal S1x512 .f32 from iblk m c 9 t) (ix2 0 e) = (m ((c : Thread nD τ).loc main_arg3)) (ix2 0 e) := by
  show V m c main_v80 ((win0_9.blk t).view.emb (ix2 0 e)) = _
  rw [show (win0_9.blk t).view.emb (ix2 0 e) = (ix2 0 e) from by blk_ext [idx t], V_v80]
  pointwise

/-- Window 10's block at an index. -/
theorem blk10 (c : Dev nD) (t : Fin cfg0.N) (e : Fin 512) : (show FVec Ideal S1x512 .f32 from iblk m c 10 t) (ix2 0 e) = (m ((c : Thread nD τ).loc main_arg4)) (ix2 0 e) := by
  show V m c main_v81 ((win0_10.blk t).view.emb (ix2 0 e)) = _
  rw [show (win0_10.blk t).view.emb (ix2 0 e) = (ix2 0 e) from by blk_ext [idx t], V_v81]
  pointwise

/-- Window 11's block at an index. -/
theorem blk11 (c : Dev nD) (t : Fin cfg0.N) (r : Fin 1024) (e : Fin 1024) : (show FVec Ideal S1024x1024 .bf16 from iblk m c 11 t) (ix2 r e) = (m ((c : Thread nD τ).loc main_arg5)) (ix3 0 r e) := by
  show V m c main_v75 ((win0_11.blk t).view.emb (ix2 r e)) = _
  rw [show (win0_11.blk t).view.emb (ix2 r e) = (ix2 r e) from by blk_ext [idx t], V_v75]
  exact rd11 _ r e

/-- Window 12's block at an index. -/
theorem blk12 (c : Dev nD) (t : Fin cfg0.N) (e : Fin 1024) : (show FVec Ideal S1x1024 .f32 from iblk m c 12 t) (ix2 0 e) = (m ((c : Thread nD τ).loc main_arg6)) (ix2 0 e) := by
  show V m c main_v82 ((win0_12.blk t).view.emb (ix2 0 e)) = _
  rw [show (win0_12.blk t).view.emb (ix2 0 e) = (ix2 0 e) from by blk_ext [idx t], V_v82]
  pointwise

/-- Window 13's block at an index. -/
theorem blk13 (c : Dev nD) (t : Fin cfg0.N) (e : Fin 1024) : (show FVec Ideal S1x1024 .f32 from iblk m c 13 t) (ix2 0 e) = (m ((c : Thread nD τ).loc main_arg7)) (ix2 0 e) := by
  show V m c main_v83 ((win0_13.blk t).view.emb (ix2 0 e)) = _
  rw [show (win0_13.blk t).view.emb (ix2 0 e) = (ix2 0 e) from by blk_ext [idx t], V_v83]
  pointwise

end Cert.KernelEvenIdeal.Value1
-- ==== Proof.EvenState.lean ====
module

public import proofs.«01_k».proof.Proof.EvenSpec

@[expose] public section

noncomputable section

open Idealize.ShloMosaic Cert.Ffn

namespace Cert.Even

/-- A rotated real row is real. -/
theorem rot_real (l : ℕ) (f : Fin 128 → EReal) (hf : ∀ d, Real' (f d)) (d : Fin 128) : Real' (rot l f d) := by
  unfold rot
  by_cases h : d.val < 64
  · rw [dif_pos h]
    exact ((hf _).mul (Real'.coe _)).add ((hf _).mul (Real'.coe _).neg)
  · rw [dif_neg h]
    exact ((hf _).mul (Real'.coe _)).add ((hf _).mul (Real'.coe _))

/-- The real number of a place's value at a token's number. -/
def numAt (f : Fin 2048 → Fin 128 → EReal) (l : ℕ) (d : Fin 128) : ℝ := if h : l < 2048 then (f ⟨l, h⟩ d).toReal else 0

/-- A real value is its number. -/
theorem numAt_eq (f : Fin 2048 → Fin 128 → EReal) (hf : ∀ l d, Real' (f l d)) (l : Fin 2048) (d : Fin 128) :
    f l d = ((numAt f l.val d : ℝ) : EReal) := by
  unfold numAt
  rw [dif_pos l.isLt]
  obtain ⟨r, hr⟩ := hf l d
  rw [hr]
  rfl

section Arrays

variable (x : FVec Ideal ⟨3, ![8, 2048, 1024]⟩ .f32) (w : FVec Ideal ⟨3, ![1, 1024, 2560]⟩ .f32)

/-- A projection of real rows by real weights is real. -/
theorem hAt_real (hx : ∀ i, Real' (x i)) (hw : ∀ i, Real' (w i)) (n : Fin 8) (l : Fin 2048) (c : Fin 2560) : Real' (hAt x w n l c) :=
  Real'.sum _ _ fun k => (hx _).mul (hw _)

/-- The queries' numbers. -/
abbrev qN (n : Fin 8) (h : Fin 4) : ℕ → Fin 128 → ℝ := numAt (qAt x w n h)
/-- The keys' numbers. -/
abbrev kN (n : Fin 8) (h : Fin 4) : ℕ → Fin 128 → ℝ := numAt (kAt x w n h)
/-- The values' numbers. -/
abbrev vN (n : Fin 8) (h : Fin 4) : ℕ → Fin 128 → ℝ := numAt (vAt x w n h)

/-- The state before token `N`. -/
def stE (n : Fin 8) (h : Fin 4) (N : ℕ) (d e : Fin 128) : EReal := ((stR (lgR h.val) (kN x w n h) (vN x w n h) N d e : ℝ) : EReal)

/-- Before the first token the state is zero. -/
theorem stE_zero (n : Fin 8) (h : Fin 4) (d e : Fin 128) : stE x w n h 0 d e = 0 := by
  unfold stE stR
  rw [Finset.range_zero, Finset.sum_empty]
  rfl

variable (hx : ∀ i, Real' (x i)) (hw : ∀ i, Real' (w i))
include hx hw

/-- A query is real. -/
theorem q_real (n : Fin 8) (h : Fin 4) (l : Fin 2048) (d : Fin 128) : Real' (qAt x w n h l d) := by
  unfold qAt
  exact rot_real l.val _ (fun d => hAt_real x w hx hw n l _) d

/-- A key is real. -/
theorem k_real (n : Fin 8) (h : Fin 4) (l : Fin 2048) (d : Fin 128) : Real' (kAt x w n h l d) := by
  unfold kAt
  exact (rot_real l.val _ (fun d => hAt_real x w hx hw n l _) d).mul ⟨_, lit_scale⟩

/-- A value is real. -/
theorem v_real (n : Fin 8) (h : Fin 4) (l : Fin 2048) (d : Fin 128) : Real' (vAt x w n h l d) := by
  unfold vAt
  exact hAt_real x w hx hw n l _

/-- A query is its number. -/
theorem q_num (n : Fin 8) (h : Fin 4) (l : Fin 2048) (d : Fin 128) : qAt x w n h l d = ((qN x w n h l.val d : ℝ) : EReal) :=
  numAt_eq (qAt x w n h) (q_real x w hx hw n h) l d

/-- A key is its number. -/
theorem k_num (n : Fin 8) (h : Fin 4) (l : Fin 2048) (d : Fin 128) : kAt x w n h l d = ((kN x w n h l.val d : ℝ) : EReal) :=
  numAt_eq (kAt x w n h) (k_real x w hx hw n h) l d

/-- A value is its number. -/
theorem v_num (n : Fin 8) (h : Fin 4) (l : Fin 2048) (d : Fin 128) : vAt x w n h l d = ((vN x w n h l.val d : ℝ) : EReal) :=
  numAt_eq (vAt x w n h) (v_real x w hx hw n h) l d

/-- A score is the number of its product. -/
theorem score_num (n : Fin 8) (h : Fin 4) (l m : Fin 2048) :
    (∑ d, qAt x w n h l d * kAt x w n h m d) = ((∑ d, qN x w n h l.val d * kN x w n h m.val d : ℝ) : EReal) := by
  rw [← coe_sum]
  refine Finset.sum_congr rfl fun d _ => ?_
  rw [q_num x w hx hw, k_num x w hx hw, EReal.coe_mul]

/-- The retention is the number of its sum. -/
theorem ret_num (n : Fin 8) (h : Fin 4) (l : Fin 2048) (e : Fin 128) :
    retAt x w n h l e = ((outR (lgR h.val) (qN x w n h) (kN x w n h) (vN x w n h) 2048 l.val e : ℝ) : EReal) := by
  unfold retAt outR
  rw [Finset.sum_range, ← coe_sum]
  refine Finset.sum_congr rfl fun m _ => ?_
  rw [score_num x w hx hw, v_num x w hx hw, EReal.coe_mul, EReal.coe_mul]
  rfl

/-- The state after the sequence is the number of its sum. -/
theorem state_num (n : Fin 8) (h : Fin 4) (d e : Fin 128) : stateAt x w n h d e = stE x w n h 2048 d e := by
  unfold stateAt stE stR
  rw [Finset.sum_range, ← coe_sum]
  refine Finset.sum_congr rfl fun m _ => ?_
  rw [k_num x w hx hw, v_num x w hx hw, EReal.coe_mul, EReal.coe_mul]

/-- One chunk's update of the state: the old state decayed by a chunk, and the chunk's keys and values. -/
theorem state_step (n : Fin 8) (h : Fin 4) (c : ℕ) (hc : c < 8) (d e : Fin 128) :
    ((dk (lgR h.val) 256 : ℝ) : EReal) * stE x w n h (256 * c) d e
        + ∑ j : Fin 256, (kAt x w n h ⟨256 * c + j.val, by omega⟩ d * ((dk (lgR h.val) (255 - j.val) : ℝ) : EReal)) * vAt x w n h ⟨256 * c + j.val, by omega⟩ e
      = stE x w n h (256 * c + 256) d e := by
  unfold stE
  rw [stR_step, EReal.coe_add, EReal.coe_mul, Finset.sum_range, ← coe_sum]
  refine congrArg (_ + ·) (Finset.sum_congr rfl fun j _ => ?_)
  rw [k_num x w hx hw, v_num x w hx hw, EReal.coe_mul, EReal.coe_mul]

/-- One chunk's retention: the scores within the chunk, and the state before it. -/
theorem ret_chunk (n : Fin 8) (h : Fin 4) (c : ℕ) (hc : c < 8) (i : Fin 256) (e : Fin 128) :
    (∑ j : Fin 256, ((∑ d, qAt x w n h ⟨256 * c + i.val, by omega⟩ d * kAt x w n h ⟨256 * c + j.val, by omega⟩ d)
          * decT (lgR h.val) i.val j.val) * vAt x w n h ⟨256 * c + j.val, by omega⟩ e)
        + ∑ d, (qAt x w n h ⟨256 * c + i.val, by omega⟩ d * ((dk (lgR h.val) (i.val + 1) : ℝ) : EReal)) * stE x w n h (256 * c) d e
      = retAt x w n h ⟨256 * c + i.val, by omega⟩ e := by
  rw [ret_num x w hx hw, outR_chunk _ _ _ _ c i.val hc i.isLt, EReal.coe_add, Finset.sum_range, ← coe_sum, ← coe_sum]
  refine Ideal.add_congr (Finset.sum_congr rfl fun j _ => ?_) (Finset.sum_congr rfl fun d _ => ?_)
  · rw [score_num x w hx hw, v_num x w hx hw, EReal.coe_mul, EReal.coe_mul]
    rfl
  · rw [q_num x w hx hw, EReal.coe_mul, EReal.coe_mul]
    rfl

end Arrays

end Cert.Even
-- ==== Proof.EvenVec.lean ====
module

public import proofs.«01_k».proof.Proof.Gen.KernelEvenIdeal.Frame
public import proofs.«01_k».proof.Proof.EvenTab
public import proofs.«01_k».proof.Proof.EvenState
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelEvenIdeal.Value1

open Cert.KernelEvenIdeal Cert.KernelEvenIdeal.Gen Cert.Ffn Cert.Even

variable (x : FVec Ideal S8x2048x1024 .f32) (w : FVec Ideal S1x1024x2560 .f32) (pw : FVec Ideal S1x4x128x128 .f32) (ps gn : FVec Ideal S1x512 .f32)
  (wo : FVec Ideal S1x1024x1024 .f32) (lg lb : FVec Ideal S2x1024 .f32)

/-- Row `i` of chunk `k`. -/
abbrev tk (k : Fin 8) (i : Fin 256) : Fin 2048 := ⟨256 * k.val + i.val, by omega⟩

/-- The projected rows of a chunk. -/
def hv (n k : Fin 8) : FVec Ideal S256x2560 .f32 := fun y => hAt x w n (tk k (y 0)) (y 1)

/-- 128 columns of the projected rows, from column `c`. -/
def colv (n k : Fin 8) (c : ℕ) (hc : c + 128 ≤ 2560) : FVec Ideal S256x128 .f32 :=
  fun y => hAt x w n (tk k (y 0)) ⟨c + (y 1).val, by have := (y 1).isLt; change (y 1).val < 128 at this; omega⟩

/-- The pooled columns of the projected rows. -/
def uv (n k : Fin 8) : FVec Ideal S256x512 .f32 :=
  fun y => hAt x w n (tk k (y 0)) ⟨(y 1).val, by have := (y 1).isLt; change (y 1).val < 512 at this; omega⟩

/-- A chunk's cosines. -/
def c2c (k : Fin 8) : FVec Ideal S256x128 .f32 := fun y => cosV (ix2 (tk k (y 0)) (y 1))

/-- A chunk's sines. -/
def s2c (k : Fin 8) : FVec Ideal S256x128 .f32 := fun y => sinV (ix2 (tk k (y 0)) (y 1))

/-- One head's decays inside a chunk. -/
def decc (h : Fin 4) : FVec Ideal S1x256x256 .f32 := fun y => decV (ix3 h (y 1) (y 2))

/-- One head's decays from a chunk's start. -/
def qdc (h : Fin 4) : FVec Ideal S1x256x128 .f32 := fun y => qdV (ix3 h (y 1) (y 2))

/-- One head's decays to a chunk's end. -/
def kdc (h : Fin 4) : FVec Ideal S1x256x128 .f32 := fun y => kdV (ix3 h (y 1) (y 2))

/-- One head's decay over a chunk. -/
def gcc (h : Fin 4) : FVec Ideal S1x1x128 .f32 := fun y => gcV (ix3 h 0 (y 2))

/-- One head's state before chunk `N`. -/
def stc (n : Fin 8) (h : Fin 4) (N : ℕ) : FVec Ideal S1x128x128 .f32 := fun y => stE x w n h (256 * N) (y 1) (y 2)

/-- The same as a matrix. -/
def stm (n : Fin 8) (h : Fin 4) (N : ℕ) : FVec Ideal S128x128 .f32 := fun y => stE x w n h (256 * N) (y 0) (y 1)

/-- One head's queries of a chunk. -/
def qv (n k : Fin 8) (h : Fin 4) : FVec Ideal S256x128 .f32 := fun y => qAt x w n h (tk k (y 0)) (y 1)

/-- One head's keys of a chunk. -/
def kv (n k : Fin 8) (h : Fin 4) : FVec Ideal S256x128 .f32 := fun y => kAt x w n h (tk k (y 0)) (y 1)

/-- One head's values of a chunk. -/
def vb (n k : Fin 8) (h : Fin 4) : FVec Ideal S256x128 .bf16 := fun y => vAt x w n h (tk k (y 0)) (y 1)

/-- One head's retention rows of a chunk. -/
def rv (n k : Fin 8) (h : Fin 4) : FVec Ideal S256x128 .f32 := fun y => retAt x w n h (tk k (y 0)) (y 1)

/-- One head's normalised and gated rows of a chunk. -/
def hdv (n k : Fin 8) (h : Fin 4) : FVec Ideal S256x128 .bf16 := fun y => headAt x w gn n h (tk k (y 0)) (y 1)

/-- One head's gain. -/
def gnv (h : Fin 4) : FVec Ideal S1x128 .f32 := fun y => gn (ix2 0 ⟨128 * h.val + (y 1).val, by have := (y 1).isLt; change (y 1).val < 128 at this; omega⟩)

/-- One group's pooling weights. -/
def pwv (g : Fin 4) : FVec Ideal S1x128x128 .bf16 := fun y => pw (ix4 0 g (y 1) (y 2))

/-- The rows a group pools over: a chunk's rows and the sixteen before them. -/
def exw (n k : Fin 8) (g : Fin 4) : FVec Ideal S272x128 .f32 := fun y =>
  if h : 16 ≤ 256 * k.val + (y 0).val then
    hAt x w n ⟨256 * k.val + (y 0).val - 16, by have := (y 0).isLt; change (y 0).val < 272 at this; omega⟩
      ⟨128 * g.val + (y 1).val, by have := (y 1).isLt; change (y 1).val < 128 at this; omega⟩
  else 0

/-- A chunk's positions. -/
def posv (k : Fin 8) : FVec Ideal S256x1 .f32 := fun y => (((tk k (y 0)).val : ℝ) : EReal)

/-- A group's window. -/
def poolW (g : Fin 4) : EReal :=
  if g = 0 then Ideal.ofBits .f32 0x40000000#32 else if g = 1 then Ideal.ofBits .f32 0x40800000#32
  else if g = 2 then Ideal.ofBits .f32 0x41000000#32 else Ideal.ofBits .f32 0x41800000#32

/-- A group's number of earlier rows. -/
def poolK (g : Fin 4) : ℕ := if g = 0 then 1 else if g = 1 then 3 else if g = 2 then 7 else 15

/-- One group's pooled rows of a chunk. -/
def plv (n k : Fin 8) (g : Fin 4) : FVec Ideal S256x128 .bf16 := fun y => poolAt x w pw ps (poolW g) (poolK g) g n (tk k (y 0)) (y 1)

/-- The mixed rows of a chunk. -/
def mixv (n k : Fin 8) : FVec Ideal S256x1024 .bf16 := fun y => mixAt x w pw ps gn n (tk k (y 0)) (y 1)

/-- The rows of a chunk. -/
def xv (n k : Fin 8) : FVec Ideal S256x1024 .f32 := fun y => x (ix3 n (tk k (y 0)) (y 1))

/-- The output weights. -/
def wov : FVec Ideal S1024x1024 .bf16 := fun y => wo (ix3 0 (y 0) (y 1))

/-- A row of a two-row array, alone. -/
def rowv (a : FVec Ideal S2x1024 .f32) : FVec Ideal S1x1024 .f32 := fun y => a (ix2 0 (y 1))

/-- The normalised rows of a chunk. -/
def ev (n k : Fin 8) : FVec Ideal S256x1024 .f32 := fun y => evenAt x w pw ps gn wo lg lb n (tk k (y 0)) (y 1)

end Cert.KernelEvenIdeal.Value1
-- ==== Proof.EvenRes.lean ====
module

public import proofs.«01_k».proof.Proof.EvenState

@[expose] public section

noncomputable section

open Idealize.ShloMosaic Cert.Ffn

namespace Cert.Even

/-- The mixer's rows, the tokens of the eight sequences one after another. -/
def evenRes (x : FVec Ideal ⟨3, ![8, 2048, 1024]⟩ .f32) (w : FVec Ideal ⟨3, ![1, 1024, 2560]⟩ .f32) (pw : FVec Ideal ⟨4, ![1, 4, 128, 128]⟩ .f32) (ps gn : FVec Ideal ⟨2, ![1, 512]⟩ .f32) (wo : FVec Ideal ⟨3, ![1, 1024, 1024]⟩ .f32) (lg lb : FVec Ideal ⟨2, ![2, 1024]⟩ .f32) : FVec Ideal ⟨2, ![16384, 1024]⟩ .f32 := fun i =>
  evenAt x w pw ps gn wo lg lb ⟨(i 0).val / 2048, by have h : (i 0).val < 16384 := (i 0).isLt; omega⟩ ⟨(i 0).val % 2048, by omega⟩ (i 1)

/-- The last fifteen pooled rows of each sequence. -/
def histRes (x : FVec Ideal ⟨3, ![8, 2048, 1024]⟩ .f32) (w : FVec Ideal ⟨3, ![1, 1024, 2560]⟩ .f32) : FVec Ideal ⟨3, ![8, 15, 512]⟩ .f32 := fun i =>
  hAt x w (i 0) ⟨2033 + (i 1).val, by have h : (i 1).val < 15 := (i 1).isLt; omega⟩ ⟨(i 2).val, by have h : (i 2).val < 512 := (i 2).isLt; omega⟩

/-- The retention state after each sequence. -/
def stRes (x : FVec Ideal ⟨3, ![8, 2048, 1024]⟩ .f32) (w : FVec Ideal ⟨3, ![1, 1024, 2560]⟩ .f32) : FVec Ideal ⟨4, ![8, 4, 128, 128]⟩ .f32 := fun i => stateAt x w (i 0) (i 1) (i 2) (i 3)

/-- The mixer's row at the place of a token. -/
theorem evenRes_at (x : FVec Ideal ⟨3, ![8, 2048, 1024]⟩ .f32) (w : FVec Ideal ⟨3, ![1, 1024, 2560]⟩ .f32) (pw : FVec Ideal ⟨4, ![1, 4, 128, 128]⟩ .f32) (ps gn : FVec Ideal ⟨2, ![1, 512]⟩ .f32) (wo : FVec Ideal ⟨3, ![1, 1024, 1024]⟩ .f32) (lg lb : FVec Ideal ⟨2, ![2, 1024]⟩ .f32) (i : (⟨2, ![16384, 1024]⟩ : Shape).Idx) (n : Fin 8) (l : Fin 2048) (j : Fin 1024)
    (h0 : (i 0).val = 2048 * n.val + l.val) (h1 : (i 1).val = j.val) : evenRes x w pw ps gn wo lg lb i = evenAt x w pw ps gn wo lg lb n l j := by
  unfold evenRes
  have e1 : (⟨(i 0).val / 2048, by have h : (i 0).val < 16384 := (i 0).isLt; omega⟩ : Fin 8) = n := Fin.ext (by show (i 0).val / 2048 = n.val; omega)
  have e2 : (⟨(i 0).val % 2048, by omega⟩ : Fin 2048) = l := Fin.ext (by show (i 0).val % 2048 = l.val; omega)
  have e3 : (i 1 : Fin 1024) = j := Fin.ext h1
  rw [e1, e2]
  exact congrArg _ e3

/-- A pooled row at its place. -/
theorem histRes_at (x : FVec Ideal ⟨3, ![8, 2048, 1024]⟩ .f32) (w : FVec Ideal ⟨3, ![1, 1024, 2560]⟩ .f32) (i : (⟨3, ![8, 15, 512]⟩ : Shape).Idx) (n : Fin 8) (l : Fin 2048) (d : Fin 2560)
    (h0 : (i 0).val = n.val) (h1 : 2033 + (i 1).val = l.val) (h2 : (i 2).val = d.val) : histRes x w i = hAt x w n l d := by
  obtain rfl : i 0 = n := Fin.ext h0
  unfold histRes
  exact congrArg₂ (fun a b => hAt x w (i 0) a b) (Fin.ext h1) (Fin.ext h2)

/-- The state at its place. -/
theorem stRes_at (x : FVec Ideal ⟨3, ![8, 2048, 1024]⟩ .f32) (w : FVec Ideal ⟨3, ![1, 1024, 2560]⟩ .f32) (i : (⟨4, ![8, 4, 128, 128]⟩ : Shape).Idx) (n : Fin 8) (h : Fin 4) (d e : Fin 128)
    (h0 : (i 0).val = n.val) (h1 : (i 1).val = h.val) (h2 : (i 2).val = d.val) (h3 : (i 3).val = e.val) : stRes x w i = stateAt x w n h d e := by
  obtain rfl : i 0 = n := Fin.ext h0
  obtain rfl : i 1 = h := Fin.ext h1
  obtain rfl : i 2 = d := Fin.ext h2
  obtain rfl : i 3 = e := Fin.ext h3
  rfl

end Cert.Even
-- ==== Proof.EvenMix.lean ====
module

public import proofs.«01_k».proof.Proof.Gen.KernelEvenIdeal.Frame
public import proofs.«01_k».proof.Proof.EvenVec
public import proofs.«01_k».proof.Proof.EvenVec
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelEvenIdeal.Value1

open Cert.KernelEvenIdeal Cert.KernelEvenIdeal.Gen Cert.Ffn Cert.Even

variable (x : FVec Ideal S8x2048x1024 .f32) (w : FVec Ideal S1x1024x2560 .f32) (pw : FVec Ideal S1x4x128x128 .f32) (ps gn : FVec Ideal S1x512 .f32)
  (wo : FVec Ideal S1x1024x1024 .f32) (lg lb : FVec Ideal S2x1024 .f32)

variable (x : FVec Ideal S8x2048x1024 .f32) (w : FVec Ideal S1x1024x2560 .f32) (pw : FVec Ideal S1x4x128x128 .f32) (ps : FVec Ideal S1x512 .f32) (gn : FVec Ideal S1x512 .f32)

/-- The mixed columns of pooling group 0. -/
theorem mixP0 (n : Fin 8) (l : Fin 2048) (c : Fin 128) (q : 128 * 0 + c.val < 1024) :
    mixAt x w pw ps gn n l ⟨128 * 0 + c.val, q⟩ = poolAt x w pw ps (poolW 0) (poolK 0) 0 n l c :=
  (dif_pos (show 128 * 0 + c.val < 128 by omega)).trans
    (congrArg (fun d => poolAt x w pw ps (poolW 0) (poolK 0) 0 n l d) (Fin.ext (by show 128 * 0 + c.val = c.val; omega)))

/-- The mixed columns of pooling group 1. -/
theorem mixP1 (n : Fin 8) (l : Fin 2048) (c : Fin 128) (q : 128 * 1 + c.val < 1024) :
    mixAt x w pw ps gn n l ⟨128 * 1 + c.val, q⟩ = poolAt x w pw ps (poolW 1) (poolK 1) 1 n l c :=
  (dif_neg (show ¬128 * 1 + c.val < 128 by omega)).trans ((dif_pos (show 128 * 1 + c.val < 256 by omega)).trans
    (congrArg (fun d => poolAt x w pw ps (poolW 1) (poolK 1) 1 n l d) (Fin.ext (by show 128 * 1 + c.val - 128 = c.val; omega))))

/-- The mixed columns of pooling group 2. -/
theorem mixP2 (n : Fin 8) (l : Fin 2048) (c : Fin 128) (q : 128 * 2 + c.val < 1024) :
    mixAt x w pw ps gn n l ⟨128 * 2 + c.val, q⟩ = poolAt x w pw ps (poolW 2) (poolK 2) 2 n l c :=
  (dif_neg (show ¬128 * 2 + c.val < 128 by omega)).trans ((dif_neg (show ¬128 * 2 + c.val < 256 by omega)).trans ((dif_pos (show 128 * 2 + c.val < 384 by omega)).trans
    (congrArg (fun d => poolAt x w pw ps (poolW 2) (poolK 2) 2 n l d) (Fin.ext (by show 128 * 2 + c.val - 256 = c.val; omega)))))

/-- The mixed columns of pooling group 3. -/
theorem mixP3 (n : Fin 8) (l : Fin 2048) (c : Fin 128) (q : 128 * 3 + c.val < 1024) :
    mixAt x w pw ps gn n l ⟨128 * 3 + c.val, q⟩ = poolAt x w pw ps (poolW 3) (poolK 3) 3 n l c :=
  (dif_neg (show ¬128 * 3 + c.val < 128 by omega)).trans ((dif_neg (show ¬128 * 3 + c.val < 256 by omega)).trans ((dif_neg (show ¬128 * 3 + c.val < 384 by omega)).trans ((dif_pos (show 128 * 3 + c.val < 512 by omega)).trans
    (congrArg (fun d => poolAt x w pw ps (poolW 3) (poolK 3) 3 n l d) (Fin.ext (by show 128 * 3 + c.val - 384 = c.val; omega))))))

/-- The mixed columns of head 0. -/
theorem mixH0 (n : Fin 8) (l : Fin 2048) (c : Fin 128) (q : 512 + c.val < 1024) :
    mixAt x w pw ps gn n l ⟨512 + c.val, q⟩ = headAt x w gn n 0 l c :=
  (dif_neg (show ¬512 + c.val < 128 by omega)).trans ((dif_neg (show ¬512 + c.val < 256 by omega)).trans ((dif_neg (show ¬512 + c.val < 384 by omega)).trans ((dif_neg (show ¬512 + c.val < 512 by omega)).trans (congrArg₂ (fun h d => headAt x w gn n h l d) (Fin.ext (by show (512 + c.val - 512) / 128 = 0; omega)) (Fin.ext (by show (512 + c.val - 512) % 128 = c.val; omega))))))

/-- The mixed columns of head 1. -/
theorem mixH1 (n : Fin 8) (l : Fin 2048) (c : Fin 128) (q : 640 + c.val < 1024) :
    mixAt x w pw ps gn n l ⟨640 + c.val, q⟩ = headAt x w gn n 1 l c :=
  (dif_neg (show ¬640 + c.val < 128 by omega)).trans ((dif_neg (show ¬640 + c.val < 256 by omega)).trans ((dif_neg (show ¬640 + c.val < 384 by omega)).trans ((dif_neg (show ¬640 + c.val < 512 by omega)).trans (congrArg₂ (fun h d => headAt x w gn n h l d) (Fin.ext (by show (640 + c.val - 512) / 128 = 1; omega)) (Fin.ext (by show (640 + c.val - 512) % 128 = c.val; omega))))))

/-- The mixed columns of head 2. -/
theorem mixH2 (n : Fin 8) (l : Fin 2048) (c : Fin 128) (q : 768 + c.val < 1024) :
    mixAt x w pw ps gn n l ⟨768 + c.val, q⟩ = headAt x w gn n 2 l c :=
  (dif_neg (show ¬768 + c.val < 128 by omega)).trans ((dif_neg (show ¬768 + c.val < 256 by omega)).trans ((dif_neg (show ¬768 + c.val < 384 by omega)).trans ((dif_neg (show ¬768 + c.val < 512 by omega)).trans (congrArg₂ (fun h d => headAt x w gn n h l d) (Fin.ext (by show (768 + c.val - 512) / 128 = 2; omega)) (Fin.ext (by show (768 + c.val - 512) % 128 = c.val; omega))))))

/-- The mixed columns of head 3. -/
theorem mixH3 (n : Fin 8) (l : Fin 2048) (c : Fin 128) (q : 896 + c.val < 1024) :
    mixAt x w pw ps gn n l ⟨896 + c.val, q⟩ = headAt x w gn n 3 l c :=
  (dif_neg (show ¬896 + c.val < 128 by omega)).trans ((dif_neg (show ¬896 + c.val < 256 by omega)).trans ((dif_neg (show ¬896 + c.val < 384 by omega)).trans ((dif_neg (show ¬896 + c.val < 512 by omega)).trans (congrArg₂ (fun h d => headAt x w gn n h l d) (Fin.ext (by show (896 + c.val - 512) / 128 = 3; omega)) (Fin.ext (by show (896 + c.val - 512) % 128 = c.val; omega))))))

/-- A piece whose columns do not meet the ones read. -/
theorem mk0_10 (P : FVec Ideal S256x128 .bf16) (L : List (View.Piece (Elt Ideal) S512x1024 .bf16)) (j : ((Rect.unit ![0, 0] ![256, 128] inb_S512x1024_S256x128_0_0) : Rect S512x1024).shape.Idx) :
    View.canon ((⟨(Rect.unit ![0, 128] ![256, 128] inb_S512x1024_S256x128_0_128), P⟩ : View.Piece (Elt Ideal) S512x1024 .bf16) :: L) ((Rect.unit ![0, 0] ![256, 128] inb_S512x1024_S256x128_0_0).idx j) = View.canon L ((Rect.unit ![0, 0] ![256, 128] inb_S512x1024_S256x128_0_0).idx j) :=
  View.canon_cons_of_not_mem _ _ (by
    intro hm
    have a := (Rect.mem_set_unit (inb := inb_S512x1024_S256x128_0_128)).mp hm 1
    have b : (((Rect.unit ![0, 0] ![256, 128] inb_S512x1024_S256x128_0_0) : Rect S512x1024).idx j 1 : ℕ) = 0 + (j 1 : ℕ) := Rect.idx_unit_val _ _ _ _ _
    have d : (j 1 : ℕ) < 128 := (j 1).isLt
    have a0 : 128 ≤ (((Rect.unit ![0, 0] ![256, 128] inb_S512x1024_S256x128_0_0) : Rect S512x1024).idx j 1 : ℕ) := a.1
    omega)

/-- A piece whose columns do not meet the ones read. -/
theorem mk0_20 (P : FVec Ideal S256x128 .bf16) (L : List (View.Piece (Elt Ideal) S512x1024 .bf16)) (j : ((Rect.unit ![0, 0] ![256, 128] inb_S512x1024_S256x128_0_0) : Rect S512x1024).shape.Idx) :
    View.canon ((⟨(Rect.unit ![0, 256] ![256, 128] inb_S512x1024_S256x128_0_256), P⟩ : View.Piece (Elt Ideal) S512x1024 .bf16) :: L) ((Rect.unit ![0, 0] ![256, 128] inb_S512x1024_S256x128_0_0).idx j) = View.canon L ((Rect.unit ![0, 0] ![256, 128] inb_S512x1024_S256x128_0_0).idx j) :=
  View.canon_cons_of_not_mem _ _ (by
    intro hm
    have a := (Rect.mem_set_unit (inb := inb_S512x1024_S256x128_0_256)).mp hm 1
    have b : (((Rect.unit ![0, 0] ![256, 128] inb_S512x1024_S256x128_0_0) : Rect S512x1024).idx j 1 : ℕ) = 0 + (j 1 : ℕ) := Rect.idx_unit_val _ _ _ _ _
    have d : (j 1 : ℕ) < 128 := (j 1).isLt
    have a0 : 256 ≤ (((Rect.unit ![0, 0] ![256, 128] inb_S512x1024_S256x128_0_0) : Rect S512x1024).idx j 1 : ℕ) := a.1
    omega)

/-- A piece whose columns do not meet the ones read. -/
theorem mk0_21 (P : FVec Ideal S256x128 .bf16) (L : List (View.Piece (Elt Ideal) S512x1024 .bf16)) (j : ((Rect.unit ![0, 128] ![256, 128] inb_S512x1024_S256x128_0_128) : Rect S512x1024).shape.Idx) :
    View.canon ((⟨(Rect.unit ![0, 256] ![256, 128] inb_S512x1024_S256x128_0_256), P⟩ : View.Piece (Elt Ideal) S512x1024 .bf16) :: L) ((Rect.unit ![0, 128] ![256, 128] inb_S512x1024_S256x128_0_128).idx j) = View.canon L ((Rect.unit ![0, 128] ![256, 128] inb_S512x1024_S256x128_0_128).idx j) :=
  View.canon_cons_of_not_mem _ _ (by
    intro hm
    have a := (Rect.mem_set_unit (inb := inb_S512x1024_S256x128_0_256)).mp hm 1
    have b : (((Rect.unit ![0, 128] ![256, 128] inb_S512x1024_S256x128_0_128) : Rect S512x1024).idx j 1 : ℕ) = 128 + (j 1 : ℕ) := Rect.idx_unit_val _ _ _ _ _
    have d : (j 1 : ℕ) < 128 := (j 1).isLt
    have a0 : 256 ≤ (((Rect.unit ![0, 128] ![256, 128] inb_S512x1024_S256x128_0_128) : Rect S512x1024).idx j 1 : ℕ) := a.1
    omega)

/-- A piece whose columns do not meet the ones read. -/
theorem mk0_30 (P : FVec Ideal S256x128 .bf16) (L : List (View.Piece (Elt Ideal) S512x1024 .bf16)) (j : ((Rect.unit ![0, 0] ![256, 128] inb_S512x1024_S256x128_0_0) : Rect S512x1024).shape.Idx) :
    View.canon ((⟨(Rect.unit ![0, 384] ![256, 128] inb_S512x1024_S256x128_0_384), P⟩ : View.Piece (Elt Ideal) S512x1024 .bf16) :: L) ((Rect.unit ![0, 0] ![256, 128] inb_S512x1024_S256x128_0_0).idx j) = View.canon L ((Rect.unit ![0, 0] ![256, 128] inb_S512x1024_S256x128_0_0).idx j) :=
  View.canon_cons_of_not_mem _ _ (by
    intro hm
    have a := (Rect.mem_set_unit (inb := inb_S512x1024_S256x128_0_384)).mp hm 1
    have b : (((Rect.unit ![0, 0] ![256, 128] inb_S512x1024_S256x128_0_0) : Rect S512x1024).idx j 1 : ℕ) = 0 + (j 1 : ℕ) := Rect.idx_unit_val _ _ _ _ _
    have d : (j 1 : ℕ) < 128 := (j 1).isLt
    have a0 : 384 ≤ (((Rect.unit ![0, 0] ![256, 128] inb_S512x1024_S256x128_0_0) : Rect S512x1024).idx j 1 : ℕ) := a.1
    omega)

/-- A piece whose columns do not meet the ones read. -/
theorem mk0_31 (P : FVec Ideal S256x128 .bf16) (L : List (View.Piece (Elt Ideal) S512x1024 .bf16)) (j : ((Rect.unit ![0, 128] ![256, 128] inb_S512x1024_S256x128_0_128) : Rect S512x1024).shape.Idx) :
    View.canon ((⟨(Rect.unit ![0, 384] ![256, 128] inb_S512x1024_S256x128_0_384), P⟩ : View.Piece (Elt Ideal) S512x1024 .bf16) :: L) ((Rect.unit ![0, 128] ![256, 128] inb_S512x1024_S256x128_0_128).idx j) = View.canon L ((Rect.unit ![0, 128] ![256, 128] inb_S512x1024_S256x128_0_128).idx j) :=
  View.canon_cons_of_not_mem _ _ (by
    intro hm
    have a := (Rect.mem_set_unit (inb := inb_S512x1024_S256x128_0_384)).mp hm 1
    have b : (((Rect.unit ![0, 128] ![256, 128] inb_S512x1024_S256x128_0_128) : Rect S512x1024).idx j 1 : ℕ) = 128 + (j 1 : ℕ) := Rect.idx_unit_val _ _ _ _ _
    have d : (j 1 : ℕ) < 128 := (j 1).isLt
    have a0 : 384 ≤ (((Rect.unit ![0, 128] ![256, 128] inb_S512x1024_S256x128_0_128) : Rect S512x1024).idx j 1 : ℕ) := a.1
    omega)

/-- A piece whose columns do not meet the ones read. -/
theorem mk0_32 (P : FVec Ideal S256x128 .bf16) (L : List (View.Piece (Elt Ideal) S512x1024 .bf16)) (j : ((Rect.unit ![0, 256] ![256, 128] inb_S512x1024_S256x128_0_256) : Rect S512x1024).shape.Idx) :
    View.canon ((⟨(Rect.unit ![0, 384] ![256, 128] inb_S512x1024_S256x128_0_384), P⟩ : View.Piece (Elt Ideal) S512x1024 .bf16) :: L) ((Rect.unit ![0, 256] ![256, 128] inb_S512x1024_S256x128_0_256).idx j) = View.canon L ((Rect.unit ![0, 256] ![256, 128] inb_S512x1024_S256x128_0_256).idx j) :=
  View.canon_cons_of_not_mem _ _ (by
    intro hm
    have a := (Rect.mem_set_unit (inb := inb_S512x1024_S256x128_0_384)).mp hm 1
    have b : (((Rect.unit ![0, 256] ![256, 128] inb_S512x1024_S256x128_0_256) : Rect S512x1024).idx j 1 : ℕ) = 256 + (j 1 : ℕ) := Rect.idx_unit_val _ _ _ _ _
    have d : (j 1 : ℕ) < 128 := (j 1).isLt
    have a0 : 384 ≤ (((Rect.unit ![0, 256] ![256, 128] inb_S512x1024_S256x128_0_256) : Rect S512x1024).idx j 1 : ℕ) := a.1
    omega)

/-- A piece whose columns do not meet the ones read. -/
theorem mk0_40 (P : FVec Ideal S256x128 .bf16) (L : List (View.Piece (Elt Ideal) S512x1024 .bf16)) (j : ((Rect.unit ![0, 0] ![256, 128] inb_S512x1024_S256x128_0_0) : Rect S512x1024).shape.Idx) :
    View.canon ((⟨(Rect.unit ![0, 512] ![256, 128] inb_S512x1024_S256x128_0_512), P⟩ : View.Piece (Elt Ideal) S512x1024 .bf16) :: L) ((Rect.unit ![0, 0] ![256, 128] inb_S512x1024_S256x128_0_0).idx j) = View.canon L ((Rect.unit ![0, 0] ![256, 128] inb_S512x1024_S256x128_0_0).idx j) :=
  View.canon_cons_of_not_mem _ _ (by
    intro hm
    have a := (Rect.mem_set_unit (inb := inb_S512x1024_S256x128_0_512)).mp hm 1
    have b : (((Rect.unit ![0, 0] ![256, 128] inb_S512x1024_S256x128_0_0) : Rect S512x1024).idx j 1 : ℕ) = 0 + (j 1 : ℕ) := Rect.idx_unit_val _ _ _ _ _
    have d : (j 1 : ℕ) < 128 := (j 1).isLt
    have a0 : 512 ≤ (((Rect.unit ![0, 0] ![256, 128] inb_S512x1024_S256x128_0_0) : Rect S512x1024).idx j 1 : ℕ) := a.1
    omega)

/-- A piece whose columns do not meet the ones read. -/
theorem mk0_41 (P : FVec Ideal S256x128 .bf16) (L : List (View.Piece (Elt Ideal) S512x1024 .bf16)) (j : ((Rect.unit ![0, 128] ![256, 128] inb_S512x1024_S256x128_0_128) : Rect S512x1024).shape.Idx) :
    View.canon ((⟨(Rect.unit ![0, 512] ![256, 128] inb_S512x1024_S256x128_0_512), P⟩ : View.Piece (Elt Ideal) S512x1024 .bf16) :: L) ((Rect.unit ![0, 128] ![256, 128] inb_S512x1024_S256x128_0_128).idx j) = View.canon L ((Rect.unit ![0, 128] ![256, 128] inb_S512x1024_S256x128_0_128).idx j) :=
  View.canon_cons_of_not_mem _ _ (by
    intro hm
    have a := (Rect.mem_set_unit (inb := inb_S512x1024_S256x128_0_512)).mp hm 1
    have b : (((Rect.unit ![0, 128] ![256, 128] inb_S512x1024_S256x128_0_128) : Rect S512x1024).idx j 1 : ℕ) = 128 + (j 1 : ℕ) := Rect.idx_unit_val _ _ _ _ _
    have d : (j 1 : ℕ) < 128 := (j 1).isLt
    have a0 : 512 ≤ (((Rect.unit ![0, 128] ![256, 128] inb_S512x1024_S256x128_0_128) : Rect S512x1024).idx j 1 : ℕ) := a.1
    omega)

/-- A piece whose columns do not meet the ones read. -/
theorem mk0_42 (P : FVec Ideal S256x128 .bf16) (L : List (View.Piece (Elt Ideal) S512x1024 .bf16)) (j : ((Rect.unit ![0, 256] ![256, 128] inb_S512x1024_S256x128_0_256) : Rect S512x1024).shape.Idx) :
    View.canon ((⟨(Rect.unit ![0, 512] ![256, 128] inb_S512x1024_S256x128_0_512), P⟩ : View.Piece (Elt Ideal) S512x1024 .bf16) :: L) ((Rect.unit ![0, 256] ![256, 128] inb_S512x1024_S256x128_0_256).idx j) = View.canon L ((Rect.unit ![0, 256] ![256, 128] inb_S512x1024_S256x128_0_256).idx j) :=
  View.canon_cons_of_not_mem _ _ (by
    intro hm
    have a := (Rect.mem_set_unit (inb := inb_S512x1024_S256x128_0_512)).mp hm 1
    have b : (((Rect.unit ![0, 256] ![256, 128] inb_S512x1024_S256x128_0_256) : Rect S512x1024).idx j 1 : ℕ) = 256 + (j 1 : ℕ) := Rect.idx_unit_val _ _ _ _ _
    have d : (j 1 : ℕ) < 128 := (j 1).isLt
    have a0 : 512 ≤ (((Rect.unit ![0, 256] ![256, 128] inb_S512x1024_S256x128_0_256) : Rect S512x1024).idx j 1 : ℕ) := a.1
    omega)

/-- A piece whose columns do not meet the ones read. -/
theorem mk0_43 (P : FVec Ideal S256x128 .bf16) (L : List (View.Piece (Elt Ideal) S512x1024 .bf16)) (j : ((Rect.unit ![0, 384] ![256, 128] inb_S512x1024_S256x128_0_384) : Rect S512x1024).shape.Idx) :
    View.canon ((⟨(Rect.unit ![0, 512] ![256, 128] inb_S512x1024_S256x128_0_512), P⟩ : View.Piece (Elt Ideal) S512x1024 .bf16) :: L) ((Rect.unit ![0, 384] ![256, 128] inb_S512x1024_S256x128_0_384).idx j) = View.canon L ((Rect.unit ![0, 384] ![256, 128] inb_S512x1024_S256x128_0_384).idx j) :=
  View.canon_cons_of_not_mem _ _ (by
    intro hm
    have a := (Rect.mem_set_unit (inb := inb_S512x1024_S256x128_0_512)).mp hm 1
    have b : (((Rect.unit ![0, 384] ![256, 128] inb_S512x1024_S256x128_0_384) : Rect S512x1024).idx j 1 : ℕ) = 384 + (j 1 : ℕ) := Rect.idx_unit_val _ _ _ _ _
    have d : (j 1 : ℕ) < 128 := (j 1).isLt
    have a0 : 512 ≤ (((Rect.unit ![0, 384] ![256, 128] inb_S512x1024_S256x128_0_384) : Rect S512x1024).idx j 1 : ℕ) := a.1
    omega)

/-- A piece whose columns do not meet the ones read. -/
theorem mk0_50 (P : FVec Ideal S256x128 .bf16) (L : List (View.Piece (Elt Ideal) S512x1024 .bf16)) (j : ((Rect.unit ![0, 0] ![256, 128] inb_S512x1024_S256x128_0_0) : Rect S512x1024).shape.Idx) :
    View.canon ((⟨(Rect.unit ![0, 640] ![256, 128] inb_S512x1024_S256x128_0_640), P⟩ : View.Piece (Elt Ideal) S512x1024 .bf16) :: L) ((Rect.unit ![0, 0] ![256, 128] inb_S512x1024_S256x128_0_0).idx j) = View.canon L ((Rect.unit ![0, 0] ![256, 128] inb_S512x1024_S256x128_0_0).idx j) :=
  View.canon_cons_of_not_mem _ _ (by
    intro hm
    have a := (Rect.mem_set_unit (inb := inb_S512x1024_S256x128_0_640)).mp hm 1
    have b : (((Rect.unit ![0, 0] ![256, 128] inb_S512x1024_S256x128_0_0) : Rect S512x1024).idx j 1 : ℕ) = 0 + (j 1 : ℕ) := Rect.idx_unit_val _ _ _ _ _
    have d : (j 1 : ℕ) < 128 := (j 1).isLt
    have a0 : 640 ≤ (((Rect.unit ![0, 0] ![256, 128] inb_S512x1024_S256x128_0_0) : Rect S512x1024).idx j 1 : ℕ) := a.1
    omega)

/-- A piece whose columns do not meet the ones read. -/
theorem mk0_51 (P : FVec Ideal S256x128 .bf16) (L : List (View.Piece (Elt Ideal) S512x1024 .bf16)) (j : ((Rect.unit ![0, 128] ![256, 128] inb_S512x1024_S256x128_0_128) : Rect S512x1024).shape.Idx) :
    View.canon ((⟨(Rect.unit ![0, 640] ![256, 128] inb_S512x1024_S256x128_0_640), P⟩ : View.Piece (Elt Ideal) S512x1024 .bf16) :: L) ((Rect.unit ![0, 128] ![256, 128] inb_S512x1024_S256x128_0_128).idx j) = View.canon L ((Rect.unit ![0, 128] ![256, 128] inb_S512x1024_S256x128_0_128).idx j) :=
  View.canon_cons_of_not_mem _ _ (by
    intro hm
    have a := (Rect.mem_set_unit (inb := inb_S512x1024_S256x128_0_640)).mp hm 1
    have b : (((Rect.unit ![0, 128] ![256, 128] inb_S512x1024_S256x128_0_128) : Rect S512x1024).idx j 1 : ℕ) = 128 + (j 1 : ℕ) := Rect.idx_unit_val _ _ _ _ _
    have d : (j 1 : ℕ) < 128 := (j 1).isLt
    have a0 : 640 ≤ (((Rect.unit ![0, 128] ![256, 128] inb_S512x1024_S256x128_0_128) : Rect S512x1024).idx j 1 : ℕ) := a.1
    omega)

/-- A piece whose columns do not meet the ones read. -/
theorem mk0_52 (P : FVec Ideal S256x128 .bf16) (L : List (View.Piece (Elt Ideal) S512x1024 .bf16)) (j : ((Rect.unit ![0, 256] ![256, 128] inb_S512x1024_S256x128_0_256) : Rect S512x1024).shape.Idx) :
    View.canon ((⟨(Rect.unit ![0, 640] ![256, 128] inb_S512x1024_S256x128_0_640), P⟩ : View.Piece (Elt Ideal) S512x1024 .bf16) :: L) ((Rect.unit ![0, 256] ![256, 128] inb_S512x1024_S256x128_0_256).idx j) = View.canon L ((Rect.unit ![0, 256] ![256, 128] inb_S512x1024_S256x128_0_256).idx j) :=
  View.canon_cons_of_not_mem _ _ (by
    intro hm
    have a := (Rect.mem_set_unit (inb := inb_S512x1024_S256x128_0_640)).mp hm 1
    have b : (((Rect.unit ![0, 256] ![256, 128] inb_S512x1024_S256x128_0_256) : Rect S512x1024).idx j 1 : ℕ) = 256 + (j 1 : ℕ) := Rect.idx_unit_val _ _ _ _ _
    have d : (j 1 : ℕ) < 128 := (j 1).isLt
    have a0 : 640 ≤ (((Rect.unit ![0, 256] ![256, 128] inb_S512x1024_S256x128_0_256) : Rect S512x1024).idx j 1 : ℕ) := a.1
    omega)

/-- A piece whose columns do not meet the ones read. -/
theorem mk0_53 (P : FVec Ideal S256x128 .bf16) (L : List (View.Piece (Elt Ideal) S512x1024 .bf16)) (j : ((Rect.unit ![0, 384] ![256, 128] inb_S512x1024_S256x128_0_384) : Rect S512x1024).shape.Idx) :
    View.canon ((⟨(Rect.unit ![0, 640] ![256, 128] inb_S512x1024_S256x128_0_640), P⟩ : View.Piece (Elt Ideal) S512x1024 .bf16) :: L) ((Rect.unit ![0, 384] ![256, 128] inb_S512x1024_S256x128_0_384).idx j) = View.canon L ((Rect.unit ![0, 384] ![256, 128] inb_S512x1024_S256x128_0_384).idx j) :=
  View.canon_cons_of_not_mem _ _ (by
    intro hm
    have a := (Rect.mem_set_unit (inb := inb_S512x1024_S256x128_0_640)).mp hm 1
    have b : (((Rect.unit ![0, 384] ![256, 128] inb_S512x1024_S256x128_0_384) : Rect S512x1024).idx j 1 : ℕ) = 384 + (j 1 : ℕ) := Rect.idx_unit_val _ _ _ _ _
    have d : (j 1 : ℕ) < 128 := (j 1).isLt
    have a0 : 640 ≤ (((Rect.unit ![0, 384] ![256, 128] inb_S512x1024_S256x128_0_384) : Rect S512x1024).idx j 1 : ℕ) := a.1
    omega)

/-- A piece whose columns do not meet the ones read. -/
theorem mk0_54 (P : FVec Ideal S256x128 .bf16) (L : List (View.Piece (Elt Ideal) S512x1024 .bf16)) (j : ((Rect.unit ![0, 512] ![256, 128] inb_S512x1024_S256x128_0_512) : Rect S512x1024).shape.Idx) :
    View.canon ((⟨(Rect.unit ![0, 640] ![256, 128] inb_S512x1024_S256x128_0_640), P⟩ : View.Piece (Elt Ideal) S512x1024 .bf16) :: L) ((Rect.unit ![0, 512] ![256, 128] inb_S512x1024_S256x128_0_512).idx j) = View.canon L ((Rect.unit ![0, 512] ![256, 128] inb_S512x1024_S256x128_0_512).idx j) :=
  View.canon_cons_of_not_mem _ _ (by
    intro hm
    have a := (Rect.mem_set_unit (inb := inb_S512x1024_S256x128_0_640)).mp hm 1
    have b : (((Rect.unit ![0, 512] ![256, 128] inb_S512x1024_S256x128_0_512) : Rect S512x1024).idx j 1 : ℕ) = 512 + (j 1 : ℕ) := Rect.idx_unit_val _ _ _ _ _
    have d : (j 1 : ℕ) < 128 := (j 1).isLt
    have a0 : 640 ≤ (((Rect.unit ![0, 512] ![256, 128] inb_S512x1024_S256x128_0_512) : Rect S512x1024).idx j 1 : ℕ) := a.1
    omega)

/-- A piece whose columns do not meet the ones read. -/
theorem mk0_60 (P : FVec Ideal S256x128 .bf16) (L : List (View.Piece (Elt Ideal) S512x1024 .bf16)) (j : ((Rect.unit ![0, 0] ![256, 128] inb_S512x1024_S256x128_0_0) : Rect S512x1024).shape.Idx) :
    View.canon ((⟨(Rect.unit ![0, 768] ![256, 128] inb_S512x1024_S256x128_0_768), P⟩ : View.Piece (Elt Ideal) S512x1024 .bf16) :: L) ((Rect.unit ![0, 0] ![256, 128] inb_S512x1024_S256x128_0_0).idx j) = View.canon L ((Rect.unit ![0, 0] ![256, 128] inb_S512x1024_S256x128_0_0).idx j) :=
  View.canon_cons_of_not_mem _ _ (by
    intro hm
    have a := (Rect.mem_set_unit (inb := inb_S512x1024_S256x128_0_768)).mp hm 1
    have b : (((Rect.unit ![0, 0] ![256, 128] inb_S512x1024_S256x128_0_0) : Rect S512x1024).idx j 1 : ℕ) = 0 + (j 1 : ℕ) := Rect.idx_unit_val _ _ _ _ _
    have d : (j 1 : ℕ) < 128 := (j 1).isLt
    have a0 : 768 ≤ (((Rect.unit ![0, 0] ![256, 128] inb_S512x1024_S256x128_0_0) : Rect S512x1024).idx j 1 : ℕ) := a.1
    omega)

/-- A piece whose columns do not meet the ones read. -/
theorem mk0_61 (P : FVec Ideal S256x128 .bf16) (L : List (View.Piece (Elt Ideal) S512x1024 .bf16)) (j : ((Rect.unit ![0, 128] ![256, 128] inb_S512x1024_S256x128_0_128) : Rect S512x1024).shape.Idx) :
    View.canon ((⟨(Rect.unit ![0, 768] ![256, 128] inb_S512x1024_S256x128_0_768), P⟩ : View.Piece (Elt Ideal) S512x1024 .bf16) :: L) ((Rect.unit ![0, 128] ![256, 128] inb_S512x1024_S256x128_0_128).idx j) = View.canon L ((Rect.unit ![0, 128] ![256, 128] inb_S512x1024_S256x128_0_128).idx j) :=
  View.canon_cons_of_not_mem _ _ (by
    intro hm
    have a := (Rect.mem_set_unit (inb := inb_S512x1024_S256x128_0_768)).mp hm 1
    have b : (((Rect.unit ![0, 128] ![256, 128] inb_S512x1024_S256x128_0_128) : Rect S512x1024).idx j 1 : ℕ) = 128 + (j 1 : ℕ) := Rect.idx_unit_val _ _ _ _ _
    have d : (j 1 : ℕ) < 128 := (j 1).isLt
    have a0 : 768 ≤ (((Rect.unit ![0, 128] ![256, 128] inb_S512x1024_S256x128_0_128) : Rect S512x1024).idx j 1 : ℕ) := a.1
    omega)

/-- A piece whose columns do not meet the ones read. -/
theorem mk0_62 (P : FVec Ideal S256x128 .bf16) (L : List (View.Piece (Elt Ideal) S512x1024 .bf16)) (j : ((Rect.unit ![0, 256] ![256, 128] inb_S512x1024_S256x128_0_256) : Rect S512x1024).shape.Idx) :
    View.canon ((⟨(Rect.unit ![0, 768] ![256, 128] inb_S512x1024_S256x128_0_768), P⟩ : View.Piece (Elt Ideal) S512x1024 .bf16) :: L) ((Rect.unit ![0, 256] ![256, 128] inb_S512x1024_S256x128_0_256).idx j) = View.canon L ((Rect.unit ![0, 256] ![256, 128] inb_S512x1024_S256x128_0_256).idx j) :=
  View.canon_cons_of_not_mem _ _ (by
    intro hm
    have a := (Rect.mem_set_unit (inb := inb_S512x1024_S256x128_0_768)).mp hm 1
    have b : (((Rect.unit ![0, 256] ![256, 128] inb_S512x1024_S256x128_0_256) : Rect S512x1024).idx j 1 : ℕ) = 256 + (j 1 : ℕ) := Rect.idx_unit_val _ _ _ _ _
    have d : (j 1 : ℕ) < 128 := (j 1).isLt
    have a0 : 768 ≤ (((Rect.unit ![0, 256] ![256, 128] inb_S512x1024_S256x128_0_256) : Rect S512x1024).idx j 1 : ℕ) := a.1
    omega)

/-- A piece whose columns do not meet the ones read. -/
theorem mk0_63 (P : FVec Ideal S256x128 .bf16) (L : List (View.Piece (Elt Ideal) S512x1024 .bf16)) (j : ((Rect.unit ![0, 384] ![256, 128] inb_S512x1024_S256x128_0_384) : Rect S512x1024).shape.Idx) :
    View.canon ((⟨(Rect.unit ![0, 768] ![256, 128] inb_S512x1024_S256x128_0_768), P⟩ : View.Piece (Elt Ideal) S512x1024 .bf16) :: L) ((Rect.unit ![0, 384] ![256, 128] inb_S512x1024_S256x128_0_384).idx j) = View.canon L ((Rect.unit ![0, 384] ![256, 128] inb_S512x1024_S256x128_0_384).idx j) :=
  View.canon_cons_of_not_mem _ _ (by
    intro hm
    have a := (Rect.mem_set_unit (inb := inb_S512x1024_S256x128_0_768)).mp hm 1
    have b : (((Rect.unit ![0, 384] ![256, 128] inb_S512x1024_S256x128_0_384) : Rect S512x1024).idx j 1 : ℕ) = 384 + (j 1 : ℕ) := Rect.idx_unit_val _ _ _ _ _
    have d : (j 1 : ℕ) < 128 := (j 1).isLt
    have a0 : 768 ≤ (((Rect.unit ![0, 384] ![256, 128] inb_S512x1024_S256x128_0_384) : Rect S512x1024).idx j 1 : ℕ) := a.1
    omega)

/-- A piece whose columns do not meet the ones read. -/
theorem mk0_64 (P : FVec Ideal S256x128 .bf16) (L : List (View.Piece (Elt Ideal) S512x1024 .bf16)) (j : ((Rect.unit ![0, 512] ![256, 128] inb_S512x1024_S256x128_0_512) : Rect S512x1024).shape.Idx) :
    View.canon ((⟨(Rect.unit ![0, 768] ![256, 128] inb_S512x1024_S256x128_0_768), P⟩ : View.Piece (Elt Ideal) S512x1024 .bf16) :: L) ((Rect.unit ![0, 512] ![256, 128] inb_S512x1024_S256x128_0_512).idx j) = View.canon L ((Rect.unit ![0, 512] ![256, 128] inb_S512x1024_S256x128_0_512).idx j) :=
  View.canon_cons_of_not_mem _ _ (by
    intro hm
    have a := (Rect.mem_set_unit (inb := inb_S512x1024_S256x128_0_768)).mp hm 1
    have b : (((Rect.unit ![0, 512] ![256, 128] inb_S512x1024_S256x128_0_512) : Rect S512x1024).idx j 1 : ℕ) = 512 + (j 1 : ℕ) := Rect.idx_unit_val _ _ _ _ _
    have d : (j 1 : ℕ) < 128 := (j 1).isLt
    have a0 : 768 ≤ (((Rect.unit ![0, 512] ![256, 128] inb_S512x1024_S256x128_0_512) : Rect S512x1024).idx j 1 : ℕ) := a.1
    omega)

/-- A piece whose columns do not meet the ones read. -/
theorem mk0_65 (P : FVec Ideal S256x128 .bf16) (L : List (View.Piece (Elt Ideal) S512x1024 .bf16)) (j : ((Rect.unit ![0, 640] ![256, 128] inb_S512x1024_S256x128_0_640) : Rect S512x1024).shape.Idx) :
    View.canon ((⟨(Rect.unit ![0, 768] ![256, 128] inb_S512x1024_S256x128_0_768), P⟩ : View.Piece (Elt Ideal) S512x1024 .bf16) :: L) ((Rect.unit ![0, 640] ![256, 128] inb_S512x1024_S256x128_0_640).idx j) = View.canon L ((Rect.unit ![0, 640] ![256, 128] inb_S512x1024_S256x128_0_640).idx j) :=
  View.canon_cons_of_not_mem _ _ (by
    intro hm
    have a := (Rect.mem_set_unit (inb := inb_S512x1024_S256x128_0_768)).mp hm 1
    have b : (((Rect.unit ![0, 640] ![256, 128] inb_S512x1024_S256x128_0_640) : Rect S512x1024).idx j 1 : ℕ) = 640 + (j 1 : ℕ) := Rect.idx_unit_val _ _ _ _ _
    have d : (j 1 : ℕ) < 128 := (j 1).isLt
    have a0 : 768 ≤ (((Rect.unit ![0, 640] ![256, 128] inb_S512x1024_S256x128_0_640) : Rect S512x1024).idx j 1 : ℕ) := a.1
    omega)

/-- A piece whose columns do not meet the ones read. -/
theorem mk0_70 (P : FVec Ideal S256x128 .bf16) (L : List (View.Piece (Elt Ideal) S512x1024 .bf16)) (j : ((Rect.unit ![0, 0] ![256, 128] inb_S512x1024_S256x128_0_0) : Rect S512x1024).shape.Idx) :
    View.canon ((⟨(Rect.unit ![0, 896] ![256, 128] inb_S512x1024_S256x128_0_896), P⟩ : View.Piece (Elt Ideal) S512x1024 .bf16) :: L) ((Rect.unit ![0, 0] ![256, 128] inb_S512x1024_S256x128_0_0).idx j) = View.canon L ((Rect.unit ![0, 0] ![256, 128] inb_S512x1024_S256x128_0_0).idx j) :=
  View.canon_cons_of_not_mem _ _ (by
    intro hm
    have a := (Rect.mem_set_unit (inb := inb_S512x1024_S256x128_0_896)).mp hm 1
    have b : (((Rect.unit ![0, 0] ![256, 128] inb_S512x1024_S256x128_0_0) : Rect S512x1024).idx j 1 : ℕ) = 0 + (j 1 : ℕ) := Rect.idx_unit_val _ _ _ _ _
    have d : (j 1 : ℕ) < 128 := (j 1).isLt
    have a0 : 896 ≤ (((Rect.unit ![0, 0] ![256, 128] inb_S512x1024_S256x128_0_0) : Rect S512x1024).idx j 1 : ℕ) := a.1
    omega)

/-- A piece whose columns do not meet the ones read. -/
theorem mk0_71 (P : FVec Ideal S256x128 .bf16) (L : List (View.Piece (Elt Ideal) S512x1024 .bf16)) (j : ((Rect.unit ![0, 128] ![256, 128] inb_S512x1024_S256x128_0_128) : Rect S512x1024).shape.Idx) :
    View.canon ((⟨(Rect.unit ![0, 896] ![256, 128] inb_S512x1024_S256x128_0_896), P⟩ : View.Piece (Elt Ideal) S512x1024 .bf16) :: L) ((Rect.unit ![0, 128] ![256, 128] inb_S512x1024_S256x128_0_128).idx j) = View.canon L ((Rect.unit ![0, 128] ![256, 128] inb_S512x1024_S256x128_0_128).idx j) :=
  View.canon_cons_of_not_mem _ _ (by
    intro hm
    have a := (Rect.mem_set_unit (inb := inb_S512x1024_S256x128_0_896)).mp hm 1
    have b : (((Rect.unit ![0, 128] ![256, 128] inb_S512x1024_S256x128_0_128) : Rect S512x1024).idx j 1 : ℕ) = 128 + (j 1 : ℕ) := Rect.idx_unit_val _ _ _ _ _
    have d : (j 1 : ℕ) < 128 := (j 1).isLt
    have a0 : 896 ≤ (((Rect.unit ![0, 128] ![256, 128] inb_S512x1024_S256x128_0_128) : Rect S512x1024).idx j 1 : ℕ) := a.1
    omega)

/-- A piece whose columns do not meet the ones read. -/
theorem mk0_72 (P : FVec Ideal S256x128 .bf16) (L : List (View.Piece (Elt Ideal) S512x1024 .bf16)) (j : ((Rect.unit ![0, 256] ![256, 128] inb_S512x1024_S256x128_0_256) : Rect S512x1024).shape.Idx) :
    View.canon ((⟨(Rect.unit ![0, 896] ![256, 128] inb_S512x1024_S256x128_0_896), P⟩ : View.Piece (Elt Ideal) S512x1024 .bf16) :: L) ((Rect.unit ![0, 256] ![256, 128] inb_S512x1024_S256x128_0_256).idx j) = View.canon L ((Rect.unit ![0, 256] ![256, 128] inb_S512x1024_S256x128_0_256).idx j) :=
  View.canon_cons_of_not_mem _ _ (by
    intro hm
    have a := (Rect.mem_set_unit (inb := inb_S512x1024_S256x128_0_896)).mp hm 1
    have b : (((Rect.unit ![0, 256] ![256, 128] inb_S512x1024_S256x128_0_256) : Rect S512x1024).idx j 1 : ℕ) = 256 + (j 1 : ℕ) := Rect.idx_unit_val _ _ _ _ _
    have d : (j 1 : ℕ) < 128 := (j 1).isLt
    have a0 : 896 ≤ (((Rect.unit ![0, 256] ![256, 128] inb_S512x1024_S256x128_0_256) : Rect S512x1024).idx j 1 : ℕ) := a.1
    omega)

/-- A piece whose columns do not meet the ones read. -/
theorem mk0_73 (P : FVec Ideal S256x128 .bf16) (L : List (View.Piece (Elt Ideal) S512x1024 .bf16)) (j : ((Rect.unit ![0, 384] ![256, 128] inb_S512x1024_S256x128_0_384) : Rect S512x1024).shape.Idx) :
    View.canon ((⟨(Rect.unit ![0, 896] ![256, 128] inb_S512x1024_S256x128_0_896), P⟩ : View.Piece (Elt Ideal) S512x1024 .bf16) :: L) ((Rect.unit ![0, 384] ![256, 128] inb_S512x1024_S256x128_0_384).idx j) = View.canon L ((Rect.unit ![0, 384] ![256, 128] inb_S512x1024_S256x128_0_384).idx j) :=
  View.canon_cons_of_not_mem _ _ (by
    intro hm
    have a := (Rect.mem_set_unit (inb := inb_S512x1024_S256x128_0_896)).mp hm 1
    have b : (((Rect.unit ![0, 384] ![256, 128] inb_S512x1024_S256x128_0_384) : Rect S512x1024).idx j 1 : ℕ) = 384 + (j 1 : ℕ) := Rect.idx_unit_val _ _ _ _ _
    have d : (j 1 : ℕ) < 128 := (j 1).isLt
    have a0 : 896 ≤ (((Rect.unit ![0, 384] ![256, 128] inb_S512x1024_S256x128_0_384) : Rect S512x1024).idx j 1 : ℕ) := a.1
    omega)

/-- A piece whose columns do not meet the ones read. -/
theorem mk0_74 (P : FVec Ideal S256x128 .bf16) (L : List (View.Piece (Elt Ideal) S512x1024 .bf16)) (j : ((Rect.unit ![0, 512] ![256, 128] inb_S512x1024_S256x128_0_512) : Rect S512x1024).shape.Idx) :
    View.canon ((⟨(Rect.unit ![0, 896] ![256, 128] inb_S512x1024_S256x128_0_896), P⟩ : View.Piece (Elt Ideal) S512x1024 .bf16) :: L) ((Rect.unit ![0, 512] ![256, 128] inb_S512x1024_S256x128_0_512).idx j) = View.canon L ((Rect.unit ![0, 512] ![256, 128] inb_S512x1024_S256x128_0_512).idx j) :=
  View.canon_cons_of_not_mem _ _ (by
    intro hm
    have a := (Rect.mem_set_unit (inb := inb_S512x1024_S256x128_0_896)).mp hm 1
    have b : (((Rect.unit ![0, 512] ![256, 128] inb_S512x1024_S256x128_0_512) : Rect S512x1024).idx j 1 : ℕ) = 512 + (j 1 : ℕ) := Rect.idx_unit_val _ _ _ _ _
    have d : (j 1 : ℕ) < 128 := (j 1).isLt
    have a0 : 896 ≤ (((Rect.unit ![0, 512] ![256, 128] inb_S512x1024_S256x128_0_512) : Rect S512x1024).idx j 1 : ℕ) := a.1
    omega)

/-- A piece whose columns do not meet the ones read. -/
theorem mk0_75 (P : FVec Ideal S256x128 .bf16) (L : List (View.Piece (Elt Ideal) S512x1024 .bf16)) (j : ((Rect.unit ![0, 640] ![256, 128] inb_S512x1024_S256x128_0_640) : Rect S512x1024).shape.Idx) :
    View.canon ((⟨(Rect.unit ![0, 896] ![256, 128] inb_S512x1024_S256x128_0_896), P⟩ : View.Piece (Elt Ideal) S512x1024 .bf16) :: L) ((Rect.unit ![0, 640] ![256, 128] inb_S512x1024_S256x128_0_640).idx j) = View.canon L ((Rect.unit ![0, 640] ![256, 128] inb_S512x1024_S256x128_0_640).idx j) :=
  View.canon_cons_of_not_mem _ _ (by
    intro hm
    have a := (Rect.mem_set_unit (inb := inb_S512x1024_S256x128_0_896)).mp hm 1
    have b : (((Rect.unit ![0, 640] ![256, 128] inb_S512x1024_S256x128_0_640) : Rect S512x1024).idx j 1 : ℕ) = 640 + (j 1 : ℕ) := Rect.idx_unit_val _ _ _ _ _
    have d : (j 1 : ℕ) < 128 := (j 1).isLt
    have a0 : 896 ≤ (((Rect.unit ![0, 640] ![256, 128] inb_S512x1024_S256x128_0_640) : Rect S512x1024).idx j 1 : ℕ) := a.1
    omega)

/-- A piece whose columns do not meet the ones read. -/
theorem mk0_76 (P : FVec Ideal S256x128 .bf16) (L : List (View.Piece (Elt Ideal) S512x1024 .bf16)) (j : ((Rect.unit ![0, 768] ![256, 128] inb_S512x1024_S256x128_0_768) : Rect S512x1024).shape.Idx) :
    View.canon ((⟨(Rect.unit ![0, 896] ![256, 128] inb_S512x1024_S256x128_0_896), P⟩ : View.Piece (Elt Ideal) S512x1024 .bf16) :: L) ((Rect.unit ![0, 768] ![256, 128] inb_S512x1024_S256x128_0_768).idx j) = View.canon L ((Rect.unit ![0, 768] ![256, 128] inb_S512x1024_S256x128_0_768).idx j) :=
  View.canon_cons_of_not_mem _ _ (by
    intro hm
    have a := (Rect.mem_set_unit (inb := inb_S512x1024_S256x128_0_896)).mp hm 1
    have b : (((Rect.unit ![0, 768] ![256, 128] inb_S512x1024_S256x128_0_768) : Rect S512x1024).idx j 1 : ℕ) = 768 + (j 1 : ℕ) := Rect.idx_unit_val _ _ _ _ _
    have d : (j 1 : ℕ) < 128 := (j 1).isLt
    have a0 : 896 ≤ (((Rect.unit ![0, 768] ![256, 128] inb_S512x1024_S256x128_0_768) : Rect S512x1024).idx j 1 : ℕ) := a.1
    omega)

/-- The mixed rows of a chunk, read from the pieces its groups and heads wrote. -/
theorem mc0 (n k : Fin 8) (L : List (View.Piece (Elt Ideal) S512x1024 .bf16)) :
    (fun j => View.canon ((⟨(Rect.unit ![0, 896] ![256, 128] inb_S512x1024_S256x128_0_896), hdv x w gn n k 3⟩ : View.Piece (Elt Ideal) S512x1024 .bf16) :: ⟨(Rect.unit ![0, 768] ![256, 128] inb_S512x1024_S256x128_0_768), hdv x w gn n k 2⟩ :: ⟨(Rect.unit ![0, 640] ![256, 128] inb_S512x1024_S256x128_0_640), hdv x w gn n k 1⟩ :: ⟨(Rect.unit ![0, 512] ![256, 128] inb_S512x1024_S256x128_0_512), hdv x w gn n k 0⟩ :: ⟨(Rect.unit ![0, 384] ![256, 128] inb_S512x1024_S256x128_0_384), plv x w pw ps n k 3⟩ :: ⟨(Rect.unit ![0, 256] ![256, 128] inb_S512x1024_S256x128_0_256), plv x w pw ps n k 2⟩ :: ⟨(Rect.unit ![0, 128] ![256, 128] inb_S512x1024_S256x128_0_128), plv x w pw ps n k 1⟩ :: ⟨(Rect.unit ![0, 0] ![256, 128] inb_S512x1024_S256x128_0_0), plv x w pw ps n k 0⟩ :: L) ((Rect.unit ![0, 0] ![256, 1024] inb_S512x1024_S256x1024_0_0).idx j)) = mixv x w pw ps gn n k := by
  funext y
  have l1 : (y 1).val < 1024 := (y 1).isLt
  have q : (0 ≤ (y 1).val ∧ (y 1).val < 128) ∨ (128 ≤ (y 1).val ∧ (y 1).val < 256) ∨ (256 ≤ (y 1).val ∧ (y 1).val < 384) ∨ (384 ≤ (y 1).val ∧ (y 1).val < 512) ∨ (512 ≤ (y 1).val ∧ (y 1).val < 640) ∨ (640 ≤ (y 1).val ∧ (y 1).val < 768) ∨ (768 ≤ (y 1).val ∧ (y 1).val < 896) ∨ (896 ≤ (y 1).val ∧ (y 1).val < 1024) := by omega
  rcases q with q | q | q | q | q | q | q | q
  · let j : ((Rect.unit ![0, 0] ![256, 128] inb_S512x1024_S256x128_0_0) : Rect S512x1024).shape.Idx := ix2 (y 0) ⟨(y 1).val - 0, by omega⟩
    have e : (Rect.unit ![0, 0] ![256, 1024] inb_S512x1024_S256x1024_0_0).idx y = ((Rect.unit ![0, 0] ![256, 128] inb_S512x1024_S256x128_0_0) : Rect S512x1024).idx j := by
      funext i
      refine Fin.ext ?_
      rw [Rect.idx_unit_val, Rect.idx_unit_val]
      fin_cases i
      · rfl
      · show 0 + (y 1).val = 0 + ((y 1).val - 0); omega
    refine (congrArg _ e).trans ?_
    -- reach the piece that wrote these columns
    refine ((mk0_70 _ _ j).trans ((mk0_60 _ _ j).trans ((mk0_50 _ _ j).trans ((mk0_40 _ _ j).trans ((mk0_30 _ _ j).trans ((mk0_20 _ _ j).trans ((mk0_10 _ _ j).trans (View.canon_cons_emb _ _ _ j)))))))).trans ?_
    refine (mixP0 x w pw ps gn n (tk k (y 0)) ⟨(y 1).val - 0, by omega⟩ (by show 128 * 0 + ((y 1).val - 0) < 1024; omega)).symm.trans ?_
    exact congrArg (fun d => mixAt x w pw ps gn n (tk k (y 0)) d) (Fin.ext (by show 128 * 0 + ((y 1).val - 0) = (y 1).val; omega))
  · let j : ((Rect.unit ![0, 128] ![256, 128] inb_S512x1024_S256x128_0_128) : Rect S512x1024).shape.Idx := ix2 (y 0) ⟨(y 1).val - 128, by omega⟩
    have e : (Rect.unit ![0, 0] ![256, 1024] inb_S512x1024_S256x1024_0_0).idx y = ((Rect.unit ![0, 128] ![256, 128] inb_S512x1024_S256x128_0_128) : Rect S512x1024).idx j := by
      funext i
      refine Fin.ext ?_
      rw [Rect.idx_unit_val, Rect.idx_unit_val]
      fin_cases i
      · rfl
      · show 0 + (y 1).val = 128 + ((y 1).val - 128); omega
    refine (congrArg _ e).trans ?_
    -- reach the piece that wrote these columns
    refine ((mk0_71 _ _ j).trans ((mk0_61 _ _ j).trans ((mk0_51 _ _ j).trans ((mk0_41 _ _ j).trans ((mk0_31 _ _ j).trans ((mk0_21 _ _ j).trans (View.canon_cons_emb _ _ _ j))))))).trans ?_
    refine (mixP1 x w pw ps gn n (tk k (y 0)) ⟨(y 1).val - 128, by omega⟩ (by show 128 * 1 + ((y 1).val - 128) < 1024; omega)).symm.trans ?_
    exact congrArg (fun d => mixAt x w pw ps gn n (tk k (y 0)) d) (Fin.ext (by show 128 * 1 + ((y 1).val - 128) = (y 1).val; omega))
  · let j : ((Rect.unit ![0, 256] ![256, 128] inb_S512x1024_S256x128_0_256) : Rect S512x1024).shape.Idx := ix2 (y 0) ⟨(y 1).val - 256, by omega⟩
    have e : (Rect.unit ![0, 0] ![256, 1024] inb_S512x1024_S256x1024_0_0).idx y = ((Rect.unit ![0, 256] ![256, 128] inb_S512x1024_S256x128_0_256) : Rect S512x1024).idx j := by
      funext i
      refine Fin.ext ?_
      rw [Rect.idx_unit_val, Rect.idx_unit_val]
      fin_cases i
      · rfl
      · show 0 + (y 1).val = 256 + ((y 1).val - 256); omega
    refine (congrArg _ e).trans ?_
    -- reach the piece that wrote these columns
    refine ((mk0_72 _ _ j).trans ((mk0_62 _ _ j).trans ((mk0_52 _ _ j).trans ((mk0_42 _ _ j).trans ((mk0_32 _ _ j).trans (View.canon_cons_emb _ _ _ j)))))).trans ?_
    refine (mixP2 x w pw ps gn n (tk k (y 0)) ⟨(y 1).val - 256, by omega⟩ (by show 128 * 2 + ((y 1).val - 256) < 1024; omega)).symm.trans ?_
    exact congrArg (fun d => mixAt x w pw ps gn n (tk k (y 0)) d) (Fin.ext (by show 128 * 2 + ((y 1).val - 256) = (y 1).val; omega))
  · let j : ((Rect.unit ![0, 384] ![256, 128] inb_S512x1024_S256x128_0_384) : Rect S512x1024).shape.Idx := ix2 (y 0) ⟨(y 1).val - 384, by omega⟩
    have e : (Rect.unit ![0, 0] ![256, 1024] inb_S512x1024_S256x1024_0_0).idx y = ((Rect.unit ![0, 384] ![256, 128] inb_S512x1024_S256x128_0_384) : Rect S512x1024).idx j := by
      funext i
      refine Fin.ext ?_
      rw [Rect.idx_unit_val, Rect.idx_unit_val]
      fin_cases i
      · rfl
      · show 0 + (y 1).val = 384 + ((y 1).val - 384); omega
    refine (congrArg _ e).trans ?_
    -- reach the piece that wrote these columns
    refine ((mk0_73 _ _ j).trans ((mk0_63 _ _ j).trans ((mk0_53 _ _ j).trans ((mk0_43 _ _ j).trans (View.canon_cons_emb _ _ _ j))))).trans ?_
    refine (mixP3 x w pw ps gn n (tk k (y 0)) ⟨(y 1).val - 384, by omega⟩ (by show 128 * 3 + ((y 1).val - 384) < 1024; omega)).symm.trans ?_
    exact congrArg (fun d => mixAt x w pw ps gn n (tk k (y 0)) d) (Fin.ext (by show 128 * 3 + ((y 1).val - 384) = (y 1).val; omega))
  · let j : ((Rect.unit ![0, 512] ![256, 128] inb_S512x1024_S256x128_0_512) : Rect S512x1024).shape.Idx := ix2 (y 0) ⟨(y 1).val - 512, by omega⟩
    have e : (Rect.unit ![0, 0] ![256, 1024] inb_S512x1024_S256x1024_0_0).idx y = ((Rect.unit ![0, 512] ![256, 128] inb_S512x1024_S256x128_0_512) : Rect S512x1024).idx j := by
      funext i
      refine Fin.ext ?_
      rw [Rect.idx_unit_val, Rect.idx_unit_val]
      fin_cases i
      · rfl
      · show 0 + (y 1).val = 512 + ((y 1).val - 512); omega
    refine (congrArg _ e).trans ?_
    -- reach the piece that wrote these columns
    refine ((mk0_74 _ _ j).trans ((mk0_64 _ _ j).trans ((mk0_54 _ _ j).trans (View.canon_cons_emb _ _ _ j)))).trans ?_
    refine (mixH0 x w pw ps gn n (tk k (y 0)) ⟨(y 1).val - 512, by omega⟩ (by show 512 + ((y 1).val - 512) < 1024; omega)).symm.trans ?_
    exact congrArg (fun d => mixAt x w pw ps gn n (tk k (y 0)) d) (Fin.ext (by show 512 + ((y 1).val - 512) = (y 1).val; omega))
  · let j : ((Rect.unit ![0, 640] ![256, 128] inb_S512x1024_S256x128_0_640) : Rect S512x1024).shape.Idx := ix2 (y 0) ⟨(y 1).val - 640, by omega⟩
    have e : (Rect.unit ![0, 0] ![256, 1024] inb_S512x1024_S256x1024_0_0).idx y = ((Rect.unit ![0, 640] ![256, 128] inb_S512x1024_S256x128_0_640) : Rect S512x1024).idx j := by
      funext i
      refine Fin.ext ?_
      rw [Rect.idx_unit_val, Rect.idx_unit_val]
      fin_cases i
      · rfl
      · show 0 + (y 1).val = 640 + ((y 1).val - 640); omega
    refine (congrArg _ e).trans ?_
    -- reach the piece that wrote these columns
    refine ((mk0_75 _ _ j).trans ((mk0_65 _ _ j).trans (View.canon_cons_emb _ _ _ j))).trans ?_
    refine (mixH1 x w pw ps gn n (tk k (y 0)) ⟨(y 1).val - 640, by omega⟩ (by show 640 + ((y 1).val - 640) < 1024; omega)).symm.trans ?_
    exact congrArg (fun d => mixAt x w pw ps gn n (tk k (y 0)) d) (Fin.ext (by show 640 + ((y 1).val - 640) = (y 1).val; omega))
  · let j : ((Rect.unit ![0, 768] ![256, 128] inb_S512x1024_S256x128_0_768) : Rect S512x1024).shape.Idx := ix2 (y 0) ⟨(y 1).val - 768, by omega⟩
    have e : (Rect.unit ![0, 0] ![256, 1024] inb_S512x1024_S256x1024_0_0).idx y = ((Rect.unit ![0, 768] ![256, 128] inb_S512x1024_S256x128_0_768) : Rect S512x1024).idx j := by
      funext i
      refine Fin.ext ?_
      rw [Rect.idx_unit_val, Rect.idx_unit_val]
      fin_cases i
      · rfl
      · show 0 + (y 1).val = 768 + ((y 1).val - 768); omega
    refine (congrArg _ e).trans ?_
    -- reach the piece that wrote these columns
    refine ((mk0_76 _ _ j).trans (View.canon_cons_emb _ _ _ j)).trans ?_
    refine (mixH2 x w pw ps gn n (tk k (y 0)) ⟨(y 1).val - 768, by omega⟩ (by show 768 + ((y 1).val - 768) < 1024; omega)).symm.trans ?_
    exact congrArg (fun d => mixAt x w pw ps gn n (tk k (y 0)) d) (Fin.ext (by show 768 + ((y 1).val - 768) = (y 1).val; omega))
  · let j : ((Rect.unit ![0, 896] ![256, 128] inb_S512x1024_S256x128_0_896) : Rect S512x1024).shape.Idx := ix2 (y 0) ⟨(y 1).val - 896, by omega⟩
    have e : (Rect.unit ![0, 0] ![256, 1024] inb_S512x1024_S256x1024_0_0).idx y = ((Rect.unit ![0, 896] ![256, 128] inb_S512x1024_S256x128_0_896) : Rect S512x1024).idx j := by
      funext i
      refine Fin.ext ?_
      rw [Rect.idx_unit_val, Rect.idx_unit_val]
      fin_cases i
      · rfl
      · show 0 + (y 1).val = 896 + ((y 1).val - 896); omega
    refine (congrArg _ e).trans ?_
    -- reach the piece that wrote these columns
    refine (View.canon_cons_emb _ _ _ j).trans ?_
    refine (mixH3 x w pw ps gn n (tk k (y 0)) ⟨(y 1).val - 896, by omega⟩ (by show 896 + ((y 1).val - 896) < 1024; omega)).symm.trans ?_
    exact congrArg (fun d => mixAt x w pw ps gn n (tk k (y 0)) d) (Fin.ext (by show 896 + ((y 1).val - 896) = (y 1).val; omega))

/-- A piece whose columns do not meet the ones read. -/
theorem mk1_10 (P : FVec Ideal S256x128 .bf16) (L : List (View.Piece (Elt Ideal) S512x1024 .bf16)) (j : ((Rect.unit ![256, 0] ![256, 128] inb_S512x1024_S256x128_256_0) : Rect S512x1024).shape.Idx) :
    View.canon ((⟨(Rect.unit ![256, 128] ![256, 128] inb_S512x1024_S256x128_256_128), P⟩ : View.Piece (Elt Ideal) S512x1024 .bf16) :: L) ((Rect.unit ![256, 0] ![256, 128] inb_S512x1024_S256x128_256_0).idx j) = View.canon L ((Rect.unit ![256, 0] ![256, 128] inb_S512x1024_S256x128_256_0).idx j) :=
  View.canon_cons_of_not_mem _ _ (by
    intro hm
    have a := (Rect.mem_set_unit (inb := inb_S512x1024_S256x128_256_128)).mp hm 1
    have b : (((Rect.unit ![256, 0] ![256, 128] inb_S512x1024_S256x128_256_0) : Rect S512x1024).idx j 1 : ℕ) = 0 + (j 1 : ℕ) := Rect.idx_unit_val _ _ _ _ _
    have d : (j 1 : ℕ) < 128 := (j 1).isLt
    have a0 : 128 ≤ (((Rect.unit ![256, 0] ![256, 128] inb_S512x1024_S256x128_256_0) : Rect S512x1024).idx j 1 : ℕ) := a.1
    omega)

/-- A piece whose columns do not meet the ones read. -/
theorem mk1_20 (P : FVec Ideal S256x128 .bf16) (L : List (View.Piece (Elt Ideal) S512x1024 .bf16)) (j : ((Rect.unit ![256, 0] ![256, 128] inb_S512x1024_S256x128_256_0) : Rect S512x1024).shape.Idx) :
    View.canon ((⟨(Rect.unit ![256, 256] ![256, 128] inb_S512x1024_S256x128_256_256), P⟩ : View.Piece (Elt Ideal) S512x1024 .bf16) :: L) ((Rect.unit ![256, 0] ![256, 128] inb_S512x1024_S256x128_256_0).idx j) = View.canon L ((Rect.unit ![256, 0] ![256, 128] inb_S512x1024_S256x128_256_0).idx j) :=
  View.canon_cons_of_not_mem _ _ (by
    intro hm
    have a := (Rect.mem_set_unit (inb := inb_S512x1024_S256x128_256_256)).mp hm 1
    have b : (((Rect.unit ![256, 0] ![256, 128] inb_S512x1024_S256x128_256_0) : Rect S512x1024).idx j 1 : ℕ) = 0 + (j 1 : ℕ) := Rect.idx_unit_val _ _ _ _ _
    have d : (j 1 : ℕ) < 128 := (j 1).isLt
    have a0 : 256 ≤ (((Rect.unit ![256, 0] ![256, 128] inb_S512x1024_S256x128_256_0) : Rect S512x1024).idx j 1 : ℕ) := a.1
    omega)

/-- A piece whose columns do not meet the ones read. -/
theorem mk1_21 (P : FVec Ideal S256x128 .bf16) (L : List (View.Piece (Elt Ideal) S512x1024 .bf16)) (j : ((Rect.unit ![256, 128] ![256, 128] inb_S512x1024_S256x128_256_128) : Rect S512x1024).shape.Idx) :
    View.canon ((⟨(Rect.unit ![256, 256] ![256, 128] inb_S512x1024_S256x128_256_256), P⟩ : View.Piece (Elt Ideal) S512x1024 .bf16) :: L) ((Rect.unit ![256, 128] ![256, 128] inb_S512x1024_S256x128_256_128).idx j) = View.canon L ((Rect.unit ![256, 128] ![256, 128] inb_S512x1024_S256x128_256_128).idx j) :=
  View.canon_cons_of_not_mem _ _ (by
    intro hm
    have a := (Rect.mem_set_unit (inb := inb_S512x1024_S256x128_256_256)).mp hm 1
    have b : (((Rect.unit ![256, 128] ![256, 128] inb_S512x1024_S256x128_256_128) : Rect S512x1024).idx j 1 : ℕ) = 128 + (j 1 : ℕ) := Rect.idx_unit_val _ _ _ _ _
    have d : (j 1 : ℕ) < 128 := (j 1).isLt
    have a0 : 256 ≤ (((Rect.unit ![256, 128] ![256, 128] inb_S512x1024_S256x128_256_128) : Rect S512x1024).idx j 1 : ℕ) := a.1
    omega)

/-- A piece whose columns do not meet the ones read. -/
theorem mk1_30 (P : FVec Ideal S256x128 .bf16) (L : List (View.Piece (Elt Ideal) S512x1024 .bf16)) (j : ((Rect.unit ![256, 0] ![256, 128] inb_S512x1024_S256x128_256_0) : Rect S512x1024).shape.Idx) :
    View.canon ((⟨(Rect.unit ![256, 384] ![256, 128] inb_S512x1024_S256x128_256_384), P⟩ : View.Piece (Elt Ideal) S512x1024 .bf16) :: L) ((Rect.unit ![256, 0] ![256, 128] inb_S512x1024_S256x128_256_0).idx j) = View.canon L ((Rect.unit ![256, 0] ![256, 128] inb_S512x1024_S256x128_256_0).idx j) :=
  View.canon_cons_of_not_mem _ _ (by
    intro hm
    have a := (Rect.mem_set_unit (inb := inb_S512x1024_S256x128_256_384)).mp hm 1
    have b : (((Rect.unit ![256, 0] ![256, 128] inb_S512x1024_S256x128_256_0) : Rect S512x1024).idx j 1 : ℕ) = 0 + (j 1 : ℕ) := Rect.idx_unit_val _ _ _ _ _
    have d : (j 1 : ℕ) < 128 := (j 1).isLt
    have a0 : 384 ≤ (((Rect.unit ![256, 0] ![256, 128] inb_S512x1024_S256x128_256_0) : Rect S512x1024).idx j 1 : ℕ) := a.1
    omega)

/-- A piece whose columns do not meet the ones read. -/
theorem mk1_31 (P : FVec Ideal S256x128 .bf16) (L : List (View.Piece (Elt Ideal) S512x1024 .bf16)) (j : ((Rect.unit ![256, 128] ![256, 128] inb_S512x1024_S256x128_256_128) : Rect S512x1024).shape.Idx) :
    View.canon ((⟨(Rect.unit ![256, 384] ![256, 128] inb_S512x1024_S256x128_256_384), P⟩ : View.Piece (Elt Ideal) S512x1024 .bf16) :: L) ((Rect.unit ![256, 128] ![256, 128] inb_S512x1024_S256x128_256_128).idx j) = View.canon L ((Rect.unit ![256, 128] ![256, 128] inb_S512x1024_S256x128_256_128).idx j) :=
  View.canon_cons_of_not_mem _ _ (by
    intro hm
    have a := (Rect.mem_set_unit (inb := inb_S512x1024_S256x128_256_384)).mp hm 1
    have b : (((Rect.unit ![256, 128] ![256, 128] inb_S512x1024_S256x128_256_128) : Rect S512x1024).idx j 1 : ℕ) = 128 + (j 1 : ℕ) := Rect.idx_unit_val _ _ _ _ _
    have d : (j 1 : ℕ) < 128 := (j 1).isLt
    have a0 : 384 ≤ (((Rect.unit ![256, 128] ![256, 128] inb_S512x1024_S256x128_256_128) : Rect S512x1024).idx j 1 : ℕ) := a.1
    omega)

/-- A piece whose columns do not meet the ones read. -/
theorem mk1_32 (P : FVec Ideal S256x128 .bf16) (L : List (View.Piece (Elt Ideal) S512x1024 .bf16)) (j : ((Rect.unit ![256, 256] ![256, 128] inb_S512x1024_S256x128_256_256) : Rect S512x1024).shape.Idx) :
    View.canon ((⟨(Rect.unit ![256, 384] ![256, 128] inb_S512x1024_S256x128_256_384), P⟩ : View.Piece (Elt Ideal) S512x1024 .bf16) :: L) ((Rect.unit ![256, 256] ![256, 128] inb_S512x1024_S256x128_256_256).idx j) = View.canon L ((Rect.unit ![256, 256] ![256, 128] inb_S512x1024_S256x128_256_256).idx j) :=
  View.canon_cons_of_not_mem _ _ (by
    intro hm
    have a := (Rect.mem_set_unit (inb := inb_S512x1024_S256x128_256_384)).mp hm 1
    have b : (((Rect.unit ![256, 256] ![256, 128] inb_S512x1024_S256x128_256_256) : Rect S512x1024).idx j 1 : ℕ) = 256 + (j 1 : ℕ) := Rect.idx_unit_val _ _ _ _ _
    have d : (j 1 : ℕ) < 128 := (j 1).isLt
    have a0 : 384 ≤ (((Rect.unit ![256, 256] ![256, 128] inb_S512x1024_S256x128_256_256) : Rect S512x1024).idx j 1 : ℕ) := a.1
    omega)

/-- A piece whose columns do not meet the ones read. -/
theorem mk1_40 (P : FVec Ideal S256x128 .bf16) (L : List (View.Piece (Elt Ideal) S512x1024 .bf16)) (j : ((Rect.unit ![256, 0] ![256, 128] inb_S512x1024_S256x128_256_0) : Rect S512x1024).shape.Idx) :
    View.canon ((⟨(Rect.unit ![256, 512] ![256, 128] inb_S512x1024_S256x128_256_512), P⟩ : View.Piece (Elt Ideal) S512x1024 .bf16) :: L) ((Rect.unit ![256, 0] ![256, 128] inb_S512x1024_S256x128_256_0).idx j) = View.canon L ((Rect.unit ![256, 0] ![256, 128] inb_S512x1024_S256x128_256_0).idx j) :=
  View.canon_cons_of_not_mem _ _ (by
    intro hm
    have a := (Rect.mem_set_unit (inb := inb_S512x1024_S256x128_256_512)).mp hm 1
    have b : (((Rect.unit ![256, 0] ![256, 128] inb_S512x1024_S256x128_256_0) : Rect S512x1024).idx j 1 : ℕ) = 0 + (j 1 : ℕ) := Rect.idx_unit_val _ _ _ _ _
    have d : (j 1 : ℕ) < 128 := (j 1).isLt
    have a0 : 512 ≤ (((Rect.unit ![256, 0] ![256, 128] inb_S512x1024_S256x128_256_0) : Rect S512x1024).idx j 1 : ℕ) := a.1
    omega)

/-- A piece whose columns do not meet the ones read. -/
theorem mk1_41 (P : FVec Ideal S256x128 .bf16) (L : List (View.Piece (Elt Ideal) S512x1024 .bf16)) (j : ((Rect.unit ![256, 128] ![256, 128] inb_S512x1024_S256x128_256_128) : Rect S512x1024).shape.Idx) :
    View.canon ((⟨(Rect.unit ![256, 512] ![256, 128] inb_S512x1024_S256x128_256_512), P⟩ : View.Piece (Elt Ideal) S512x1024 .bf16) :: L) ((Rect.unit ![256, 128] ![256, 128] inb_S512x1024_S256x128_256_128).idx j) = View.canon L ((Rect.unit ![256, 128] ![256, 128] inb_S512x1024_S256x128_256_128).idx j) :=
  View.canon_cons_of_not_mem _ _ (by
    intro hm
    have a := (Rect.mem_set_unit (inb := inb_S512x1024_S256x128_256_512)).mp hm 1
    have b : (((Rect.unit ![256, 128] ![256, 128] inb_S512x1024_S256x128_256_128) : Rect S512x1024).idx j 1 : ℕ) = 128 + (j 1 : ℕ) := Rect.idx_unit_val _ _ _ _ _
    have d : (j 1 : ℕ) < 128 := (j 1).isLt
    have a0 : 512 ≤ (((Rect.unit ![256, 128] ![256, 128] inb_S512x1024_S256x128_256_128) : Rect S512x1024).idx j 1 : ℕ) := a.1
    omega)

/-- A piece whose columns do not meet the ones read. -/
theorem mk1_42 (P : FVec Ideal S256x128 .bf16) (L : List (View.Piece (Elt Ideal) S512x1024 .bf16)) (j : ((Rect.unit ![256, 256] ![256, 128] inb_S512x1024_S256x128_256_256) : Rect S512x1024).shape.Idx) :
    View.canon ((⟨(Rect.unit ![256, 512] ![256, 128] inb_S512x1024_S256x128_256_512), P⟩ : View.Piece (Elt Ideal) S512x1024 .bf16) :: L) ((Rect.unit ![256, 256] ![256, 128] inb_S512x1024_S256x128_256_256).idx j) = View.canon L ((Rect.unit ![256, 256] ![256, 128] inb_S512x1024_S256x128_256_256).idx j) :=
  View.canon_cons_of_not_mem _ _ (by
    intro hm
    have a := (Rect.mem_set_unit (inb := inb_S512x1024_S256x128_256_512)).mp hm 1
    have b : (((Rect.unit ![256, 256] ![256, 128] inb_S512x1024_S256x128_256_256) : Rect S512x1024).idx j 1 : ℕ) = 256 + (j 1 : ℕ) := Rect.idx_unit_val _ _ _ _ _
    have d : (j 1 : ℕ) < 128 := (j 1).isLt
    have a0 : 512 ≤ (((Rect.unit ![256, 256] ![256, 128] inb_S512x1024_S256x128_256_256) : Rect S512x1024).idx j 1 : ℕ) := a.1
    omega)

/-- A piece whose columns do not meet the ones read. -/
theorem mk1_43 (P : FVec Ideal S256x128 .bf16) (L : List (View.Piece (Elt Ideal) S512x1024 .bf16)) (j : ((Rect.unit ![256, 384] ![256, 128] inb_S512x1024_S256x128_256_384) : Rect S512x1024).shape.Idx) :
    View.canon ((⟨(Rect.unit ![256, 512] ![256, 128] inb_S512x1024_S256x128_256_512), P⟩ : View.Piece (Elt Ideal) S512x1024 .bf16) :: L) ((Rect.unit ![256, 384] ![256, 128] inb_S512x1024_S256x128_256_384).idx j) = View.canon L ((Rect.unit ![256, 384] ![256, 128] inb_S512x1024_S256x128_256_384).idx j) :=
  View.canon_cons_of_not_mem _ _ (by
    intro hm
    have a := (Rect.mem_set_unit (inb := inb_S512x1024_S256x128_256_512)).mp hm 1
    have b : (((Rect.unit ![256, 384] ![256, 128] inb_S512x1024_S256x128_256_384) : Rect S512x1024).idx j 1 : ℕ) = 384 + (j 1 : ℕ) := Rect.idx_unit_val _ _ _ _ _
    have d : (j 1 : ℕ) < 128 := (j 1).isLt
    have a0 : 512 ≤ (((Rect.unit ![256, 384] ![256, 128] inb_S512x1024_S256x128_256_384) : Rect S512x1024).idx j 1 : ℕ) := a.1
    omega)

/-- A piece whose columns do not meet the ones read. -/
theorem mk1_50 (P : FVec Ideal S256x128 .bf16) (L : List (View.Piece (Elt Ideal) S512x1024 .bf16)) (j : ((Rect.unit ![256, 0] ![256, 128] inb_S512x1024_S256x128_256_0) : Rect S512x1024).shape.Idx) :
    View.canon ((⟨(Rect.unit ![256, 640] ![256, 128] inb_S512x1024_S256x128_256_640), P⟩ : View.Piece (Elt Ideal) S512x1024 .bf16) :: L) ((Rect.unit ![256, 0] ![256, 128] inb_S512x1024_S256x128_256_0).idx j) = View.canon L ((Rect.unit ![256, 0] ![256, 128] inb_S512x1024_S256x128_256_0).idx j) :=
  View.canon_cons_of_not_mem _ _ (by
    intro hm
    have a := (Rect.mem_set_unit (inb := inb_S512x1024_S256x128_256_640)).mp hm 1
    have b : (((Rect.unit ![256, 0] ![256, 128] inb_S512x1024_S256x128_256_0) : Rect S512x1024).idx j 1 : ℕ) = 0 + (j 1 : ℕ) := Rect.idx_unit_val _ _ _ _ _
    have d : (j 1 : ℕ) < 128 := (j 1).isLt
    have a0 : 640 ≤ (((Rect.unit ![256, 0] ![256, 128] inb_S512x1024_S256x128_256_0) : Rect S512x1024).idx j 1 : ℕ) := a.1
    omega)

/-- A piece whose columns do not meet the ones read. -/
theorem mk1_51 (P : FVec Ideal S256x128 .bf16) (L : List (View.Piece (Elt Ideal) S512x1024 .bf16)) (j : ((Rect.unit ![256, 128] ![256, 128] inb_S512x1024_S256x128_256_128) : Rect S512x1024).shape.Idx) :
    View.canon ((⟨(Rect.unit ![256, 640] ![256, 128] inb_S512x1024_S256x128_256_640), P⟩ : View.Piece (Elt Ideal) S512x1024 .bf16) :: L) ((Rect.unit ![256, 128] ![256, 128] inb_S512x1024_S256x128_256_128).idx j) = View.canon L ((Rect.unit ![256, 128] ![256, 128] inb_S512x1024_S256x128_256_128).idx j) :=
  View.canon_cons_of_not_mem _ _ (by
    intro hm
    have a := (Rect.mem_set_unit (inb := inb_S512x1024_S256x128_256_640)).mp hm 1
    have b : (((Rect.unit ![256, 128] ![256, 128] inb_S512x1024_S256x128_256_128) : Rect S512x1024).idx j 1 : ℕ) = 128 + (j 1 : ℕ) := Rect.idx_unit_val _ _ _ _ _
    have d : (j 1 : ℕ) < 128 := (j 1).isLt
    have a0 : 640 ≤ (((Rect.unit ![256, 128] ![256, 128] inb_S512x1024_S256x128_256_128) : Rect S512x1024).idx j 1 : ℕ) := a.1
    omega)

/-- A piece whose columns do not meet the ones read. -/
theorem mk1_52 (P : FVec Ideal S256x128 .bf16) (L : List (View.Piece (Elt Ideal) S512x1024 .bf16)) (j : ((Rect.unit ![256, 256] ![256, 128] inb_S512x1024_S256x128_256_256) : Rect S512x1024).shape.Idx) :
    View.canon ((⟨(Rect.unit ![256, 640] ![256, 128] inb_S512x1024_S256x128_256_640), P⟩ : View.Piece (Elt Ideal) S512x1024 .bf16) :: L) ((Rect.unit ![256, 256] ![256, 128] inb_S512x1024_S256x128_256_256).idx j) = View.canon L ((Rect.unit ![256, 256] ![256, 128] inb_S512x1024_S256x128_256_256).idx j) :=
  View.canon_cons_of_not_mem _ _ (by
    intro hm
    have a := (Rect.mem_set_unit (inb := inb_S512x1024_S256x128_256_640)).mp hm 1
    have b : (((Rect.unit ![256, 256] ![256, 128] inb_S512x1024_S256x128_256_256) : Rect S512x1024).idx j 1 : ℕ) = 256 + (j 1 : ℕ) := Rect.idx_unit_val _ _ _ _ _
    have d : (j 1 : ℕ) < 128 := (j 1).isLt
    have a0 : 640 ≤ (((Rect.unit ![256, 256] ![256, 128] inb_S512x1024_S256x128_256_256) : Rect S512x1024).idx j 1 : ℕ) := a.1
    omega)

/-- A piece whose columns do not meet the ones read. -/
theorem mk1_53 (P : FVec Ideal S256x128 .bf16) (L : List (View.Piece (Elt Ideal) S512x1024 .bf16)) (j : ((Rect.unit ![256, 384] ![256, 128] inb_S512x1024_S256x128_256_384) : Rect S512x1024).shape.Idx) :
    View.canon ((⟨(Rect.unit ![256, 640] ![256, 128] inb_S512x1024_S256x128_256_640), P⟩ : View.Piece (Elt Ideal) S512x1024 .bf16) :: L) ((Rect.unit ![256, 384] ![256, 128] inb_S512x1024_S256x128_256_384).idx j) = View.canon L ((Rect.unit ![256, 384] ![256, 128] inb_S512x1024_S256x128_256_384).idx j) :=
  View.canon_cons_of_not_mem _ _ (by
    intro hm
    have a := (Rect.mem_set_unit (inb := inb_S512x1024_S256x128_256_640)).mp hm 1
    have b : (((Rect.unit ![256, 384] ![256, 128] inb_S512x1024_S256x128_256_384) : Rect S512x1024).idx j 1 : ℕ) = 384 + (j 1 : ℕ) := Rect.idx_unit_val _ _ _ _ _
    have d : (j 1 : ℕ) < 128 := (j 1).isLt
    have a0 : 640 ≤ (((Rect.unit ![256, 384] ![256, 128] inb_S512x1024_S256x128_256_384) : Rect S512x1024).idx j 1 : ℕ) := a.1
    omega)

/-- A piece whose columns do not meet the ones read. -/
theorem mk1_54 (P : FVec Ideal S256x128 .bf16) (L : List (View.Piece (Elt Ideal) S512x1024 .bf16)) (j : ((Rect.unit ![256, 512] ![256, 128] inb_S512x1024_S256x128_256_512) : Rect S512x1024).shape.Idx) :
    View.canon ((⟨(Rect.unit ![256, 640] ![256, 128] inb_S512x1024_S256x128_256_640), P⟩ : View.Piece (Elt Ideal) S512x1024 .bf16) :: L) ((Rect.unit ![256, 512] ![256, 128] inb_S512x1024_S256x128_256_512).idx j) = View.canon L ((Rect.unit ![256, 512] ![256, 128] inb_S512x1024_S256x128_256_512).idx j) :=
  View.canon_cons_of_not_mem _ _ (by
    intro hm
    have a := (Rect.mem_set_unit (inb := inb_S512x1024_S256x128_256_640)).mp hm 1
    have b : (((Rect.unit ![256, 512] ![256, 128] inb_S512x1024_S256x128_256_512) : Rect S512x1024).idx j 1 : ℕ) = 512 + (j 1 : ℕ) := Rect.idx_unit_val _ _ _ _ _
    have d : (j 1 : ℕ) < 128 := (j 1).isLt
    have a0 : 640 ≤ (((Rect.unit ![256, 512] ![256, 128] inb_S512x1024_S256x128_256_512) : Rect S512x1024).idx j 1 : ℕ) := a.1
    omega)

/-- A piece whose columns do not meet the ones read. -/
theorem mk1_60 (P : FVec Ideal S256x128 .bf16) (L : List (View.Piece (Elt Ideal) S512x1024 .bf16)) (j : ((Rect.unit ![256, 0] ![256, 128] inb_S512x1024_S256x128_256_0) : Rect S512x1024).shape.Idx) :
    View.canon ((⟨(Rect.unit ![256, 768] ![256, 128] inb_S512x1024_S256x128_256_768), P⟩ : View.Piece (Elt Ideal) S512x1024 .bf16) :: L) ((Rect.unit ![256, 0] ![256, 128] inb_S512x1024_S256x128_256_0).idx j) = View.canon L ((Rect.unit ![256, 0] ![256, 128] inb_S512x1024_S256x128_256_0).idx j) :=
  View.canon_cons_of_not_mem _ _ (by
    intro hm
    have a := (Rect.mem_set_unit (inb := inb_S512x1024_S256x128_256_768)).mp hm 1
    have b : (((Rect.unit ![256, 0] ![256, 128] inb_S512x1024_S256x128_256_0) : Rect S512x1024).idx j 1 : ℕ) = 0 + (j 1 : ℕ) := Rect.idx_unit_val _ _ _ _ _
    have d : (j 1 : ℕ) < 128 := (j 1).isLt
    have a0 : 768 ≤ (((Rect.unit ![256, 0] ![256, 128] inb_S512x1024_S256x128_256_0) : Rect S512x1024).idx j 1 : ℕ) := a.1
    omega)

/-- A piece whose columns do not meet the ones read. -/
theorem mk1_61 (P : FVec Ideal S256x128 .bf16) (L : List (View.Piece (Elt Ideal) S512x1024 .bf16)) (j : ((Rect.unit ![256, 128] ![256, 128] inb_S512x1024_S256x128_256_128) : Rect S512x1024).shape.Idx) :
    View.canon ((⟨(Rect.unit ![256, 768] ![256, 128] inb_S512x1024_S256x128_256_768), P⟩ : View.Piece (Elt Ideal) S512x1024 .bf16) :: L) ((Rect.unit ![256, 128] ![256, 128] inb_S512x1024_S256x128_256_128).idx j) = View.canon L ((Rect.unit ![256, 128] ![256, 128] inb_S512x1024_S256x128_256_128).idx j) :=
  View.canon_cons_of_not_mem _ _ (by
    intro hm
    have a := (Rect.mem_set_unit (inb := inb_S512x1024_S256x128_256_768)).mp hm 1
    have b : (((Rect.unit ![256, 128] ![256, 128] inb_S512x1024_S256x128_256_128) : Rect S512x1024).idx j 1 : ℕ) = 128 + (j 1 : ℕ) := Rect.idx_unit_val _ _ _ _ _
    have d : (j 1 : ℕ) < 128 := (j 1).isLt
    have a0 : 768 ≤ (((Rect.unit ![256, 128] ![256, 128] inb_S512x1024_S256x128_256_128) : Rect S512x1024).idx j 1 : ℕ) := a.1
    omega)

/-- A piece whose columns do not meet the ones read. -/
theorem mk1_62 (P : FVec Ideal S256x128 .bf16) (L : List (View.Piece (Elt Ideal) S512x1024 .bf16)) (j : ((Rect.unit ![256, 256] ![256, 128] inb_S512x1024_S256x128_256_256) : Rect S512x1024).shape.Idx) :
    View.canon ((⟨(Rect.unit ![256, 768] ![256, 128] inb_S512x1024_S256x128_256_768), P⟩ : View.Piece (Elt Ideal) S512x1024 .bf16) :: L) ((Rect.unit ![256, 256] ![256, 128] inb_S512x1024_S256x128_256_256).idx j) = View.canon L ((Rect.unit ![256, 256] ![256, 128] inb_S512x1024_S256x128_256_256).idx j) :=
  View.canon_cons_of_not_mem _ _ (by
    intro hm
    have a := (Rect.mem_set_unit (inb := inb_S512x1024_S256x128_256_768)).mp hm 1
    have b : (((Rect.unit ![256, 256] ![256, 128] inb_S512x1024_S256x128_256_256) : Rect S512x1024).idx j 1 : ℕ) = 256 + (j 1 : ℕ) := Rect.idx_unit_val _ _ _ _ _
    have d : (j 1 : ℕ) < 128 := (j 1).isLt
    have a0 : 768 ≤ (((Rect.unit ![256, 256] ![256, 128] inb_S512x1024_S256x128_256_256) : Rect S512x1024).idx j 1 : ℕ) := a.1
    omega)

/-- A piece whose columns do not meet the ones read. -/
theorem mk1_63 (P : FVec Ideal S256x128 .bf16) (L : List (View.Piece (Elt Ideal) S512x1024 .bf16)) (j : ((Rect.unit ![256, 384] ![256, 128] inb_S512x1024_S256x128_256_384) : Rect S512x1024).shape.Idx) :
    View.canon ((⟨(Rect.unit ![256, 768] ![256, 128] inb_S512x1024_S256x128_256_768), P⟩ : View.Piece (Elt Ideal) S512x1024 .bf16) :: L) ((Rect.unit ![256, 384] ![256, 128] inb_S512x1024_S256x128_256_384).idx j) = View.canon L ((Rect.unit ![256, 384] ![256, 128] inb_S512x1024_S256x128_256_384).idx j) :=
  View.canon_cons_of_not_mem _ _ (by
    intro hm
    have a := (Rect.mem_set_unit (inb := inb_S512x1024_S256x128_256_768)).mp hm 1
    have b : (((Rect.unit ![256, 384] ![256, 128] inb_S512x1024_S256x128_256_384) : Rect S512x1024).idx j 1 : ℕ) = 384 + (j 1 : ℕ) := Rect.idx_unit_val _ _ _ _ _
    have d : (j 1 : ℕ) < 128 := (j 1).isLt
    have a0 : 768 ≤ (((Rect.unit ![256, 384] ![256, 128] inb_S512x1024_S256x128_256_384) : Rect S512x1024).idx j 1 : ℕ) := a.1
    omega)

/-- A piece whose columns do not meet the ones read. -/
theorem mk1_64 (P : FVec Ideal S256x128 .bf16) (L : List (View.Piece (Elt Ideal) S512x1024 .bf16)) (j : ((Rect.unit ![256, 512] ![256, 128] inb_S512x1024_S256x128_256_512) : Rect S512x1024).shape.Idx) :
    View.canon ((⟨(Rect.unit ![256, 768] ![256, 128] inb_S512x1024_S256x128_256_768), P⟩ : View.Piece (Elt Ideal) S512x1024 .bf16) :: L) ((Rect.unit ![256, 512] ![256, 128] inb_S512x1024_S256x128_256_512).idx j) = View.canon L ((Rect.unit ![256, 512] ![256, 128] inb_S512x1024_S256x128_256_512).idx j) :=
  View.canon_cons_of_not_mem _ _ (by
    intro hm
    have a := (Rect.mem_set_unit (inb := inb_S512x1024_S256x128_256_768)).mp hm 1
    have b : (((Rect.unit ![256, 512] ![256, 128] inb_S512x1024_S256x128_256_512) : Rect S512x1024).idx j 1 : ℕ) = 512 + (j 1 : ℕ) := Rect.idx_unit_val _ _ _ _ _
    have d : (j 1 : ℕ) < 128 := (j 1).isLt
    have a0 : 768 ≤ (((Rect.unit ![256, 512] ![256, 128] inb_S512x1024_S256x128_256_512) : Rect S512x1024).idx j 1 : ℕ) := a.1
    omega)

/-- A piece whose columns do not meet the ones read. -/
theorem mk1_65 (P : FVec Ideal S256x128 .bf16) (L : List (View.Piece (Elt Ideal) S512x1024 .bf16)) (j : ((Rect.unit ![256, 640] ![256, 128] inb_S512x1024_S256x128_256_640) : Rect S512x1024).shape.Idx) :
    View.canon ((⟨(Rect.unit ![256, 768] ![256, 128] inb_S512x1024_S256x128_256_768), P⟩ : View.Piece (Elt Ideal) S512x1024 .bf16) :: L) ((Rect.unit ![256, 640] ![256, 128] inb_S512x1024_S256x128_256_640).idx j) = View.canon L ((Rect.unit ![256, 640] ![256, 128] inb_S512x1024_S256x128_256_640).idx j) :=
  View.canon_cons_of_not_mem _ _ (by
    intro hm
    have a := (Rect.mem_set_unit (inb := inb_S512x1024_S256x128_256_768)).mp hm 1
    have b : (((Rect.unit ![256, 640] ![256, 128] inb_S512x1024_S256x128_256_640) : Rect S512x1024).idx j 1 : ℕ) = 640 + (j 1 : ℕ) := Rect.idx_unit_val _ _ _ _ _
    have d : (j 1 : ℕ) < 128 := (j 1).isLt
    have a0 : 768 ≤ (((Rect.unit ![256, 640] ![256, 128] inb_S512x1024_S256x128_256_640) : Rect S512x1024).idx j 1 : ℕ) := a.1
    omega)

/-- A piece whose columns do not meet the ones read. -/
theorem mk1_70 (P : FVec Ideal S256x128 .bf16) (L : List (View.Piece (Elt Ideal) S512x1024 .bf16)) (j : ((Rect.unit ![256, 0] ![256, 128] inb_S512x1024_S256x128_256_0) : Rect S512x1024).shape.Idx) :
    View.canon ((⟨(Rect.unit ![256, 896] ![256, 128] inb_S512x1024_S256x128_256_896), P⟩ : View.Piece (Elt Ideal) S512x1024 .bf16) :: L) ((Rect.unit ![256, 0] ![256, 128] inb_S512x1024_S256x128_256_0).idx j) = View.canon L ((Rect.unit ![256, 0] ![256, 128] inb_S512x1024_S256x128_256_0).idx j) :=
  View.canon_cons_of_not_mem _ _ (by
    intro hm
    have a := (Rect.mem_set_unit (inb := inb_S512x1024_S256x128_256_896)).mp hm 1
    have b : (((Rect.unit ![256, 0] ![256, 128] inb_S512x1024_S256x128_256_0) : Rect S512x1024).idx j 1 : ℕ) = 0 + (j 1 : ℕ) := Rect.idx_unit_val _ _ _ _ _
    have d : (j 1 : ℕ) < 128 := (j 1).isLt
    have a0 : 896 ≤ (((Rect.unit ![256, 0] ![256, 128] inb_S512x1024_S256x128_256_0) : Rect S512x1024).idx j 1 : ℕ) := a.1
    omega)

/-- A piece whose columns do not meet the ones read. -/
theorem mk1_71 (P : FVec Ideal S256x128 .bf16) (L : List (View.Piece (Elt Ideal) S512x1024 .bf16)) (j : ((Rect.unit ![256, 128] ![256, 128] inb_S512x1024_S256x128_256_128) : Rect S512x1024).shape.Idx) :
    View.canon ((⟨(Rect.unit ![256, 896] ![256, 128] inb_S512x1024_S256x128_256_896), P⟩ : View.Piece (Elt Ideal) S512x1024 .bf16) :: L) ((Rect.unit ![256, 128] ![256, 128] inb_S512x1024_S256x128_256_128).idx j) = View.canon L ((Rect.unit ![256, 128] ![256, 128] inb_S512x1024_S256x128_256_128).idx j) :=
  View.canon_cons_of_not_mem _ _ (by
    intro hm
    have a := (Rect.mem_set_unit (inb := inb_S512x1024_S256x128_256_896)).mp hm 1
    have b : (((Rect.unit ![256, 128] ![256, 128] inb_S512x1024_S256x128_256_128) : Rect S512x1024).idx j 1 : ℕ) = 128 + (j 1 : ℕ) := Rect.idx_unit_val _ _ _ _ _
    have d : (j 1 : ℕ) < 128 := (j 1).isLt
    have a0 : 896 ≤ (((Rect.unit ![256, 128] ![256, 128] inb_S512x1024_S256x128_256_128) : Rect S512x1024).idx j 1 : ℕ) := a.1
    omega)

/-- A piece whose columns do not meet the ones read. -/
theorem mk1_72 (P : FVec Ideal S256x128 .bf16) (L : List (View.Piece (Elt Ideal) S512x1024 .bf16)) (j : ((Rect.unit ![256, 256] ![256, 128] inb_S512x1024_S256x128_256_256) : Rect S512x1024).shape.Idx) :
    View.canon ((⟨(Rect.unit ![256, 896] ![256, 128] inb_S512x1024_S256x128_256_896), P⟩ : View.Piece (Elt Ideal) S512x1024 .bf16) :: L) ((Rect.unit ![256, 256] ![256, 128] inb_S512x1024_S256x128_256_256).idx j) = View.canon L ((Rect.unit ![256, 256] ![256, 128] inb_S512x1024_S256x128_256_256).idx j) :=
  View.canon_cons_of_not_mem _ _ (by
    intro hm
    have a := (Rect.mem_set_unit (inb := inb_S512x1024_S256x128_256_896)).mp hm 1
    have b : (((Rect.unit ![256, 256] ![256, 128] inb_S512x1024_S256x128_256_256) : Rect S512x1024).idx j 1 : ℕ) = 256 + (j 1 : ℕ) := Rect.idx_unit_val _ _ _ _ _
    have d : (j 1 : ℕ) < 128 := (j 1).isLt
    have a0 : 896 ≤ (((Rect.unit ![256, 256] ![256, 128] inb_S512x1024_S256x128_256_256) : Rect S512x1024).idx j 1 : ℕ) := a.1
    omega)

/-- A piece whose columns do not meet the ones read. -/
theorem mk1_73 (P : FVec Ideal S256x128 .bf16) (L : List (View.Piece (Elt Ideal) S512x1024 .bf16)) (j : ((Rect.unit ![256, 384] ![256, 128] inb_S512x1024_S256x128_256_384) : Rect S512x1024).shape.Idx) :
    View.canon ((⟨(Rect.unit ![256, 896] ![256, 128] inb_S512x1024_S256x128_256_896), P⟩ : View.Piece (Elt Ideal) S512x1024 .bf16) :: L) ((Rect.unit ![256, 384] ![256, 128] inb_S512x1024_S256x128_256_384).idx j) = View.canon L ((Rect.unit ![256, 384] ![256, 128] inb_S512x1024_S256x128_256_384).idx j) :=
  View.canon_cons_of_not_mem _ _ (by
    intro hm
    have a := (Rect.mem_set_unit (inb := inb_S512x1024_S256x128_256_896)).mp hm 1
    have b : (((Rect.unit ![256, 384] ![256, 128] inb_S512x1024_S256x128_256_384) : Rect S512x1024).idx j 1 : ℕ) = 384 + (j 1 : ℕ) := Rect.idx_unit_val _ _ _ _ _
    have d : (j 1 : ℕ) < 128 := (j 1).isLt
    have a0 : 896 ≤ (((Rect.unit ![256, 384] ![256, 128] inb_S512x1024_S256x128_256_384) : Rect S512x1024).idx j 1 : ℕ) := a.1
    omega)

/-- A piece whose columns do not meet the ones read. -/
theorem mk1_74 (P : FVec Ideal S256x128 .bf16) (L : List (View.Piece (Elt Ideal) S512x1024 .bf16)) (j : ((Rect.unit ![256, 512] ![256, 128] inb_S512x1024_S256x128_256_512) : Rect S512x1024).shape.Idx) :
    View.canon ((⟨(Rect.unit ![256, 896] ![256, 128] inb_S512x1024_S256x128_256_896), P⟩ : View.Piece (Elt Ideal) S512x1024 .bf16) :: L) ((Rect.unit ![256, 512] ![256, 128] inb_S512x1024_S256x128_256_512).idx j) = View.canon L ((Rect.unit ![256, 512] ![256, 128] inb_S512x1024_S256x128_256_512).idx j) :=
  View.canon_cons_of_not_mem _ _ (by
    intro hm
    have a := (Rect.mem_set_unit (inb := inb_S512x1024_S256x128_256_896)).mp hm 1
    have b : (((Rect.unit ![256, 512] ![256, 128] inb_S512x1024_S256x128_256_512) : Rect S512x1024).idx j 1 : ℕ) = 512 + (j 1 : ℕ) := Rect.idx_unit_val _ _ _ _ _
    have d : (j 1 : ℕ) < 128 := (j 1).isLt
    have a0 : 896 ≤ (((Rect.unit ![256, 512] ![256, 128] inb_S512x1024_S256x128_256_512) : Rect S512x1024).idx j 1 : ℕ) := a.1
    omega)

/-- A piece whose columns do not meet the ones read. -/
theorem mk1_75 (P : FVec Ideal S256x128 .bf16) (L : List (View.Piece (Elt Ideal) S512x1024 .bf16)) (j : ((Rect.unit ![256, 640] ![256, 128] inb_S512x1024_S256x128_256_640) : Rect S512x1024).shape.Idx) :
    View.canon ((⟨(Rect.unit ![256, 896] ![256, 128] inb_S512x1024_S256x128_256_896), P⟩ : View.Piece (Elt Ideal) S512x1024 .bf16) :: L) ((Rect.unit ![256, 640] ![256, 128] inb_S512x1024_S256x128_256_640).idx j) = View.canon L ((Rect.unit ![256, 640] ![256, 128] inb_S512x1024_S256x128_256_640).idx j) :=
  View.canon_cons_of_not_mem _ _ (by
    intro hm
    have a := (Rect.mem_set_unit (inb := inb_S512x1024_S256x128_256_896)).mp hm 1
    have b : (((Rect.unit ![256, 640] ![256, 128] inb_S512x1024_S256x128_256_640) : Rect S512x1024).idx j 1 : ℕ) = 640 + (j 1 : ℕ) := Rect.idx_unit_val _ _ _ _ _
    have d : (j 1 : ℕ) < 128 := (j 1).isLt
    have a0 : 896 ≤ (((Rect.unit ![256, 640] ![256, 128] inb_S512x1024_S256x128_256_640) : Rect S512x1024).idx j 1 : ℕ) := a.1
    omega)

/-- A piece whose columns do not meet the ones read. -/
theorem mk1_76 (P : FVec Ideal S256x128 .bf16) (L : List (View.Piece (Elt Ideal) S512x1024 .bf16)) (j : ((Rect.unit ![256, 768] ![256, 128] inb_S512x1024_S256x128_256_768) : Rect S512x1024).shape.Idx) :
    View.canon ((⟨(Rect.unit ![256, 896] ![256, 128] inb_S512x1024_S256x128_256_896), P⟩ : View.Piece (Elt Ideal) S512x1024 .bf16) :: L) ((Rect.unit ![256, 768] ![256, 128] inb_S512x1024_S256x128_256_768).idx j) = View.canon L ((Rect.unit ![256, 768] ![256, 128] inb_S512x1024_S256x128_256_768).idx j) :=
  View.canon_cons_of_not_mem _ _ (by
    intro hm
    have a := (Rect.mem_set_unit (inb := inb_S512x1024_S256x128_256_896)).mp hm 1
    have b : (((Rect.unit ![256, 768] ![256, 128] inb_S512x1024_S256x128_256_768) : Rect S512x1024).idx j 1 : ℕ) = 768 + (j 1 : ℕ) := Rect.idx_unit_val _ _ _ _ _
    have d : (j 1 : ℕ) < 128 := (j 1).isLt
    have a0 : 896 ≤ (((Rect.unit ![256, 768] ![256, 128] inb_S512x1024_S256x128_256_768) : Rect S512x1024).idx j 1 : ℕ) := a.1
    omega)

/-- The mixed rows of a chunk, read from the pieces its groups and heads wrote. -/
theorem mc1 (n k : Fin 8) (L : List (View.Piece (Elt Ideal) S512x1024 .bf16)) :
    (fun j => View.canon ((⟨(Rect.unit ![256, 896] ![256, 128] inb_S512x1024_S256x128_256_896), hdv x w gn n k 3⟩ : View.Piece (Elt Ideal) S512x1024 .bf16) :: ⟨(Rect.unit ![256, 768] ![256, 128] inb_S512x1024_S256x128_256_768), hdv x w gn n k 2⟩ :: ⟨(Rect.unit ![256, 640] ![256, 128] inb_S512x1024_S256x128_256_640), hdv x w gn n k 1⟩ :: ⟨(Rect.unit ![256, 512] ![256, 128] inb_S512x1024_S256x128_256_512), hdv x w gn n k 0⟩ :: ⟨(Rect.unit ![256, 384] ![256, 128] inb_S512x1024_S256x128_256_384), plv x w pw ps n k 3⟩ :: ⟨(Rect.unit ![256, 256] ![256, 128] inb_S512x1024_S256x128_256_256), plv x w pw ps n k 2⟩ :: ⟨(Rect.unit ![256, 128] ![256, 128] inb_S512x1024_S256x128_256_128), plv x w pw ps n k 1⟩ :: ⟨(Rect.unit ![256, 0] ![256, 128] inb_S512x1024_S256x128_256_0), plv x w pw ps n k 0⟩ :: L) ((Rect.unit ![256, 0] ![256, 1024] inb_S512x1024_S256x1024_256_0).idx j)) = mixv x w pw ps gn n k := by
  funext y
  have l1 : (y 1).val < 1024 := (y 1).isLt
  have q : (0 ≤ (y 1).val ∧ (y 1).val < 128) ∨ (128 ≤ (y 1).val ∧ (y 1).val < 256) ∨ (256 ≤ (y 1).val ∧ (y 1).val < 384) ∨ (384 ≤ (y 1).val ∧ (y 1).val < 512) ∨ (512 ≤ (y 1).val ∧ (y 1).val < 640) ∨ (640 ≤ (y 1).val ∧ (y 1).val < 768) ∨ (768 ≤ (y 1).val ∧ (y 1).val < 896) ∨ (896 ≤ (y 1).val ∧ (y 1).val < 1024) := by omega
  rcases q with q | q | q | q | q | q | q | q
  · let j : ((Rect.unit ![256, 0] ![256, 128] inb_S512x1024_S256x128_256_0) : Rect S512x1024).shape.Idx := ix2 (y 0) ⟨(y 1).val - 0, by omega⟩
    have e : (Rect.unit ![256, 0] ![256, 1024] inb_S512x1024_S256x1024_256_0).idx y = ((Rect.unit ![256, 0] ![256, 128] inb_S512x1024_S256x128_256_0) : Rect S512x1024).idx j := by
      funext i
      refine Fin.ext ?_
      rw [Rect.idx_unit_val, Rect.idx_unit_val]
      fin_cases i
      · rfl
      · show 0 + (y 1).val = 0 + ((y 1).val - 0); omega
    refine (congrArg _ e).trans ?_
    -- reach the piece that wrote these columns
    refine ((mk1_70 _ _ j).trans ((mk1_60 _ _ j).trans ((mk1_50 _ _ j).trans ((mk1_40 _ _ j).trans ((mk1_30 _ _ j).trans ((mk1_20 _ _ j).trans ((mk1_10 _ _ j).trans (View.canon_cons_emb _ _ _ j)))))))).trans ?_
    refine (mixP0 x w pw ps gn n (tk k (y 0)) ⟨(y 1).val - 0, by omega⟩ (by show 128 * 0 + ((y 1).val - 0) < 1024; omega)).symm.trans ?_
    exact congrArg (fun d => mixAt x w pw ps gn n (tk k (y 0)) d) (Fin.ext (by show 128 * 0 + ((y 1).val - 0) = (y 1).val; omega))
  · let j : ((Rect.unit ![256, 128] ![256, 128] inb_S512x1024_S256x128_256_128) : Rect S512x1024).shape.Idx := ix2 (y 0) ⟨(y 1).val - 128, by omega⟩
    have e : (Rect.unit ![256, 0] ![256, 1024] inb_S512x1024_S256x1024_256_0).idx y = ((Rect.unit ![256, 128] ![256, 128] inb_S512x1024_S256x128_256_128) : Rect S512x1024).idx j := by
      funext i
      refine Fin.ext ?_
      rw [Rect.idx_unit_val, Rect.idx_unit_val]
      fin_cases i
      · rfl
      · show 0 + (y 1).val = 128 + ((y 1).val - 128); omega
    refine (congrArg _ e).trans ?_
    -- reach the piece that wrote these columns
    refine ((mk1_71 _ _ j).trans ((mk1_61 _ _ j).trans ((mk1_51 _ _ j).trans ((mk1_41 _ _ j).trans ((mk1_31 _ _ j).trans ((mk1_21 _ _ j).trans (View.canon_cons_emb _ _ _ j))))))).trans ?_
    refine (mixP1 x w pw ps gn n (tk k (y 0)) ⟨(y 1).val - 128, by omega⟩ (by show 128 * 1 + ((y 1).val - 128) < 1024; omega)).symm.trans ?_
    exact congrArg (fun d => mixAt x w pw ps gn n (tk k (y 0)) d) (Fin.ext (by show 128 * 1 + ((y 1).val - 128) = (y 1).val; omega))
  · let j : ((Rect.unit ![256, 256] ![256, 128] inb_S512x1024_S256x128_256_256) : Rect S512x1024).shape.Idx := ix2 (y 0) ⟨(y 1).val - 256, by omega⟩
    have e : (Rect.unit ![256, 0] ![256, 1024] inb_S512x1024_S256x1024_256_0).idx y = ((Rect.unit ![256, 256] ![256, 128] inb_S512x1024_S256x128_256_256) : Rect S512x1024).idx j := by
      funext i
      refine Fin.ext ?_
      rw [Rect.idx_unit_val, Rect.idx_unit_val]
      fin_cases i
      · rfl
      · show 0 + (y 1).val = 256 + ((y 1).val - 256); omega
    refine (congrArg _ e).trans ?_
    -- reach the piece that wrote these columns
    refine ((mk1_72 _ _ j).trans ((mk1_62 _ _ j).trans ((mk1_52 _ _ j).trans ((mk1_42 _ _ j).trans ((mk1_32 _ _ j).trans (View.canon_cons_emb _ _ _ j)))))).trans ?_
    refine (mixP2 x w pw ps gn n (tk k (y 0)) ⟨(y 1).val - 256, by omega⟩ (by show 128 * 2 + ((y 1).val - 256) < 1024; omega)).symm.trans ?_
    exact congrArg (fun d => mixAt x w pw ps gn n (tk k (y 0)) d) (Fin.ext (by show 128 * 2 + ((y 1).val - 256) = (y 1).val; omega))
  · let j : ((Rect.unit ![256, 384] ![256, 128] inb_S512x1024_S256x128_256_384) : Rect S512x1024).shape.Idx := ix2 (y 0) ⟨(y 1).val - 384, by omega⟩
    have e : (Rect.unit ![256, 0] ![256, 1024] inb_S512x1024_S256x1024_256_0).idx y = ((Rect.unit ![256, 384] ![256, 128] inb_S512x1024_S256x128_256_384) : Rect S512x1024).idx j := by
      funext i
      refine Fin.ext ?_
      rw [Rect.idx_unit_val, Rect.idx_unit_val]
      fin_cases i
      · rfl
      · show 0 + (y 1).val = 384 + ((y 1).val - 384); omega
    refine (congrArg _ e).trans ?_
    -- reach the piece that wrote these columns
    refine ((mk1_73 _ _ j).trans ((mk1_63 _ _ j).trans ((mk1_53 _ _ j).trans ((mk1_43 _ _ j).trans (View.canon_cons_emb _ _ _ j))))).trans ?_
    refine (mixP3 x w pw ps gn n (tk k (y 0)) ⟨(y 1).val - 384, by omega⟩ (by show 128 * 3 + ((y 1).val - 384) < 1024; omega)).symm.trans ?_
    exact congrArg (fun d => mixAt x w pw ps gn n (tk k (y 0)) d) (Fin.ext (by show 128 * 3 + ((y 1).val - 384) = (y 1).val; omega))
  · let j : ((Rect.unit ![256, 512] ![256, 128] inb_S512x1024_S256x128_256_512) : Rect S512x1024).shape.Idx := ix2 (y 0) ⟨(y 1).val - 512, by omega⟩
    have e : (Rect.unit ![256, 0] ![256, 1024] inb_S512x1024_S256x1024_256_0).idx y = ((Rect.unit ![256, 512] ![256, 128] inb_S512x1024_S256x128_256_512) : Rect S512x1024).idx j := by
      funext i
      refine Fin.ext ?_
      rw [Rect.idx_unit_val, Rect.idx_unit_val]
      fin_cases i
      · rfl
      · show 0 + (y 1).val = 512 + ((y 1).val - 512); omega
    refine (congrArg _ e).trans ?_
    -- reach the piece that wrote these columns
    refine ((mk1_74 _ _ j).trans ((mk1_64 _ _ j).trans ((mk1_54 _ _ j).trans (View.canon_cons_emb _ _ _ j)))).trans ?_
    refine (mixH0 x w pw ps gn n (tk k (y 0)) ⟨(y 1).val - 512, by omega⟩ (by show 512 + ((y 1).val - 512) < 1024; omega)).symm.trans ?_
    exact congrArg (fun d => mixAt x w pw ps gn n (tk k (y 0)) d) (Fin.ext (by show 512 + ((y 1).val - 512) = (y 1).val; omega))
  · let j : ((Rect.unit ![256, 640] ![256, 128] inb_S512x1024_S256x128_256_640) : Rect S512x1024).shape.Idx := ix2 (y 0) ⟨(y 1).val - 640, by omega⟩
    have e : (Rect.unit ![256, 0] ![256, 1024] inb_S512x1024_S256x1024_256_0).idx y = ((Rect.unit ![256, 640] ![256, 128] inb_S512x1024_S256x128_256_640) : Rect S512x1024).idx j := by
      funext i
      refine Fin.ext ?_
      rw [Rect.idx_unit_val, Rect.idx_unit_val]
      fin_cases i
      · rfl
      · show 0 + (y 1).val = 640 + ((y 1).val - 640); omega
    refine (congrArg _ e).trans ?_
    -- reach the piece that wrote these columns
    refine ((mk1_75 _ _ j).trans ((mk1_65 _ _ j).trans (View.canon_cons_emb _ _ _ j))).trans ?_
    refine (mixH1 x w pw ps gn n (tk k (y 0)) ⟨(y 1).val - 640, by omega⟩ (by show 640 + ((y 1).val - 640) < 1024; omega)).symm.trans ?_
    exact congrArg (fun d => mixAt x w pw ps gn n (tk k (y 0)) d) (Fin.ext (by show 640 + ((y 1).val - 640) = (y 1).val; omega))
  · let j : ((Rect.unit ![256, 768] ![256, 128] inb_S512x1024_S256x128_256_768) : Rect S512x1024).shape.Idx := ix2 (y 0) ⟨(y 1).val - 768, by omega⟩
    have e : (Rect.unit ![256, 0] ![256, 1024] inb_S512x1024_S256x1024_256_0).idx y = ((Rect.unit ![256, 768] ![256, 128] inb_S512x1024_S256x128_256_768) : Rect S512x1024).idx j := by
      funext i
      refine Fin.ext ?_
      rw [Rect.idx_unit_val, Rect.idx_unit_val]
      fin_cases i
      · rfl
      · show 0 + (y 1).val = 768 + ((y 1).val - 768); omega
    refine (congrArg _ e).trans ?_
    -- reach the piece that wrote these columns
    refine ((mk1_76 _ _ j).trans (View.canon_cons_emb _ _ _ j)).trans ?_
    refine (mixH2 x w pw ps gn n (tk k (y 0)) ⟨(y 1).val - 768, by omega⟩ (by show 768 + ((y 1).val - 768) < 1024; omega)).symm.trans ?_
    exact congrArg (fun d => mixAt x w pw ps gn n (tk k (y 0)) d) (Fin.ext (by show 768 + ((y 1).val - 768) = (y 1).val; omega))
  · let j : ((Rect.unit ![256, 896] ![256, 128] inb_S512x1024_S256x128_256_896) : Rect S512x1024).shape.Idx := ix2 (y 0) ⟨(y 1).val - 896, by omega⟩
    have e : (Rect.unit ![256, 0] ![256, 1024] inb_S512x1024_S256x1024_256_0).idx y = ((Rect.unit ![256, 896] ![256, 128] inb_S512x1024_S256x128_256_896) : Rect S512x1024).idx j := by
      funext i
      refine Fin.ext ?_
      rw [Rect.idx_unit_val, Rect.idx_unit_val]
      fin_cases i
      · rfl
      · show 0 + (y 1).val = 896 + ((y 1).val - 896); omega
    refine (congrArg _ e).trans ?_
    -- reach the piece that wrote these columns
    refine (View.canon_cons_emb _ _ _ j).trans ?_
    refine (mixH3 x w pw ps gn n (tk k (y 0)) ⟨(y 1).val - 896, by omega⟩ (by show 896 + ((y 1).val - 896) < 1024; omega)).symm.trans ?_
    exact congrArg (fun d => mixAt x w pw ps gn n (tk k (y 0)) d) (Fin.ext (by show 896 + ((y 1).val - 896) = (y 1).val; omega))

end Cert.KernelEvenIdeal.Value1
-- ==== Proof.EvenScr.lean ====
module

public import proofs.«01_k».proof.Proof.Gen.KernelEvenIdeal.Frame
public import proofs.«01_k».proof.Proof.EvenVec
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelEvenIdeal.Value1

open Cert.KernelEvenIdeal Cert.KernelEvenIdeal.Gen Cert.Ffn Cert.Even

variable (x : FVec Ideal S8x2048x1024 .f32) (w : FVec Ideal S1x1024x2560 .f32) (pw : FVec Ideal S1x4x128x128 .f32) (ps gn : FVec Ideal S1x512 .f32)
  (wo : FVec Ideal S1x1024x1024 .f32) (lg lb : FVec Ideal S2x1024 .f32)

variable (m : (ℓ : Loc nD τ sig) → Buf (Elt Ideal) ℓ)

/-- The chunk that half `s` of a grid point's tile is. -/
def kOf (t : Fin cfg0.N) (s : Fin 2) : Fin 8 := ⟨2 * (t.val % 4) + s.val, by omega⟩

/-- 512 columns of the projection's weights, from column `c`. -/
def wcol (w : FVec Ideal S1x1024x2560 .f32) (c : ℕ) (hc : c + 512 ≤ 2560) : FVec Ideal S1024x512 .bf16 :=
  fun y => w (ix3 0 (y 0) ⟨c + (y 1).val, by have := (y 1).isLt; change (y 1).val < 512 at this; omega⟩)

/-- 512 columns of the projected rows, from column `c`. -/
def h5v (x : FVec Ideal S8x2048x1024 .f32) (w : FVec Ideal S1x1024x2560 .f32) (n k : Fin 8) (c : ℕ) (hc : c + 512 ≤ 2560) : FVec Ideal S256x512 .f32 :=
  fun y => hAt x w n (tk k (y 0)) ⟨c + (y 1).val, by have := (y 1).isLt; change (y 1).val < 512 at this; omega⟩

/-- The rows of half 0 of a tile. -/
theorem lx0 (c : Dev nD) (t : Fin cfg0.N) :
    View.ld (Val := Elt Ideal) (S := S512x1024) (e' := .f32) (iblk m c 0 t) (Rect.unit ![0, 0] ![256, 1024] inb_S512x1024_S256x1024_0_0) = xv (m ((c : Thread nD τ).loc main_arg0)) (seqOf t) (kOf t 0) := by
  funext y
  refine (congrArg (show FVec Ideal S512x1024 .f32 from iblk m c 0 t) (show (Rect.unit (s := S512x1024) ![0, 0] ![256, 1024] inb_S512x1024_S256x1024_0_0).idx y = ix2 ⟨0 + (y 0).val, by have := (y 0).isLt; change (y 0).val < 256 at this; omega⟩ (y 1) from by blk_ext [Rect.idx_unit_val, Nat.zero_add])).trans ((blk0 m c t _ _).trans ?_)
  refine congrArg (fun l => (show FVec Ideal S8x2048x1024 .f32 from (m ((c : Thread nD τ).loc main_arg0))) (ix3 (seqOf t) l (y 1))) (Fin.ext ?_)
  show 512 * (t.val % 4) + (0 + (y 0).val) = 256 * (2 * (t.val % 4) + 0) + (y 0).val
  omega

/-- The rows of half 1 of a tile. -/
theorem lx1 (c : Dev nD) (t : Fin cfg0.N) :
    View.ld (Val := Elt Ideal) (S := S512x1024) (e' := .f32) (iblk m c 0 t) (Rect.unit ![256, 0] ![256, 1024] inb_S512x1024_S256x1024_256_0) = xv (m ((c : Thread nD τ).loc main_arg0)) (seqOf t) (kOf t 1) := by
  funext y
  refine (congrArg (show FVec Ideal S512x1024 .f32 from iblk m c 0 t) (show (Rect.unit (s := S512x1024) ![256, 0] ![256, 1024] inb_S512x1024_S256x1024_256_0).idx y = ix2 ⟨256 + (y 0).val, by have := (y 0).isLt; change (y 0).val < 256 at this; omega⟩ (y 1) from by blk_ext [Rect.idx_unit_val, Nat.zero_add])).trans ((blk0 m c t _ _).trans ?_)
  refine congrArg (fun l => (show FVec Ideal S8x2048x1024 .f32 from (m ((c : Thread nD τ).loc main_arg0))) (ix3 (seqOf t) l (y 1))) (Fin.ext ?_)
  show 512 * (t.val % 4) + (256 + (y 0).val) = 256 * (2 * (t.val % 4) + 1) + (y 0).val
  omega

/-- Columns of the projection's weights. -/
theorem lw0 (c : Dev nD) (t : Fin cfg0.N) :
    View.ld (Val := Elt Ideal) (S := S1024x2560) (e' := .bf16) (iblk m c 1 t) (Rect.unit ![0, 0] ![1024, 512] inb_S1024x2560_S1024x512_0_0) = wcol (m ((c : Thread nD τ).loc main_arg1)) 0 (by decide) := by
  funext y
  refine (congrArg (show FVec Ideal S1024x2560 .bf16 from iblk m c 1 t) (show (Rect.unit (s := S1024x2560) ![0, 0] ![1024, 512] inb_S1024x2560_S1024x512_0_0).idx y = ix2 (y 0) ⟨0 + (y 1).val, by have := (y 1).isLt; change (y 1).val < 512 at this; omega⟩ from by blk_ext [Rect.idx_unit_val, Nat.zero_add])).trans ((blk1 m c t _ _).trans ?_)
  rfl

/-- Columns of the projection's weights. -/
theorem lw512 (c : Dev nD) (t : Fin cfg0.N) :
    View.ld (Val := Elt Ideal) (S := S1024x2560) (e' := .bf16) (iblk m c 1 t) (Rect.unit ![0, 512] ![1024, 512] inb_S1024x2560_S1024x512_0_512) = wcol (m ((c : Thread nD τ).loc main_arg1)) 512 (by decide) := by
  funext y
  refine (congrArg (show FVec Ideal S1024x2560 .bf16 from iblk m c 1 t) (show (Rect.unit (s := S1024x2560) ![0, 512] ![1024, 512] inb_S1024x2560_S1024x512_0_512).idx y = ix2 (y 0) ⟨512 + (y 1).val, by have := (y 1).isLt; change (y 1).val < 512 at this; omega⟩ from by blk_ext [Rect.idx_unit_val, Nat.zero_add])).trans ((blk1 m c t _ _).trans ?_)
  rfl

/-- Columns of the projection's weights. -/
theorem lw1024 (c : Dev nD) (t : Fin cfg0.N) :
    View.ld (Val := Elt Ideal) (S := S1024x2560) (e' := .bf16) (iblk m c 1 t) (Rect.unit ![0, 1024] ![1024, 512] inb_S1024x2560_S1024x512_0_1024) = wcol (m ((c : Thread nD τ).loc main_arg1)) 1024 (by decide) := by
  funext y
  refine (congrArg (show FVec Ideal S1024x2560 .bf16 from iblk m c 1 t) (show (Rect.unit (s := S1024x2560) ![0, 1024] ![1024, 512] inb_S1024x2560_S1024x512_0_1024).idx y = ix2 (y 0) ⟨1024 + (y 1).val, by have := (y 1).isLt; change (y 1).val < 512 at this; omega⟩ from by blk_ext [Rect.idx_unit_val, Nat.zero_add])).trans ((blk1 m c t _ _).trans ?_)
  rfl

/-- Columns of the projection's weights. -/
theorem lw1536 (c : Dev nD) (t : Fin cfg0.N) :
    View.ld (Val := Elt Ideal) (S := S1024x2560) (e' := .bf16) (iblk m c 1 t) (Rect.unit ![0, 1536] ![1024, 512] inb_S1024x2560_S1024x512_0_1536) = wcol (m ((c : Thread nD τ).loc main_arg1)) 1536 (by decide) := by
  funext y
  refine (congrArg (show FVec Ideal S1024x2560 .bf16 from iblk m c 1 t) (show (Rect.unit (s := S1024x2560) ![0, 1536] ![1024, 512] inb_S1024x2560_S1024x512_0_1536).idx y = ix2 (y 0) ⟨1536 + (y 1).val, by have := (y 1).isLt; change (y 1).val < 512 at this; omega⟩ from by blk_ext [Rect.idx_unit_val, Nat.zero_add])).trans ((blk1 m c t _ _).trans ?_)
  rfl

/-- Columns of the projection's weights. -/
theorem lw2048 (c : Dev nD) (t : Fin cfg0.N) :
    View.ld (Val := Elt Ideal) (S := S1024x2560) (e' := .bf16) (iblk m c 1 t) (Rect.unit ![0, 2048] ![1024, 512] inb_S1024x2560_S1024x512_0_2048) = wcol (m ((c : Thread nD τ).loc main_arg1)) 2048 (by decide) := by
  funext y
  refine (congrArg (show FVec Ideal S1024x2560 .bf16 from iblk m c 1 t) (show (Rect.unit (s := S1024x2560) ![0, 2048] ![1024, 512] inb_S1024x2560_S1024x512_0_2048).idx y = ix2 (y 0) ⟨2048 + (y 1).val, by have := (y 1).isLt; change (y 1).val < 512 at this; omega⟩ from by blk_ext [Rect.idx_unit_val, Nat.zero_add])).trans ((blk1 m c t _ _).trans ?_)
  rfl

/-- A projection's columns. -/
theorem pj0_2048 (x : FVec Ideal S8x2048x1024 .f32) (w : FVec Ideal S1x1024x2560 .f32) (n k : Fin 8) :
    k0_pay13 (k0_pay7 (xv x n k)) (wcol w 2048 (by decide)) = h5v x w n k 2048 (by decide) := by
  funext y
  rw [eq_ix2 y]
  unfold k0_pay7 k0_pay13
  pointwise [xv, wcol]
  rfl

/-- A projection's columns. -/
theorem pj0_1536 (x : FVec Ideal S8x2048x1024 .f32) (w : FVec Ideal S1x1024x2560 .f32) (n k : Fin 8) :
    k0_pay12 (k0_pay7 (xv x n k)) (k0_pay11 (wcol w 1536 (by decide))) (constant S256x512 FTy.f32 0#32) = h5v x w n k 1536 (by decide) := by
  funext y
  rw [eq_ix2 y]
  unfold k0_pay7 k0_pay11 k0_pay12
  pointwise [xv, wcol]
  rfl

/-- A projection's columns. -/
theorem pj0_1024 (x : FVec Ideal S8x2048x1024 .f32) (w : FVec Ideal S1x1024x2560 .f32) (n k : Fin 8) :
    k0_pay10 (xv x n k) (wcol w 1024 (by decide)) = h5v x w n k 1024 (by decide) := by
  funext y
  rw [eq_ix2 y]
  unfold k0_pay10 k0_pay7
  pointwise [xv, wcol]
  rfl

/-- A projection's columns. -/
theorem pj0_512 (x : FVec Ideal S8x2048x1024 .f32) (w : FVec Ideal S1x1024x2560 .f32) (n k : Fin 8) :
    k0_pay9 (xv x n k) (wcol w 512 (by decide)) = h5v x w n k 512 (by decide) := by
  funext y
  rw [eq_ix2 y]
  unfold k0_pay9 k0_pay7
  pointwise [xv, wcol]
  rfl

/-- A projection's columns. -/
theorem pj0_0 (x : FVec Ideal S8x2048x1024 .f32) (w : FVec Ideal S1x1024x2560 .f32) (n k : Fin 8) :
    k0_pay8 (xv x n k) (wcol w 0 (by decide)) = h5v x w n k 0 (by decide) := by
  funext y
  rw [eq_ix2 y]
  unfold k0_pay8 k0_pay7
  pointwise [xv, wcol]
  exact Finset.sum_congr rfl fun j _ => congrArg (fun i => x (ix3 n (tk k (y 0)) j) * w (ix3 0 j i)) (Fin.ext (Nat.zero_add _).symm)

/-- The projected rows of half 0 of a tile. -/
theorem cs0 (c : Dev nD) (t : Fin cfg0.N) :
    View.canon ([
    ⟨Rect.unit ![0, 2048] ![256, 512] inb_S256x2560_S256x512_0_2048, k0_pay13 (k0_pay7 (View.ld (Val := Elt Ideal) (S := S512x1024) (e' := .f32) (iblk m c 0 t) (Rect.unit ![0, 0] ![256, 1024] inb_S512x1024_S256x1024_0_0))) (View.ld (Val := Elt Ideal) (S := S1024x2560) (e' := .bf16) (iblk m c 1 t) (Rect.unit ![0, 2048] ![1024, 512] inb_S1024x2560_S1024x512_0_2048))⟩,
    ⟨Rect.unit ![0, 1536] ![256, 512] inb_S256x2560_S256x512_0_1536, k0_pay12 (k0_pay7 (View.ld (Val := Elt Ideal) (S := S512x1024) (e' := .f32) (iblk m c 0 t) (Rect.unit ![0, 0] ![256, 1024] inb_S512x1024_S256x1024_0_0))) (k0_pay11 (View.ld (Val := Elt Ideal) (S := S1024x2560) (e' := .bf16) (iblk m c 1 t) (Rect.unit ![0, 1536] ![1024, 512] inb_S1024x2560_S1024x512_0_1536))) (constant S256x512 FTy.f32 0#32)⟩,
    ⟨Rect.unit ![0, 1024] ![256, 512] inb_S256x2560_S256x512_0_1024, k0_pay10 (View.ld (Val := Elt Ideal) (S := S512x1024) (e' := .f32) (iblk m c 0 t) (Rect.unit ![0, 0] ![256, 1024] inb_S512x1024_S256x1024_0_0)) (View.ld (Val := Elt Ideal) (S := S1024x2560) (e' := .bf16) (iblk m c 1 t) (Rect.unit ![0, 1024] ![1024, 512] inb_S1024x2560_S1024x512_0_1024))⟩,
    ⟨Rect.unit ![0, 512] ![256, 512] inb_S256x2560_S256x512_0_512, k0_pay9 (View.ld (Val := Elt Ideal) (S := S512x1024) (e' := .f32) (iblk m c 0 t) (Rect.unit ![0, 0] ![256, 1024] inb_S512x1024_S256x1024_0_0)) (View.ld (Val := Elt Ideal) (S := S1024x2560) (e' := .bf16) (iblk m c 1 t) (Rect.unit ![0, 512] ![1024, 512] inb_S1024x2560_S1024x512_0_512))⟩,
    ⟨Rect.unit ![0, 0] ![256, 512] inb_S256x2560_S256x512_0_0, k0_pay8 (View.ld (Val := Elt Ideal) (S := S512x1024) (e' := .f32) (iblk m c 0 t) (Rect.unit ![0, 0] ![256, 1024] inb_S512x1024_S256x1024_0_0)) (View.ld (Val := Elt Ideal) (S := S1024x2560) (e' := .bf16) (iblk m c 1 t) (Rect.unit ![0, 0] ![1024, 512] inb_S1024x2560_S1024x512_0_0))⟩] : List (View.Piece (Elt Ideal) S256x2560 .f32))
      = hv (m ((c : Thread nD τ).loc main_arg0)) (m ((c : Thread nD τ).loc main_arg1)) (seqOf t) (kOf t 0) := by
  simp only [lx0, lw0, lw512, lw1024, lw1536, lw2048, pj0_2048, pj0_1536, pj0_1024, pj0_512, pj0_0]
  funext y
  canon_tiles a h
  all_goals
    first
    | exact congrArg₂ (hAt (m ((c : Thread nD τ).loc main_arg0)) (m ((c : Thread nD τ).loc main_arg1)) (seqOf t)) (Fin.ext (congrArg (256 * (kOf t 0).val + ·) h0.symm)) (Fin.ext h1.symm)
    | exact congrArg₂ (hAt (m ((c : Thread nD τ).loc main_arg0)) (m ((c : Thread nD τ).loc main_arg1)) (seqOf t)) (Fin.ext (congrArg (256 * (kOf t 0).val + ·) h0.symm)) (Fin.ext ((Nat.zero_add _).trans h1.symm))

/-- A projection's columns. -/
theorem pj1_2048 (x : FVec Ideal S8x2048x1024 .f32) (w : FVec Ideal S1x1024x2560 .f32) (n k : Fin 8) :
    k0_pay19 (k0_pay14 (xv x n k)) (wcol w 2048 (by decide)) = h5v x w n k 2048 (by decide) := by
  funext y
  rw [eq_ix2 y]
  unfold k0_pay14 k0_pay19
  pointwise [xv, wcol]
  rfl

/-- A projection's columns. -/
theorem pj1_1536 (x : FVec Ideal S8x2048x1024 .f32) (w : FVec Ideal S1x1024x2560 .f32) (n k : Fin 8) :
    k0_pay18 (k0_pay14 (xv x n k)) (wcol w 1536 (by decide)) = h5v x w n k 1536 (by decide) := by
  funext y
  rw [eq_ix2 y]
  unfold k0_pay14 k0_pay18
  pointwise [xv, wcol]
  rfl

/-- A projection's columns. -/
theorem pj1_1024 (x : FVec Ideal S8x2048x1024 .f32) (w : FVec Ideal S1x1024x2560 .f32) (n k : Fin 8) :
    k0_pay17 (xv x n k) (wcol w 1024 (by decide)) = h5v x w n k 1024 (by decide) := by
  funext y
  rw [eq_ix2 y]
  unfold k0_pay17 k0_pay14
  pointwise [xv, wcol]
  rfl

/-- A projection's columns. -/
theorem pj1_512 (x : FVec Ideal S8x2048x1024 .f32) (w : FVec Ideal S1x1024x2560 .f32) (n k : Fin 8) :
    k0_pay16 (xv x n k) (wcol w 512 (by decide)) = h5v x w n k 512 (by decide) := by
  funext y
  rw [eq_ix2 y]
  unfold k0_pay16 k0_pay14
  pointwise [xv, wcol]
  rfl

/-- A projection's columns. -/
theorem pj1_0 (x : FVec Ideal S8x2048x1024 .f32) (w : FVec Ideal S1x1024x2560 .f32) (n k : Fin 8) :
    k0_pay15 (xv x n k) (wcol w 0 (by decide)) = h5v x w n k 0 (by decide) := by
  funext y
  rw [eq_ix2 y]
  unfold k0_pay15 k0_pay14
  pointwise [xv, wcol]
  exact Finset.sum_congr rfl fun j _ => congrArg (fun i => x (ix3 n (tk k (y 0)) j) * w (ix3 0 j i)) (Fin.ext (Nat.zero_add _).symm)

/-- The projected rows of half 1 of a tile. -/
theorem cs1 (c : Dev nD) (t : Fin cfg0.N) :
    View.canon ([
    ⟨Rect.unit ![0, 2048] ![256, 512] inb_S256x2560_S256x512_0_2048, k0_pay19 (k0_pay14 (View.ld (Val := Elt Ideal) (S := S512x1024) (e' := .f32) (iblk m c 0 t) (Rect.unit ![256, 0] ![256, 1024] inb_S512x1024_S256x1024_256_0))) (View.ld (Val := Elt Ideal) (S := S1024x2560) (e' := .bf16) (iblk m c 1 t) (Rect.unit ![0, 2048] ![1024, 512] inb_S1024x2560_S1024x512_0_2048))⟩,
    ⟨Rect.unit ![0, 1536] ![256, 512] inb_S256x2560_S256x512_0_1536, k0_pay18 (k0_pay14 (View.ld (Val := Elt Ideal) (S := S512x1024) (e' := .f32) (iblk m c 0 t) (Rect.unit ![256, 0] ![256, 1024] inb_S512x1024_S256x1024_256_0))) (View.ld (Val := Elt Ideal) (S := S1024x2560) (e' := .bf16) (iblk m c 1 t) (Rect.unit ![0, 1536] ![1024, 512] inb_S1024x2560_S1024x512_0_1536))⟩,
    ⟨Rect.unit ![0, 1024] ![256, 512] inb_S256x2560_S256x512_0_1024, k0_pay17 (View.ld (Val := Elt Ideal) (S := S512x1024) (e' := .f32) (iblk m c 0 t) (Rect.unit ![256, 0] ![256, 1024] inb_S512x1024_S256x1024_256_0)) (View.ld (Val := Elt Ideal) (S := S1024x2560) (e' := .bf16) (iblk m c 1 t) (Rect.unit ![0, 1024] ![1024, 512] inb_S1024x2560_S1024x512_0_1024))⟩,
    ⟨Rect.unit ![0, 512] ![256, 512] inb_S256x2560_S256x512_0_512, k0_pay16 (View.ld (Val := Elt Ideal) (S := S512x1024) (e' := .f32) (iblk m c 0 t) (Rect.unit ![256, 0] ![256, 1024] inb_S512x1024_S256x1024_256_0)) (View.ld (Val := Elt Ideal) (S := S1024x2560) (e' := .bf16) (iblk m c 1 t) (Rect.unit ![0, 512] ![1024, 512] inb_S1024x2560_S1024x512_0_512))⟩,
    ⟨Rect.unit ![0, 0] ![256, 512] inb_S256x2560_S256x512_0_0, k0_pay15 (View.ld (Val := Elt Ideal) (S := S512x1024) (e' := .f32) (iblk m c 0 t) (Rect.unit ![256, 0] ![256, 1024] inb_S512x1024_S256x1024_256_0)) (View.ld (Val := Elt Ideal) (S := S1024x2560) (e' := .bf16) (iblk m c 1 t) (Rect.unit ![0, 0] ![1024, 512] inb_S1024x2560_S1024x512_0_0))⟩] : List (View.Piece (Elt Ideal) S256x2560 .f32))
      = hv (m ((c : Thread nD τ).loc main_arg0)) (m ((c : Thread nD τ).loc main_arg1)) (seqOf t) (kOf t 1) := by
  simp only [lx1, lw0, lw512, lw1024, lw1536, lw2048, pj1_2048, pj1_1536, pj1_1024, pj1_512, pj1_0]
  funext y
  canon_tiles a h
  all_goals
    first
    | exact congrArg₂ (hAt (m ((c : Thread nD τ).loc main_arg0)) (m ((c : Thread nD τ).loc main_arg1)) (seqOf t)) (Fin.ext (congrArg (256 * (kOf t 1).val + ·) h0.symm)) (Fin.ext h1.symm)
    | exact congrArg₂ (hAt (m ((c : Thread nD τ).loc main_arg0)) (m ((c : Thread nD τ).loc main_arg1)) (seqOf t)) (Fin.ext (congrArg (256 * (kOf t 1).val + ·) h0.symm)) (Fin.ext ((Nat.zero_add _).trans h1.symm))

/-- Columns of the projected rows. -/
theorem hc0 (x : FVec Ideal S8x2048x1024 .f32) (w : FVec Ideal S1x1024x2560 .f32) (n k : Fin 8) :
    (fun j => hv x w n k ((Rect.unit ![0, 0] ![256, 512] inb_S256x2560_S256x512_0_0).idx j)) = uv x w n k := by
  funext y
  exact congrArg (hv x w n k) (show (Rect.unit (s := S256x2560) ![0, 0] ![256, 512] inb_S256x2560_S256x512_0_0).idx y = ix2 (y 0) ⟨(y 1).val, by have := (y 1).isLt; change (y 1).val < 512 at this; omega⟩ from by blk_ext [Rect.idx_unit_val, Nat.zero_add])

/-- Columns of the projected rows. -/
theorem hc512 (x : FVec Ideal S8x2048x1024 .f32) (w : FVec Ideal S1x1024x2560 .f32) (n k : Fin 8) :
    (fun j => hv x w n k ((Rect.unit ![0, 512] ![256, 128] inb_S256x2560_S256x128_0_512).idx j)) = colv x w n k 512 (by decide) := by
  funext y
  exact congrArg (hv x w n k) (show (Rect.unit (s := S256x2560) ![0, 512] ![256, 128] inb_S256x2560_S256x128_0_512).idx y = ix2 (y 0) ⟨512 + (y 1).val, by have := (y 1).isLt; change (y 1).val < 128 at this; omega⟩ from by blk_ext [Rect.idx_unit_val, Nat.zero_add])

/-- Columns of the projected rows. -/
theorem hc640 (x : FVec Ideal S8x2048x1024 .f32) (w : FVec Ideal S1x1024x2560 .f32) (n k : Fin 8) :
    (fun j => hv x w n k ((Rect.unit ![0, 640] ![256, 128] inb_S256x2560_S256x128_0_640).idx j)) = colv x w n k 640 (by decide) := by
  funext y
  exact congrArg (hv x w n k) (show (Rect.unit (s := S256x2560) ![0, 640] ![256, 128] inb_S256x2560_S256x128_0_640).idx y = ix2 (y 0) ⟨640 + (y 1).val, by have := (y 1).isLt; change (y 1).val < 128 at this; omega⟩ from by blk_ext [Rect.idx_unit_val, Nat.zero_add])

/-- Columns of the projected rows. -/
theorem hc768 (x : FVec Ideal S8x2048x1024 .f32) (w : FVec Ideal S1x1024x2560 .f32) (n k : Fin 8) :
    (fun j => hv x w n k ((Rect.unit ![0, 768] ![256, 128] inb_S256x2560_S256x128_0_768).idx j)) = colv x w n k 768 (by decide) := by
  funext y
  exact congrArg (hv x w n k) (show (Rect.unit (s := S256x2560) ![0, 768] ![256, 128] inb_S256x2560_S256x128_0_768).idx y = ix2 (y 0) ⟨768 + (y 1).val, by have := (y 1).isLt; change (y 1).val < 128 at this; omega⟩ from by blk_ext [Rect.idx_unit_val, Nat.zero_add])

/-- Columns of the projected rows. -/
theorem hc896 (x : FVec Ideal S8x2048x1024 .f32) (w : FVec Ideal S1x1024x2560 .f32) (n k : Fin 8) :
    (fun j => hv x w n k ((Rect.unit ![0, 896] ![256, 128] inb_S256x2560_S256x128_0_896).idx j)) = colv x w n k 896 (by decide) := by
  funext y
  exact congrArg (hv x w n k) (show (Rect.unit (s := S256x2560) ![0, 896] ![256, 128] inb_S256x2560_S256x128_0_896).idx y = ix2 (y 0) ⟨896 + (y 1).val, by have := (y 1).isLt; change (y 1).val < 128 at this; omega⟩ from by blk_ext [Rect.idx_unit_val, Nat.zero_add])

/-- Columns of the projected rows. -/
theorem hc1024 (x : FVec Ideal S8x2048x1024 .f32) (w : FVec Ideal S1x1024x2560 .f32) (n k : Fin 8) :
    (fun j => hv x w n k ((Rect.unit ![0, 1024] ![256, 128] inb_S256x2560_S256x128_0_1024).idx j)) = colv x w n k 1024 (by decide) := by
  funext y
  exact congrArg (hv x w n k) (show (Rect.unit (s := S256x2560) ![0, 1024] ![256, 128] inb_S256x2560_S256x128_0_1024).idx y = ix2 (y 0) ⟨1024 + (y 1).val, by have := (y 1).isLt; change (y 1).val < 128 at this; omega⟩ from by blk_ext [Rect.idx_unit_val, Nat.zero_add])

/-- Columns of the projected rows. -/
theorem hc1152 (x : FVec Ideal S8x2048x1024 .f32) (w : FVec Ideal S1x1024x2560 .f32) (n k : Fin 8) :
    (fun j => hv x w n k ((Rect.unit ![0, 1152] ![256, 128] inb_S256x2560_S256x128_0_1152).idx j)) = colv x w n k 1152 (by decide) := by
  funext y
  exact congrArg (hv x w n k) (show (Rect.unit (s := S256x2560) ![0, 1152] ![256, 128] inb_S256x2560_S256x128_0_1152).idx y = ix2 (y 0) ⟨1152 + (y 1).val, by have := (y 1).isLt; change (y 1).val < 128 at this; omega⟩ from by blk_ext [Rect.idx_unit_val, Nat.zero_add])

/-- Columns of the projected rows. -/
theorem hc1280 (x : FVec Ideal S8x2048x1024 .f32) (w : FVec Ideal S1x1024x2560 .f32) (n k : Fin 8) :
    (fun j => hv x w n k ((Rect.unit ![0, 1280] ![256, 128] inb_S256x2560_S256x128_0_1280).idx j)) = colv x w n k 1280 (by decide) := by
  funext y
  exact congrArg (hv x w n k) (show (Rect.unit (s := S256x2560) ![0, 1280] ![256, 128] inb_S256x2560_S256x128_0_1280).idx y = ix2 (y 0) ⟨1280 + (y 1).val, by have := (y 1).isLt; change (y 1).val < 128 at this; omega⟩ from by blk_ext [Rect.idx_unit_val, Nat.zero_add])

/-- Columns of the projected rows. -/
theorem hc1408 (x : FVec Ideal S8x2048x1024 .f32) (w : FVec Ideal S1x1024x2560 .f32) (n k : Fin 8) :
    (fun j => hv x w n k ((Rect.unit ![0, 1408] ![256, 128] inb_S256x2560_S256x128_0_1408).idx j)) = colv x w n k 1408 (by decide) := by
  funext y
  exact congrArg (hv x w n k) (show (Rect.unit (s := S256x2560) ![0, 1408] ![256, 128] inb_S256x2560_S256x128_0_1408).idx y = ix2 (y 0) ⟨1408 + (y 1).val, by have := (y 1).isLt; change (y 1).val < 128 at this; omega⟩ from by blk_ext [Rect.idx_unit_val, Nat.zero_add])

/-- Columns of the projected rows. -/
theorem hc1536 (x : FVec Ideal S8x2048x1024 .f32) (w : FVec Ideal S1x1024x2560 .f32) (n k : Fin 8) :
    (fun j => hv x w n k ((Rect.unit ![0, 1536] ![256, 128] inb_S256x2560_S256x128_0_1536).idx j)) = colv x w n k 1536 (by decide) := by
  funext y
  exact congrArg (hv x w n k) (show (Rect.unit (s := S256x2560) ![0, 1536] ![256, 128] inb_S256x2560_S256x128_0_1536).idx y = ix2 (y 0) ⟨1536 + (y 1).val, by have := (y 1).isLt; change (y 1).val < 128 at this; omega⟩ from by blk_ext [Rect.idx_unit_val, Nat.zero_add])

/-- Columns of the projected rows. -/
theorem hc1664 (x : FVec Ideal S8x2048x1024 .f32) (w : FVec Ideal S1x1024x2560 .f32) (n k : Fin 8) :
    (fun j => hv x w n k ((Rect.unit ![0, 1664] ![256, 128] inb_S256x2560_S256x128_0_1664).idx j)) = colv x w n k 1664 (by decide) := by
  funext y
  exact congrArg (hv x w n k) (show (Rect.unit (s := S256x2560) ![0, 1664] ![256, 128] inb_S256x2560_S256x128_0_1664).idx y = ix2 (y 0) ⟨1664 + (y 1).val, by have := (y 1).isLt; change (y 1).val < 128 at this; omega⟩ from by blk_ext [Rect.idx_unit_val, Nat.zero_add])

/-- Columns of the projected rows. -/
theorem hc1792 (x : FVec Ideal S8x2048x1024 .f32) (w : FVec Ideal S1x1024x2560 .f32) (n k : Fin 8) :
    (fun j => hv x w n k ((Rect.unit ![0, 1792] ![256, 128] inb_S256x2560_S256x128_0_1792).idx j)) = colv x w n k 1792 (by decide) := by
  funext y
  exact congrArg (hv x w n k) (show (Rect.unit (s := S256x2560) ![0, 1792] ![256, 128] inb_S256x2560_S256x128_0_1792).idx y = ix2 (y 0) ⟨1792 + (y 1).val, by have := (y 1).isLt; change (y 1).val < 128 at this; omega⟩ from by blk_ext [Rect.idx_unit_val, Nat.zero_add])

/-- Columns of the projected rows. -/
theorem hc1920 (x : FVec Ideal S8x2048x1024 .f32) (w : FVec Ideal S1x1024x2560 .f32) (n k : Fin 8) :
    (fun j => hv x w n k ((Rect.unit ![0, 1920] ![256, 128] inb_S256x2560_S256x128_0_1920).idx j)) = colv x w n k 1920 (by decide) := by
  funext y
  exact congrArg (hv x w n k) (show (Rect.unit (s := S256x2560) ![0, 1920] ![256, 128] inb_S256x2560_S256x128_0_1920).idx y = ix2 (y 0) ⟨1920 + (y 1).val, by have := (y 1).isLt; change (y 1).val < 128 at this; omega⟩ from by blk_ext [Rect.idx_unit_val, Nat.zero_add])

/-- Columns of the projected rows. -/
theorem hc2048 (x : FVec Ideal S8x2048x1024 .f32) (w : FVec Ideal S1x1024x2560 .f32) (n k : Fin 8) :
    (fun j => hv x w n k ((Rect.unit ![0, 2048] ![256, 128] inb_S256x2560_S256x128_0_2048).idx j)) = colv x w n k 2048 (by decide) := by
  funext y
  exact congrArg (hv x w n k) (show (Rect.unit (s := S256x2560) ![0, 2048] ![256, 128] inb_S256x2560_S256x128_0_2048).idx y = ix2 (y 0) ⟨2048 + (y 1).val, by have := (y 1).isLt; change (y 1).val < 128 at this; omega⟩ from by blk_ext [Rect.idx_unit_val, Nat.zero_add])

/-- Columns of the projected rows. -/
theorem hc2176 (x : FVec Ideal S8x2048x1024 .f32) (w : FVec Ideal S1x1024x2560 .f32) (n k : Fin 8) :
    (fun j => hv x w n k ((Rect.unit ![0, 2176] ![256, 128] inb_S256x2560_S256x128_0_2176).idx j)) = colv x w n k 2176 (by decide) := by
  funext y
  exact congrArg (hv x w n k) (show (Rect.unit (s := S256x2560) ![0, 2176] ![256, 128] inb_S256x2560_S256x128_0_2176).idx y = ix2 (y 0) ⟨2176 + (y 1).val, by have := (y 1).isLt; change (y 1).val < 128 at this; omega⟩ from by blk_ext [Rect.idx_unit_val, Nat.zero_add])

/-- Columns of the projected rows. -/
theorem hc2304 (x : FVec Ideal S8x2048x1024 .f32) (w : FVec Ideal S1x1024x2560 .f32) (n k : Fin 8) :
    (fun j => hv x w n k ((Rect.unit ![0, 2304] ![256, 128] inb_S256x2560_S256x128_0_2304).idx j)) = colv x w n k 2304 (by decide) := by
  funext y
  exact congrArg (hv x w n k) (show (Rect.unit (s := S256x2560) ![0, 2304] ![256, 128] inb_S256x2560_S256x128_0_2304).idx y = ix2 (y 0) ⟨2304 + (y 1).val, by have := (y 1).isLt; change (y 1).val < 128 at this; omega⟩ from by blk_ext [Rect.idx_unit_val, Nat.zero_add])

/-- Columns of the projected rows. -/
theorem hc2432 (x : FVec Ideal S8x2048x1024 .f32) (w : FVec Ideal S1x1024x2560 .f32) (n k : Fin 8) :
    (fun j => hv x w n k ((Rect.unit ![0, 2432] ![256, 128] inb_S256x2560_S256x128_0_2432).idx j)) = colv x w n k 2432 (by decide) := by
  funext y
  exact congrArg (hv x w n k) (show (Rect.unit (s := S256x2560) ![0, 2432] ![256, 128] inb_S256x2560_S256x128_0_2432).idx y = ix2 (y 0) ⟨2432 + (y 1).val, by have := (y 1).isLt; change (y 1).val < 128 at this; omega⟩ from by blk_ext [Rect.idx_unit_val, Nat.zero_add])

end Cert.KernelEvenIdeal.Value1
-- ==== Proof.EvenSt.lean ====
module

public import proofs.«01_k».proof.Proof.Gen.KernelEvenIdeal.Frame
public import proofs.«01_k».proof.Proof.EvenVec
public import proofs.«01_k».proof.Proof.EvenScr
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelEvenIdeal.Value1

open Cert.KernelEvenIdeal Cert.KernelEvenIdeal.Gen Cert.Ffn Cert.Even

variable (x : FVec Ideal S8x2048x1024 .f32) (w : FVec Ideal S1x1024x2560 .f32) (pw : FVec Ideal S1x4x128x128 .f32) (ps gn : FVec Ideal S1x512 .f32)
  (wo : FVec Ideal S1x1024x1024 .f32) (lg lb : FVec Ideal S2x1024 .f32)

/-- The states of the heads before chunk `N`. -/
def stateV (x : FVec Ideal S8x2048x1024 .f32) (w : FVec Ideal S1x1024x2560 .f32) (n : Fin 8) (N : ℕ) : FVec Ideal S4x128x128 .f32 :=
  fun y => stE x w n (y 0) (256 * N) (y 1) (y 2)

/-- The pooled rows of two chunks and the sixteen before them. -/
def extV (x : FVec Ideal S8x2048x1024 .f32) (w : FVec Ideal S1x1024x2560 .f32) (n : Fin 8) (k : ℕ) (hk : k < 7) : FVec Ideal S528x512 .f32 := fun y =>
  if h : 16 ≤ 256 * k + (y 0).val then
    hAt x w n ⟨256 * k + (y 0).val - 16, by have := (y 0).isLt; change (y 0).val < 528 at this; omega⟩
      ⟨(y 1).val, by have := (y 1).isLt; change (y 1).val < 512 at this; omega⟩
  else 0

/-- The sixteen pooled rows before a chunk. -/
def exh (x : FVec Ideal S8x2048x1024 .f32) (w : FVec Ideal S1x1024x2560 .f32) (n : Fin 8) (k : ℕ) (hk : k < 7) : FVec Ideal S16x512 .f32 := fun y =>
  if h : 16 ≤ 256 * k + (y 0).val then
    hAt x w n ⟨256 * k + (y 0).val - 16, by have := (y 0).isLt; change (y 0).val < 16 at this; omega⟩
      ⟨(y 1).val, by have := (y 1).isLt; change (y 1).val < 512 at this; omega⟩
  else 0

/-- A head's state, just stored. -/
theorem hit0 (P : FVec Ideal S1x128x128 .f32) (L : List (View.Piece (Elt Ideal) S4x128x128 .f32)) :
    (fun j => View.canon ((⟨(Rect.unit ![0, 0, 0] ![1, 128, 128] inb_S4x128x128_S1x128x128_0_0_0), P⟩ : View.Piece (Elt Ideal) S4x128x128 .f32) :: L) ((Rect.unit ![0, 0, 0] ![1, 128, 128] inb_S4x128x128_S1x128x128_0_0_0).idx j)) = P :=
  funext fun j => View.canon_cons_emb (Rect.unit ![0, 0, 0] ![1, 128, 128] inb_S4x128x128_S1x128x128_0_0_0) P L j

/-- A head's state, below another head's. -/
theorem skip10 (P : FVec Ideal S1x128x128 .f32) (L : List (View.Piece (Elt Ideal) S4x128x128 .f32)) :
    (fun j => View.canon ((⟨(Rect.unit ![1, 0, 0] ![1, 128, 128] inb_S4x128x128_S1x128x128_1_0_0), P⟩ : View.Piece (Elt Ideal) S4x128x128 .f32) :: L) ((Rect.unit ![0, 0, 0] ![1, 128, 128] inb_S4x128x128_S1x128x128_0_0_0).idx j)) = fun j => View.canon L ((Rect.unit ![0, 0, 0] ![1, 128, 128] inb_S4x128x128_S1x128x128_0_0_0).idx j) :=
  funext fun j => View.canon_cons_of_not_mem _ _ (by
    intro hm
    have a := (Rect.mem_set_unit (inb := inb_S4x128x128_S1x128x128_1_0_0)).mp hm 0
    have e1 : (((Rect.unit ![0, 0, 0] ![1, 128, 128] inb_S4x128x128_S1x128x128_0_0_0) : Rect S4x128x128).idx j 0 : ℕ) = 0 + (j 0).val := Rect.idx_unit_val _ _ _ j 0
    have l1 : (j 0).val < 1 := (j 0).isLt
    have a' : 1 ≤ (((Rect.unit ![0, 0, 0] ![1, 128, 128] inb_S4x128x128_S1x128x128_0_0_0) : Rect S4x128x128).idx j 0 : ℕ) ∧ (((Rect.unit ![0, 0, 0] ![1, 128, 128] inb_S4x128x128_S1x128x128_0_0_0) : Rect S4x128x128).idx j 0 : ℕ) < 1 + 1 := a
    omega)

/-- A head's state, below another head's. -/
theorem skip20 (P : FVec Ideal S1x128x128 .f32) (L : List (View.Piece (Elt Ideal) S4x128x128 .f32)) :
    (fun j => View.canon ((⟨(Rect.unit ![2, 0, 0] ![1, 128, 128] inb_S4x128x128_S1x128x128_2_0_0), P⟩ : View.Piece (Elt Ideal) S4x128x128 .f32) :: L) ((Rect.unit ![0, 0, 0] ![1, 128, 128] inb_S4x128x128_S1x128x128_0_0_0).idx j)) = fun j => View.canon L ((Rect.unit ![0, 0, 0] ![1, 128, 128] inb_S4x128x128_S1x128x128_0_0_0).idx j) :=
  funext fun j => View.canon_cons_of_not_mem _ _ (by
    intro hm
    have a := (Rect.mem_set_unit (inb := inb_S4x128x128_S1x128x128_2_0_0)).mp hm 0
    have e1 : (((Rect.unit ![0, 0, 0] ![1, 128, 128] inb_S4x128x128_S1x128x128_0_0_0) : Rect S4x128x128).idx j 0 : ℕ) = 0 + (j 0).val := Rect.idx_unit_val _ _ _ j 0
    have l1 : (j 0).val < 1 := (j 0).isLt
    have a' : 2 ≤ (((Rect.unit ![0, 0, 0] ![1, 128, 128] inb_S4x128x128_S1x128x128_0_0_0) : Rect S4x128x128).idx j 0 : ℕ) ∧ (((Rect.unit ![0, 0, 0] ![1, 128, 128] inb_S4x128x128_S1x128x128_0_0_0) : Rect S4x128x128).idx j 0 : ℕ) < 2 + 1 := a
    omega)

/-- A head's state, below another head's. -/
theorem skip30 (P : FVec Ideal S1x128x128 .f32) (L : List (View.Piece (Elt Ideal) S4x128x128 .f32)) :
    (fun j => View.canon ((⟨(Rect.unit ![3, 0, 0] ![1, 128, 128] inb_S4x128x128_S1x128x128_3_0_0), P⟩ : View.Piece (Elt Ideal) S4x128x128 .f32) :: L) ((Rect.unit ![0, 0, 0] ![1, 128, 128] inb_S4x128x128_S1x128x128_0_0_0).idx j)) = fun j => View.canon L ((Rect.unit ![0, 0, 0] ![1, 128, 128] inb_S4x128x128_S1x128x128_0_0_0).idx j) :=
  funext fun j => View.canon_cons_of_not_mem _ _ (by
    intro hm
    have a := (Rect.mem_set_unit (inb := inb_S4x128x128_S1x128x128_3_0_0)).mp hm 0
    have e1 : (((Rect.unit ![0, 0, 0] ![1, 128, 128] inb_S4x128x128_S1x128x128_0_0_0) : Rect S4x128x128).idx j 0 : ℕ) = 0 + (j 0).val := Rect.idx_unit_val _ _ _ j 0
    have l1 : (j 0).val < 1 := (j 0).isLt
    have a' : 3 ≤ (((Rect.unit ![0, 0, 0] ![1, 128, 128] inb_S4x128x128_S1x128x128_0_0_0) : Rect S4x128x128).idx j 0 : ℕ) ∧ (((Rect.unit ![0, 0, 0] ![1, 128, 128] inb_S4x128x128_S1x128x128_0_0_0) : Rect S4x128x128).idx j 0 : ℕ) < 3 + 1 := a
    omega)

/-- A head's state, below another head's. -/
theorem skip01 (P : FVec Ideal S1x128x128 .f32) (L : List (View.Piece (Elt Ideal) S4x128x128 .f32)) :
    (fun j => View.canon ((⟨(Rect.unit ![0, 0, 0] ![1, 128, 128] inb_S4x128x128_S1x128x128_0_0_0), P⟩ : View.Piece (Elt Ideal) S4x128x128 .f32) :: L) ((Rect.unit ![1, 0, 0] ![1, 128, 128] inb_S4x128x128_S1x128x128_1_0_0).idx j)) = fun j => View.canon L ((Rect.unit ![1, 0, 0] ![1, 128, 128] inb_S4x128x128_S1x128x128_1_0_0).idx j) :=
  funext fun j => View.canon_cons_of_not_mem _ _ (by
    intro hm
    have a := (Rect.mem_set_unit (inb := inb_S4x128x128_S1x128x128_0_0_0)).mp hm 0
    have e1 : (((Rect.unit ![1, 0, 0] ![1, 128, 128] inb_S4x128x128_S1x128x128_1_0_0) : Rect S4x128x128).idx j 0 : ℕ) = 1 + (j 0).val := Rect.idx_unit_val _ _ _ j 0
    have l1 : (j 0).val < 1 := (j 0).isLt
    have a' : 0 ≤ (((Rect.unit ![1, 0, 0] ![1, 128, 128] inb_S4x128x128_S1x128x128_1_0_0) : Rect S4x128x128).idx j 0 : ℕ) ∧ (((Rect.unit ![1, 0, 0] ![1, 128, 128] inb_S4x128x128_S1x128x128_1_0_0) : Rect S4x128x128).idx j 0 : ℕ) < 0 + 1 := a
    omega)

/-- A head's state, just stored. -/
theorem hit1 (P : FVec Ideal S1x128x128 .f32) (L : List (View.Piece (Elt Ideal) S4x128x128 .f32)) :
    (fun j => View.canon ((⟨(Rect.unit ![1, 0, 0] ![1, 128, 128] inb_S4x128x128_S1x128x128_1_0_0), P⟩ : View.Piece (Elt Ideal) S4x128x128 .f32) :: L) ((Rect.unit ![1, 0, 0] ![1, 128, 128] inb_S4x128x128_S1x128x128_1_0_0).idx j)) = P :=
  funext fun j => View.canon_cons_emb (Rect.unit ![1, 0, 0] ![1, 128, 128] inb_S4x128x128_S1x128x128_1_0_0) P L j

/-- A head's state, below another head's. -/
theorem skip21 (P : FVec Ideal S1x128x128 .f32) (L : List (View.Piece (Elt Ideal) S4x128x128 .f32)) :
    (fun j => View.canon ((⟨(Rect.unit ![2, 0, 0] ![1, 128, 128] inb_S4x128x128_S1x128x128_2_0_0), P⟩ : View.Piece (Elt Ideal) S4x128x128 .f32) :: L) ((Rect.unit ![1, 0, 0] ![1, 128, 128] inb_S4x128x128_S1x128x128_1_0_0).idx j)) = fun j => View.canon L ((Rect.unit ![1, 0, 0] ![1, 128, 128] inb_S4x128x128_S1x128x128_1_0_0).idx j) :=
  funext fun j => View.canon_cons_of_not_mem _ _ (by
    intro hm
    have a := (Rect.mem_set_unit (inb := inb_S4x128x128_S1x128x128_2_0_0)).mp hm 0
    have e1 : (((Rect.unit ![1, 0, 0] ![1, 128, 128] inb_S4x128x128_S1x128x128_1_0_0) : Rect S4x128x128).idx j 0 : ℕ) = 1 + (j 0).val := Rect.idx_unit_val _ _ _ j 0
    have l1 : (j 0).val < 1 := (j 0).isLt
    have a' : 2 ≤ (((Rect.unit ![1, 0, 0] ![1, 128, 128] inb_S4x128x128_S1x128x128_1_0_0) : Rect S4x128x128).idx j 0 : ℕ) ∧ (((Rect.unit ![1, 0, 0] ![1, 128, 128] inb_S4x128x128_S1x128x128_1_0_0) : Rect S4x128x128).idx j 0 : ℕ) < 2 + 1 := a
    omega)

/-- A head's state, below another head's. -/
theorem skip31 (P : FVec Ideal S1x128x128 .f32) (L : List (View.Piece (Elt Ideal) S4x128x128 .f32)) :
    (fun j => View.canon ((⟨(Rect.unit ![3, 0, 0] ![1, 128, 128] inb_S4x128x128_S1x128x128_3_0_0), P⟩ : View.Piece (Elt Ideal) S4x128x128 .f32) :: L) ((Rect.unit ![1, 0, 0] ![1, 128, 128] inb_S4x128x128_S1x128x128_1_0_0).idx j)) = fun j => View.canon L ((Rect.unit ![1, 0, 0] ![1, 128, 128] inb_S4x128x128_S1x128x128_1_0_0).idx j) :=
  funext fun j => View.canon_cons_of_not_mem _ _ (by
    intro hm
    have a := (Rect.mem_set_unit (inb := inb_S4x128x128_S1x128x128_3_0_0)).mp hm 0
    have e1 : (((Rect.unit ![1, 0, 0] ![1, 128, 128] inb_S4x128x128_S1x128x128_1_0_0) : Rect S4x128x128).idx j 0 : ℕ) = 1 + (j 0).val := Rect.idx_unit_val _ _ _ j 0
    have l1 : (j 0).val < 1 := (j 0).isLt
    have a' : 3 ≤ (((Rect.unit ![1, 0, 0] ![1, 128, 128] inb_S4x128x128_S1x128x128_1_0_0) : Rect S4x128x128).idx j 0 : ℕ) ∧ (((Rect.unit ![1, 0, 0] ![1, 128, 128] inb_S4x128x128_S1x128x128_1_0_0) : Rect S4x128x128).idx j 0 : ℕ) < 3 + 1 := a
    omega)

/-- A head's state, below another head's. -/
theorem skip02 (P : FVec Ideal S1x128x128 .f32) (L : List (View.Piece (Elt Ideal) S4x128x128 .f32)) :
    (fun j => View.canon ((⟨(Rect.unit ![0, 0, 0] ![1, 128, 128] inb_S4x128x128_S1x128x128_0_0_0), P⟩ : View.Piece (Elt Ideal) S4x128x128 .f32) :: L) ((Rect.unit ![2, 0, 0] ![1, 128, 128] inb_S4x128x128_S1x128x128_2_0_0).idx j)) = fun j => View.canon L ((Rect.unit ![2, 0, 0] ![1, 128, 128] inb_S4x128x128_S1x128x128_2_0_0).idx j) :=
  funext fun j => View.canon_cons_of_not_mem _ _ (by
    intro hm
    have a := (Rect.mem_set_unit (inb := inb_S4x128x128_S1x128x128_0_0_0)).mp hm 0
    have e1 : (((Rect.unit ![2, 0, 0] ![1, 128, 128] inb_S4x128x128_S1x128x128_2_0_0) : Rect S4x128x128).idx j 0 : ℕ) = 2 + (j 0).val := Rect.idx_unit_val _ _ _ j 0
    have l1 : (j 0).val < 1 := (j 0).isLt
    have a' : 0 ≤ (((Rect.unit ![2, 0, 0] ![1, 128, 128] inb_S4x128x128_S1x128x128_2_0_0) : Rect S4x128x128).idx j 0 : ℕ) ∧ (((Rect.unit ![2, 0, 0] ![1, 128, 128] inb_S4x128x128_S1x128x128_2_0_0) : Rect S4x128x128).idx j 0 : ℕ) < 0 + 1 := a
    omega)

/-- A head's state, below another head's. -/
theorem skip12 (P : FVec Ideal S1x128x128 .f32) (L : List (View.Piece (Elt Ideal) S4x128x128 .f32)) :
    (fun j => View.canon ((⟨(Rect.unit ![1, 0, 0] ![1, 128, 128] inb_S4x128x128_S1x128x128_1_0_0), P⟩ : View.Piece (Elt Ideal) S4x128x128 .f32) :: L) ((Rect.unit ![2, 0, 0] ![1, 128, 128] inb_S4x128x128_S1x128x128_2_0_0).idx j)) = fun j => View.canon L ((Rect.unit ![2, 0, 0] ![1, 128, 128] inb_S4x128x128_S1x128x128_2_0_0).idx j) :=
  funext fun j => View.canon_cons_of_not_mem _ _ (by
    intro hm
    have a := (Rect.mem_set_unit (inb := inb_S4x128x128_S1x128x128_1_0_0)).mp hm 0
    have e1 : (((Rect.unit ![2, 0, 0] ![1, 128, 128] inb_S4x128x128_S1x128x128_2_0_0) : Rect S4x128x128).idx j 0 : ℕ) = 2 + (j 0).val := Rect.idx_unit_val _ _ _ j 0
    have l1 : (j 0).val < 1 := (j 0).isLt
    have a' : 1 ≤ (((Rect.unit ![2, 0, 0] ![1, 128, 128] inb_S4x128x128_S1x128x128_2_0_0) : Rect S4x128x128).idx j 0 : ℕ) ∧ (((Rect.unit ![2, 0, 0] ![1, 128, 128] inb_S4x128x128_S1x128x128_2_0_0) : Rect S4x128x128).idx j 0 : ℕ) < 1 + 1 := a
    omega)

/-- A head's state, just stored. -/
theorem hit2 (P : FVec Ideal S1x128x128 .f32) (L : List (View.Piece (Elt Ideal) S4x128x128 .f32)) :
    (fun j => View.canon ((⟨(Rect.unit ![2, 0, 0] ![1, 128, 128] inb_S4x128x128_S1x128x128_2_0_0), P⟩ : View.Piece (Elt Ideal) S4x128x128 .f32) :: L) ((Rect.unit ![2, 0, 0] ![1, 128, 128] inb_S4x128x128_S1x128x128_2_0_0).idx j)) = P :=
  funext fun j => View.canon_cons_emb (Rect.unit ![2, 0, 0] ![1, 128, 128] inb_S4x128x128_S1x128x128_2_0_0) P L j

/-- A head's state, below another head's. -/
theorem skip32 (P : FVec Ideal S1x128x128 .f32) (L : List (View.Piece (Elt Ideal) S4x128x128 .f32)) :
    (fun j => View.canon ((⟨(Rect.unit ![3, 0, 0] ![1, 128, 128] inb_S4x128x128_S1x128x128_3_0_0), P⟩ : View.Piece (Elt Ideal) S4x128x128 .f32) :: L) ((Rect.unit ![2, 0, 0] ![1, 128, 128] inb_S4x128x128_S1x128x128_2_0_0).idx j)) = fun j => View.canon L ((Rect.unit ![2, 0, 0] ![1, 128, 128] inb_S4x128x128_S1x128x128_2_0_0).idx j) :=
  funext fun j => View.canon_cons_of_not_mem _ _ (by
    intro hm
    have a := (Rect.mem_set_unit (inb := inb_S4x128x128_S1x128x128_3_0_0)).mp hm 0
    have e1 : (((Rect.unit ![2, 0, 0] ![1, 128, 128] inb_S4x128x128_S1x128x128_2_0_0) : Rect S4x128x128).idx j 0 : ℕ) = 2 + (j 0).val := Rect.idx_unit_val _ _ _ j 0
    have l1 : (j 0).val < 1 := (j 0).isLt
    have a' : 3 ≤ (((Rect.unit ![2, 0, 0] ![1, 128, 128] inb_S4x128x128_S1x128x128_2_0_0) : Rect S4x128x128).idx j 0 : ℕ) ∧ (((Rect.unit ![2, 0, 0] ![1, 128, 128] inb_S4x128x128_S1x128x128_2_0_0) : Rect S4x128x128).idx j 0 : ℕ) < 3 + 1 := a
    omega)

/-- A head's state, below another head's. -/
theorem skip03 (P : FVec Ideal S1x128x128 .f32) (L : List (View.Piece (Elt Ideal) S4x128x128 .f32)) :
    (fun j => View.canon ((⟨(Rect.unit ![0, 0, 0] ![1, 128, 128] inb_S4x128x128_S1x128x128_0_0_0), P⟩ : View.Piece (Elt Ideal) S4x128x128 .f32) :: L) ((Rect.unit ![3, 0, 0] ![1, 128, 128] inb_S4x128x128_S1x128x128_3_0_0).idx j)) = fun j => View.canon L ((Rect.unit ![3, 0, 0] ![1, 128, 128] inb_S4x128x128_S1x128x128_3_0_0).idx j) :=
  funext fun j => View.canon_cons_of_not_mem _ _ (by
    intro hm
    have a := (Rect.mem_set_unit (inb := inb_S4x128x128_S1x128x128_0_0_0)).mp hm 0
    have e1 : (((Rect.unit ![3, 0, 0] ![1, 128, 128] inb_S4x128x128_S1x128x128_3_0_0) : Rect S4x128x128).idx j 0 : ℕ) = 3 + (j 0).val := Rect.idx_unit_val _ _ _ j 0
    have l1 : (j 0).val < 1 := (j 0).isLt
    have a' : 0 ≤ (((Rect.unit ![3, 0, 0] ![1, 128, 128] inb_S4x128x128_S1x128x128_3_0_0) : Rect S4x128x128).idx j 0 : ℕ) ∧ (((Rect.unit ![3, 0, 0] ![1, 128, 128] inb_S4x128x128_S1x128x128_3_0_0) : Rect S4x128x128).idx j 0 : ℕ) < 0 + 1 := a
    omega)

/-- A head's state, below another head's. -/
theorem skip13 (P : FVec Ideal S1x128x128 .f32) (L : List (View.Piece (Elt Ideal) S4x128x128 .f32)) :
    (fun j => View.canon ((⟨(Rect.unit ![1, 0, 0] ![1, 128, 128] inb_S4x128x128_S1x128x128_1_0_0), P⟩ : View.Piece (Elt Ideal) S4x128x128 .f32) :: L) ((Rect.unit ![3, 0, 0] ![1, 128, 128] inb_S4x128x128_S1x128x128_3_0_0).idx j)) = fun j => View.canon L ((Rect.unit ![3, 0, 0] ![1, 128, 128] inb_S4x128x128_S1x128x128_3_0_0).idx j) :=
  funext fun j => View.canon_cons_of_not_mem _ _ (by
    intro hm
    have a := (Rect.mem_set_unit (inb := inb_S4x128x128_S1x128x128_1_0_0)).mp hm 0
    have e1 : (((Rect.unit ![3, 0, 0] ![1, 128, 128] inb_S4x128x128_S1x128x128_3_0_0) : Rect S4x128x128).idx j 0 : ℕ) = 3 + (j 0).val := Rect.idx_unit_val _ _ _ j 0
    have l1 : (j 0).val < 1 := (j 0).isLt
    have a' : 1 ≤ (((Rect.unit ![3, 0, 0] ![1, 128, 128] inb_S4x128x128_S1x128x128_3_0_0) : Rect S4x128x128).idx j 0 : ℕ) ∧ (((Rect.unit ![3, 0, 0] ![1, 128, 128] inb_S4x128x128_S1x128x128_3_0_0) : Rect S4x128x128).idx j 0 : ℕ) < 1 + 1 := a
    omega)

/-- A head's state, below another head's. -/
theorem skip23 (P : FVec Ideal S1x128x128 .f32) (L : List (View.Piece (Elt Ideal) S4x128x128 .f32)) :
    (fun j => View.canon ((⟨(Rect.unit ![2, 0, 0] ![1, 128, 128] inb_S4x128x128_S1x128x128_2_0_0), P⟩ : View.Piece (Elt Ideal) S4x128x128 .f32) :: L) ((Rect.unit ![3, 0, 0] ![1, 128, 128] inb_S4x128x128_S1x128x128_3_0_0).idx j)) = fun j => View.canon L ((Rect.unit ![3, 0, 0] ![1, 128, 128] inb_S4x128x128_S1x128x128_3_0_0).idx j) :=
  funext fun j => View.canon_cons_of_not_mem _ _ (by
    intro hm
    have a := (Rect.mem_set_unit (inb := inb_S4x128x128_S1x128x128_2_0_0)).mp hm 0
    have e1 : (((Rect.unit ![3, 0, 0] ![1, 128, 128] inb_S4x128x128_S1x128x128_3_0_0) : Rect S4x128x128).idx j 0 : ℕ) = 3 + (j 0).val := Rect.idx_unit_val _ _ _ j 0
    have l1 : (j 0).val < 1 := (j 0).isLt
    have a' : 2 ≤ (((Rect.unit ![3, 0, 0] ![1, 128, 128] inb_S4x128x128_S1x128x128_3_0_0) : Rect S4x128x128).idx j 0 : ℕ) ∧ (((Rect.unit ![3, 0, 0] ![1, 128, 128] inb_S4x128x128_S1x128x128_3_0_0) : Rect S4x128x128).idx j 0 : ℕ) < 2 + 1 := a
    omega)

/-- A head's state, just stored. -/
theorem hit3 (P : FVec Ideal S1x128x128 .f32) (L : List (View.Piece (Elt Ideal) S4x128x128 .f32)) :
    (fun j => View.canon ((⟨(Rect.unit ![3, 0, 0] ![1, 128, 128] inb_S4x128x128_S1x128x128_3_0_0), P⟩ : View.Piece (Elt Ideal) S4x128x128 .f32) :: L) ((Rect.unit ![3, 0, 0] ![1, 128, 128] inb_S4x128x128_S1x128x128_3_0_0).idx j)) = P :=
  funext fun j => View.canon_cons_emb (Rect.unit ![3, 0, 0] ![1, 128, 128] inb_S4x128x128_S1x128x128_3_0_0) P L j

/-- The stored zero state. -/
theorem zst (x : FVec Ideal S8x2048x1024 .f32) (w : FVec Ideal S1x1024x2560 .f32) (n : Fin 8) : (k0_pay5 (F := Ideal)) = stateV x w n 0 := by
  funext y
  rw [eq_ix3 y]
  unfold k0_pay5
  pointwise
  exact (stE_zero x w n (y 0) (y 1) (y 2)).symm

/-- A state, stored whole. -/
theorem whole3 (P : FVec Ideal S4x128x128 .f32) : View.canon [(⟨Rect.unit ![0, 0, 0] ![4, 128, 128] inb_S4x128x128_S4x128x128_0_0_0, P⟩ : View.Piece (Elt Ideal) S4x128x128 .f32)] = P := by
  funext y
  canon_tiles a h
  exact congrArg P (funext fun i => Fin.ext (by fin_cases i <;> first | exact h0.symm | exact h1.symm | exact h2.symm))

/-- The zero rows before a sequence. -/
theorem zex (x : FVec Ideal S8x2048x1024 .f32) (w : FVec Ideal S1x1024x2560 .f32) (n : Fin 8) : (k0_pay4 (F := Ideal)) = exh x w n 0 (by decide) := by
  funext y
  rw [eq_ix2 y]
  unfold k0_pay4 exh
  pointwise

/-- The same place gives the same state. -/
theorem stE_congr (x : FVec Ideal S8x2048x1024 .f32) (w : FVec Ideal S1x1024x2560 .f32) (n : Fin 8) (N : ℕ) {h h' : Fin 4} {d d' e e' : Fin 128}
    (hh : h = h') (hd : d = d') (he : e = e') : stE x w n h N d e = stE x w n h' N d' e' := by
  subst hh hd he
  rfl

/-- One head of a state. -/
theorem sl0 (x : FVec Ideal S8x2048x1024 .f32) (w : FVec Ideal S1x1024x2560 .f32) (n : Fin 8) (N : ℕ) :
    (fun j => stateV x w n N ((Rect.unit ![0, 0, 0] ![1, 128, 128] inb_S4x128x128_S1x128x128_0_0_0).idx j)) = stc x w n 0 N := by
  funext y
  have l0 : (y 0).val < 1 := (y 0).isLt
  exact stE_congr x w n (256 * N)
    (Fin.ext (by rw [Rect.idx_unit_val]; show 0 + (y 0).val = 0; omega))
    (Fin.ext (by rw [Rect.idx_unit_val]; exact Nat.zero_add _))
    (Fin.ext (by rw [Rect.idx_unit_val]; exact Nat.zero_add _))

/-- One head of a state, loaded. -/
theorem sld0 (x : FVec Ideal S8x2048x1024 .f32) (w : FVec Ideal S1x1024x2560 .f32) (n : Fin 8) (N : ℕ) :
    View.ld (Val := Elt Ideal) (S := S4x128x128) (e' := .f32) (stateV x w n N) (Rect.unit ![0, 0, 0] ![1, 128, 128] inb_S4x128x128_S1x128x128_0_0_0) = stc x w n 0 N :=
  sl0 x w n N

/-- One head of a state. -/
theorem sl1 (x : FVec Ideal S8x2048x1024 .f32) (w : FVec Ideal S1x1024x2560 .f32) (n : Fin 8) (N : ℕ) :
    (fun j => stateV x w n N ((Rect.unit ![1, 0, 0] ![1, 128, 128] inb_S4x128x128_S1x128x128_1_0_0).idx j)) = stc x w n 1 N := by
  funext y
  have l0 : (y 0).val < 1 := (y 0).isLt
  exact stE_congr x w n (256 * N)
    (Fin.ext (by rw [Rect.idx_unit_val]; show 1 + (y 0).val = 1; omega))
    (Fin.ext (by rw [Rect.idx_unit_val]; exact Nat.zero_add _))
    (Fin.ext (by rw [Rect.idx_unit_val]; exact Nat.zero_add _))

/-- One head of a state, loaded. -/
theorem sld1 (x : FVec Ideal S8x2048x1024 .f32) (w : FVec Ideal S1x1024x2560 .f32) (n : Fin 8) (N : ℕ) :
    View.ld (Val := Elt Ideal) (S := S4x128x128) (e' := .f32) (stateV x w n N) (Rect.unit ![1, 0, 0] ![1, 128, 128] inb_S4x128x128_S1x128x128_1_0_0) = stc x w n 1 N :=
  sl1 x w n N

/-- One head of a state. -/
theorem sl2 (x : FVec Ideal S8x2048x1024 .f32) (w : FVec Ideal S1x1024x2560 .f32) (n : Fin 8) (N : ℕ) :
    (fun j => stateV x w n N ((Rect.unit ![2, 0, 0] ![1, 128, 128] inb_S4x128x128_S1x128x128_2_0_0).idx j)) = stc x w n 2 N := by
  funext y
  have l0 : (y 0).val < 1 := (y 0).isLt
  exact stE_congr x w n (256 * N)
    (Fin.ext (by rw [Rect.idx_unit_val]; show 2 + (y 0).val = 2; omega))
    (Fin.ext (by rw [Rect.idx_unit_val]; exact Nat.zero_add _))
    (Fin.ext (by rw [Rect.idx_unit_val]; exact Nat.zero_add _))

/-- One head of a state, loaded. -/
theorem sld2 (x : FVec Ideal S8x2048x1024 .f32) (w : FVec Ideal S1x1024x2560 .f32) (n : Fin 8) (N : ℕ) :
    View.ld (Val := Elt Ideal) (S := S4x128x128) (e' := .f32) (stateV x w n N) (Rect.unit ![2, 0, 0] ![1, 128, 128] inb_S4x128x128_S1x128x128_2_0_0) = stc x w n 2 N :=
  sl2 x w n N

/-- One head of a state. -/
theorem sl3 (x : FVec Ideal S8x2048x1024 .f32) (w : FVec Ideal S1x1024x2560 .f32) (n : Fin 8) (N : ℕ) :
    (fun j => stateV x w n N ((Rect.unit ![3, 0, 0] ![1, 128, 128] inb_S4x128x128_S1x128x128_3_0_0).idx j)) = stc x w n 3 N := by
  funext y
  have l0 : (y 0).val < 1 := (y 0).isLt
  exact stE_congr x w n (256 * N)
    (Fin.ext (by rw [Rect.idx_unit_val]; show 3 + (y 0).val = 3; omega))
    (Fin.ext (by rw [Rect.idx_unit_val]; exact Nat.zero_add _))
    (Fin.ext (by rw [Rect.idx_unit_val]; exact Nat.zero_add _))

/-- One head of a state, loaded. -/
theorem sld3 (x : FVec Ideal S8x2048x1024 .f32) (w : FVec Ideal S1x1024x2560 .f32) (n : Fin 8) (N : ℕ) :
    View.ld (Val := Elt Ideal) (S := S4x128x128) (e' := .f32) (stateV x w n N) (Rect.unit ![3, 0, 0] ![1, 128, 128] inb_S4x128x128_S1x128x128_3_0_0) = stc x w n 3 N :=
  sl3 x w n N

/-- The rows carried from the tile before. -/
theorem carry (x : FVec Ideal S8x2048x1024 .f32) (w : FVec Ideal S1x1024x2560 .f32) (n : Fin 8) (k : ℕ) (hk : k + 2 < 7) :
    k0_pay6 (View.ld (Val := Elt Ideal) (S := S528x512) (e' := .f32) (extV x w n k (by omega)) (Rect.unit ![512, 0] ![16, 512] inb_S528x512_S16x512_512_0)) = exh x w n (k + 2) hk := by
  funext y
  have e : View.ld (Val := Elt Ideal) (S := S528x512) (e' := .f32) (extV x w n k (by omega)) (Rect.unit ![512, 0] ![16, 512] inb_S528x512_S16x512_512_0) = exh x w n (k + 2) hk := by
    funext y
    have l0 : (y 0).val < 16 := (y 0).isLt
    have l1 : (y 1).val < 512 := (y 1).isLt
    refine (congrArg (extV x w n k (by omega)) (show (Rect.unit (s := S528x512) ![512, 0] ![16, 512] inb_S528x512_S16x512_512_0).idx y = ix2 ⟨512 + (y 0).val, by omega⟩ ⟨(y 1).val, l1⟩ from by blk_ext [Rect.idx_unit_val, Nat.zero_add])).trans ?_
    show (if h : 16 ≤ 256 * k + (512 + (y 0).val) then hAt x w n ⟨256 * k + (512 + (y 0).val) - 16, by omega⟩ ⟨(y 1).val, by omega⟩ else 0)
      = (if h : 16 ≤ 256 * (k + 2) + (y 0).val then hAt x w n ⟨256 * (k + 2) + (y 0).val - 16, by omega⟩ ⟨(y 1).val, by omega⟩ else 0)
    by_cases q : 16 ≤ 256 * (k + 2) + (y 0).val
    · rw [dif_pos q, dif_pos (by omega)]
      exact congrArg (fun l => hAt x w n l ⟨(y 1).val, by omega⟩) (Fin.ext (by show 256 * k + (512 + (y 0).val) - 16 = 256 * (k + 2) + (y 0).val - 16; omega))
    · rw [dif_neg q, dif_neg (by omega)]
  rw [e, eq_ix2 y]
  unfold k0_pay6
  pointwise

/-- The rows are taken as they are. -/
theorem p20 (v : FVec Ideal S256x512 .f32) :
    k0_pay20 v = v := by
  funext y
  rw [eq_ix2 y]
  unfold k0_pay20
  pointwise

/-- The rows are taken as they are. -/
theorem p72 (v : FVec Ideal S256x512 .f32) :
    k0_pay72 v = v := by
  funext y
  rw [eq_ix2 y]
  unfold k0_pay72
  pointwise

/-- A row of the tile's pooled rows. -/
theorem extV_at (x : FVec Ideal S8x2048x1024 .f32) (w : FVec Ideal S1x1024x2560 .f32) (n : Fin 8) (k : ℕ) (hk : k < 7) (y : S528x512.Idx) (l : Fin 2048) (e : ℕ) (he : e < 2560)
    (h0 : 16 + l.val = 256 * k + (y 0).val) (h1 : (y 1).val = e) : hAt x w n l ⟨e, he⟩ = extV x w n k hk y := by
  subst h1
  unfold extV
  rw [dif_pos (by omega)]
  exact congrArg (fun l => hAt x w n l ⟨(y 1).val, he⟩) (Fin.ext (by show l.val = 256 * k + (y 0).val - 16; omega))

/-- A row before the tile's first. -/
theorem exh_at (x : FVec Ideal S8x2048x1024 .f32) (w : FVec Ideal S1x1024x2560 .f32) (n : Fin 8) (k : ℕ) (hk : k < 7) (y : S528x512.Idx) (a : S16x512.Idx)
    (h0 : (y 0).val = (a 0).val) (h1 : (y 1).val = (a 1).val) : exh x w n k hk a = extV x w n k hk y := by
  unfold extV exh
  by_cases q : 16 ≤ 256 * k + (a 0).val
  · rw [dif_pos q, dif_pos (by omega)]
    exact congrArg₂ (hAt x w n) (Fin.ext (by show 256 * k + (a 0).val - 16 = 256 * k + (y 0).val - 16; omega)) (Fin.ext h1.symm)
  · rw [dif_neg q, dif_neg (by omega)]

/-- The pooled rows stored so far: the first chunk below the rows before it. -/
theorem ext2 (x : FVec Ideal S8x2048x1024 .f32) (w : FVec Ideal S1x1024x2560 .f32) (n k : Fin 8) (hk : k.val < 7) (y : S528x512.Idx) (hy : (y 0).val < 272) :
    View.canon [(⟨Rect.unit ![16, 0] ![256, 512] inb_S528x512_S256x512_16_0, uv x w n k⟩ : View.Piece (Elt Ideal) S528x512 .f32),
      ⟨Rect.unit ![0, 0] ![16, 512] inb_S528x512_S16x512_0_0, exh x w n k.val hk⟩] y = extV x w n k.val hk y := by
  have l1 : (y 1).val < 512 := (y 1).isLt
  have hc : ∃ p ∈ [(⟨Rect.unit ![16, 0] ![256, 512] inb_S528x512_S256x512_16_0, uv x w n k⟩ : View.Piece (Elt Ideal) S528x512 .f32),
      ⟨Rect.unit ![0, 0] ![16, 512] inb_S528x512_S16x512_0_0, exh x w n k.val hk⟩], y ∈ p.1.set := by
    by_cases q : 16 ≤ (y 0).val
    · exact ⟨_, List.mem_cons_self, (Rect.mem_set_unit (inb := inb_S528x512_S256x512_16_0)).2 (by intro i; fin_cases i <;> first | exact ⟨by show 16 ≤ (y 0).val; omega, by show (y 0).val < 16 + 256; omega⟩ | exact ⟨Nat.zero_le _, by show (y 1).val < 0 + 512; omega⟩)⟩
    · exact ⟨_, List.mem_cons_of_mem _ List.mem_cons_self, (Rect.mem_set_unit (inb := inb_S528x512_S16x512_0_0)).2 (by intro i; fin_cases i <;> first | exact ⟨by show 0 ≤ (y 0).val; omega, by show (y 0).val < 0 + 16; omega⟩ | exact ⟨Nat.zero_le _, by show (y 1).val < 0 + 512; omega⟩)⟩
  canon_tiles a h using hc
  · exact extV_at x w n k.val hk y (tk k (a 0)) _ _ (by show 16 + (256 * k.val + (a 0).val) = _; omega) h1
  · exact exh_at x w n k.val hk y a h0 h1

/-- The pooled rows of the tile. -/
theorem ext3 (x : FVec Ideal S8x2048x1024 .f32) (w : FVec Ideal S1x1024x2560 .f32) (n k k' : Fin 8) (hk : k.val < 7) (hk' : k'.val = k.val + 1) :
    View.canon [(⟨Rect.unit ![272, 0] ![256, 512] inb_S528x512_S256x512_272_0, uv x w n k'⟩ : View.Piece (Elt Ideal) S528x512 .f32),
      ⟨Rect.unit ![16, 0] ![256, 512] inb_S528x512_S256x512_16_0, uv x w n k⟩,
      ⟨Rect.unit ![0, 0] ![16, 512] inb_S528x512_S16x512_0_0, exh x w n k.val hk⟩] = extV x w n k.val hk := by
  funext y
  have l0 : (y 0).val < 528 := (y 0).isLt
  have l1 : (y 1).val < 512 := (y 1).isLt
  have hc : ∃ p ∈ [(⟨Rect.unit ![272, 0] ![256, 512] inb_S528x512_S256x512_272_0, uv x w n k'⟩ : View.Piece (Elt Ideal) S528x512 .f32),
      ⟨Rect.unit ![16, 0] ![256, 512] inb_S528x512_S256x512_16_0, uv x w n k⟩,
      ⟨Rect.unit ![0, 0] ![16, 512] inb_S528x512_S16x512_0_0, exh x w n k.val hk⟩], y ∈ p.1.set := by
    by_cases q : 16 ≤ (y 0).val
    · by_cases q' : 272 ≤ (y 0).val
      · exact ⟨_, List.mem_cons_self, (Rect.mem_set_unit (inb := inb_S528x512_S256x512_272_0)).2 (by intro i; fin_cases i <;> first | exact ⟨by show 272 ≤ (y 0).val; omega, by show (y 0).val < 272 + 256; omega⟩ | exact ⟨Nat.zero_le _, by show (y 1).val < 0 + 512; omega⟩)⟩
      · exact ⟨_, List.mem_cons_of_mem _ List.mem_cons_self, (Rect.mem_set_unit (inb := inb_S528x512_S256x512_16_0)).2 (by intro i; fin_cases i <;> first | exact ⟨by show 16 ≤ (y 0).val; omega, by show (y 0).val < 16 + 256; omega⟩ | exact ⟨Nat.zero_le _, by show (y 1).val < 0 + 512; omega⟩)⟩
    · exact ⟨_, List.mem_cons_of_mem _ (List.mem_cons_of_mem _ List.mem_cons_self), (Rect.mem_set_unit (inb := inb_S528x512_S16x512_0_0)).2 (by intro i; fin_cases i <;> first | exact ⟨by show 0 ≤ (y 0).val; omega, by show (y 0).val < 0 + 16; omega⟩ | exact ⟨Nat.zero_le _, by show (y 1).val < 0 + 512; omega⟩)⟩
  canon_tiles a h using hc
  · exact extV_at x w n k.val hk y (tk k' (a 0)) _ _ (by show 16 + (256 * k'.val + (a 0).val) = _; omega) h1
  · exact extV_at x w n k.val hk y (tk k (a 0)) _ _ (by show 16 + (256 * k.val + (a 0).val) = _; omega) h1
  · exact exh_at x w n k.val hk y a h0 h1

/-- The states stored by a chunk. -/
theorem st4 (x : FVec Ideal S8x2048x1024 .f32) (w : FVec Ideal S1x1024x2560 .f32) (n : Fin 8) (N : ℕ) (L : List (View.Piece (Elt Ideal) S4x128x128 .f32)) :
    View.canon ((⟨(Rect.unit ![3, 0, 0] ![1, 128, 128] inb_S4x128x128_S1x128x128_3_0_0), stc x w n 3 N⟩ : View.Piece (Elt Ideal) S4x128x128 .f32) :: ⟨(Rect.unit ![2, 0, 0] ![1, 128, 128] inb_S4x128x128_S1x128x128_2_0_0), stc x w n 2 N⟩ :: ⟨(Rect.unit ![1, 0, 0] ![1, 128, 128] inb_S4x128x128_S1x128x128_1_0_0), stc x w n 1 N⟩ :: ⟨(Rect.unit ![0, 0, 0] ![1, 128, 128] inb_S4x128x128_S1x128x128_0_0_0), stc x w n 0 N⟩ :: L) = stateV x w n N := by
  funext y
  have l0 : (y 0).val < 4 := (y 0).isLt
  have q : (y 0).val = 0 ∨ (y 0).val = 1 ∨ (y 0).val = 2 ∨ (y 0).val = 3 := by omega
  rcases q with q | q | q | q
  · let j : ((Rect.unit ![0, 0, 0] ![1, 128, 128] inb_S4x128x128_S1x128x128_0_0_0) : Rect S4x128x128).shape.Idx := ix3 0 (y 1) (y 2)
    have e : y = ((Rect.unit ![0, 0, 0] ![1, 128, 128] inb_S4x128x128_S1x128x128_0_0_0) : Rect S4x128x128).idx j := by
      funext i
      refine Fin.ext ?_
      rw [Rect.idx_unit_val]
      fin_cases i
      · exact q
      · exact (Nat.zero_add _).symm
      · exact (Nat.zero_add _).symm
    rw [e]
    exact ((congrFun (skip30 _ _) j).trans ((congrFun (skip20 _ _) j).trans ((congrFun (skip10 _ _) j).trans (congrFun (hit0 _ _) j)))).trans (congrFun (sl0 x w n N) j).symm
  · let j : ((Rect.unit ![1, 0, 0] ![1, 128, 128] inb_S4x128x128_S1x128x128_1_0_0) : Rect S4x128x128).shape.Idx := ix3 0 (y 1) (y 2)
    have e : y = ((Rect.unit ![1, 0, 0] ![1, 128, 128] inb_S4x128x128_S1x128x128_1_0_0) : Rect S4x128x128).idx j := by
      funext i
      refine Fin.ext ?_
      rw [Rect.idx_unit_val]
      fin_cases i
      · exact q
      · exact (Nat.zero_add _).symm
      · exact (Nat.zero_add _).symm
    rw [e]
    exact ((congrFun (skip31 _ _) j).trans ((congrFun (skip21 _ _) j).trans (congrFun (hit1 _ _) j))).trans (congrFun (sl1 x w n N) j).symm
  · let j : ((Rect.unit ![2, 0, 0] ![1, 128, 128] inb_S4x128x128_S1x128x128_2_0_0) : Rect S4x128x128).shape.Idx := ix3 0 (y 1) (y 2)
    have e : y = ((Rect.unit ![2, 0, 0] ![1, 128, 128] inb_S4x128x128_S1x128x128_2_0_0) : Rect S4x128x128).idx j := by
      funext i
      refine Fin.ext ?_
      rw [Rect.idx_unit_val]
      fin_cases i
      · exact q
      · exact (Nat.zero_add _).symm
      · exact (Nat.zero_add _).symm
    rw [e]
    exact ((congrFun (skip32 _ _) j).trans (congrFun (hit2 _ _) j)).trans (congrFun (sl2 x w n N) j).symm
  · let j : ((Rect.unit ![3, 0, 0] ![1, 128, 128] inb_S4x128x128_S1x128x128_3_0_0) : Rect S4x128x128).shape.Idx := ix3 0 (y 1) (y 2)
    have e : y = ((Rect.unit ![3, 0, 0] ![1, 128, 128] inb_S4x128x128_S1x128x128_3_0_0) : Rect S4x128x128).idx j := by
      funext i
      refine Fin.ext ?_
      rw [Rect.idx_unit_val]
      fin_cases i
      · exact q
      · exact (Nat.zero_add _).symm
      · exact (Nat.zero_add _).symm
    rw [e]
    exact (congrFun (hit3 _ _) j).trans (congrFun (sl3 x w n N) j).symm

/-- The rows group 0 pools over in the first half. -/
theorem w0_0 (x : FVec Ideal S8x2048x1024 .f32) (w : FVec Ideal S1x1024x2560 .f32) (n k : Fin 8) (hk : k.val < 7) :
    (fun j => View.canon [(⟨Rect.unit ![16, 0] ![256, 512] inb_S528x512_S256x512_16_0, uv x w n k⟩ : View.Piece (Elt Ideal) S528x512 .f32),
      ⟨Rect.unit ![0, 0] ![16, 512] inb_S528x512_S16x512_0_0, exh x w n k.val hk⟩] ((Rect.unit ![0, 0] ![272, 128] inb_S528x512_S272x128_0_0).idx j)) = exw x w n k 0 := by
  funext j
  have j0 : (j 0).val < 272 := (j 0).isLt
  have j1 : (j 1).val < 128 := (j 1).isLt
  rw [show (Rect.unit ![0, 0] ![272, 128] inb_S528x512_S272x128_0_0).idx j = ix2 ⟨(j 0).val, by omega⟩ ⟨(j 1).val, by omega⟩ from by blk_ext [Rect.idx_unit_val, Nat.zero_add], ext2 x w n k hk _ j0]
  show (if h : 16 ≤ 256 * k.val + (j 0).val then hAt x w n ⟨256 * k.val + (j 0).val - 16, by omega⟩ ⟨(j 1).val, by omega⟩ else 0)
    = (if h : 16 ≤ 256 * k.val + (j 0).val then hAt x w n ⟨256 * k.val + (j 0).val - 16, by omega⟩ ⟨128 * 0 + (j 1).val, by omega⟩ else 0)
  by_cases q : 16 ≤ 256 * k.val + (j 0).val
  · rw [dif_pos q, dif_pos q]
    exact congrArg (hAt x w n _) (Fin.ext (Nat.zero_add _).symm)
  · rw [dif_neg q, dif_neg q]

/-- The rows group 0 pools over in the second half. -/
theorem w1_0 (x : FVec Ideal S8x2048x1024 .f32) (w : FVec Ideal S1x1024x2560 .f32) (n k k' : Fin 8) (hk : k.val < 7) (hk' : k'.val = k.val + 1) :
    (fun j => extV x w n k.val hk ((Rect.unit ![256, 0] ![272, 128] inb_S528x512_S272x128_256_0).idx j)) = exw x w n k' 0 := by
  funext j
  have j0 : (j 0).val < 272 := (j 0).isLt
  have j1 : (j 1).val < 128 := (j 1).isLt
  rw [show (Rect.unit ![256, 0] ![272, 128] inb_S528x512_S272x128_256_0).idx j = ix2 ⟨256 + (j 0).val, by omega⟩ ⟨(j 1).val, by omega⟩ from by blk_ext [Rect.idx_unit_val, Nat.zero_add]]
  show (if h : 16 ≤ 256 * k.val + (256 + (j 0).val) then hAt x w n ⟨256 * k.val + (256 + (j 0).val) - 16, by omega⟩ ⟨(j 1).val, by omega⟩ else 0)
    = (if h : 16 ≤ 256 * k'.val + (j 0).val then hAt x w n ⟨256 * k'.val + (j 0).val - 16, by omega⟩ ⟨128 * 0 + (j 1).val, by omega⟩ else 0)
  by_cases q : 16 ≤ 256 * k'.val + (j 0).val
  · rw [dif_pos q, dif_pos (by omega)]
    exact congrArg₂ (hAt x w n) (Fin.ext (by show 256 * k.val + (256 + (j 0).val) - 16 = 256 * k'.val + (j 0).val - 16; omega)) (Fin.ext ((Nat.zero_add _).symm))
  · rw [dif_neg q, dif_neg (by omega)]

/-- The rows group 1 pools over in the first half. -/
theorem w0_1 (x : FVec Ideal S8x2048x1024 .f32) (w : FVec Ideal S1x1024x2560 .f32) (n k : Fin 8) (hk : k.val < 7) :
    (fun j => View.canon [(⟨Rect.unit ![16, 0] ![256, 512] inb_S528x512_S256x512_16_0, uv x w n k⟩ : View.Piece (Elt Ideal) S528x512 .f32),
      ⟨Rect.unit ![0, 0] ![16, 512] inb_S528x512_S16x512_0_0, exh x w n k.val hk⟩] ((Rect.unit ![0, 128] ![272, 128] inb_S528x512_S272x128_0_128).idx j)) = exw x w n k 1 := by
  funext j
  have j0 : (j 0).val < 272 := (j 0).isLt
  have j1 : (j 1).val < 128 := (j 1).isLt
  rw [show (Rect.unit ![0, 128] ![272, 128] inb_S528x512_S272x128_0_128).idx j = ix2 ⟨(j 0).val, by omega⟩ ⟨128 + (j 1).val, by omega⟩ from by blk_ext [Rect.idx_unit_val, Nat.zero_add], ext2 x w n k hk _ j0]
  show (if h : 16 ≤ 256 * k.val + (j 0).val then hAt x w n ⟨256 * k.val + (j 0).val - 16, by omega⟩ ⟨128 + (j 1).val, by omega⟩ else 0)
    = (if h : 16 ≤ 256 * k.val + (j 0).val then hAt x w n ⟨256 * k.val + (j 0).val - 16, by omega⟩ ⟨128 * 1 + (j 1).val, by omega⟩ else 0)
  rfl

/-- The rows group 1 pools over in the second half. -/
theorem w1_1 (x : FVec Ideal S8x2048x1024 .f32) (w : FVec Ideal S1x1024x2560 .f32) (n k k' : Fin 8) (hk : k.val < 7) (hk' : k'.val = k.val + 1) :
    (fun j => extV x w n k.val hk ((Rect.unit ![256, 128] ![272, 128] inb_S528x512_S272x128_256_128).idx j)) = exw x w n k' 1 := by
  funext j
  have j0 : (j 0).val < 272 := (j 0).isLt
  have j1 : (j 1).val < 128 := (j 1).isLt
  rw [show (Rect.unit ![256, 128] ![272, 128] inb_S528x512_S272x128_256_128).idx j = ix2 ⟨256 + (j 0).val, by omega⟩ ⟨128 + (j 1).val, by omega⟩ from by blk_ext [Rect.idx_unit_val, Nat.zero_add]]
  show (if h : 16 ≤ 256 * k.val + (256 + (j 0).val) then hAt x w n ⟨256 * k.val + (256 + (j 0).val) - 16, by omega⟩ ⟨128 + (j 1).val, by omega⟩ else 0)
    = (if h : 16 ≤ 256 * k'.val + (j 0).val then hAt x w n ⟨256 * k'.val + (j 0).val - 16, by omega⟩ ⟨128 * 1 + (j 1).val, by omega⟩ else 0)
  by_cases q : 16 ≤ 256 * k'.val + (j 0).val
  · rw [dif_pos q, dif_pos (by omega)]
    exact congrArg₂ (hAt x w n) (Fin.ext (by show 256 * k.val + (256 + (j 0).val) - 16 = 256 * k'.val + (j 0).val - 16; omega)) (Fin.ext (rfl))
  · rw [dif_neg q, dif_neg (by omega)]

/-- The rows group 2 pools over in the first half. -/
theorem w0_2 (x : FVec Ideal S8x2048x1024 .f32) (w : FVec Ideal S1x1024x2560 .f32) (n k : Fin 8) (hk : k.val < 7) :
    (fun j => View.canon [(⟨Rect.unit ![16, 0] ![256, 512] inb_S528x512_S256x512_16_0, uv x w n k⟩ : View.Piece (Elt Ideal) S528x512 .f32),
      ⟨Rect.unit ![0, 0] ![16, 512] inb_S528x512_S16x512_0_0, exh x w n k.val hk⟩] ((Rect.unit ![0, 256] ![272, 128] inb_S528x512_S272x128_0_256).idx j)) = exw x w n k 2 := by
  funext j
  have j0 : (j 0).val < 272 := (j 0).isLt
  have j1 : (j 1).val < 128 := (j 1).isLt
  rw [show (Rect.unit ![0, 256] ![272, 128] inb_S528x512_S272x128_0_256).idx j = ix2 ⟨(j 0).val, by omega⟩ ⟨256 + (j 1).val, by omega⟩ from by blk_ext [Rect.idx_unit_val, Nat.zero_add], ext2 x w n k hk _ j0]
  show (if h : 16 ≤ 256 * k.val + (j 0).val then hAt x w n ⟨256 * k.val + (j 0).val - 16, by omega⟩ ⟨256 + (j 1).val, by omega⟩ else 0)
    = (if h : 16 ≤ 256 * k.val + (j 0).val then hAt x w n ⟨256 * k.val + (j 0).val - 16, by omega⟩ ⟨128 * 2 + (j 1).val, by omega⟩ else 0)
  rfl

/-- The rows group 2 pools over in the second half. -/
theorem w1_2 (x : FVec Ideal S8x2048x1024 .f32) (w : FVec Ideal S1x1024x2560 .f32) (n k k' : Fin 8) (hk : k.val < 7) (hk' : k'.val = k.val + 1) :
    (fun j => extV x w n k.val hk ((Rect.unit ![256, 256] ![272, 128] inb_S528x512_S272x128_256_256).idx j)) = exw x w n k' 2 := by
  funext j
  have j0 : (j 0).val < 272 := (j 0).isLt
  have j1 : (j 1).val < 128 := (j 1).isLt
  rw [show (Rect.unit ![256, 256] ![272, 128] inb_S528x512_S272x128_256_256).idx j = ix2 ⟨256 + (j 0).val, by omega⟩ ⟨256 + (j 1).val, by omega⟩ from by blk_ext [Rect.idx_unit_val, Nat.zero_add]]
  show (if h : 16 ≤ 256 * k.val + (256 + (j 0).val) then hAt x w n ⟨256 * k.val + (256 + (j 0).val) - 16, by omega⟩ ⟨256 + (j 1).val, by omega⟩ else 0)
    = (if h : 16 ≤ 256 * k'.val + (j 0).val then hAt x w n ⟨256 * k'.val + (j 0).val - 16, by omega⟩ ⟨128 * 2 + (j 1).val, by omega⟩ else 0)
  by_cases q : 16 ≤ 256 * k'.val + (j 0).val
  · rw [dif_pos q, dif_pos (by omega)]
    exact congrArg₂ (hAt x w n) (Fin.ext (by show 256 * k.val + (256 + (j 0).val) - 16 = 256 * k'.val + (j 0).val - 16; omega)) (Fin.ext (rfl))
  · rw [dif_neg q, dif_neg (by omega)]

/-- The rows group 3 pools over in the first half. -/
theorem w0_3 (x : FVec Ideal S8x2048x1024 .f32) (w : FVec Ideal S1x1024x2560 .f32) (n k : Fin 8) (hk : k.val < 7) :
    (fun j => View.canon [(⟨Rect.unit ![16, 0] ![256, 512] inb_S528x512_S256x512_16_0, uv x w n k⟩ : View.Piece (Elt Ideal) S528x512 .f32),
      ⟨Rect.unit ![0, 0] ![16, 512] inb_S528x512_S16x512_0_0, exh x w n k.val hk⟩] ((Rect.unit ![0, 384] ![272, 128] inb_S528x512_S272x128_0_384).idx j)) = exw x w n k 3 := by
  funext j
  have j0 : (j 0).val < 272 := (j 0).isLt
  have j1 : (j 1).val < 128 := (j 1).isLt
  rw [show (Rect.unit ![0, 384] ![272, 128] inb_S528x512_S272x128_0_384).idx j = ix2 ⟨(j 0).val, by omega⟩ ⟨384 + (j 1).val, by omega⟩ from by blk_ext [Rect.idx_unit_val, Nat.zero_add], ext2 x w n k hk _ j0]
  show (if h : 16 ≤ 256 * k.val + (j 0).val then hAt x w n ⟨256 * k.val + (j 0).val - 16, by omega⟩ ⟨384 + (j 1).val, by omega⟩ else 0)
    = (if h : 16 ≤ 256 * k.val + (j 0).val then hAt x w n ⟨256 * k.val + (j 0).val - 16, by omega⟩ ⟨128 * 3 + (j 1).val, by omega⟩ else 0)
  rfl

/-- The rows group 3 pools over in the second half. -/
theorem w1_3 (x : FVec Ideal S8x2048x1024 .f32) (w : FVec Ideal S1x1024x2560 .f32) (n k k' : Fin 8) (hk : k.val < 7) (hk' : k'.val = k.val + 1) :
    (fun j => extV x w n k.val hk ((Rect.unit ![256, 384] ![272, 128] inb_S528x512_S272x128_256_384).idx j)) = exw x w n k' 3 := by
  funext j
  have j0 : (j 0).val < 272 := (j 0).isLt
  have j1 : (j 1).val < 128 := (j 1).isLt
  rw [show (Rect.unit ![256, 384] ![272, 128] inb_S528x512_S272x128_256_384).idx j = ix2 ⟨256 + (j 0).val, by omega⟩ ⟨384 + (j 1).val, by omega⟩ from by blk_ext [Rect.idx_unit_val, Nat.zero_add]]
  show (if h : 16 ≤ 256 * k.val + (256 + (j 0).val) then hAt x w n ⟨256 * k.val + (256 + (j 0).val) - 16, by omega⟩ ⟨384 + (j 1).val, by omega⟩ else 0)
    = (if h : 16 ≤ 256 * k'.val + (j 0).val then hAt x w n ⟨256 * k'.val + (j 0).val - 16, by omega⟩ ⟨128 * 3 + (j 1).val, by omega⟩ else 0)
  by_cases q : 16 ≤ 256 * k'.val + (j 0).val
  · rw [dif_pos q, dif_pos (by omega)]
    exact congrArg₂ (hAt x w n) (Fin.ext (by show 256 * k.val + (256 + (j 0).val) - 16 = 256 * k'.val + (j 0).val - 16; omega)) (Fin.ext (rfl))
  · rw [dif_neg q, dif_neg (by omega)]

end Cert.KernelEvenIdeal.Value1
-- ==== Proof.EvenQkv.lean ====
module

public import proofs.«01_k».proof.Proof.Gen.KernelEvenIdeal.Frame
public import proofs.«01_k».proof.Proof.EvenVec
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelEvenIdeal.Value1

open Cert.KernelEvenIdeal Cert.KernelEvenIdeal.Gen Cert.Ffn Cert.Even

variable (x : FVec Ideal S8x2048x1024 .f32) (w : FVec Ideal S1x1024x2560 .f32) (pw : FVec Ideal S1x4x128x128 .f32) (ps gn : FVec Ideal S1x512 .f32)
  (wo : FVec Ideal S1x1024x1024 .f32) (lg lb : FVec Ideal S2x1024 .f32)

/-- A rotated entry, from the tables. -/
theorem rot_key (l : Fin 2048) (f : Fin 128 → EReal) (d : Fin 128) (hb : (d.val + 128 - 64) % 128 < 128) :
    f d * cosV (ix2 l d) + f ⟨(d.val + 128 - 64) % 128, hb⟩ * sinV (ix2 l d) = rot l.val f d := by
  rw [cosV_at, sinV_at]
  unfold rot
  by_cases h : d.val < 64
  · rw [if_pos h, if_pos h, dif_pos h]
    exact congrArg (fun i => f d * cosT l.val d.val + f i * -sinT l.val d.val) (Fin.ext (by show (d.val + 128 - 64) % 128 = d.val + 64; omega))
  · rw [if_neg h, if_neg h, dif_neg h]
    exact congrArg (fun i => f d * cosT l.val (d.val - 64) + f i * sinT l.val (d.val - 64)) (Fin.ext (by show (d.val + 128 - 64) % 128 = d.val - 64; omega))

/-- One head's queries of a chunk, rounded. -/
def qb (n k : Fin 8) (h : Fin 4) : FVec Ideal S256x128 .bf16 := fun y => qAt x w n h (tk k (y 0)) (y 1)

/-- One head's keys of a chunk, rounded. -/
def kb (n k : Fin 8) (h : Fin 4) : FVec Ideal S256x128 .bf16 := fun y => kAt x w n h (tk k (y 0)) (y 1)

/-- One head's scores in a chunk. -/
def sv (n k : Fin 8) (h : Fin 4) : FVec Ideal S256x256 .f32 := fun y => ∑ d, qAt x w n h (tk k (y 0)) d * kAt x w n h (tk k (y 1)) d

/-- One head's decays inside a chunk, as a matrix. -/
def decm (h : Fin 4) : FVec Ideal S256x256 .f32 := fun y => decV (ix3 h (y 0) (y 1))

/-- The table is taken as it is. -/
theorem p29 (v : FVec Ideal S256x128 .f32) :
    k0_pay29 v = v := by
  funext y
  rw [eq_ix2 y]
  unfold k0_pay29
  pointwise

/-- The table is taken as it is. -/
theorem p30 (v : FVec Ideal S256x128 .f32) :
    k0_pay30 v = v := by
  funext y
  rw [eq_ix2 y]
  unfold k0_pay30
  pointwise

/-- The table is taken as it is. -/
theorem p84 (v : FVec Ideal S256x128 .f32) :
    k0_pay84 v = v := by
  funext y
  rw [eq_ix2 y]
  unfold k0_pay84
  pointwise

/-- The table is taken as it is. -/
theorem p85 (v : FVec Ideal S256x128 .f32) :
    k0_pay85 v = v := by
  funext y
  rw [eq_ix2 y]
  unfold k0_pay85
  pointwise

/-- The queries of a head. -/
theorem p31 (n k : Fin 8) :
    k0_pay31 (c2c k) (s2c k) (colv x w n k 512 (by decide)) = qv x w n k 0 := by
  funext y
  rw [eq_ix2 y]
  unfold k0_pay31 k0_pay29 k0_pay30
  pointwise [colv, c2c, s2c]
  exact rot_key (tk k (y 0)) (fun d => hAt x w n (tk k (y 0)) ⟨512 + 128 * 0 + d.val, by omega⟩) (y 1) (by omega)

/-- The queries of a head. -/
theorem p38 (n k : Fin 8) :
    k0_pay38 (c2c k) (s2c k) (colv x w n k 640 (by decide)) = qv x w n k 1 := by
  funext y
  rw [eq_ix2 y]
  unfold k0_pay38
  pointwise [colv, c2c, s2c]
  exact rot_key (tk k (y 0)) (fun d => hAt x w n (tk k (y 0)) ⟨512 + 128 * 1 + d.val, by omega⟩) (y 1) (by omega)

/-- The queries of a head. -/
theorem p47 (n k : Fin 8) :
    k0_pay47 (c2c k) (s2c k) (colv x w n k 768 (by decide)) = qv x w n k 2 := by
  funext y
  rw [eq_ix2 y]
  unfold k0_pay47
  pointwise [colv, c2c, s2c]
  exact rot_key (tk k (y 0)) (fun d => hAt x w n (tk k (y 0)) ⟨512 + 128 * 2 + d.val, by omega⟩) (y 1) (by omega)

/-- The queries of a head. -/
theorem p56 (n k : Fin 8) :
    k0_pay56 (c2c k) (s2c k) (colv x w n k 896 (by decide)) = qv x w n k 3 := by
  funext y
  rw [eq_ix2 y]
  unfold k0_pay56
  pointwise [colv, c2c, s2c]
  exact rot_key (tk k (y 0)) (fun d => hAt x w n (tk k (y 0)) ⟨512 + 128 * 3 + d.val, by omega⟩) (y 1) (by omega)

/-- The queries of a head. -/
theorem p86 (n k : Fin 8) :
    k0_pay86 (c2c k) (s2c k) (colv x w n k 512 (by decide)) = qv x w n k 0 := by
  funext y
  rw [eq_ix2 y]
  unfold k0_pay86 k0_pay84 k0_pay85
  pointwise [colv, c2c, s2c]
  exact rot_key (tk k (y 0)) (fun d => hAt x w n (tk k (y 0)) ⟨512 + 128 * 0 + d.val, by omega⟩) (y 1) (by omega)

/-- The queries of a head. -/
theorem p96 (n k : Fin 8) :
    k0_pay96 (c2c k) (s2c k) (colv x w n k 640 (by decide)) = qv x w n k 1 := by
  funext y
  rw [eq_ix2 y]
  unfold k0_pay96
  pointwise [colv, c2c, s2c]
  exact rot_key (tk k (y 0)) (fun d => hAt x w n (tk k (y 0)) ⟨512 + 128 * 1 + d.val, by omega⟩) (y 1) (by omega)

/-- The queries of a head. -/
theorem p106 (n k : Fin 8) :
    k0_pay106 (c2c k) (s2c k) (colv x w n k 768 (by decide)) = qv x w n k 2 := by
  funext y
  rw [eq_ix2 y]
  unfold k0_pay106
  pointwise [colv, c2c, s2c]
  exact rot_key (tk k (y 0)) (fun d => hAt x w n (tk k (y 0)) ⟨512 + 128 * 2 + d.val, by omega⟩) (y 1) (by omega)

/-- The queries of a head. -/
theorem p116 (n k : Fin 8) :
    k0_pay116 (c2c k) (s2c k) (colv x w n k 896 (by decide)) = qv x w n k 3 := by
  funext y
  rw [eq_ix2 y]
  unfold k0_pay116
  pointwise [colv, c2c, s2c]
  exact rot_key (tk k (y 0)) (fun d => hAt x w n (tk k (y 0)) ⟨512 + 128 * 3 + d.val, by omega⟩) (y 1) (by omega)

/-- The keys of a head. -/
theorem p32 (n k : Fin 8) :
    k0_pay32 (c2c k) (s2c k) (colv x w n k 1024 (by decide)) = kv x w n k 0 := by
  funext y
  rw [eq_ix2 y]
  unfold k0_pay32 k0_pay29 k0_pay30
  pointwise [colv, c2c, s2c]
  exact congrArg (· * kscale) (rot_key (tk k (y 0)) (fun d => hAt x w n (tk k (y 0)) ⟨1024 + 128 * 0 + d.val, by omega⟩) (y 1) (by omega))

/-- The keys of a head. -/
theorem p39 (n k : Fin 8) :
    k0_pay39 (c2c k) (s2c k) (colv x w n k 1152 (by decide)) = kv x w n k 1 := by
  funext y
  rw [eq_ix2 y]
  unfold k0_pay39
  pointwise [colv, c2c, s2c]
  exact congrArg (· * kscale) (rot_key (tk k (y 0)) (fun d => hAt x w n (tk k (y 0)) ⟨1024 + 128 * 1 + d.val, by omega⟩) (y 1) (by omega))

/-- The keys of a head. -/
theorem p48 (n k : Fin 8) :
    k0_pay48 (c2c k) (s2c k) (colv x w n k 1280 (by decide)) = kv x w n k 2 := by
  funext y
  rw [eq_ix2 y]
  unfold k0_pay48
  pointwise [colv, c2c, s2c]
  exact congrArg (· * kscale) (rot_key (tk k (y 0)) (fun d => hAt x w n (tk k (y 0)) ⟨1024 + 128 * 2 + d.val, by omega⟩) (y 1) (by omega))

/-- The keys of a head. -/
theorem p57 (n k : Fin 8) :
    k0_pay57 (c2c k) (s2c k) (colv x w n k 1408 (by decide)) = kv x w n k 3 := by
  funext y
  rw [eq_ix2 y]
  unfold k0_pay57
  pointwise [colv, c2c, s2c]
  exact congrArg (· * kscale) (rot_key (tk k (y 0)) (fun d => hAt x w n (tk k (y 0)) ⟨1024 + 128 * 3 + d.val, by omega⟩) (y 1) (by omega))

/-- The keys of a head. -/
theorem p87 (n k : Fin 8) :
    k0_pay87 (c2c k) (s2c k) (colv x w n k 1024 (by decide)) = kv x w n k 0 := by
  funext y
  rw [eq_ix2 y]
  unfold k0_pay87 k0_pay84 k0_pay85
  pointwise [colv, c2c, s2c]
  exact congrArg (· * kscale) (rot_key (tk k (y 0)) (fun d => hAt x w n (tk k (y 0)) ⟨1024 + 128 * 0 + d.val, by omega⟩) (y 1) (by omega))

/-- The keys of a head. -/
theorem p97 (n k : Fin 8) :
    k0_pay97 (c2c k) (s2c k) (colv x w n k 1152 (by decide)) = kv x w n k 1 := by
  funext y
  rw [eq_ix2 y]
  unfold k0_pay97
  pointwise [colv, c2c, s2c]
  exact congrArg (· * kscale) (rot_key (tk k (y 0)) (fun d => hAt x w n (tk k (y 0)) ⟨1024 + 128 * 1 + d.val, by omega⟩) (y 1) (by omega))

/-- The keys of a head. -/
theorem p107 (n k : Fin 8) :
    k0_pay107 (c2c k) (s2c k) (colv x w n k 1280 (by decide)) = kv x w n k 2 := by
  funext y
  rw [eq_ix2 y]
  unfold k0_pay107
  pointwise [colv, c2c, s2c]
  exact congrArg (· * kscale) (rot_key (tk k (y 0)) (fun d => hAt x w n (tk k (y 0)) ⟨1024 + 128 * 2 + d.val, by omega⟩) (y 1) (by omega))

/-- The keys of a head. -/
theorem p117 (n k : Fin 8) :
    k0_pay117 (c2c k) (s2c k) (colv x w n k 1408 (by decide)) = kv x w n k 3 := by
  funext y
  rw [eq_ix2 y]
  unfold k0_pay117
  pointwise [colv, c2c, s2c]
  exact congrArg (· * kscale) (rot_key (tk k (y 0)) (fun d => hAt x w n (tk k (y 0)) ⟨1024 + 128 * 3 + d.val, by omega⟩) (y 1) (by omega))

/-- The values of a head. -/
theorem p33 (n k : Fin 8) :
    k0_pay33 (colv x w n k 1536 (by decide)) = vb x w n k 0 := by
  rfl

/-- The values of a head. -/
theorem p40 (n k : Fin 8) :
    k0_pay40 (colv x w n k 1664 (by decide)) = vb x w n k 1 := by
  rfl

/-- The values of a head. -/
theorem p49 (n k : Fin 8) :
    k0_pay49 (colv x w n k 1792 (by decide)) = vb x w n k 2 := by
  rfl

/-- The values of a head. -/
theorem p58 (n k : Fin 8) :
    k0_pay58 (colv x w n k 1920 (by decide)) = vb x w n k 3 := by
  rfl

/-- The values of a head. -/
theorem p88 (n k : Fin 8) :
    k0_pay88 (colv x w n k 1536 (by decide)) = vb x w n k 0 := by
  rfl

/-- The values of a head. -/
theorem p98 (n k : Fin 8) :
    k0_pay98 (colv x w n k 1664 (by decide)) = vb x w n k 1 := by
  rfl

/-- The values of a head. -/
theorem p108 (n k : Fin 8) :
    k0_pay108 (colv x w n k 1792 (by decide)) = vb x w n k 2 := by
  rfl

/-- The values of a head. -/
theorem p118 (n k : Fin 8) :
    k0_pay118 (colv x w n k 1920 (by decide)) = vb x w n k 3 := by
  rfl

/-- The state of a head, as a matrix. -/
theorem p34 (n : Fin 8) (N : ℕ) (h : Fin 4) :
    k0_pay34 (stc x w n h N) = stm x w n h N := by
  funext y
  rw [eq_ix2 y]
  unfold k0_pay34
  pointwise [stc, stm]

/-- The state of a head, as a matrix. -/
theorem p41 (n : Fin 8) (N : ℕ) (h : Fin 4) :
    k0_pay41 (stc x w n h N) = stm x w n h N := by
  funext y
  rw [eq_ix2 y]
  unfold k0_pay41
  pointwise [stc, stm]

/-- The state of a head, as a matrix. -/
theorem p50 (n : Fin 8) (N : ℕ) (h : Fin 4) :
    k0_pay50 (stc x w n h N) = stm x w n h N := by
  funext y
  rw [eq_ix2 y]
  unfold k0_pay50
  pointwise [stc, stm]

/-- The state of a head, as a matrix. -/
theorem p59 (n : Fin 8) (N : ℕ) (h : Fin 4) :
    k0_pay59 (stc x w n h N) = stm x w n h N := by
  funext y
  rw [eq_ix2 y]
  unfold k0_pay59
  pointwise [stc, stm]

/-- The state of a head, as a matrix. -/
theorem p89 (n : Fin 8) (N : ℕ) (h : Fin 4) :
    k0_pay89 (stc x w n h N) = stm x w n h N := by
  funext y
  rw [eq_ix2 y]
  unfold k0_pay89
  pointwise [stc, stm]

/-- The state of a head, as a matrix. -/
theorem p99 (n : Fin 8) (N : ℕ) (h : Fin 4) :
    k0_pay99 (stc x w n h N) = stm x w n h N := by
  funext y
  rw [eq_ix2 y]
  unfold k0_pay99
  pointwise [stc, stm]

/-- The state of a head, as a matrix. -/
theorem p109 (n : Fin 8) (N : ℕ) (h : Fin 4) :
    k0_pay109 (stc x w n h N) = stm x w n h N := by
  funext y
  rw [eq_ix2 y]
  unfold k0_pay109
  pointwise [stc, stm]

/-- The state of a head, as a matrix. -/
theorem p119 (n : Fin 8) (N : ℕ) (h : Fin 4) :
    k0_pay119 (stc x w n h N) = stm x w n h N := by
  funext y
  rw [eq_ix2 y]
  unfold k0_pay119
  pointwise [stc, stm]

/-- The queries, rounded. -/
theorem p60 (n k : Fin 8) :
    k0_pay60 (c2c k) (s2c k) (colv x w n k 896 (by decide)) = qb x w n k 3 := by
  unfold k0_pay60
  rw [p56]
  rfl

/-- The keys, rounded. -/
theorem p61 (n k : Fin 8) :
    k0_pay61 (c2c k) (s2c k) (colv x w n k 1408 (by decide)) = kb x w n k 3 := by
  unfold k0_pay61
  rw [p57]
  rfl

/-- The queries, rounded. -/
theorem p100 (n k : Fin 8) :
    k0_pay100 (c2c k) (s2c k) (colv x w n k 640 (by decide)) = qb x w n k 1 := by
  unfold k0_pay100
  rw [p96]
  rfl

/-- The scores. -/
theorem p110 (n k : Fin 8) :
    k0_pay110 (c2c k) (s2c k) (colv x w n k 768 (by decide)) (colv x w n k 1280 (by decide)) = sv x w n k 2 := by
  unfold k0_pay110
  rw [p106, p107]
  funext y
  rw [eq_ix2 y]
  pointwise [qv, kv, sv]

/-- The scores. -/
theorem p120 (n k : Fin 8) :
    k0_pay120 (c2c k) (s2c k) (colv x w n k 896 (by decide)) (colv x w n k 1408 (by decide)) = sv x w n k 3 := by
  unfold k0_pay120
  rw [p116, p117]
  funext y
  rw [eq_ix2 y]
  pointwise [qv, kv, sv]

/-- The decays, as a matrix. -/
theorem p121 (h : Fin 4) :
    k0_pay121 (decc h) = decm h := by
  funext y
  rw [eq_ix2 y]
  unfold k0_pay121
  pointwise [decc, decm]

end Cert.KernelEvenIdeal.Value1
-- ==== Proof.EvenOutp.lean ====
module

public import proofs.«01_k».proof.Proof.Gen.KernelEvenIdeal.Frame
public import proofs.«01_k».proof.Proof.EvenVec
public import proofs.«01_k».proof.Proof.EvenQkv
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelEvenIdeal.Value1

open Cert.KernelEvenIdeal Cert.KernelEvenIdeal.Gen Cert.Ffn Cert.Even

variable (x : FVec Ideal S8x2048x1024 .f32) (w : FVec Ideal S1x1024x2560 .f32) (pw : FVec Ideal S1x4x128x128 .f32) (ps gn : FVec Ideal S1x512 .f32)
  (wo : FVec Ideal S1x1024x1024 .f32) (lg lb : FVec Ideal S2x1024 .f32)

/-- The retention of a chunk: its own tokens and the state before it. -/
theorem ret_core (hx : ∀ i, Real' (x i)) (hw : ∀ i, Real' (w i)) (n k : Fin 8) (h : Fin 4) (r : Fin 256) (e : Fin 128) :
    (∑ j : Fin 256, ((∑ d, qAt x w n h (tk k r) d * kAt x w n h (tk k j) d) * decV (ix3 h r j)) * vAt x w n h (tk k j) e)
      + ∑ d, (qAt x w n h (tk k r) d * qdV (ix3 h r d)) * stE x w n h (256 * k.val) d e = retAt x w n h (tk k r) e := by
  simp only [decV_at, qdV_at]
  exact ret_chunk x w hx hw n h k.val k.isLt r e

/-- The state after a chunk. -/
theorem st_core (hx : ∀ i, Real' (x i)) (hw : ∀ i, Real' (w i)) (n k : Fin 8) (h : Fin 4) (d e : Fin 128) :
    gcV (ix3 h 0 e) * stE x w n h (256 * k.val) d e + ∑ j : Fin 256, (kAt x w n h (tk k j) d * kdV (ix3 h j d)) * vAt x w n h (tk k j) e
      = stE x w n h (256 * (k.val + 1)) d e := by
  simp only [gcV_at, kdV_at]
  exact state_step x w hx hw n h k.val k.isLt d e

/-- One head's retention rows less their means. -/
def dv (n k : Fin 8) (h : Fin 4) : FVec Ideal S256x128 .f32 :=
  fun y => retAt x w n h (tk k (y 0)) (y 1) - Ideal.div (∑ d, retAt x w n h (tk k (y 0)) d) hwidth

/-- A head's retention rows. -/
theorem o35 (hx : ∀ i, Real' (x i)) (hw : ∀ i, Real' (w i)) (n k : Fin 8) :
    k0_pay35 (qv x w n k 0) (kv x w n k 0) (colv x w n k 1536 (by decide)) (stc x w n 0 k.val) (decc 0) (qdc 0) = rv x w n k 0 := by
  funext y
  rw [eq_ix2 y]
  unfold k0_pay35 k0_pay33 k0_pay34
  pointwise [qv, kv, vb, qb, kb, sv, colv, stc, stm, decc, decm, qdc, gcc, kdc]
  exact ret_core x w hx hw n k 0 (y 0) (y 1)

/-- A head's retention rows. -/
theorem o42 (hx : ∀ i, Real' (x i)) (hw : ∀ i, Real' (w i)) (n k : Fin 8) :
    k0_pay42 (qv x w n k 1) (kv x w n k 1) (vb x w n k 1) (stc x w n 1 k.val) (decc 1) (qdc 1) = rv x w n k 1 := by
  funext y
  rw [eq_ix2 y]
  unfold k0_pay42 k0_pay41
  pointwise [qv, kv, vb, qb, kb, sv, colv, stc, stm, decc, decm, qdc, gcc, kdc]
  exact ret_core x w hx hw n k 1 (y 0) (y 1)

/-- A head's retention rows. -/
theorem o51 (hx : ∀ i, Real' (x i)) (hw : ∀ i, Real' (w i)) (n k : Fin 8) :
    k0_pay51 (qv x w n k 2) (kv x w n k 2) (vb x w n k 2) (stc x w n 2 k.val) (decc 2) (qdc 2) = rv x w n k 2 := by
  funext y
  rw [eq_ix2 y]
  unfold k0_pay51 k0_pay50
  pointwise [qv, kv, vb, qb, kb, sv, colv, stc, stm, decc, decm, qdc, gcc, kdc]
  exact ret_core x w hx hw n k 2 (y 0) (y 1)

/-- A head's retention rows. -/
theorem o64 (hx : ∀ i, Real' (x i)) (hw : ∀ i, Real' (w i)) (n k : Fin 8) :
    k0_pay64 (qv x w n k 3) (vb x w n k 3) (stm x w n 3 k.val) (qb x w n k 3) (kb x w n k 3) (decc 3) (qdc 3) = dv x w n k 3 := by
  funext y
  rw [eq_ix2 y]
  unfold k0_pay64
  pointwise [qv, kv, vb, qb, kb, sv, colv, stc, stm, decc, decm, qdc, gcc, kdc]
  exact congrArg₂ (fun a b => a - Ideal.div b hwidth) (ret_core x w hx hw n k 3 (y 0) (y 1)) (Finset.sum_congr rfl fun d _ => ret_core x w hx hw n k 3 (y 0) d)

/-- A head's retention rows. -/
theorem o90 (hx : ∀ i, Real' (x i)) (hw : ∀ i, Real' (w i)) (n k : Fin 8) :
    k0_pay90 (qv x w n k 0) (kv x w n k 0) (vb x w n k 0) (stc x w n 0 k.val) (decc 0) (qdc 0) = rv x w n k 0 := by
  funext y
  rw [eq_ix2 y]
  unfold k0_pay90 k0_pay89
  pointwise [qv, kv, vb, qb, kb, sv, colv, stc, stm, decc, decm, qdc, gcc, kdc]
  exact ret_core x w hx hw n k 0 (y 0) (y 1)

/-- A head's retention rows. -/
theorem o103 (hx : ∀ i, Real' (x i)) (hw : ∀ i, Real' (w i)) (n k : Fin 8) :
    k0_pay103 (qv x w n k 1) (kv x w n k 1) (vb x w n k 1) (stm x w n 1 k.val) (qb x w n k 1) (decc 1) (qdc 1) = dv x w n k 1 := by
  funext y
  rw [eq_ix2 y]
  unfold k0_pay103
  pointwise [qv, kv, vb, qb, kb, sv, colv, stc, stm, decc, decm, qdc, gcc, kdc]
  exact congrArg₂ (fun a b => a - Ideal.div b hwidth) (ret_core x w hx hw n k 1 (y 0) (y 1)) (Finset.sum_congr rfl fun d _ => ret_core x w hx hw n k 1 (y 0) d)

/-- A head's retention rows. -/
theorem o113 (hx : ∀ i, Real' (x i)) (hw : ∀ i, Real' (w i)) (n k : Fin 8) :
    k0_pay113 (qv x w n k 2) (vb x w n k 2) (stm x w n 2 k.val) (sv x w n k 2) (decc 2) (qdc 2) = dv x w n k 2 := by
  funext y
  rw [eq_ix2 y]
  unfold k0_pay113
  pointwise [qv, kv, vb, qb, kb, sv, colv, stc, stm, decc, decm, qdc, gcc, kdc]
  exact congrArg₂ (fun a b => a - Ideal.div b hwidth) (ret_core x w hx hw n k 2 (y 0) (y 1)) (Finset.sum_congr rfl fun d _ => ret_core x w hx hw n k 2 (y 0) d)

/-- A head's retention rows. -/
theorem o124 (hx : ∀ i, Real' (x i)) (hw : ∀ i, Real' (w i)) (n k : Fin 8) :
    k0_pay124 (qv x w n k 3) (vb x w n k 3) (stm x w n 3 k.val) (sv x w n k 3) (decm 3) (qdc 3) = dv x w n k 3 := by
  funext y
  rw [eq_ix2 y]
  unfold k0_pay124
  pointwise [qv, kv, vb, qb, kb, sv, colv, stc, stm, decc, decm, qdc, gcc, kdc]
  exact congrArg₂ (fun a b => a - Ideal.div b hwidth) (ret_core x w hx hw n k 3 (y 0) (y 1)) (Finset.sum_congr rfl fun d _ => ret_core x w hx hw n k 3 (y 0) d)

/-- A head's state after the chunk. -/
theorem s36 (hx : ∀ i, Real' (x i)) (hw : ∀ i, Real' (w i)) (n k : Fin 8) :
    k0_pay36 (kv x w n k 0) (colv x w n k 1536 (by decide)) (stc x w n 0 k.val) (gcc 0) (kdc 0) = stc x w n 0 (k.val + 1) := by
  funext y
  rw [eq_ix3 y]
  unfold k0_pay36 k0_pay33 k0_pay34
  pointwise [qv, kv, vb, qb, kb, sv, colv, stc, stm, decc, decm, qdc, gcc, kdc]
  exact st_core x w hx hw n k 0 (y 1) (y 2)

/-- A head's state after the chunk. -/
theorem s43 (hx : ∀ i, Real' (x i)) (hw : ∀ i, Real' (w i)) (n k : Fin 8) :
    k0_pay43 (kv x w n k 1) (vb x w n k 1) (stc x w n 1 k.val) (gcc 1) (kdc 1) = stc x w n 1 (k.val + 1) := by
  funext y
  rw [eq_ix3 y]
  unfold k0_pay43 k0_pay41
  pointwise [qv, kv, vb, qb, kb, sv, colv, stc, stm, decc, decm, qdc, gcc, kdc]
  exact st_core x w hx hw n k 1 (y 1) (y 2)

/-- A head's state after the chunk. -/
theorem s52 (hx : ∀ i, Real' (x i)) (hw : ∀ i, Real' (w i)) (n k : Fin 8) :
    k0_pay52 (kv x w n k 2) (vb x w n k 2) (stc x w n 2 k.val) (gcc 2) (kdc 2) = stc x w n 2 (k.val + 1) := by
  funext y
  rw [eq_ix3 y]
  unfold k0_pay52 k0_pay50
  pointwise [qv, kv, vb, qb, kb, sv, colv, stc, stm, decc, decm, qdc, gcc, kdc]
  exact st_core x w hx hw n k 2 (y 1) (y 2)

/-- A head's state after the chunk. -/
theorem s62 (hx : ∀ i, Real' (x i)) (hw : ∀ i, Real' (w i)) (n k : Fin 8) :
    k0_pay62 (kv x w n k 3) (vb x w n k 3) (stm x w n 3 k.val) (gcc 3) (kdc 3) = stc x w n 3 (k.val + 1) := by
  funext y
  rw [eq_ix3 y]
  unfold k0_pay62
  pointwise [qv, kv, vb, qb, kb, sv, colv, stc, stm, decc, decm, qdc, gcc, kdc]
  exact st_core x w hx hw n k 3 (y 1) (y 2)

/-- A head's state after the chunk. -/
theorem s91 (hx : ∀ i, Real' (x i)) (hw : ∀ i, Real' (w i)) (n k : Fin 8) :
    k0_pay91 (kv x w n k 0) (vb x w n k 0) (stc x w n 0 k.val) (gcc 0) (kdc 0) = stc x w n 0 (k.val + 1) := by
  funext y
  rw [eq_ix3 y]
  unfold k0_pay91 k0_pay89
  pointwise [qv, kv, vb, qb, kb, sv, colv, stc, stm, decc, decm, qdc, gcc, kdc]
  exact st_core x w hx hw n k 0 (y 1) (y 2)

/-- A head's state after the chunk. -/
theorem s101 (hx : ∀ i, Real' (x i)) (hw : ∀ i, Real' (w i)) (n k : Fin 8) :
    k0_pay101 (kv x w n k 1) (vb x w n k 1) (stm x w n 1 k.val) (gcc 1) (kdc 1) = stc x w n 1 (k.val + 1) := by
  funext y
  rw [eq_ix3 y]
  unfold k0_pay101
  pointwise [qv, kv, vb, qb, kb, sv, colv, stc, stm, decc, decm, qdc, gcc, kdc]
  exact st_core x w hx hw n k 1 (y 1) (y 2)

/-- A head's state after the chunk. -/
theorem s111 (hx : ∀ i, Real' (x i)) (hw : ∀ i, Real' (w i)) (n k : Fin 8) :
    k0_pay111 (kv x w n k 2) (vb x w n k 2) (stm x w n 2 k.val) (gcc 2) (kdc 2) = stc x w n 2 (k.val + 1) := by
  funext y
  rw [eq_ix3 y]
  unfold k0_pay111
  pointwise [qv, kv, vb, qb, kb, sv, colv, stc, stm, decc, decm, qdc, gcc, kdc]
  exact st_core x w hx hw n k 2 (y 1) (y 2)

/-- A head's state after the chunk. -/
theorem s122 (hx : ∀ i, Real' (x i)) (hw : ∀ i, Real' (w i)) (n k : Fin 8) :
    k0_pay122 (kv x w n k 3) (vb x w n k 3) (stm x w n 3 k.val) (gcc 3) (kdc 3) = stc x w n 3 (k.val + 1) := by
  funext y
  rw [eq_ix3 y]
  unfold k0_pay122
  pointwise [qv, kv, vb, qb, kb, sv, colv, stc, stm, decc, decm, qdc, gcc, kdc]
  exact st_core x w hx hw n k 3 (y 1) (y 2)

/-- A head's normalised and gated rows. -/
theorem n37 (hx : ∀ i, Real' (x i)) (hw : ∀ i, Real' (w i)) (n k : Fin 8) :
    k0_pay37 (colv x w n k 2048 (by decide)) (rv x w n k 0) (gnv gn 0) = hdv x w gn n k 0 := by
  unfold k0_pay37
  funext y
  rw [eq_ix2 y]
  pointwise [rv, dv, colv, gnv, hdv, headAt, gnRow, gAt, Ideal.logistic]

/-- A head's normalised and gated rows. -/
theorem n46 (hx : ∀ i, Real' (x i)) (hw : ∀ i, Real' (w i)) (n k : Fin 8) :
    k0_pay46 (colv x w n k 2176 (by decide)) (rv x w n k 1) (k0_pay44 (gnv gn 1)) (k0_pay45 (qv x w n k 1) (kv x w n k 1) (vb x w n k 1) (stc x w n 1 k.val) (decc 1) (qdc 1)) = hdv x w gn n k 1 := by
  unfold k0_pay46 k0_pay44 k0_pay45
  rw [o42 x w hx hw]
  funext y
  rw [eq_ix2 y]
  pointwise [rv, dv, colv, gnv, hdv, headAt, gnRow, gAt, Ideal.logistic]

/-- A head's normalised and gated rows. -/
theorem n55 (hx : ∀ i, Real' (x i)) (hw : ∀ i, Real' (w i)) (n k : Fin 8) :
    k0_pay55 (colv x w n k 2304 (by decide)) (rv x w n k 2) (k0_pay53 (gnv gn 2)) (k0_pay54 (qv x w n k 2) (kv x w n k 2) (vb x w n k 2) (stc x w n 2 k.val) (decc 2) (qdc 2)) = hdv x w gn n k 2 := by
  unfold k0_pay55 k0_pay53 k0_pay54
  rw [o51 x w hx hw]
  funext y
  rw [eq_ix2 y]
  pointwise [rv, dv, colv, gnv, hdv, headAt, gnRow, gAt, Ideal.logistic]

/-- A head's normalised and gated rows. -/
theorem n66 (hx : ∀ i, Real' (x i)) (hw : ∀ i, Real' (w i)) (n k : Fin 8) :
    k0_pay66 (colv x w n k 2432 (by decide)) (k0_pay63 (gnv gn 3)) (dv x w n k 3) (k0_pay65 (qv x w n k 3) (vb x w n k 3) (stm x w n 3 k.val) (qb x w n k 3) (kb x w n k 3) (decc 3) (qdc 3)) = hdv x w gn n k 3 := by
  unfold k0_pay66 k0_pay63 k0_pay65
  rw [o64 x w hx hw]
  funext y
  rw [eq_ix2 y]
  pointwise [rv, dv, colv, gnv, hdv, headAt, gnRow, gAt, Ideal.logistic]

/-- A head's normalised and gated rows. -/
theorem n95 (hx : ∀ i, Real' (x i)) (hw : ∀ i, Real' (w i)) (n k : Fin 8) :
    k0_pay95 (colv x w n k 2048 (by decide)) (rv x w n k 0) (k0_pay92 (gnv gn 0)) (k0_pay93 (qv x w n k 0) (kv x w n k 0) (vb x w n k 0) (stc x w n 0 k.val) (decc 0) (qdc 0)) k0_pay94 = hdv x w gn n k 0 := by
  unfold k0_pay95 k0_pay92 k0_pay93 k0_pay94
  rw [o90 x w hx hw]
  funext y
  rw [eq_ix2 y]
  pointwise [rv, dv, colv, gnv, hdv, headAt, gnRow, gAt, Ideal.logistic]

/-- A head's normalised and gated rows. -/
theorem n105 (hx : ∀ i, Real' (x i)) (hw : ∀ i, Real' (w i)) (n k : Fin 8) :
    k0_pay105 (colv x w n k 2176 (by decide)) (k0_pay102 (gnv gn 1)) (dv x w n k 1) (k0_pay104 (qv x w n k 1) (kv x w n k 1) (vb x w n k 1) (stm x w n 1 k.val) (qb x w n k 1) (decc 1) (qdc 1)) = hdv x w gn n k 1 := by
  unfold k0_pay105 k0_pay102 k0_pay104
  rw [o103 x w hx hw]
  funext y
  rw [eq_ix2 y]
  pointwise [rv, dv, colv, gnv, hdv, headAt, gnRow, gAt, Ideal.logistic]

/-- A head's normalised and gated rows. -/
theorem n115 (hx : ∀ i, Real' (x i)) (hw : ∀ i, Real' (w i)) (n k : Fin 8) :
    k0_pay115 (colv x w n k 2304 (by decide)) (k0_pay112 (gnv gn 2)) (dv x w n k 2) (k0_pay114 (qv x w n k 2) (vb x w n k 2) (stm x w n 2 k.val) (sv x w n k 2) (decc 2) (qdc 2)) (Scalar.ofBits .f32 0x43000000#32) = hdv x w gn n k 2 := by
  unfold k0_pay115 k0_pay112 k0_pay114
  rw [o113 x w hx hw]
  funext y
  rw [eq_ix2 y]
  pointwise [rv, dv, colv, gnv, hdv, headAt, gnRow, gAt, Ideal.logistic]

/-- A head's normalised and gated rows. -/
theorem n127 (hx : ∀ i, Real' (x i)) (hw : ∀ i, Real' (w i)) (n k : Fin 8) :
    k0_pay127 (k0_pay123 (gnv gn 3)) (dv x w n k 3) (k0_pay125 (qv x w n k 3) (vb x w n k 3) (stm x w n 3 k.val) (sv x w n k 3) (decm 3) (qdc 3)) (k0_pay126 (colv x w n k 2432 (by decide))) = hdv x w gn n k 3 := by
  unfold k0_pay127 k0_pay123 k0_pay125 k0_pay126
  rw [o124 x w hx hw]
  funext y
  rw [eq_ix2 y]
  pointwise [rv, dv, colv, gnv, hdv, headAt, gnRow, gAt, Ideal.logistic]

end Cert.KernelEvenIdeal.Value1
-- ==== Proof.EvenFin.lean ====
module

public import proofs.«01_k».proof.Proof.Gen.KernelEvenIdeal.Frame
public import proofs.«01_k».proof.Proof.EvenVec
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelEvenIdeal.Value1

open Cert.KernelEvenIdeal Cert.KernelEvenIdeal.Gen Cert.Ffn Cert.Even

variable (x : FVec Ideal S8x2048x1024 .f32) (w : FVec Ideal S1x1024x2560 .f32) (pw : FVec Ideal S1x4x128x128 .f32) (ps gn : FVec Ideal S1x512 .f32)
  (wo : FVec Ideal S1x1024x1024 .f32) (lg lb : FVec Ideal S2x1024 .f32)

/-- The normalised rows of a tile's first half. -/
theorem f71 (n k : Fin 8) : k0_pay71 (k0_pay67 (rowv lg)) (k0_pay68 (rowv lb)) (k0_pay69 (mixv x w pw ps gn n k) (wov wo) (xv x n k)) (k0_pay70 (mixv x w pw ps gn n k) (wov wo) (xv x n k))
    = ev x w pw ps gn wo lg lb n k := by
  funext y
  rw [eq_ix2 y]
  unfold k0_pay71 k0_pay67 k0_pay68 k0_pay70 k0_pay69
  pointwise [mixv, wov, xv, rowv]
  rfl

/-- The normalised rows of a tile's second half. -/
theorem f1 (n k : Fin 8) : k0_pay1 (k0_pay128 (rowv lg)) (k0_pay129 (rowv lb)) (k0_pay130 (mixv x w pw ps gn n k) (wov wo) (xv x n k)) (k0_pay131 (mixv x w pw ps gn n k) (wov wo) (xv x n k))
    = ev x w pw ps gn wo lg lb n k := by
  funext y
  rw [eq_ix2 y]
  unfold k0_pay1 k0_pay128 k0_pay129 k0_pay131 k0_pay130
  pointwise [mixv, wov, xv, rowv]
  rfl

end Cert.KernelEvenIdeal.Value1
-- ==== Proof.EvenPool.lean ====
module

public import proofs.«01_k».proof.Proof.Gen.KernelEvenIdeal.Frame
public import proofs.«01_k».proof.Proof.EvenVec
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelEvenIdeal.Value1

open Cert.KernelEvenIdeal Cert.KernelEvenIdeal.Gen Cert.Ffn Cert.Even

variable (x : FVec Ideal S8x2048x1024 .f32) (w : FVec Ideal S1x1024x2560 .f32) (pw : FVec Ideal S1x4x128x128 .f32) (ps gn : FVec Ideal S1x512 .f32)
  (wo : FVec Ideal S1x1024x1024 .f32) (lg lb : FVec Ideal S2x1024 .f32)

/-- A row a group pools over, by its distance from a row of the chunk. -/
theorem exw_eq (n k : Fin 8) (g : Fin 4) (r : Fin 256) (c : Fin 128) (i ρ : ℕ) (hρ : ρ < 272) (h : ρ + i = 16 + r.val) :
    exw x w n k g (ix2 ⟨ρ, hρ⟩ c) = backAt x w n (tk k r) ⟨128 * g.val + c.val, by omega⟩ i := by
  show (if h : 16 ≤ 256 * k.val + ρ then hAt x w n ⟨256 * k.val + ρ - 16, by omega⟩ ⟨128 * g.val + c.val, by omega⟩ else 0) = _
  unfold backAt
  by_cases q : 16 ≤ 256 * k.val + ρ
  · rw [dif_pos q, dif_pos (show i ≤ 256 * k.val + r.val by omega)]
    exact congrArg (fun l => hAt x w n l ⟨128 * g.val + c.val, by omega⟩) (Fin.ext (by show 256 * k.val + ρ - 16 = 256 * k.val + r.val - i; omega))
  · rw [dif_neg q, dif_neg (show ¬ i ≤ 256 * k.val + r.val by omega)]

/-- A tile's row number. -/
theorem pos_bits (j o r : ℕ) (hj : j < 4) (ho : o ≤ 256) (hr : r < 256) :
    FloatOps.sitofp (F := Ideal) .f32 (BitVec.ofNat 32 j * 512#32 + BitVec.ofNat 32 o + BitVec.ofNat 32 r) = (((256 * (2 * j) + o + r : ℕ) : ℝ) : EReal) := by
  have e : BitVec.ofNat 32 j * 512#32 + BitVec.ofNat 32 o + BitVec.ofNat 32 r = BitVec.ofNat 32 (256 * (2 * j) + o + r) := by
    apply BitVec.eq_of_toNat_eq
    simp only [BitVec.toNat_add, BitVec.toNat_mul, BitVec.toNat_ofNat]
    omega
  rw [e, pos_eq _ (by omega)]

/-- The positions of a tile's first half. -/
theorem p21 (j : ℕ) (hj : j < 4) (k : Fin 8) (hk : k.val = 2 * j) : k0_pay21 (F := Ideal) (BitVec.ofNat 32 j) = posv k := by
  funext y
  rw [eq_ix2 y]
  have e := pos_bits j 0 (y 0).val hj (by omega) (y 0).isLt
  unfold k0_pay21
  pointwise
  refine e.trans ?_
  show _ = (((256 * k.val + (y 0).val : ℕ) : ℝ) : EReal)
  rw [hk]
  rfl

/-- The positions of a tile's second half. -/
theorem p73 (j : ℕ) (hj : j < 4) (k : Fin 8) (hk : k.val = 2 * j + 1) : k0_pay73 (F := Ideal) (BitVec.ofNat 32 j) = posv k := by
  funext y
  rw [eq_ix2 y]
  have e := pos_bits j 256 (y 0).val hj (by omega) (y 0).isLt
  unfold k0_pay73
  pointwise
  refine e.trans ?_
  show _ = (((256 * k.val + (y 0).val : ℕ) : ℝ) : EReal)
  rw [hk]
  congr 3

/-- The doubled sums of 2 rows are the sum in order. -/
theorem tree0 (b : ℕ → EReal) : (b 0 + b 1) = acc b 1 := by
  simp only [acc, add_assoc]

/-- The doubled sums of 4 rows are the sum in order. -/
theorem tree1 (b : ℕ → EReal) : ((b 0 + b 1) + (b 2 + b 3)) = acc b 3 := by
  simp only [acc, add_assoc]

/-- The doubled sums of 8 rows are the sum in order. -/
theorem tree2 (b : ℕ → EReal) : (((b 0 + b 1) + (b 2 + b 3)) + ((b 4 + b 5) + (b 6 + b 7))) = acc b 7 := by
  simp only [acc, add_assoc]

/-- The doubled sums of 16 rows are the sum in order. -/
theorem tree3 (b : ℕ → EReal) : ((((b 0 + b 1) + (b 2 + b 3)) + ((b 4 + b 5) + (b 6 + b 7))) + (((b 8 + b 9) + (b 10 + b 11)) + ((b 12 + b 13) + (b 14 + b 15)))) = acc b 15 := by
  simp only [acc, add_assoc]

set_option maxHeartbeats 2000000 in
/-- The pooled rows of group 0. -/
theorem g23 (n k : Fin 8) (j : ℕ) (hj : j < 4) (hk : k.val = 2 * j) :
    k0_pay23 (k0_pay22 (BitVec.ofNat 32 j) (exw x w n k 0)) (pwv pw 0) (gnv ps 0) = plv x w pw ps n k 0 := by
  unfold k0_pay23 k0_pay22
  rw [p21 j hj k hk]
  funext y
  rw [eq_ix2 y]
  pointwise [pwv, gnv, posv]
  refine congrArg₂ (fun a b => a * b) (Finset.sum_congr rfl fun c _ => congrArg (fun a => a * pw (ix4 0 0 c (y 1))) ?_) (by first | rfl | exact congrArg (fun i => ps (ix2 0 i)) (Fin.ext (Nat.zero_add _).symm))
  have e : ∀ (i ρ : ℕ) (hρ : ρ < 272), ρ + i = 16 + (y 0).val → exw x w n k 0 (ix2 ⟨ρ, hρ⟩ c) = backAt x w n (tk k (y 0)) ⟨128 * (0 : Fin 4).val + c.val, by omega⟩ i :=
    fun i ρ hρ h => exw_eq x w n k 0 (y 0) c i ρ hρ h
  have hy : (y 0).val < 256 := (y 0).isLt
  refine congrArg₂ (fun a b => Ideal.div a (min (Ideal.ofBits .f32 0x40000000#32) ((((tk k (y 0)).val : ℝ) : EReal) + 1)) - b) (Eq.trans
    (Ideal.add_congr (e 0 _ _ (by omega)) (e 1 _ _ (by omega))) ?_) (e 0 _ _ (by omega))
  exact tree0 _

set_option maxHeartbeats 2000000 in
/-- The pooled rows of group 1. -/
theorem g24 (n k : Fin 8) :
    k0_pay24 (posv k) (exw x w n k 1) (pwv pw 1) (gnv ps 1) = plv x w pw ps n k 1 := by
  unfold k0_pay24
  funext y
  rw [eq_ix2 y]
  pointwise [pwv, gnv, posv]
  refine congrArg₂ (fun a b => a * b) (Finset.sum_congr rfl fun c _ => congrArg (fun a => a * pw (ix4 0 1 c (y 1))) ?_) (by first | rfl | exact congrArg (fun i => ps (ix2 0 i)) (Fin.ext (Nat.zero_add _).symm))
  have e : ∀ (i ρ : ℕ) (hρ : ρ < 272), ρ + i = 16 + (y 0).val → exw x w n k 1 (ix2 ⟨ρ, hρ⟩ c) = backAt x w n (tk k (y 0)) ⟨128 * (1 : Fin 4).val + c.val, by omega⟩ i :=
    fun i ρ hρ h => exw_eq x w n k 1 (y 0) c i ρ hρ h
  have hy : (y 0).val < 256 := (y 0).isLt
  refine congrArg₂ (fun a b => Ideal.div a (min (Ideal.ofBits .f32 0x40800000#32) ((((tk k (y 0)).val : ℝ) : EReal) + 1)) - b) (Eq.trans
    (Ideal.add_congr (Ideal.add_congr (e 0 _ _ (by omega)) (e 1 _ _ (by omega))) (Ideal.add_congr (e 2 _ _ (by omega)) (e 3 _ _ (by omega)))) ?_) (e 0 _ _ (by omega))
  exact tree1 _

set_option maxHeartbeats 2000000 in
/-- The pooled rows of group 2. -/
theorem g25 (n k : Fin 8) :
    k0_pay25 (posv k) (exw x w n k 2) (pwv pw 2) (gnv ps 2) = plv x w pw ps n k 2 := by
  unfold k0_pay25
  funext y
  rw [eq_ix2 y]
  pointwise [pwv, gnv, posv]
  refine congrArg₂ (fun a b => a * b) (Finset.sum_congr rfl fun c _ => congrArg (fun a => a * pw (ix4 0 2 c (y 1))) ?_) (by first | rfl | exact congrArg (fun i => ps (ix2 0 i)) (Fin.ext (Nat.zero_add _).symm))
  have e : ∀ (i ρ : ℕ) (hρ : ρ < 272), ρ + i = 16 + (y 0).val → exw x w n k 2 (ix2 ⟨ρ, hρ⟩ c) = backAt x w n (tk k (y 0)) ⟨128 * (2 : Fin 4).val + c.val, by omega⟩ i :=
    fun i ρ hρ h => exw_eq x w n k 2 (y 0) c i ρ hρ h
  have hy : (y 0).val < 256 := (y 0).isLt
  refine congrArg₂ (fun a b => Ideal.div a (min (Ideal.ofBits .f32 0x41000000#32) ((((tk k (y 0)).val : ℝ) : EReal) + 1)) - b) (Eq.trans
    (Ideal.add_congr (Ideal.add_congr (Ideal.add_congr (e 0 _ _ (by omega)) (e 1 _ _ (by omega))) (Ideal.add_congr (e 2 _ _ (by omega)) (e 3 _ _ (by omega)))) (Ideal.add_congr (Ideal.add_congr (e 4 _ _ (by omega)) (e 5 _ _ (by omega))) (Ideal.add_congr (e 6 _ _ (by omega)) (e 7 _ _ (by omega))))) ?_) (e 0 _ _ (by omega))
  exact tree2 _

set_option maxHeartbeats 2000000 in
/-- The pooled rows of group 3. -/
theorem g28 (n k : Fin 8) :
    k0_pay28 (posv k) (k0_pay26 (exw x w n k 3)) (k0_pay27 (exw x w n k 3)) (pwv pw 3) (gnv ps 3) = plv x w pw ps n k 3 := by
  unfold k0_pay28 k0_pay26 k0_pay27
  funext y
  rw [eq_ix2 y]
  pointwise [pwv, gnv, posv]
  refine congrArg₂ (fun a b => a * b) (Finset.sum_congr rfl fun c _ => congrArg (fun a => a * pw (ix4 0 3 c (y 1))) ?_) (by first | rfl | exact congrArg (fun i => ps (ix2 0 i)) (Fin.ext (Nat.zero_add _).symm))
  have e : ∀ (i ρ : ℕ) (hρ : ρ < 272), ρ + i = 16 + (y 0).val → exw x w n k 3 (ix2 ⟨ρ, hρ⟩ c) = backAt x w n (tk k (y 0)) ⟨128 * (3 : Fin 4).val + c.val, by omega⟩ i :=
    fun i ρ hρ h => exw_eq x w n k 3 (y 0) c i ρ hρ h
  have hy : (y 0).val < 256 := (y 0).isLt
  refine congrArg₂ (fun a b => Ideal.div a (min (Ideal.ofBits .f32 0x41800000#32) ((((tk k (y 0)).val : ℝ) : EReal) + 1)) - b) (Eq.trans
    (Ideal.add_congr (Ideal.add_congr (Ideal.add_congr (Ideal.add_congr (e 0 _ _ (by omega)) (e 1 _ _ (by omega))) (Ideal.add_congr (e 2 _ _ (by omega)) (e 3 _ _ (by omega)))) (Ideal.add_congr (Ideal.add_congr (e 4 _ _ (by omega)) (e 5 _ _ (by omega))) (Ideal.add_congr (e 6 _ _ (by omega)) (e 7 _ _ (by omega))))) (Ideal.add_congr (Ideal.add_congr (Ideal.add_congr (e 8 _ _ (by omega)) (e 9 _ _ (by omega))) (Ideal.add_congr (e 10 _ _ (by omega)) (e 11 _ _ (by omega)))) (Ideal.add_congr (Ideal.add_congr (e 12 _ _ (by omega)) (e 13 _ _ (by omega))) (Ideal.add_congr (e 14 _ _ (by omega)) (e 15 _ _ (by omega)))))) ?_) (e 0 _ _ (by omega))
  exact tree3 _

set_option maxHeartbeats 2000000 in
/-- The pooled rows of group 0. -/
theorem g75 (n k : Fin 8) (j : ℕ) (hj : j < 4) (hk : k.val = 2 * j + 1) :
    k0_pay75 (k0_pay74 (BitVec.ofNat 32 j) (exw x w n k 0) (pwv pw 0)) (gnv ps 0) = plv x w pw ps n k 0 := by
  unfold k0_pay75 k0_pay74
  rw [p73 j hj k hk]
  funext y
  rw [eq_ix2 y]
  pointwise [pwv, gnv, posv]
  refine congrArg₂ (fun a b => a * b) (Finset.sum_congr rfl fun c _ => congrArg (fun a => a * pw (ix4 0 0 c (y 1))) ?_) (by first | rfl | exact congrArg (fun i => ps (ix2 0 i)) (Fin.ext (Nat.zero_add _).symm))
  have e : ∀ (i ρ : ℕ) (hρ : ρ < 272), ρ + i = 16 + (y 0).val → exw x w n k 0 (ix2 ⟨ρ, hρ⟩ c) = backAt x w n (tk k (y 0)) ⟨128 * (0 : Fin 4).val + c.val, by omega⟩ i :=
    fun i ρ hρ h => exw_eq x w n k 0 (y 0) c i ρ hρ h
  have hy : (y 0).val < 256 := (y 0).isLt
  refine congrArg₂ (fun a b => Ideal.div a (min (Ideal.ofBits .f32 0x40000000#32) ((((tk k (y 0)).val : ℝ) : EReal) + 1)) - b) (Eq.trans
    (Ideal.add_congr (e 0 _ _ (by omega)) (e 1 _ _ (by omega))) ?_) (e 0 _ _ (by omega))
  exact tree0 _

set_option maxHeartbeats 2000000 in
/-- The pooled rows of group 1. -/
theorem g76 (n k : Fin 8) :
    k0_pay76 (posv k) (exw x w n k 1) (pwv pw 1) (gnv ps 1) = plv x w pw ps n k 1 := by
  unfold k0_pay76
  funext y
  rw [eq_ix2 y]
  pointwise [pwv, gnv, posv]
  refine congrArg₂ (fun a b => a * b) (Finset.sum_congr rfl fun c _ => congrArg (fun a => a * pw (ix4 0 1 c (y 1))) ?_) (by first | rfl | exact congrArg (fun i => ps (ix2 0 i)) (Fin.ext (Nat.zero_add _).symm))
  have e : ∀ (i ρ : ℕ) (hρ : ρ < 272), ρ + i = 16 + (y 0).val → exw x w n k 1 (ix2 ⟨ρ, hρ⟩ c) = backAt x w n (tk k (y 0)) ⟨128 * (1 : Fin 4).val + c.val, by omega⟩ i :=
    fun i ρ hρ h => exw_eq x w n k 1 (y 0) c i ρ hρ h
  have hy : (y 0).val < 256 := (y 0).isLt
  refine congrArg₂ (fun a b => Ideal.div a (min (Ideal.ofBits .f32 0x40800000#32) ((((tk k (y 0)).val : ℝ) : EReal) + 1)) - b) (Eq.trans
    (Ideal.add_congr (Ideal.add_congr (e 0 _ _ (by omega)) (e 1 _ _ (by omega))) (Ideal.add_congr (e 2 _ _ (by omega)) (e 3 _ _ (by omega)))) ?_) (e 0 _ _ (by omega))
  exact tree1 _

set_option maxHeartbeats 2000000 in
/-- The pooled rows of group 2. -/
theorem g79 (n k : Fin 8) :
    k0_pay79 (posv k) (k0_pay77 (exw x w n k 2)) (k0_pay78 (exw x w n k 2)) (pwv pw 2) (gnv ps 2) = plv x w pw ps n k 2 := by
  unfold k0_pay79 k0_pay77 k0_pay78
  funext y
  rw [eq_ix2 y]
  pointwise [pwv, gnv, posv]
  refine congrArg₂ (fun a b => a * b) (Finset.sum_congr rfl fun c _ => congrArg (fun a => a * pw (ix4 0 2 c (y 1))) ?_) (by first | rfl | exact congrArg (fun i => ps (ix2 0 i)) (Fin.ext (Nat.zero_add _).symm))
  have e : ∀ (i ρ : ℕ) (hρ : ρ < 272), ρ + i = 16 + (y 0).val → exw x w n k 2 (ix2 ⟨ρ, hρ⟩ c) = backAt x w n (tk k (y 0)) ⟨128 * (2 : Fin 4).val + c.val, by omega⟩ i :=
    fun i ρ hρ h => exw_eq x w n k 2 (y 0) c i ρ hρ h
  have hy : (y 0).val < 256 := (y 0).isLt
  refine congrArg₂ (fun a b => Ideal.div a (min (Ideal.ofBits .f32 0x41000000#32) ((((tk k (y 0)).val : ℝ) : EReal) + 1)) - b) (Eq.trans
    (Ideal.add_congr (Ideal.add_congr (Ideal.add_congr (e 0 _ _ (by omega)) (e 1 _ _ (by omega))) (Ideal.add_congr (e 2 _ _ (by omega)) (e 3 _ _ (by omega)))) (Ideal.add_congr (Ideal.add_congr (e 4 _ _ (by omega)) (e 5 _ _ (by omega))) (Ideal.add_congr (e 6 _ _ (by omega)) (e 7 _ _ (by omega))))) ?_) (e 0 _ _ (by omega))
  exact tree2 _

set_option maxHeartbeats 2000000 in
/-- The pooled rows of group 3. -/
theorem g83 (n k : Fin 8) :
    k0_pay83 (k0_pay80 (exw x w n k 3)) (k0_pay81 (posv k)) (k0_pay82 (exw x w n k 3)) (pwv pw 3) (gnv ps 3) = plv x w pw ps n k 3 := by
  unfold k0_pay83 k0_pay80 k0_pay81 k0_pay82
  funext y
  rw [eq_ix2 y]
  pointwise [pwv, gnv, posv]
  refine congrArg₂ (fun a b => a * b) (Finset.sum_congr rfl fun c _ => congrArg (fun a => a * pw (ix4 0 3 c (y 1))) ?_) (by first | rfl | exact congrArg (fun i => ps (ix2 0 i)) (Fin.ext (Nat.zero_add _).symm))
  have e : ∀ (i ρ : ℕ) (hρ : ρ < 272), ρ + i = 16 + (y 0).val → exw x w n k 3 (ix2 ⟨ρ, hρ⟩ c) = backAt x w n (tk k (y 0)) ⟨128 * (3 : Fin 4).val + c.val, by omega⟩ i :=
    fun i ρ hρ h => exw_eq x w n k 3 (y 0) c i ρ hρ h
  have hy : (y 0).val < 256 := (y 0).isLt
  refine congrArg₂ (fun a b => Ideal.div a (min (Ideal.ofBits .f32 0x41800000#32) ((((tk k (y 0)).val : ℝ) : EReal) + 1)) - b) (Eq.trans
    (Ideal.add_congr (Ideal.add_congr (Ideal.add_congr (Ideal.add_congr (e 0 _ _ (by omega)) (e 1 _ _ (by omega))) (Ideal.add_congr (e 2 _ _ (by omega)) (e 3 _ _ (by omega)))) (Ideal.add_congr (Ideal.add_congr (e 4 _ _ (by omega)) (e 5 _ _ (by omega))) (Ideal.add_congr (e 6 _ _ (by omega)) (e 7 _ _ (by omega))))) (Ideal.add_congr (Ideal.add_congr (Ideal.add_congr (e 8 _ _ (by omega)) (e 9 _ _ (by omega))) (Ideal.add_congr (e 10 _ _ (by omega)) (e 11 _ _ (by omega)))) (Ideal.add_congr (Ideal.add_congr (e 12 _ _ (by omega)) (e 13 _ _ (by omega))) (Ideal.add_congr (e 14 _ _ (by omega)) (e 15 _ _ (by omega)))))) ?_) (e 0 _ _ (by omega))
  exact tree3 _

end Cert.KernelEvenIdeal.Value1
-- ==== Proof.EvenLd.lean ====
module

public import proofs.«01_k».proof.Proof.Gen.KernelEvenIdeal.Frame
public import proofs.«01_k».proof.Proof.EvenVec
public import proofs.«01_k».proof.Proof.EvenScr
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelEvenIdeal.Value1

open Cert.KernelEvenIdeal Cert.KernelEvenIdeal.Gen Cert.Ffn Cert.Even

variable (x : FVec Ideal S8x2048x1024 .f32) (w : FVec Ideal S1x1024x2560 .f32) (pw : FVec Ideal S1x4x128x128 .f32) (ps gn : FVec Ideal S1x512 .f32)
  (wo : FVec Ideal S1x1024x1024 .f32) (lg lb : FVec Ideal S2x1024 .f32)

variable (m : (ℓ : Loc nD τ sig) → Buf (Elt Ideal) ℓ)

/-- A load's value. -/
theorem lc2c0 (c : Dev nD) (t : Fin cfg0.N) :
    View.ld (Val := Elt Ideal) (S := S512x128) (e' := .f32) (iblk m c 2 t) (Rect.unit ![0, 0] ![256, 128] inb_S512x128_S256x128_0_0) = c2c (kOf t 0) := by
  funext y
  refine (congrArg (show FVec Ideal S512x128 .f32 from iblk m c 2 t) (show (Rect.unit (s := S512x128) ![0, 0] ![256, 128] inb_S512x128_S256x128_0_0).idx y = ix2 ⟨0 + (y 0).val, by have := (y 0).isLt; change (y 0).val < 256 at this; omega⟩ (y 1) from by blk_ext [Rect.idx_unit_val, Nat.zero_add])).trans ((blk2 m c t _ _ ).trans ?_)
  refine congrArg (fun l => cosV (ix2 l (y 1))) (Fin.ext ?_)
  show 512 * (t.val % 4) + (0 + (y 0).val) = 256 * (2 * (t.val % 4) + 0) + (y 0).val
  omega

/-- A load's value. -/
theorem ls2c0 (c : Dev nD) (t : Fin cfg0.N) :
    View.ld (Val := Elt Ideal) (S := S512x128) (e' := .f32) (iblk m c 3 t) (Rect.unit ![0, 0] ![256, 128] inb_S512x128_S256x128_0_0) = s2c (kOf t 0) := by
  funext y
  refine (congrArg (show FVec Ideal S512x128 .f32 from iblk m c 3 t) (show (Rect.unit (s := S512x128) ![0, 0] ![256, 128] inb_S512x128_S256x128_0_0).idx y = ix2 ⟨0 + (y 0).val, by have := (y 0).isLt; change (y 0).val < 256 at this; omega⟩ (y 1) from by blk_ext [Rect.idx_unit_val, Nat.zero_add])).trans ((blk3 m c t _ _ ).trans ?_)
  refine congrArg (fun l => sinV (ix2 l (y 1))) (Fin.ext ?_)
  show 512 * (t.val % 4) + (0 + (y 0).val) = 256 * (2 * (t.val % 4) + 0) + (y 0).val
  omega

/-- A load's value. -/
theorem lc2c1 (c : Dev nD) (t : Fin cfg0.N) :
    View.ld (Val := Elt Ideal) (S := S512x128) (e' := .f32) (iblk m c 2 t) (Rect.unit ![256, 0] ![256, 128] inb_S512x128_S256x128_256_0) = c2c (kOf t 1) := by
  funext y
  refine (congrArg (show FVec Ideal S512x128 .f32 from iblk m c 2 t) (show (Rect.unit (s := S512x128) ![256, 0] ![256, 128] inb_S512x128_S256x128_256_0).idx y = ix2 ⟨256 + (y 0).val, by have := (y 0).isLt; change (y 0).val < 256 at this; omega⟩ (y 1) from by blk_ext [Rect.idx_unit_val, Nat.zero_add])).trans ((blk2 m c t _ _ ).trans ?_)
  refine congrArg (fun l => cosV (ix2 l (y 1))) (Fin.ext ?_)
  show 512 * (t.val % 4) + (256 + (y 0).val) = 256 * (2 * (t.val % 4) + 1) + (y 0).val
  omega

/-- A load's value. -/
theorem ls2c1 (c : Dev nD) (t : Fin cfg0.N) :
    View.ld (Val := Elt Ideal) (S := S512x128) (e' := .f32) (iblk m c 3 t) (Rect.unit ![256, 0] ![256, 128] inb_S512x128_S256x128_256_0) = s2c (kOf t 1) := by
  funext y
  refine (congrArg (show FVec Ideal S512x128 .f32 from iblk m c 3 t) (show (Rect.unit (s := S512x128) ![256, 0] ![256, 128] inb_S512x128_S256x128_256_0).idx y = ix2 ⟨256 + (y 0).val, by have := (y 0).isLt; change (y 0).val < 256 at this; omega⟩ (y 1) from by blk_ext [Rect.idx_unit_val, Nat.zero_add])).trans ((blk3 m c t _ _ ).trans ?_)
  refine congrArg (fun l => sinV (ix2 l (y 1))) (Fin.ext ?_)
  show 512 * (t.val % 4) + (256 + (y 0).val) = 256 * (2 * (t.val % 4) + 1) + (y 0).val
  omega

/-- A load's value. -/
theorem l4_0 (c : Dev nD) (t : Fin cfg0.N) :
    View.ld (Val := Elt Ideal) (S := S4x256x256) (e' := .f32) (iblk m c 4 t) (Rect.unit ![0, 0, 0] ![1, 256, 256] inb_S4x256x256_S1x256x256_0_0_0) = decc 0 := by
  funext y
  refine (congrArg (show FVec Ideal S4x256x256 .f32 from iblk m c 4 t) (show (Rect.unit (s := S4x256x256) ![0, 0, 0] ![1, 256, 256] inb_S4x256x256_S1x256x256_0_0_0).idx y = ix3 0 (y 1) (y 2) from by blk_ext [Rect.idx_unit_val, Nat.zero_add])).trans ((blk4 m c t _ _ _ ).trans ?_)
  rfl

/-- A load's value. -/
theorem l5_0 (c : Dev nD) (t : Fin cfg0.N) :
    View.ld (Val := Elt Ideal) (S := S4x256x128) (e' := .f32) (iblk m c 5 t) (Rect.unit ![0, 0, 0] ![1, 256, 128] inb_S4x256x128_S1x256x128_0_0_0) = qdc 0 := by
  funext y
  refine (congrArg (show FVec Ideal S4x256x128 .f32 from iblk m c 5 t) (show (Rect.unit (s := S4x256x128) ![0, 0, 0] ![1, 256, 128] inb_S4x256x128_S1x256x128_0_0_0).idx y = ix3 0 (y 1) (y 2) from by blk_ext [Rect.idx_unit_val, Nat.zero_add])).trans ((blk5 m c t _ _ _ ).trans ?_)
  rfl

/-- A load's value. -/
theorem l6_0 (c : Dev nD) (t : Fin cfg0.N) :
    View.ld (Val := Elt Ideal) (S := S4x256x128) (e' := .f32) (iblk m c 6 t) (Rect.unit ![0, 0, 0] ![1, 256, 128] inb_S4x256x128_S1x256x128_0_0_0) = kdc 0 := by
  funext y
  refine (congrArg (show FVec Ideal S4x256x128 .f32 from iblk m c 6 t) (show (Rect.unit (s := S4x256x128) ![0, 0, 0] ![1, 256, 128] inb_S4x256x128_S1x256x128_0_0_0).idx y = ix3 0 (y 1) (y 2) from by blk_ext [Rect.idx_unit_val, Nat.zero_add])).trans ((blk6 m c t _ _ _ ).trans ?_)
  rfl

/-- A load's value. -/
theorem l7_0 (c : Dev nD) (t : Fin cfg0.N) :
    View.ld (Val := Elt Ideal) (S := S4x1x128) (e' := .f32) (iblk m c 7 t) (Rect.unit ![0, 0, 0] ![1, 1, 128] inb_S4x1x128_S1x1x128_0_0_0) = gcc 0 := by
  funext y
  refine (congrArg (show FVec Ideal S4x1x128 .f32 from iblk m c 7 t) (show (Rect.unit (s := S4x1x128) ![0, 0, 0] ![1, 1, 128] inb_S4x1x128_S1x1x128_0_0_0).idx y = ix3 0 0 (y 2) from by blk_ext [Rect.idx_unit_val, Nat.zero_add])).trans ((blk7 m c t _ _ ).trans ?_)
  rfl

/-- A load's value. -/
theorem l8_0 (c : Dev nD) (t : Fin cfg0.N) :
    View.ld (Val := Elt Ideal) (S := S4x128x128) (e' := .bf16) (iblk m c 8 t) (Rect.unit ![0, 0, 0] ![1, 128, 128] inb_S4x128x128_S1x128x128_0_0_0) = pwv (m ((c : Thread nD τ).loc main_arg2)) 0 := by
  funext y
  refine (congrArg (show FVec Ideal S4x128x128 .bf16 from iblk m c 8 t) (show (Rect.unit (s := S4x128x128) ![0, 0, 0] ![1, 128, 128] inb_S4x128x128_S1x128x128_0_0_0).idx y = ix3 0 (y 1) (y 2) from by blk_ext [Rect.idx_unit_val, Nat.zero_add])).trans ((blk8 m c t _ _ _ ).trans ?_)
  rfl

/-- A load's value. -/
theorem l9_0 (c : Dev nD) (t : Fin cfg0.N) :
    View.ld (Val := Elt Ideal) (S := S1x512) (e' := .f32) (iblk m c 9 t) (Rect.unit ![0, 0] ![1, 128] inb_S1x512_S1x128_0_0) = gnv (m ((c : Thread nD τ).loc main_arg3)) 0 := by
  funext y
  refine (congrArg (show FVec Ideal S1x512 .f32 from iblk m c 9 t) (show (Rect.unit (s := S1x512) ![0, 0] ![1, 128] inb_S1x512_S1x128_0_0).idx y = ix2 0 ⟨(y 1).val, by have := (y 1).isLt; change (y 1).val < 128 at this; omega⟩ from by blk_ext [Rect.idx_unit_val, Nat.zero_add])).trans ((blk9 m c t _ ).trans ?_)
  exact congrArg (fun i => (show FVec Ideal S1x512 .f32 from (m ((c : Thread nD τ).loc main_arg3))) (ix2 0 i)) (Fin.ext (Nat.zero_add _).symm)

/-- A load's value. -/
theorem l10_0 (c : Dev nD) (t : Fin cfg0.N) :
    View.ld (Val := Elt Ideal) (S := S1x512) (e' := .f32) (iblk m c 10 t) (Rect.unit ![0, 0] ![1, 128] inb_S1x512_S1x128_0_0) = gnv (m ((c : Thread nD τ).loc main_arg4)) 0 := by
  funext y
  refine (congrArg (show FVec Ideal S1x512 .f32 from iblk m c 10 t) (show (Rect.unit (s := S1x512) ![0, 0] ![1, 128] inb_S1x512_S1x128_0_0).idx y = ix2 0 ⟨(y 1).val, by have := (y 1).isLt; change (y 1).val < 128 at this; omega⟩ from by blk_ext [Rect.idx_unit_val, Nat.zero_add])).trans ((blk10 m c t _ ).trans ?_)
  exact congrArg (fun i => (show FVec Ideal S1x512 .f32 from (m ((c : Thread nD τ).loc main_arg4))) (ix2 0 i)) (Fin.ext (Nat.zero_add _).symm)

/-- A load's value. -/
theorem l4_1 (c : Dev nD) (t : Fin cfg0.N) :
    View.ld (Val := Elt Ideal) (S := S4x256x256) (e' := .f32) (iblk m c 4 t) (Rect.unit ![1, 0, 0] ![1, 256, 256] inb_S4x256x256_S1x256x256_1_0_0) = decc 1 := by
  funext y
  refine (congrArg (show FVec Ideal S4x256x256 .f32 from iblk m c 4 t) (show (Rect.unit (s := S4x256x256) ![1, 0, 0] ![1, 256, 256] inb_S4x256x256_S1x256x256_1_0_0).idx y = ix3 1 (y 1) (y 2) from by blk_ext [Rect.idx_unit_val, Nat.zero_add])).trans ((blk4 m c t _ _ _ ).trans ?_)
  rfl

/-- A load's value. -/
theorem l5_1 (c : Dev nD) (t : Fin cfg0.N) :
    View.ld (Val := Elt Ideal) (S := S4x256x128) (e' := .f32) (iblk m c 5 t) (Rect.unit ![1, 0, 0] ![1, 256, 128] inb_S4x256x128_S1x256x128_1_0_0) = qdc 1 := by
  funext y
  refine (congrArg (show FVec Ideal S4x256x128 .f32 from iblk m c 5 t) (show (Rect.unit (s := S4x256x128) ![1, 0, 0] ![1, 256, 128] inb_S4x256x128_S1x256x128_1_0_0).idx y = ix3 1 (y 1) (y 2) from by blk_ext [Rect.idx_unit_val, Nat.zero_add])).trans ((blk5 m c t _ _ _ ).trans ?_)
  rfl

/-- A load's value. -/
theorem l6_1 (c : Dev nD) (t : Fin cfg0.N) :
    View.ld (Val := Elt Ideal) (S := S4x256x128) (e' := .f32) (iblk m c 6 t) (Rect.unit ![1, 0, 0] ![1, 256, 128] inb_S4x256x128_S1x256x128_1_0_0) = kdc 1 := by
  funext y
  refine (congrArg (show FVec Ideal S4x256x128 .f32 from iblk m c 6 t) (show (Rect.unit (s := S4x256x128) ![1, 0, 0] ![1, 256, 128] inb_S4x256x128_S1x256x128_1_0_0).idx y = ix3 1 (y 1) (y 2) from by blk_ext [Rect.idx_unit_val, Nat.zero_add])).trans ((blk6 m c t _ _ _ ).trans ?_)
  rfl

/-- A load's value. -/
theorem l7_1 (c : Dev nD) (t : Fin cfg0.N) :
    View.ld (Val := Elt Ideal) (S := S4x1x128) (e' := .f32) (iblk m c 7 t) (Rect.unit ![1, 0, 0] ![1, 1, 128] inb_S4x1x128_S1x1x128_1_0_0) = gcc 1 := by
  funext y
  refine (congrArg (show FVec Ideal S4x1x128 .f32 from iblk m c 7 t) (show (Rect.unit (s := S4x1x128) ![1, 0, 0] ![1, 1, 128] inb_S4x1x128_S1x1x128_1_0_0).idx y = ix3 1 0 (y 2) from by blk_ext [Rect.idx_unit_val, Nat.zero_add])).trans ((blk7 m c t _ _ ).trans ?_)
  rfl

/-- A load's value. -/
theorem l8_1 (c : Dev nD) (t : Fin cfg0.N) :
    View.ld (Val := Elt Ideal) (S := S4x128x128) (e' := .bf16) (iblk m c 8 t) (Rect.unit ![1, 0, 0] ![1, 128, 128] inb_S4x128x128_S1x128x128_1_0_0) = pwv (m ((c : Thread nD τ).loc main_arg2)) 1 := by
  funext y
  refine (congrArg (show FVec Ideal S4x128x128 .bf16 from iblk m c 8 t) (show (Rect.unit (s := S4x128x128) ![1, 0, 0] ![1, 128, 128] inb_S4x128x128_S1x128x128_1_0_0).idx y = ix3 1 (y 1) (y 2) from by blk_ext [Rect.idx_unit_val, Nat.zero_add])).trans ((blk8 m c t _ _ _ ).trans ?_)
  rfl

/-- A load's value. -/
theorem l9_1 (c : Dev nD) (t : Fin cfg0.N) :
    View.ld (Val := Elt Ideal) (S := S1x512) (e' := .f32) (iblk m c 9 t) (Rect.unit ![0, 128] ![1, 128] inb_S1x512_S1x128_0_128) = gnv (m ((c : Thread nD τ).loc main_arg3)) 1 := by
  funext y
  refine (congrArg (show FVec Ideal S1x512 .f32 from iblk m c 9 t) (show (Rect.unit (s := S1x512) ![0, 128] ![1, 128] inb_S1x512_S1x128_0_128).idx y = ix2 0 ⟨128 + (y 1).val, by have := (y 1).isLt; change (y 1).val < 128 at this; omega⟩ from by blk_ext [Rect.idx_unit_val, Nat.zero_add])).trans ((blk9 m c t _ ).trans ?_)
  rfl

/-- A load's value. -/
theorem l10_1 (c : Dev nD) (t : Fin cfg0.N) :
    View.ld (Val := Elt Ideal) (S := S1x512) (e' := .f32) (iblk m c 10 t) (Rect.unit ![0, 128] ![1, 128] inb_S1x512_S1x128_0_128) = gnv (m ((c : Thread nD τ).loc main_arg4)) 1 := by
  funext y
  refine (congrArg (show FVec Ideal S1x512 .f32 from iblk m c 10 t) (show (Rect.unit (s := S1x512) ![0, 128] ![1, 128] inb_S1x512_S1x128_0_128).idx y = ix2 0 ⟨128 + (y 1).val, by have := (y 1).isLt; change (y 1).val < 128 at this; omega⟩ from by blk_ext [Rect.idx_unit_val, Nat.zero_add])).trans ((blk10 m c t _ ).trans ?_)
  rfl

/-- A load's value. -/
theorem l4_2 (c : Dev nD) (t : Fin cfg0.N) :
    View.ld (Val := Elt Ideal) (S := S4x256x256) (e' := .f32) (iblk m c 4 t) (Rect.unit ![2, 0, 0] ![1, 256, 256] inb_S4x256x256_S1x256x256_2_0_0) = decc 2 := by
  funext y
  refine (congrArg (show FVec Ideal S4x256x256 .f32 from iblk m c 4 t) (show (Rect.unit (s := S4x256x256) ![2, 0, 0] ![1, 256, 256] inb_S4x256x256_S1x256x256_2_0_0).idx y = ix3 2 (y 1) (y 2) from by blk_ext [Rect.idx_unit_val, Nat.zero_add])).trans ((blk4 m c t _ _ _ ).trans ?_)
  rfl

/-- A load's value. -/
theorem l5_2 (c : Dev nD) (t : Fin cfg0.N) :
    View.ld (Val := Elt Ideal) (S := S4x256x128) (e' := .f32) (iblk m c 5 t) (Rect.unit ![2, 0, 0] ![1, 256, 128] inb_S4x256x128_S1x256x128_2_0_0) = qdc 2 := by
  funext y
  refine (congrArg (show FVec Ideal S4x256x128 .f32 from iblk m c 5 t) (show (Rect.unit (s := S4x256x128) ![2, 0, 0] ![1, 256, 128] inb_S4x256x128_S1x256x128_2_0_0).idx y = ix3 2 (y 1) (y 2) from by blk_ext [Rect.idx_unit_val, Nat.zero_add])).trans ((blk5 m c t _ _ _ ).trans ?_)
  rfl

/-- A load's value. -/
theorem l6_2 (c : Dev nD) (t : Fin cfg0.N) :
    View.ld (Val := Elt Ideal) (S := S4x256x128) (e' := .f32) (iblk m c 6 t) (Rect.unit ![2, 0, 0] ![1, 256, 128] inb_S4x256x128_S1x256x128_2_0_0) = kdc 2 := by
  funext y
  refine (congrArg (show FVec Ideal S4x256x128 .f32 from iblk m c 6 t) (show (Rect.unit (s := S4x256x128) ![2, 0, 0] ![1, 256, 128] inb_S4x256x128_S1x256x128_2_0_0).idx y = ix3 2 (y 1) (y 2) from by blk_ext [Rect.idx_unit_val, Nat.zero_add])).trans ((blk6 m c t _ _ _ ).trans ?_)
  rfl

/-- A load's value. -/
theorem l7_2 (c : Dev nD) (t : Fin cfg0.N) :
    View.ld (Val := Elt Ideal) (S := S4x1x128) (e' := .f32) (iblk m c 7 t) (Rect.unit ![2, 0, 0] ![1, 1, 128] inb_S4x1x128_S1x1x128_2_0_0) = gcc 2 := by
  funext y
  refine (congrArg (show FVec Ideal S4x1x128 .f32 from iblk m c 7 t) (show (Rect.unit (s := S4x1x128) ![2, 0, 0] ![1, 1, 128] inb_S4x1x128_S1x1x128_2_0_0).idx y = ix3 2 0 (y 2) from by blk_ext [Rect.idx_unit_val, Nat.zero_add])).trans ((blk7 m c t _ _ ).trans ?_)
  rfl

/-- A load's value. -/
theorem l8_2 (c : Dev nD) (t : Fin cfg0.N) :
    View.ld (Val := Elt Ideal) (S := S4x128x128) (e' := .bf16) (iblk m c 8 t) (Rect.unit ![2, 0, 0] ![1, 128, 128] inb_S4x128x128_S1x128x128_2_0_0) = pwv (m ((c : Thread nD τ).loc main_arg2)) 2 := by
  funext y
  refine (congrArg (show FVec Ideal S4x128x128 .bf16 from iblk m c 8 t) (show (Rect.unit (s := S4x128x128) ![2, 0, 0] ![1, 128, 128] inb_S4x128x128_S1x128x128_2_0_0).idx y = ix3 2 (y 1) (y 2) from by blk_ext [Rect.idx_unit_val, Nat.zero_add])).trans ((blk8 m c t _ _ _ ).trans ?_)
  rfl

/-- A load's value. -/
theorem l9_2 (c : Dev nD) (t : Fin cfg0.N) :
    View.ld (Val := Elt Ideal) (S := S1x512) (e' := .f32) (iblk m c 9 t) (Rect.unit ![0, 256] ![1, 128] inb_S1x512_S1x128_0_256) = gnv (m ((c : Thread nD τ).loc main_arg3)) 2 := by
  funext y
  refine (congrArg (show FVec Ideal S1x512 .f32 from iblk m c 9 t) (show (Rect.unit (s := S1x512) ![0, 256] ![1, 128] inb_S1x512_S1x128_0_256).idx y = ix2 0 ⟨256 + (y 1).val, by have := (y 1).isLt; change (y 1).val < 128 at this; omega⟩ from by blk_ext [Rect.idx_unit_val, Nat.zero_add])).trans ((blk9 m c t _ ).trans ?_)
  rfl

/-- A load's value. -/
theorem l10_2 (c : Dev nD) (t : Fin cfg0.N) :
    View.ld (Val := Elt Ideal) (S := S1x512) (e' := .f32) (iblk m c 10 t) (Rect.unit ![0, 256] ![1, 128] inb_S1x512_S1x128_0_256) = gnv (m ((c : Thread nD τ).loc main_arg4)) 2 := by
  funext y
  refine (congrArg (show FVec Ideal S1x512 .f32 from iblk m c 10 t) (show (Rect.unit (s := S1x512) ![0, 256] ![1, 128] inb_S1x512_S1x128_0_256).idx y = ix2 0 ⟨256 + (y 1).val, by have := (y 1).isLt; change (y 1).val < 128 at this; omega⟩ from by blk_ext [Rect.idx_unit_val, Nat.zero_add])).trans ((blk10 m c t _ ).trans ?_)
  rfl

/-- A load's value. -/
theorem l4_3 (c : Dev nD) (t : Fin cfg0.N) :
    View.ld (Val := Elt Ideal) (S := S4x256x256) (e' := .f32) (iblk m c 4 t) (Rect.unit ![3, 0, 0] ![1, 256, 256] inb_S4x256x256_S1x256x256_3_0_0) = decc 3 := by
  funext y
  refine (congrArg (show FVec Ideal S4x256x256 .f32 from iblk m c 4 t) (show (Rect.unit (s := S4x256x256) ![3, 0, 0] ![1, 256, 256] inb_S4x256x256_S1x256x256_3_0_0).idx y = ix3 3 (y 1) (y 2) from by blk_ext [Rect.idx_unit_val, Nat.zero_add])).trans ((blk4 m c t _ _ _ ).trans ?_)
  rfl

/-- A load's value. -/
theorem l5_3 (c : Dev nD) (t : Fin cfg0.N) :
    View.ld (Val := Elt Ideal) (S := S4x256x128) (e' := .f32) (iblk m c 5 t) (Rect.unit ![3, 0, 0] ![1, 256, 128] inb_S4x256x128_S1x256x128_3_0_0) = qdc 3 := by
  funext y
  refine (congrArg (show FVec Ideal S4x256x128 .f32 from iblk m c 5 t) (show (Rect.unit (s := S4x256x128) ![3, 0, 0] ![1, 256, 128] inb_S4x256x128_S1x256x128_3_0_0).idx y = ix3 3 (y 1) (y 2) from by blk_ext [Rect.idx_unit_val, Nat.zero_add])).trans ((blk5 m c t _ _ _ ).trans ?_)
  rfl

/-- A load's value. -/
theorem l6_3 (c : Dev nD) (t : Fin cfg0.N) :
    View.ld (Val := Elt Ideal) (S := S4x256x128) (e' := .f32) (iblk m c 6 t) (Rect.unit ![3, 0, 0] ![1, 256, 128] inb_S4x256x128_S1x256x128_3_0_0) = kdc 3 := by
  funext y
  refine (congrArg (show FVec Ideal S4x256x128 .f32 from iblk m c 6 t) (show (Rect.unit (s := S4x256x128) ![3, 0, 0] ![1, 256, 128] inb_S4x256x128_S1x256x128_3_0_0).idx y = ix3 3 (y 1) (y 2) from by blk_ext [Rect.idx_unit_val, Nat.zero_add])).trans ((blk6 m c t _ _ _ ).trans ?_)
  rfl

/-- A load's value. -/
theorem l7_3 (c : Dev nD) (t : Fin cfg0.N) :
    View.ld (Val := Elt Ideal) (S := S4x1x128) (e' := .f32) (iblk m c 7 t) (Rect.unit ![3, 0, 0] ![1, 1, 128] inb_S4x1x128_S1x1x128_3_0_0) = gcc 3 := by
  funext y
  refine (congrArg (show FVec Ideal S4x1x128 .f32 from iblk m c 7 t) (show (Rect.unit (s := S4x1x128) ![3, 0, 0] ![1, 1, 128] inb_S4x1x128_S1x1x128_3_0_0).idx y = ix3 3 0 (y 2) from by blk_ext [Rect.idx_unit_val, Nat.zero_add])).trans ((blk7 m c t _ _ ).trans ?_)
  rfl

/-- A load's value. -/
theorem l8_3 (c : Dev nD) (t : Fin cfg0.N) :
    View.ld (Val := Elt Ideal) (S := S4x128x128) (e' := .bf16) (iblk m c 8 t) (Rect.unit ![3, 0, 0] ![1, 128, 128] inb_S4x128x128_S1x128x128_3_0_0) = pwv (m ((c : Thread nD τ).loc main_arg2)) 3 := by
  funext y
  refine (congrArg (show FVec Ideal S4x128x128 .bf16 from iblk m c 8 t) (show (Rect.unit (s := S4x128x128) ![3, 0, 0] ![1, 128, 128] inb_S4x128x128_S1x128x128_3_0_0).idx y = ix3 3 (y 1) (y 2) from by blk_ext [Rect.idx_unit_val, Nat.zero_add])).trans ((blk8 m c t _ _ _ ).trans ?_)
  rfl

/-- A load's value. -/
theorem l9_3 (c : Dev nD) (t : Fin cfg0.N) :
    View.ld (Val := Elt Ideal) (S := S1x512) (e' := .f32) (iblk m c 9 t) (Rect.unit ![0, 384] ![1, 128] inb_S1x512_S1x128_0_384) = gnv (m ((c : Thread nD τ).loc main_arg3)) 3 := by
  funext y
  refine (congrArg (show FVec Ideal S1x512 .f32 from iblk m c 9 t) (show (Rect.unit (s := S1x512) ![0, 384] ![1, 128] inb_S1x512_S1x128_0_384).idx y = ix2 0 ⟨384 + (y 1).val, by have := (y 1).isLt; change (y 1).val < 128 at this; omega⟩ from by blk_ext [Rect.idx_unit_val, Nat.zero_add])).trans ((blk9 m c t _ ).trans ?_)
  rfl

/-- A load's value. -/
theorem l10_3 (c : Dev nD) (t : Fin cfg0.N) :
    View.ld (Val := Elt Ideal) (S := S1x512) (e' := .f32) (iblk m c 10 t) (Rect.unit ![0, 384] ![1, 128] inb_S1x512_S1x128_0_384) = gnv (m ((c : Thread nD τ).loc main_arg4)) 3 := by
  funext y
  refine (congrArg (show FVec Ideal S1x512 .f32 from iblk m c 10 t) (show (Rect.unit (s := S1x512) ![0, 384] ![1, 128] inb_S1x512_S1x128_0_384).idx y = ix2 0 ⟨384 + (y 1).val, by have := (y 1).isLt; change (y 1).val < 128 at this; omega⟩ from by blk_ext [Rect.idx_unit_val, Nat.zero_add])).trans ((blk10 m c t _ ).trans ?_)
  rfl

/-- A load's value. -/
theorem l11 (c : Dev nD) (t : Fin cfg0.N) :
    View.ld (Val := Elt Ideal) (S := S1024x1024) (e' := .bf16) (iblk m c 11 t) (Rect.unit ![0, 0] ![1024, 1024] inb_S1024x1024_S1024x1024_0_0) = wov (m ((c : Thread nD τ).loc main_arg5)) := by
  funext y
  refine (congrArg (show FVec Ideal S1024x1024 .bf16 from iblk m c 11 t) (show (Rect.unit (s := S1024x1024) ![0, 0] ![1024, 1024] inb_S1024x1024_S1024x1024_0_0).idx y = ix2 (y 0) (y 1) from by blk_ext [Rect.idx_unit_val, Nat.zero_add])).trans ((blk11 m c t _ _ ).trans ?_)
  rfl

/-- A load's value. -/
theorem l12 (c : Dev nD) (t : Fin cfg0.N) :
    View.ld (Val := Elt Ideal) (S := S1x1024) (e' := .f32) (iblk m c 12 t) (Rect.unit ![0, 0] ![1, 1024] inb_S1x1024_S1x1024_0_0) = rowv (m ((c : Thread nD τ).loc main_arg6)) := by
  funext y
  refine (congrArg (show FVec Ideal S1x1024 .f32 from iblk m c 12 t) (show (Rect.unit (s := S1x1024) ![0, 0] ![1, 1024] inb_S1x1024_S1x1024_0_0).idx y = ix2 0 (y 1) from by blk_ext [Rect.idx_unit_val, Nat.zero_add])).trans ((blk12 m c t _ ).trans ?_)
  rfl

/-- A load's value. -/
theorem l13 (c : Dev nD) (t : Fin cfg0.N) :
    View.ld (Val := Elt Ideal) (S := S1x1024) (e' := .f32) (iblk m c 13 t) (Rect.unit ![0, 0] ![1, 1024] inb_S1x1024_S1x1024_0_0) = rowv (m ((c : Thread nD τ).loc main_arg7)) := by
  funext y
  refine (congrArg (show FVec Ideal S1x1024 .f32 from iblk m c 13 t) (show (Rect.unit (s := S1x1024) ![0, 0] ![1, 1024] inb_S1x1024_S1x1024_0_0).idx y = ix2 0 (y 1) from by blk_ext [Rect.idx_unit_val, Nat.zero_add])).trans ((blk13 m c t _ ).trans ?_)
  rfl

end Cert.KernelEvenIdeal.Value1
-- ==== Proof.EvenOut0.lean ====
module

public import proofs.«01_k».proof.Proof.Gen.KernelEvenIdeal.Frame
public import proofs.«01_k».proof.Proof.EvenVec
public import proofs.«01_k».proof.Proof.EvenMix
public import proofs.«01_k».proof.Proof.EvenSt
public import proofs.«01_k».proof.Proof.EvenOutp
public import proofs.«01_k».proof.Proof.EvenFin
public import proofs.«01_k».proof.Proof.EvenPool
public import proofs.«01_k».proof.Proof.EvenLd
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelEvenIdeal.Value1

open Cert.KernelEvenIdeal Cert.KernelEvenIdeal.Gen Cert.Ffn Cert.Even

variable (x : FVec Ideal S8x2048x1024 .f32) (w : FVec Ideal S1x1024x2560 .f32) (pw : FVec Ideal S1x4x128x128 .f32) (ps gn : FVec Ideal S1x512 .f32)
  (wo : FVec Ideal S1x1024x1024 .f32) (lg lb : FVec Ideal S2x1024 .f32)

variable (m : (ℓ : Loc nD τ sig) → Buf (Elt Ideal) ℓ)

/-- The tile's first chunk has an even number, twice its place in the sequence. -/
theorem coord (t : Fin cfg0.N) : (grid0.coords t 1).val = t.val % 4 :=
  (by decide +kernel : ∀ t : Fin grid0.N, (grid0.coords t 1).val = t.val % 4) t

/-- The coordinate is below four. -/
theorem coordLt (t : Fin cfg0.N) : (grid0.coords t 1).val < 4 := by rw [coord t]; omega

/-- The first chunk's number. -/
theorem kof0 (t : Fin cfg0.N) : (kOf t 0).val = 2 * (grid0.coords t 1).val := by rw [coord t]; rfl

/-- The second chunk's number. -/
theorem kof1 (t : Fin cfg0.N) : (kOf t 1).val = 2 * (grid0.coords t 1).val + 1 := by rw [coord t]; rfl

/-- The chunks of a tile follow each other. -/
theorem kofs (t : Fin cfg0.N) : (kOf t 0).val + 1 = (kOf t 1).val := rfl

/-- The first chunk is never the last. -/
theorem kof7 (t : Fin cfg0.N) : (kOf t 0).val < 7 := by show 2 * (t.val % 4) + 0 < 7; omega

/-- The output projection's weights, as the tile sees them. -/
theorem b11 (c : Dev nD) (t : Fin cfg0.N) : @Eq (FVec Ideal S1024x1024 .bf16) (iblk m c 11 t) (wov (m ((c : Thread nD τ).loc main_arg5))) :=
  funext fun y => (congrArg (show FVec Ideal S1024x1024 .bf16 from iblk m c 11 t) (eq_ix2 y)).trans (blk11 m c t (y 0) (y 1))

/-- The normalisation's gain, as the tile sees it. -/
theorem b12 (c : Dev nD) (t : Fin cfg0.N) : @Eq (FVec Ideal S1x1024 .f32) (iblk m c 12 t) (rowv (m ((c : Thread nD τ).loc main_arg6))) :=
  funext fun y => (congrArg (show FVec Ideal S1x1024 .f32 from iblk m c 12 t) ((eq_ix2 y).trans (congrArg (fun a => ix2 a (y 1)) (Fin.eq_zero (y 0))))).trans (blk12 m c t (y 1))

/-- The normalisation's bias, as the tile sees it. -/
theorem b13 (c : Dev nD) (t : Fin cfg0.N) : @Eq (FVec Ideal S1x1024 .f32) (iblk m c 13 t) (rowv (m ((c : Thread nD τ).loc main_arg7))) :=
  funext fun y => (congrArg (show FVec Ideal S1x1024 .f32 from iblk m c 13 t) ((eq_ix2 y).trans (congrArg (fun a => ix2 a (y 1)) (Fin.eq_zero (y 0))))).trans (blk13 m c t (y 1))

/-- The rows of one tile. -/
def tileV (x : FVec Ideal S8x2048x1024 .f32) (w : FVec Ideal S1x1024x2560 .f32) (pw : FVec Ideal S1x4x128x128 .f32) (ps : FVec Ideal S1x512 .f32) (gn : FVec Ideal S1x512 .f32) (wo : FVec Ideal S1x1024x1024 .f32) (lg lb : FVec Ideal S2x1024 .f32) (t : Fin cfg0.N) : FVec Ideal S512x1024 .f32 :=
  fun y => evenAt x w pw ps gn wo lg lb (seqOf t) (tokOf t (y 0)) (y 1)

/-- The tile's rows, read from the two chunks. -/
theorem tile2 (x : FVec Ideal S8x2048x1024 .f32) (w : FVec Ideal S1x1024x2560 .f32) (pw : FVec Ideal S1x4x128x128 .f32) (ps : FVec Ideal S1x512 .f32) (gn : FVec Ideal S1x512 .f32) (wo : FVec Ideal S1x1024x1024 .f32) (lg lb : FVec Ideal S2x1024 .f32) (t : Fin cfg0.N) :
    View.canon [(⟨Rect.unit ![256, 0] ![256, 1024] inb_S512x1024_S256x1024_256_0, ev x w pw ps gn wo lg lb (seqOf t) (kOf t 1)⟩ : View.Piece (Elt Ideal) S512x1024 .f32),
      ⟨Rect.unit ![0, 0] ![256, 1024] inb_S512x1024_S256x1024_0_0, ev x w pw ps gn wo lg lb (seqOf t) (kOf t 0)⟩] = tileV x w pw ps gn wo lg lb t := by
  funext y
  have l0 : (y 0).val < 512 := (y 0).isLt
  canon_tiles a h
  · exact congrArg₂ (fun l e => evenAt x w pw ps gn wo lg lb (seqOf t) l e) (Fin.ext (by show 256 * (2 * (t.val % 4) + 1) + (a 0).val = 512 * (t.val % 4) + (y 0).val; omega)) (Fin.ext (by show (a 1).val = (y 1).val; omega))
  · exact congrArg₂ (fun l e => evenAt x w pw ps gn wo lg lb (seqOf t) l e) (Fin.ext (by show 256 * (2 * (t.val % 4) + 0) + (a 0).val = 512 * (t.val % 4) + (y 0).val; omega)) (Fin.ext (by show (a 1).val = (y 1).val; omega))

/-- The retention state of a sequence. -/
def finV (x : FVec Ideal S8x2048x1024 .f32) (w : FVec Ideal S1x1024x2560 .f32) (n : Fin 8) (N : ℕ) : FVec Ideal S1x4x128x128 .f32 :=
  fun y => stE x w n (y 1) (256 * N) (y 2) (y 3)

/-- The whole state read back. -/
theorem wholeS (x : FVec Ideal S8x2048x1024 .f32) (w : FVec Ideal S1x1024x2560 .f32) (n : Fin 8) (N : ℕ) :
    (fun j => stateV x w n N ((Rect.unit ![0, 0, 0] ![4, 128, 128] inb_S4x128x128_S4x128x128_0_0_0).idx j)) = stateV x w n N :=
  funext fun j => congrArg (stateV x w n N) (by blk_ext [Rect.idx_unit_val, Nat.zero_add])

/-- The state written out. -/
theorem fin3 (x : FVec Ideal S8x2048x1024 .f32) (w : FVec Ideal S1x1024x2560 .f32) (n : Fin 8) (N : ℕ) :
    k0_pay3 (stateV x w n N) = finV x w n N := by
  funext y
  rw [eq_ix4 y]
  unfold k0_pay3
  pointwise
  rfl

/-- The last fifteen pooled rows of a sequence. -/
def histV (x : FVec Ideal S8x2048x1024 .f32) (w : FVec Ideal S1x1024x2560 .f32) (n : Fin 8) : FVec Ideal S1x15x512 .f32 :=
  fun y => hAt x w n ⟨2033 + (y 1).val, by have := (y 1).isLt; change (y 1).val < 15 at this; omega⟩ ⟨(y 2).val, by have := (y 2).isLt; change (y 2).val < 512 at this; omega⟩

/-- The last fifteen pooled rows, as the scratch holds them. -/
def tailV (x : FVec Ideal S8x2048x1024 .f32) (w : FVec Ideal S1x1024x2560 .f32) (n : Fin 8) : FVec Ideal S15x512 .f32 :=
  fun y => hAt x w n ⟨2033 + (y 0).val, by have := (y 0).isLt; change (y 0).val < 15 at this; omega⟩ ⟨(y 1).val, by have := (y 1).isLt; change (y 1).val < 512 at this; omega⟩

/-- The last fifteen pooled rows read back. -/
theorem tailE (x : FVec Ideal S8x2048x1024 .f32) (w : FVec Ideal S1x1024x2560 .f32) (n k : Fin 8) (hk : k.val < 7) (h6 : k.val = 6) :
    (fun j => extV x w n k.val hk ((Rect.unit ![513, 0] ![15, 512] inb_S528x512_S15x512_513_0).idx j)) = tailV x w n := by
  funext y
  have e0 : (((Rect.unit (s := S528x512) ![513, 0] ![15, 512] inb_S528x512_S15x512_513_0).idx y) (0 : Fin 2) : ℕ) = 513 + (y 0).val := Rect.idx_unit_val _ _ inb_S528x512_S15x512_513_0 y 0
  have e1 : (((Rect.unit (s := S528x512) ![513, 0] ![15, 512] inb_S528x512_S15x512_513_0).idx y) (1 : Fin 2) : ℕ) = 0 + (y 1).val := Rect.idx_unit_val _ _ inb_S528x512_S15x512_513_0 y 1
  have q0 : (y 0).val < 15 := (y 0).isLt
  have q1 : (y 1).val < 512 := (y 1).isLt
  exact Eq.symm <| extV_at x w n k.val hk _ ⟨2033 + (y 0).val, by omega⟩ (y 1).val (by omega) (by show 16 + (2033 + (y 0).val) = _; rw [e0]; omega) (by rw [e1]; exact Nat.zero_add _)

/-- The pooled rows written out. -/
theorem hist2 (x : FVec Ideal S8x2048x1024 .f32) (w : FVec Ideal S1x1024x2560 .f32) (n : Fin 8) : k0_pay2 (tailV x w n) = histV x w n := by
  funext y
  rw [eq_ix3 y]
  unfold k0_pay2
  pointwise
  rfl

end Cert.KernelEvenIdeal.Value1
-- ==== Proof.EvenOutC.lean ====
module

public import proofs.«01_k».proof.Proof.Gen.KernelEvenIdeal.Frame
public import proofs.«01_k».proof.Proof.EvenVec
public import proofs.«01_k».proof.Proof.EvenOut0
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelEvenIdeal.Value1

open Cert.KernelEvenIdeal Cert.KernelEvenIdeal.Gen Cert.Ffn Cert.Even

variable (x : FVec Ideal S8x2048x1024 .f32) (w : FVec Ideal S1x1024x2560 .f32) (pw : FVec Ideal S1x4x128x128 .f32) (ps gn : FVec Ideal S1x512 .f32)
  (wo : FVec Ideal S1x1024x1024 .f32) (lg lb : FVec Ideal S2x1024 .f32)

variable (m : (ℓ : Loc nD τ sig) → Buf (Elt Ideal) ℓ)

set_option maxHeartbeats 4000000 in
/-- The rows after a last tile of a sequence. -/
theorem rowC (c : Dev nD) (t : Fin cfg0.N) (hx : ∀ i, Real' ((show FVec Ideal S8x2048x1024 .f32 from (m ((c : Thread nD τ).loc main_arg0))) i)) (hw : ∀ i, Real' ((show FVec Ideal S1x1024x2560 .f32 from (m ((c : Thread nD τ).loc main_arg1))) i)) (h0 : ¬t.val % 4 = 0) (h1 : 1 ≤ t.val % 4) (h2 : t.val % 4 = 3) (hs : (outsAt0 m c (t.val - 1) (Nat.lt_of_le_of_lt (Nat.sub_le _ _) t.isLt)).2.2.2.2 = stateV (show FVec Ideal S8x2048x1024 .f32 from m ((c : Thread nD τ).loc main_arg0)) (show FVec Ideal S1x1024x2560 .f32 from m ((c : Thread nD τ).loc main_arg1)) (seqOf t) (kOf t 0).val) (he : k0_pay6 (View.ld (Val := Elt Ideal) (S := S528x512) (e' := .f32) (outsAt0 m c (t.val - 1) (Nat.lt_of_le_of_lt (Nat.sub_le _ _) t.isLt)).2.2.2.1 (Rect.unit ![512, 0] ![16, 512] inb_S528x512_S16x512_512_0)) = exh (show FVec Ideal S8x2048x1024 .f32 from m ((c : Thread nD τ).loc main_arg0)) (show FVec Ideal S1x1024x2560 .f32 from m ((c : Thread nD τ).loc main_arg1)) (seqOf t) (kOf t 0).val (kof7 t)) :
    (outsAt0 m c t.val t.isLt).1 = tileV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) t := by
  have hj := coordLt t
  have hk0 := kof0 t
  have hk1 := kof1 t
  have hkv := kofs t
  have hk7 := kof7 t
  rw [outsAt0_C m c t h0 h1 h2]
  frame_out
  simp only [View.readCov_eq_canon', cs0, cs1, hc0, hc512, hc640, hc768, hc896, hc1024, hc1152, hc1280, hc1408, hc1536, hc1664, hc1792, hc1920, hc2048, hc2176, hc2304, hc2432]
  simp only [lx0, lx1, lc2c0, ls2c0, lc2c1, ls2c1, l4_0, l5_0, l6_0, l7_0, l8_0, l9_0, l10_0, l4_1, l5_1, l6_1, l7_1, l8_1, l9_1, l10_1, l4_2, l5_2, l6_2, l7_2, l8_2, l9_2, l10_2, l4_3, l5_3, l6_3, l7_3, l8_3, l9_3, l10_3, l11, l12, l13, p29, p30, p84, p85, p31, p38, p47, p56, p86, p96, p106, p116, p32, p39, p48, p57, p87, p97, p107, p117, p33, p40, p49, p58, p88, p98, p108, p118, p59, p99, p109, p119, p60, p61, p100, p110, p120, p121, o35 (m ((c : Thread nD τ).loc main_arg0)) (m ((c : Thread nD τ).loc main_arg1)) hx hw, o42 (m ((c : Thread nD τ).loc main_arg0)) (m ((c : Thread nD τ).loc main_arg1)) hx hw, o51 (m ((c : Thread nD τ).loc main_arg0)) (m ((c : Thread nD τ).loc main_arg1)) hx hw, o64 (m ((c : Thread nD τ).loc main_arg0)) (m ((c : Thread nD τ).loc main_arg1)) hx hw, o90 (m ((c : Thread nD τ).loc main_arg0)) (m ((c : Thread nD τ).loc main_arg1)) hx hw, o103 (m ((c : Thread nD τ).loc main_arg0)) (m ((c : Thread nD τ).loc main_arg1)) hx hw, o113 (m ((c : Thread nD τ).loc main_arg0)) (m ((c : Thread nD τ).loc main_arg1)) hx hw, o124 (m ((c : Thread nD τ).loc main_arg0)) (m ((c : Thread nD τ).loc main_arg1)) hx hw, s36 (m ((c : Thread nD τ).loc main_arg0)) (m ((c : Thread nD τ).loc main_arg1)) hx hw, s43 (m ((c : Thread nD τ).loc main_arg0)) (m ((c : Thread nD τ).loc main_arg1)) hx hw, s52 (m ((c : Thread nD τ).loc main_arg0)) (m ((c : Thread nD τ).loc main_arg1)) hx hw, s62 (m ((c : Thread nD τ).loc main_arg0)) (m ((c : Thread nD τ).loc main_arg1)) hx hw, s91 (m ((c : Thread nD τ).loc main_arg0)) (m ((c : Thread nD τ).loc main_arg1)) hx hw, s101 (m ((c : Thread nD τ).loc main_arg0)) (m ((c : Thread nD τ).loc main_arg1)) hx hw, s111 (m ((c : Thread nD τ).loc main_arg0)) (m ((c : Thread nD τ).loc main_arg1)) hx hw, s122 (m ((c : Thread nD τ).loc main_arg0)) (m ((c : Thread nD τ).loc main_arg1)) hx hw, n37 (hx := hx) (hw := hw), n46 (hx := hx) (hw := hw), n55 (hx := hx) (hw := hw), n66 (hx := hx) (hw := hw), n95 (hx := hx) (hw := hw), n105 (hx := hx) (hw := hw), n115 (hx := hx) (hw := hw), n127 (hx := hx) (hw := hw), p20, p72, whole3, hit0, hit1, hit2, hit3, skip01, skip02, skip03, skip10, skip12, skip13, skip20, skip21, skip23, skip30, skip31, skip32, sl0, sl1, sl2, sl3, sld0, sld1, sld2, sld3, w0_0, w0_1, w0_2, w0_3, read_unread_whole, hs, he, hkv, ext3 (m ((c : Thread nD τ).loc main_arg0)) (m ((c : Thread nD τ).loc main_arg1)) (seqOf t) (kOf t 0) (kOf t 1) hk7 hkv.symm, w1_0 (m ((c : Thread nD τ).loc main_arg0)) (m ((c : Thread nD τ).loc main_arg1)) (seqOf t) (kOf t 0) (kOf t 1) hk7 hkv.symm, w1_1 (m ((c : Thread nD τ).loc main_arg0)) (m ((c : Thread nD τ).loc main_arg1)) (seqOf t) (kOf t 0) (kOf t 1) hk7 hkv.symm, w1_2 (m ((c : Thread nD τ).loc main_arg0)) (m ((c : Thread nD τ).loc main_arg1)) (seqOf t) (kOf t 0) (kOf t 1) hk7 hkv.symm, w1_3 (m ((c : Thread nD τ).loc main_arg0)) (m ((c : Thread nD τ).loc main_arg1)) (seqOf t) (kOf t 0) (kOf t 1) hk7 hkv.symm, p21 _ hj (kOf t 0) hk0, p73 _ hj (kOf t 1) hk1, g23 (hj := hj) (hk := hk0), g24, g25, g28, g75 (hj := hj) (hk := hk1), g76, g79, g83, mc0, mc1, b11, b12, b13, f71, f1, tile2, st4, wholeS, fin3]

set_option maxHeartbeats 4000000 in
/-- The pooled rows after a last tile of a sequence. -/
theorem extC (c : Dev nD) (t : Fin cfg0.N) (hx : ∀ i, Real' ((show FVec Ideal S8x2048x1024 .f32 from (m ((c : Thread nD τ).loc main_arg0))) i)) (hw : ∀ i, Real' ((show FVec Ideal S1x1024x2560 .f32 from (m ((c : Thread nD τ).loc main_arg1))) i)) (h0 : ¬t.val % 4 = 0) (h1 : 1 ≤ t.val % 4) (h2 : t.val % 4 = 3) (hs : (outsAt0 m c (t.val - 1) (Nat.lt_of_le_of_lt (Nat.sub_le _ _) t.isLt)).2.2.2.2 = stateV (show FVec Ideal S8x2048x1024 .f32 from m ((c : Thread nD τ).loc main_arg0)) (show FVec Ideal S1x1024x2560 .f32 from m ((c : Thread nD τ).loc main_arg1)) (seqOf t) (kOf t 0).val) (he : k0_pay6 (View.ld (Val := Elt Ideal) (S := S528x512) (e' := .f32) (outsAt0 m c (t.val - 1) (Nat.lt_of_le_of_lt (Nat.sub_le _ _) t.isLt)).2.2.2.1 (Rect.unit ![512, 0] ![16, 512] inb_S528x512_S16x512_512_0)) = exh (show FVec Ideal S8x2048x1024 .f32 from m ((c : Thread nD τ).loc main_arg0)) (show FVec Ideal S1x1024x2560 .f32 from m ((c : Thread nD τ).loc main_arg1)) (seqOf t) (kOf t 0).val (kof7 t)) :
    (outsAt0 m c t.val t.isLt).2.2.2.1 = extV (m ((c : Thread nD τ).loc main_arg0)) (m ((c : Thread nD τ).loc main_arg1)) (seqOf t) (kOf t 0).val (kof7 t) := by
  have hj := coordLt t
  have hk0 := kof0 t
  have hk1 := kof1 t
  have hkv := kofs t
  have hk7 := kof7 t
  rw [outsAt0_C m c t h0 h1 h2]
  frame_out
  simp only [View.readCov_eq_canon', cs0, cs1, hc0, hc512, hc640, hc768, hc896, hc1024, hc1152, hc1280, hc1408, hc1536, hc1664, hc1792, hc1920, hc2048, hc2176, hc2304, hc2432]
  simp only [lx0, lx1, lc2c0, ls2c0, lc2c1, ls2c1, l4_0, l5_0, l6_0, l7_0, l8_0, l9_0, l10_0, l4_1, l5_1, l6_1, l7_1, l8_1, l9_1, l10_1, l4_2, l5_2, l6_2, l7_2, l8_2, l9_2, l10_2, l4_3, l5_3, l6_3, l7_3, l8_3, l9_3, l10_3, l11, l12, l13, p29, p30, p84, p85, p31, p38, p47, p56, p86, p96, p106, p116, p32, p39, p48, p57, p87, p97, p107, p117, p33, p40, p49, p58, p88, p98, p108, p118, p59, p99, p109, p119, p60, p61, p100, p110, p120, p121, o35 (m ((c : Thread nD τ).loc main_arg0)) (m ((c : Thread nD τ).loc main_arg1)) hx hw, o42 (m ((c : Thread nD τ).loc main_arg0)) (m ((c : Thread nD τ).loc main_arg1)) hx hw, o51 (m ((c : Thread nD τ).loc main_arg0)) (m ((c : Thread nD τ).loc main_arg1)) hx hw, o64 (m ((c : Thread nD τ).loc main_arg0)) (m ((c : Thread nD τ).loc main_arg1)) hx hw, o90 (m ((c : Thread nD τ).loc main_arg0)) (m ((c : Thread nD τ).loc main_arg1)) hx hw, o103 (m ((c : Thread nD τ).loc main_arg0)) (m ((c : Thread nD τ).loc main_arg1)) hx hw, o113 (m ((c : Thread nD τ).loc main_arg0)) (m ((c : Thread nD τ).loc main_arg1)) hx hw, o124 (m ((c : Thread nD τ).loc main_arg0)) (m ((c : Thread nD τ).loc main_arg1)) hx hw, s36 (m ((c : Thread nD τ).loc main_arg0)) (m ((c : Thread nD τ).loc main_arg1)) hx hw, s43 (m ((c : Thread nD τ).loc main_arg0)) (m ((c : Thread nD τ).loc main_arg1)) hx hw, s52 (m ((c : Thread nD τ).loc main_arg0)) (m ((c : Thread nD τ).loc main_arg1)) hx hw, s62 (m ((c : Thread nD τ).loc main_arg0)) (m ((c : Thread nD τ).loc main_arg1)) hx hw, s91 (m ((c : Thread nD τ).loc main_arg0)) (m ((c : Thread nD τ).loc main_arg1)) hx hw, s101 (m ((c : Thread nD τ).loc main_arg0)) (m ((c : Thread nD τ).loc main_arg1)) hx hw, s111 (m ((c : Thread nD τ).loc main_arg0)) (m ((c : Thread nD τ).loc main_arg1)) hx hw, s122 (m ((c : Thread nD τ).loc main_arg0)) (m ((c : Thread nD τ).loc main_arg1)) hx hw, n37 (hx := hx) (hw := hw), n46 (hx := hx) (hw := hw), n55 (hx := hx) (hw := hw), n66 (hx := hx) (hw := hw), n95 (hx := hx) (hw := hw), n105 (hx := hx) (hw := hw), n115 (hx := hx) (hw := hw), n127 (hx := hx) (hw := hw), p20, p72, whole3, hit0, hit1, hit2, hit3, skip01, skip02, skip03, skip10, skip12, skip13, skip20, skip21, skip23, skip30, skip31, skip32, sl0, sl1, sl2, sl3, sld0, sld1, sld2, sld3, w0_0, w0_1, w0_2, w0_3, read_unread_whole, hs, he, hkv, ext3 (m ((c : Thread nD τ).loc main_arg0)) (m ((c : Thread nD τ).loc main_arg1)) (seqOf t) (kOf t 0) (kOf t 1) hk7 hkv.symm, w1_0 (m ((c : Thread nD τ).loc main_arg0)) (m ((c : Thread nD τ).loc main_arg1)) (seqOf t) (kOf t 0) (kOf t 1) hk7 hkv.symm, w1_1 (m ((c : Thread nD τ).loc main_arg0)) (m ((c : Thread nD τ).loc main_arg1)) (seqOf t) (kOf t 0) (kOf t 1) hk7 hkv.symm, w1_2 (m ((c : Thread nD τ).loc main_arg0)) (m ((c : Thread nD τ).loc main_arg1)) (seqOf t) (kOf t 0) (kOf t 1) hk7 hkv.symm, w1_3 (m ((c : Thread nD τ).loc main_arg0)) (m ((c : Thread nD τ).loc main_arg1)) (seqOf t) (kOf t 0) (kOf t 1) hk7 hkv.symm, p21 _ hj (kOf t 0) hk0, p73 _ hj (kOf t 1) hk1, g23 (hj := hj) (hk := hk0), g24, g25, g28, g75 (hj := hj) (hk := hk1), g76, g79, g83, mc0, mc1, b11, b12, b13, f71, f1, tile2, st4, wholeS, fin3]

set_option maxHeartbeats 4000000 in
/-- The state after a last tile of a sequence. -/
theorem stC (c : Dev nD) (t : Fin cfg0.N) (hx : ∀ i, Real' ((show FVec Ideal S8x2048x1024 .f32 from (m ((c : Thread nD τ).loc main_arg0))) i)) (hw : ∀ i, Real' ((show FVec Ideal S1x1024x2560 .f32 from (m ((c : Thread nD τ).loc main_arg1))) i)) (h0 : ¬t.val % 4 = 0) (h1 : 1 ≤ t.val % 4) (h2 : t.val % 4 = 3) (hs : (outsAt0 m c (t.val - 1) (Nat.lt_of_le_of_lt (Nat.sub_le _ _) t.isLt)).2.2.2.2 = stateV (show FVec Ideal S8x2048x1024 .f32 from m ((c : Thread nD τ).loc main_arg0)) (show FVec Ideal S1x1024x2560 .f32 from m ((c : Thread nD τ).loc main_arg1)) (seqOf t) (kOf t 0).val) (he : k0_pay6 (View.ld (Val := Elt Ideal) (S := S528x512) (e' := .f32) (outsAt0 m c (t.val - 1) (Nat.lt_of_le_of_lt (Nat.sub_le _ _) t.isLt)).2.2.2.1 (Rect.unit ![512, 0] ![16, 512] inb_S528x512_S16x512_512_0)) = exh (show FVec Ideal S8x2048x1024 .f32 from m ((c : Thread nD τ).loc main_arg0)) (show FVec Ideal S1x1024x2560 .f32 from m ((c : Thread nD τ).loc main_arg1)) (seqOf t) (kOf t 0).val (kof7 t)) :
    (outsAt0 m c t.val t.isLt).2.2.2.2 = stateV (m ((c : Thread nD τ).loc main_arg0)) (m ((c : Thread nD τ).loc main_arg1)) (seqOf t) ((kOf t 1).val + 1) := by
  have hj := coordLt t
  have hk0 := kof0 t
  have hk1 := kof1 t
  have hkv := kofs t
  have hk7 := kof7 t
  rw [outsAt0_C m c t h0 h1 h2]
  frame_out
  simp only [View.readCov_eq_canon', cs0, cs1, hc0, hc512, hc640, hc768, hc896, hc1024, hc1152, hc1280, hc1408, hc1536, hc1664, hc1792, hc1920, hc2048, hc2176, hc2304, hc2432]
  simp only [lx0, lx1, lc2c0, ls2c0, lc2c1, ls2c1, l4_0, l5_0, l6_0, l7_0, l8_0, l9_0, l10_0, l4_1, l5_1, l6_1, l7_1, l8_1, l9_1, l10_1, l4_2, l5_2, l6_2, l7_2, l8_2, l9_2, l10_2, l4_3, l5_3, l6_3, l7_3, l8_3, l9_3, l10_3, l11, l12, l13, p29, p30, p84, p85, p31, p38, p47, p56, p86, p96, p106, p116, p32, p39, p48, p57, p87, p97, p107, p117, p33, p40, p49, p58, p88, p98, p108, p118, p59, p99, p109, p119, p60, p61, p100, p110, p120, p121, o35 (m ((c : Thread nD τ).loc main_arg0)) (m ((c : Thread nD τ).loc main_arg1)) hx hw, o42 (m ((c : Thread nD τ).loc main_arg0)) (m ((c : Thread nD τ).loc main_arg1)) hx hw, o51 (m ((c : Thread nD τ).loc main_arg0)) (m ((c : Thread nD τ).loc main_arg1)) hx hw, o64 (m ((c : Thread nD τ).loc main_arg0)) (m ((c : Thread nD τ).loc main_arg1)) hx hw, o90 (m ((c : Thread nD τ).loc main_arg0)) (m ((c : Thread nD τ).loc main_arg1)) hx hw, o103 (m ((c : Thread nD τ).loc main_arg0)) (m ((c : Thread nD τ).loc main_arg1)) hx hw, o113 (m ((c : Thread nD τ).loc main_arg0)) (m ((c : Thread nD τ).loc main_arg1)) hx hw, o124 (m ((c : Thread nD τ).loc main_arg0)) (m ((c : Thread nD τ).loc main_arg1)) hx hw, s36 (m ((c : Thread nD τ).loc main_arg0)) (m ((c : Thread nD τ).loc main_arg1)) hx hw, s43 (m ((c : Thread nD τ).loc main_arg0)) (m ((c : Thread nD τ).loc main_arg1)) hx hw, s52 (m ((c : Thread nD τ).loc main_arg0)) (m ((c : Thread nD τ).loc main_arg1)) hx hw, s62 (m ((c : Thread nD τ).loc main_arg0)) (m ((c : Thread nD τ).loc main_arg1)) hx hw, s91 (m ((c : Thread nD τ).loc main_arg0)) (m ((c : Thread nD τ).loc main_arg1)) hx hw, s101 (m ((c : Thread nD τ).loc main_arg0)) (m ((c : Thread nD τ).loc main_arg1)) hx hw, s111 (m ((c : Thread nD τ).loc main_arg0)) (m ((c : Thread nD τ).loc main_arg1)) hx hw, s122 (m ((c : Thread nD τ).loc main_arg0)) (m ((c : Thread nD τ).loc main_arg1)) hx hw, n37 (hx := hx) (hw := hw), n46 (hx := hx) (hw := hw), n55 (hx := hx) (hw := hw), n66 (hx := hx) (hw := hw), n95 (hx := hx) (hw := hw), n105 (hx := hx) (hw := hw), n115 (hx := hx) (hw := hw), n127 (hx := hx) (hw := hw), p20, p72, whole3, hit0, hit1, hit2, hit3, skip01, skip02, skip03, skip10, skip12, skip13, skip20, skip21, skip23, skip30, skip31, skip32, sl0, sl1, sl2, sl3, sld0, sld1, sld2, sld3, w0_0, w0_1, w0_2, w0_3, read_unread_whole, hs, he, hkv, ext3 (m ((c : Thread nD τ).loc main_arg0)) (m ((c : Thread nD τ).loc main_arg1)) (seqOf t) (kOf t 0) (kOf t 1) hk7 hkv.symm, w1_0 (m ((c : Thread nD τ).loc main_arg0)) (m ((c : Thread nD τ).loc main_arg1)) (seqOf t) (kOf t 0) (kOf t 1) hk7 hkv.symm, w1_1 (m ((c : Thread nD τ).loc main_arg0)) (m ((c : Thread nD τ).loc main_arg1)) (seqOf t) (kOf t 0) (kOf t 1) hk7 hkv.symm, w1_2 (m ((c : Thread nD τ).loc main_arg0)) (m ((c : Thread nD τ).loc main_arg1)) (seqOf t) (kOf t 0) (kOf t 1) hk7 hkv.symm, w1_3 (m ((c : Thread nD τ).loc main_arg0)) (m ((c : Thread nD τ).loc main_arg1)) (seqOf t) (kOf t 0) (kOf t 1) hk7 hkv.symm, p21 _ hj (kOf t 0) hk0, p73 _ hj (kOf t 1) hk1, g23 (hj := hj) (hk := hk0), g24, g25, g28, g75 (hj := hj) (hk := hk1), g76, g79, g83, mc0, mc1, b11, b12, b13, f71, f1, tile2, st4, wholeS, fin3]

set_option maxHeartbeats 4000000 in
/-- The pooled tail after a last tile of a sequence. -/
theorem histC (c : Dev nD) (t : Fin cfg0.N) (hx : ∀ i, Real' ((show FVec Ideal S8x2048x1024 .f32 from (m ((c : Thread nD τ).loc main_arg0))) i)) (hw : ∀ i, Real' ((show FVec Ideal S1x1024x2560 .f32 from (m ((c : Thread nD τ).loc main_arg1))) i)) (h0 : ¬t.val % 4 = 0) (h1 : 1 ≤ t.val % 4) (h2 : t.val % 4 = 3) (hs : (outsAt0 m c (t.val - 1) (Nat.lt_of_le_of_lt (Nat.sub_le _ _) t.isLt)).2.2.2.2 = stateV (show FVec Ideal S8x2048x1024 .f32 from m ((c : Thread nD τ).loc main_arg0)) (show FVec Ideal S1x1024x2560 .f32 from m ((c : Thread nD τ).loc main_arg1)) (seqOf t) (kOf t 0).val) (he : k0_pay6 (View.ld (Val := Elt Ideal) (S := S528x512) (e' := .f32) (outsAt0 m c (t.val - 1) (Nat.lt_of_le_of_lt (Nat.sub_le _ _) t.isLt)).2.2.2.1 (Rect.unit ![512, 0] ![16, 512] inb_S528x512_S16x512_512_0)) = exh (show FVec Ideal S8x2048x1024 .f32 from m ((c : Thread nD τ).loc main_arg0)) (show FVec Ideal S1x1024x2560 .f32 from m ((c : Thread nD τ).loc main_arg1)) (seqOf t) (kOf t 0).val (kof7 t)) :
    (outsAt0 m c t.val t.isLt).2.1 = histV (m ((c : Thread nD τ).loc main_arg0)) (m ((c : Thread nD τ).loc main_arg1)) (seqOf t) := by
  have hj := coordLt t
  have hk0 := kof0 t
  have hk1 := kof1 t
  have hkv := kofs t
  have hk7 := kof7 t
  have h6 : (kOf t 0).val = 6 := by show 2 * (t.val % 4) + 0 = 6; omega
  rw [outsAt0_C m c t h0 h1 h2]
  frame_out
  simp only [View.readCov_eq_canon', cs0, cs1, hc0, hc512, hc640, hc768, hc896, hc1024, hc1152, hc1280, hc1408, hc1536, hc1664, hc1792, hc1920, hc2048, hc2176, hc2304, hc2432]
  simp only [lx0, lx1, lc2c0, ls2c0, lc2c1, ls2c1, l4_0, l5_0, l6_0, l7_0, l8_0, l9_0, l10_0, l4_1, l5_1, l6_1, l7_1, l8_1, l9_1, l10_1, l4_2, l5_2, l6_2, l7_2, l8_2, l9_2, l10_2, l4_3, l5_3, l6_3, l7_3, l8_3, l9_3, l10_3, l11, l12, l13, p29, p30, p84, p85, p31, p38, p47, p56, p86, p96, p106, p116, p32, p39, p48, p57, p87, p97, p107, p117, p33, p40, p49, p58, p88, p98, p108, p118, p59, p99, p109, p119, p60, p61, p100, p110, p120, p121, o35 (m ((c : Thread nD τ).loc main_arg0)) (m ((c : Thread nD τ).loc main_arg1)) hx hw, o42 (m ((c : Thread nD τ).loc main_arg0)) (m ((c : Thread nD τ).loc main_arg1)) hx hw, o51 (m ((c : Thread nD τ).loc main_arg0)) (m ((c : Thread nD τ).loc main_arg1)) hx hw, o64 (m ((c : Thread nD τ).loc main_arg0)) (m ((c : Thread nD τ).loc main_arg1)) hx hw, o90 (m ((c : Thread nD τ).loc main_arg0)) (m ((c : Thread nD τ).loc main_arg1)) hx hw, o103 (m ((c : Thread nD τ).loc main_arg0)) (m ((c : Thread nD τ).loc main_arg1)) hx hw, o113 (m ((c : Thread nD τ).loc main_arg0)) (m ((c : Thread nD τ).loc main_arg1)) hx hw, o124 (m ((c : Thread nD τ).loc main_arg0)) (m ((c : Thread nD τ).loc main_arg1)) hx hw, s36 (m ((c : Thread nD τ).loc main_arg0)) (m ((c : Thread nD τ).loc main_arg1)) hx hw, s43 (m ((c : Thread nD τ).loc main_arg0)) (m ((c : Thread nD τ).loc main_arg1)) hx hw, s52 (m ((c : Thread nD τ).loc main_arg0)) (m ((c : Thread nD τ).loc main_arg1)) hx hw, s62 (m ((c : Thread nD τ).loc main_arg0)) (m ((c : Thread nD τ).loc main_arg1)) hx hw, s91 (m ((c : Thread nD τ).loc main_arg0)) (m ((c : Thread nD τ).loc main_arg1)) hx hw, s101 (m ((c : Thread nD τ).loc main_arg0)) (m ((c : Thread nD τ).loc main_arg1)) hx hw, s111 (m ((c : Thread nD τ).loc main_arg0)) (m ((c : Thread nD τ).loc main_arg1)) hx hw, s122 (m ((c : Thread nD τ).loc main_arg0)) (m ((c : Thread nD τ).loc main_arg1)) hx hw, n37 (hx := hx) (hw := hw), n46 (hx := hx) (hw := hw), n55 (hx := hx) (hw := hw), n66 (hx := hx) (hw := hw), n95 (hx := hx) (hw := hw), n105 (hx := hx) (hw := hw), n115 (hx := hx) (hw := hw), n127 (hx := hx) (hw := hw), p20, p72, whole3, hit0, hit1, hit2, hit3, skip01, skip02, skip03, skip10, skip12, skip13, skip20, skip21, skip23, skip30, skip31, skip32, sl0, sl1, sl2, sl3, sld0, sld1, sld2, sld3, w0_0, w0_1, w0_2, w0_3, read_unread_whole, hs, he, hkv, ext3 (m ((c : Thread nD τ).loc main_arg0)) (m ((c : Thread nD τ).loc main_arg1)) (seqOf t) (kOf t 0) (kOf t 1) hk7 hkv.symm, w1_0 (m ((c : Thread nD τ).loc main_arg0)) (m ((c : Thread nD τ).loc main_arg1)) (seqOf t) (kOf t 0) (kOf t 1) hk7 hkv.symm, w1_1 (m ((c : Thread nD τ).loc main_arg0)) (m ((c : Thread nD τ).loc main_arg1)) (seqOf t) (kOf t 0) (kOf t 1) hk7 hkv.symm, w1_2 (m ((c : Thread nD τ).loc main_arg0)) (m ((c : Thread nD τ).loc main_arg1)) (seqOf t) (kOf t 0) (kOf t 1) hk7 hkv.symm, w1_3 (m ((c : Thread nD τ).loc main_arg0)) (m ((c : Thread nD τ).loc main_arg1)) (seqOf t) (kOf t 0) (kOf t 1) hk7 hkv.symm, p21 _ hj (kOf t 0) hk0, p73 _ hj (kOf t 1) hk1, g23 (hj := hj) (hk := hk0), g24, g25, g28, g75 (hj := hj) (hk := hk1), g76, g79, g83, mc0, mc1, b11, b12, b13, f71, f1, tile2, st4, wholeS, fin3, tailE (m ((c : Thread nD τ).loc main_arg0)) (m ((c : Thread nD τ).loc main_arg1)) (seqOf t) (kOf t 0) hk7 h6, hist2]

set_option maxHeartbeats 4000000 in
/-- The final state after a last tile of a sequence. -/
theorem finC (c : Dev nD) (t : Fin cfg0.N) (hx : ∀ i, Real' ((show FVec Ideal S8x2048x1024 .f32 from (m ((c : Thread nD τ).loc main_arg0))) i)) (hw : ∀ i, Real' ((show FVec Ideal S1x1024x2560 .f32 from (m ((c : Thread nD τ).loc main_arg1))) i)) (h0 : ¬t.val % 4 = 0) (h1 : 1 ≤ t.val % 4) (h2 : t.val % 4 = 3) (hs : (outsAt0 m c (t.val - 1) (Nat.lt_of_le_of_lt (Nat.sub_le _ _) t.isLt)).2.2.2.2 = stateV (show FVec Ideal S8x2048x1024 .f32 from m ((c : Thread nD τ).loc main_arg0)) (show FVec Ideal S1x1024x2560 .f32 from m ((c : Thread nD τ).loc main_arg1)) (seqOf t) (kOf t 0).val) (he : k0_pay6 (View.ld (Val := Elt Ideal) (S := S528x512) (e' := .f32) (outsAt0 m c (t.val - 1) (Nat.lt_of_le_of_lt (Nat.sub_le _ _) t.isLt)).2.2.2.1 (Rect.unit ![512, 0] ![16, 512] inb_S528x512_S16x512_512_0)) = exh (show FVec Ideal S8x2048x1024 .f32 from m ((c : Thread nD τ).loc main_arg0)) (show FVec Ideal S1x1024x2560 .f32 from m ((c : Thread nD τ).loc main_arg1)) (seqOf t) (kOf t 0).val (kof7 t)) :
    (outsAt0 m c t.val t.isLt).2.2.1 = finV (m ((c : Thread nD τ).loc main_arg0)) (m ((c : Thread nD τ).loc main_arg1)) (seqOf t) ((kOf t 1).val + 1) := by
  have hj := coordLt t
  have hk0 := kof0 t
  have hk1 := kof1 t
  have hkv := kofs t
  have hk7 := kof7 t
  rw [outsAt0_C m c t h0 h1 h2]
  frame_out
  simp only [View.readCov_eq_canon', cs0, cs1, hc0, hc512, hc640, hc768, hc896, hc1024, hc1152, hc1280, hc1408, hc1536, hc1664, hc1792, hc1920, hc2048, hc2176, hc2304, hc2432]
  simp only [lx0, lx1, lc2c0, ls2c0, lc2c1, ls2c1, l4_0, l5_0, l6_0, l7_0, l8_0, l9_0, l10_0, l4_1, l5_1, l6_1, l7_1, l8_1, l9_1, l10_1, l4_2, l5_2, l6_2, l7_2, l8_2, l9_2, l10_2, l4_3, l5_3, l6_3, l7_3, l8_3, l9_3, l10_3, l11, l12, l13, p29, p30, p84, p85, p31, p38, p47, p56, p86, p96, p106, p116, p32, p39, p48, p57, p87, p97, p107, p117, p33, p40, p49, p58, p88, p98, p108, p118, p59, p99, p109, p119, p60, p61, p100, p110, p120, p121, o35 (m ((c : Thread nD τ).loc main_arg0)) (m ((c : Thread nD τ).loc main_arg1)) hx hw, o42 (m ((c : Thread nD τ).loc main_arg0)) (m ((c : Thread nD τ).loc main_arg1)) hx hw, o51 (m ((c : Thread nD τ).loc main_arg0)) (m ((c : Thread nD τ).loc main_arg1)) hx hw, o64 (m ((c : Thread nD τ).loc main_arg0)) (m ((c : Thread nD τ).loc main_arg1)) hx hw, o90 (m ((c : Thread nD τ).loc main_arg0)) (m ((c : Thread nD τ).loc main_arg1)) hx hw, o103 (m ((c : Thread nD τ).loc main_arg0)) (m ((c : Thread nD τ).loc main_arg1)) hx hw, o113 (m ((c : Thread nD τ).loc main_arg0)) (m ((c : Thread nD τ).loc main_arg1)) hx hw, o124 (m ((c : Thread nD τ).loc main_arg0)) (m ((c : Thread nD τ).loc main_arg1)) hx hw, s36 (m ((c : Thread nD τ).loc main_arg0)) (m ((c : Thread nD τ).loc main_arg1)) hx hw, s43 (m ((c : Thread nD τ).loc main_arg0)) (m ((c : Thread nD τ).loc main_arg1)) hx hw, s52 (m ((c : Thread nD τ).loc main_arg0)) (m ((c : Thread nD τ).loc main_arg1)) hx hw, s62 (m ((c : Thread nD τ).loc main_arg0)) (m ((c : Thread nD τ).loc main_arg1)) hx hw, s91 (m ((c : Thread nD τ).loc main_arg0)) (m ((c : Thread nD τ).loc main_arg1)) hx hw, s101 (m ((c : Thread nD τ).loc main_arg0)) (m ((c : Thread nD τ).loc main_arg1)) hx hw, s111 (m ((c : Thread nD τ).loc main_arg0)) (m ((c : Thread nD τ).loc main_arg1)) hx hw, s122 (m ((c : Thread nD τ).loc main_arg0)) (m ((c : Thread nD τ).loc main_arg1)) hx hw, n37 (hx := hx) (hw := hw), n46 (hx := hx) (hw := hw), n55 (hx := hx) (hw := hw), n66 (hx := hx) (hw := hw), n95 (hx := hx) (hw := hw), n105 (hx := hx) (hw := hw), n115 (hx := hx) (hw := hw), n127 (hx := hx) (hw := hw), p20, p72, whole3, hit0, hit1, hit2, hit3, skip01, skip02, skip03, skip10, skip12, skip13, skip20, skip21, skip23, skip30, skip31, skip32, sl0, sl1, sl2, sl3, sld0, sld1, sld2, sld3, w0_0, w0_1, w0_2, w0_3, read_unread_whole, hs, he, hkv, ext3 (m ((c : Thread nD τ).loc main_arg0)) (m ((c : Thread nD τ).loc main_arg1)) (seqOf t) (kOf t 0) (kOf t 1) hk7 hkv.symm, w1_0 (m ((c : Thread nD τ).loc main_arg0)) (m ((c : Thread nD τ).loc main_arg1)) (seqOf t) (kOf t 0) (kOf t 1) hk7 hkv.symm, w1_1 (m ((c : Thread nD τ).loc main_arg0)) (m ((c : Thread nD τ).loc main_arg1)) (seqOf t) (kOf t 0) (kOf t 1) hk7 hkv.symm, w1_2 (m ((c : Thread nD τ).loc main_arg0)) (m ((c : Thread nD τ).loc main_arg1)) (seqOf t) (kOf t 0) (kOf t 1) hk7 hkv.symm, w1_3 (m ((c : Thread nD τ).loc main_arg0)) (m ((c : Thread nD τ).loc main_arg1)) (seqOf t) (kOf t 0) (kOf t 1) hk7 hkv.symm, p21 _ hj (kOf t 0) hk0, p73 _ hj (kOf t 1) hk1, g23 (hj := hj) (hk := hk0), g24, g25, g28, g75 (hj := hj) (hk := hk1), g76, g79, g83, mc0, mc1, b11, b12, b13, f71, f1, tile2, st4, wholeS, fin3]

end Cert.KernelEvenIdeal.Value1
-- ==== Proof.EvenOutB.lean ====
module

public import proofs.«01_k».proof.Proof.Gen.KernelEvenIdeal.Frame
public import proofs.«01_k».proof.Proof.EvenVec
public import proofs.«01_k».proof.Proof.EvenOut0
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelEvenIdeal.Value1

open Cert.KernelEvenIdeal Cert.KernelEvenIdeal.Gen Cert.Ffn Cert.Even

variable (x : FVec Ideal S8x2048x1024 .f32) (w : FVec Ideal S1x1024x2560 .f32) (pw : FVec Ideal S1x4x128x128 .f32) (ps gn : FVec Ideal S1x512 .f32)
  (wo : FVec Ideal S1x1024x1024 .f32) (lg lb : FVec Ideal S2x1024 .f32)

variable (m : (ℓ : Loc nD τ sig) → Buf (Elt Ideal) ℓ)

set_option maxHeartbeats 4000000 in
/-- The rows after a middle tile of a sequence. -/
theorem rowB (c : Dev nD) (t : Fin cfg0.N) (hx : ∀ i, Real' ((show FVec Ideal S8x2048x1024 .f32 from (m ((c : Thread nD τ).loc main_arg0))) i)) (hw : ∀ i, Real' ((show FVec Ideal S1x1024x2560 .f32 from (m ((c : Thread nD τ).loc main_arg1))) i)) (h0 : ¬t.val % 4 = 0) (h1 : 1 ≤ t.val % 4) (h2 : ¬t.val % 4 = 3) (hs : (outsAt0 m c (t.val - 1) (Nat.lt_of_le_of_lt (Nat.sub_le _ _) t.isLt)).2.2.2.2 = stateV (show FVec Ideal S8x2048x1024 .f32 from m ((c : Thread nD τ).loc main_arg0)) (show FVec Ideal S1x1024x2560 .f32 from m ((c : Thread nD τ).loc main_arg1)) (seqOf t) (kOf t 0).val) (he : k0_pay6 (View.ld (Val := Elt Ideal) (S := S528x512) (e' := .f32) (outsAt0 m c (t.val - 1) (Nat.lt_of_le_of_lt (Nat.sub_le _ _) t.isLt)).2.2.2.1 (Rect.unit ![512, 0] ![16, 512] inb_S528x512_S16x512_512_0)) = exh (show FVec Ideal S8x2048x1024 .f32 from m ((c : Thread nD τ).loc main_arg0)) (show FVec Ideal S1x1024x2560 .f32 from m ((c : Thread nD τ).loc main_arg1)) (seqOf t) (kOf t 0).val (kof7 t)) :
    (outsAt0 m c t.val t.isLt).1 = tileV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) t := by
  have hj := coordLt t
  have hk0 := kof0 t
  have hk1 := kof1 t
  have hkv := kofs t
  have hk7 := kof7 t
  rw [outsAt0_B m c t h0 h1 h2]
  frame_out
  simp only [View.readCov_eq_canon', cs0, cs1, hc0, hc512, hc640, hc768, hc896, hc1024, hc1152, hc1280, hc1408, hc1536, hc1664, hc1792, hc1920, hc2048, hc2176, hc2304, hc2432]
  simp only [lx0, lx1, lc2c0, ls2c0, lc2c1, ls2c1, l4_0, l5_0, l6_0, l7_0, l8_0, l9_0, l10_0, l4_1, l5_1, l6_1, l7_1, l8_1, l9_1, l10_1, l4_2, l5_2, l6_2, l7_2, l8_2, l9_2, l10_2, l4_3, l5_3, l6_3, l7_3, l8_3, l9_3, l10_3, l11, l12, l13, p29, p30, p84, p85, p31, p38, p47, p56, p86, p96, p106, p116, p32, p39, p48, p57, p87, p97, p107, p117, p33, p40, p49, p58, p88, p98, p108, p118, p59, p99, p109, p119, p60, p61, p100, p110, p120, p121, o35 (m ((c : Thread nD τ).loc main_arg0)) (m ((c : Thread nD τ).loc main_arg1)) hx hw, o42 (m ((c : Thread nD τ).loc main_arg0)) (m ((c : Thread nD τ).loc main_arg1)) hx hw, o51 (m ((c : Thread nD τ).loc main_arg0)) (m ((c : Thread nD τ).loc main_arg1)) hx hw, o64 (m ((c : Thread nD τ).loc main_arg0)) (m ((c : Thread nD τ).loc main_arg1)) hx hw, o90 (m ((c : Thread nD τ).loc main_arg0)) (m ((c : Thread nD τ).loc main_arg1)) hx hw, o103 (m ((c : Thread nD τ).loc main_arg0)) (m ((c : Thread nD τ).loc main_arg1)) hx hw, o113 (m ((c : Thread nD τ).loc main_arg0)) (m ((c : Thread nD τ).loc main_arg1)) hx hw, o124 (m ((c : Thread nD τ).loc main_arg0)) (m ((c : Thread nD τ).loc main_arg1)) hx hw, s36 (m ((c : Thread nD τ).loc main_arg0)) (m ((c : Thread nD τ).loc main_arg1)) hx hw, s43 (m ((c : Thread nD τ).loc main_arg0)) (m ((c : Thread nD τ).loc main_arg1)) hx hw, s52 (m ((c : Thread nD τ).loc main_arg0)) (m ((c : Thread nD τ).loc main_arg1)) hx hw, s62 (m ((c : Thread nD τ).loc main_arg0)) (m ((c : Thread nD τ).loc main_arg1)) hx hw, s91 (m ((c : Thread nD τ).loc main_arg0)) (m ((c : Thread nD τ).loc main_arg1)) hx hw, s101 (m ((c : Thread nD τ).loc main_arg0)) (m ((c : Thread nD τ).loc main_arg1)) hx hw, s111 (m ((c : Thread nD τ).loc main_arg0)) (m ((c : Thread nD τ).loc main_arg1)) hx hw, s122 (m ((c : Thread nD τ).loc main_arg0)) (m ((c : Thread nD τ).loc main_arg1)) hx hw, n37 (hx := hx) (hw := hw), n46 (hx := hx) (hw := hw), n55 (hx := hx) (hw := hw), n66 (hx := hx) (hw := hw), n95 (hx := hx) (hw := hw), n105 (hx := hx) (hw := hw), n115 (hx := hx) (hw := hw), n127 (hx := hx) (hw := hw), p20, p72, whole3, hit0, hit1, hit2, hit3, skip01, skip02, skip03, skip10, skip12, skip13, skip20, skip21, skip23, skip30, skip31, skip32, sl0, sl1, sl2, sl3, sld0, sld1, sld2, sld3, w0_0, w0_1, w0_2, w0_3, read_unread_whole, hs, he, hkv, ext3 (m ((c : Thread nD τ).loc main_arg0)) (m ((c : Thread nD τ).loc main_arg1)) (seqOf t) (kOf t 0) (kOf t 1) hk7 hkv.symm, w1_0 (m ((c : Thread nD τ).loc main_arg0)) (m ((c : Thread nD τ).loc main_arg1)) (seqOf t) (kOf t 0) (kOf t 1) hk7 hkv.symm, w1_1 (m ((c : Thread nD τ).loc main_arg0)) (m ((c : Thread nD τ).loc main_arg1)) (seqOf t) (kOf t 0) (kOf t 1) hk7 hkv.symm, w1_2 (m ((c : Thread nD τ).loc main_arg0)) (m ((c : Thread nD τ).loc main_arg1)) (seqOf t) (kOf t 0) (kOf t 1) hk7 hkv.symm, w1_3 (m ((c : Thread nD τ).loc main_arg0)) (m ((c : Thread nD τ).loc main_arg1)) (seqOf t) (kOf t 0) (kOf t 1) hk7 hkv.symm, p21 _ hj (kOf t 0) hk0, p73 _ hj (kOf t 1) hk1, g23 (hj := hj) (hk := hk0), g24, g25, g28, g75 (hj := hj) (hk := hk1), g76, g79, g83, mc0, mc1, b11, b12, b13, f71, f1, tile2, st4, wholeS, fin3]

set_option maxHeartbeats 4000000 in
/-- The pooled rows after a middle tile of a sequence. -/
theorem extB (c : Dev nD) (t : Fin cfg0.N) (hx : ∀ i, Real' ((show FVec Ideal S8x2048x1024 .f32 from (m ((c : Thread nD τ).loc main_arg0))) i)) (hw : ∀ i, Real' ((show FVec Ideal S1x1024x2560 .f32 from (m ((c : Thread nD τ).loc main_arg1))) i)) (h0 : ¬t.val % 4 = 0) (h1 : 1 ≤ t.val % 4) (h2 : ¬t.val % 4 = 3) (hs : (outsAt0 m c (t.val - 1) (Nat.lt_of_le_of_lt (Nat.sub_le _ _) t.isLt)).2.2.2.2 = stateV (show FVec Ideal S8x2048x1024 .f32 from m ((c : Thread nD τ).loc main_arg0)) (show FVec Ideal S1x1024x2560 .f32 from m ((c : Thread nD τ).loc main_arg1)) (seqOf t) (kOf t 0).val) (he : k0_pay6 (View.ld (Val := Elt Ideal) (S := S528x512) (e' := .f32) (outsAt0 m c (t.val - 1) (Nat.lt_of_le_of_lt (Nat.sub_le _ _) t.isLt)).2.2.2.1 (Rect.unit ![512, 0] ![16, 512] inb_S528x512_S16x512_512_0)) = exh (show FVec Ideal S8x2048x1024 .f32 from m ((c : Thread nD τ).loc main_arg0)) (show FVec Ideal S1x1024x2560 .f32 from m ((c : Thread nD τ).loc main_arg1)) (seqOf t) (kOf t 0).val (kof7 t)) :
    (outsAt0 m c t.val t.isLt).2.2.2.1 = extV (m ((c : Thread nD τ).loc main_arg0)) (m ((c : Thread nD τ).loc main_arg1)) (seqOf t) (kOf t 0).val (kof7 t) := by
  have hj := coordLt t
  have hk0 := kof0 t
  have hk1 := kof1 t
  have hkv := kofs t
  have hk7 := kof7 t
  rw [outsAt0_B m c t h0 h1 h2]
  frame_out
  simp only [View.readCov_eq_canon', cs0, cs1, hc0, hc512, hc640, hc768, hc896, hc1024, hc1152, hc1280, hc1408, hc1536, hc1664, hc1792, hc1920, hc2048, hc2176, hc2304, hc2432]
  simp only [lx0, lx1, lc2c0, ls2c0, lc2c1, ls2c1, l4_0, l5_0, l6_0, l7_0, l8_0, l9_0, l10_0, l4_1, l5_1, l6_1, l7_1, l8_1, l9_1, l10_1, l4_2, l5_2, l6_2, l7_2, l8_2, l9_2, l10_2, l4_3, l5_3, l6_3, l7_3, l8_3, l9_3, l10_3, l11, l12, l13, p29, p30, p84, p85, p31, p38, p47, p56, p86, p96, p106, p116, p32, p39, p48, p57, p87, p97, p107, p117, p33, p40, p49, p58, p88, p98, p108, p118, p59, p99, p109, p119, p60, p61, p100, p110, p120, p121, o35 (m ((c : Thread nD τ).loc main_arg0)) (m ((c : Thread nD τ).loc main_arg1)) hx hw, o42 (m ((c : Thread nD τ).loc main_arg0)) (m ((c : Thread nD τ).loc main_arg1)) hx hw, o51 (m ((c : Thread nD τ).loc main_arg0)) (m ((c : Thread nD τ).loc main_arg1)) hx hw, o64 (m ((c : Thread nD τ).loc main_arg0)) (m ((c : Thread nD τ).loc main_arg1)) hx hw, o90 (m ((c : Thread nD τ).loc main_arg0)) (m ((c : Thread nD τ).loc main_arg1)) hx hw, o103 (m ((c : Thread nD τ).loc main_arg0)) (m ((c : Thread nD τ).loc main_arg1)) hx hw, o113 (m ((c : Thread nD τ).loc main_arg0)) (m ((c : Thread nD τ).loc main_arg1)) hx hw, o124 (m ((c : Thread nD τ).loc main_arg0)) (m ((c : Thread nD τ).loc main_arg1)) hx hw, s36 (m ((c : Thread nD τ).loc main_arg0)) (m ((c : Thread nD τ).loc main_arg1)) hx hw, s43 (m ((c : Thread nD τ).loc main_arg0)) (m ((c : Thread nD τ).loc main_arg1)) hx hw, s52 (m ((c : Thread nD τ).loc main_arg0)) (m ((c : Thread nD τ).loc main_arg1)) hx hw, s62 (m ((c : Thread nD τ).loc main_arg0)) (m ((c : Thread nD τ).loc main_arg1)) hx hw, s91 (m ((c : Thread nD τ).loc main_arg0)) (m ((c : Thread nD τ).loc main_arg1)) hx hw, s101 (m ((c : Thread nD τ).loc main_arg0)) (m ((c : Thread nD τ).loc main_arg1)) hx hw, s111 (m ((c : Thread nD τ).loc main_arg0)) (m ((c : Thread nD τ).loc main_arg1)) hx hw, s122 (m ((c : Thread nD τ).loc main_arg0)) (m ((c : Thread nD τ).loc main_arg1)) hx hw, n37 (hx := hx) (hw := hw), n46 (hx := hx) (hw := hw), n55 (hx := hx) (hw := hw), n66 (hx := hx) (hw := hw), n95 (hx := hx) (hw := hw), n105 (hx := hx) (hw := hw), n115 (hx := hx) (hw := hw), n127 (hx := hx) (hw := hw), p20, p72, whole3, hit0, hit1, hit2, hit3, skip01, skip02, skip03, skip10, skip12, skip13, skip20, skip21, skip23, skip30, skip31, skip32, sl0, sl1, sl2, sl3, sld0, sld1, sld2, sld3, w0_0, w0_1, w0_2, w0_3, read_unread_whole, hs, he, hkv, ext3 (m ((c : Thread nD τ).loc main_arg0)) (m ((c : Thread nD τ).loc main_arg1)) (seqOf t) (kOf t 0) (kOf t 1) hk7 hkv.symm, w1_0 (m ((c : Thread nD τ).loc main_arg0)) (m ((c : Thread nD τ).loc main_arg1)) (seqOf t) (kOf t 0) (kOf t 1) hk7 hkv.symm, w1_1 (m ((c : Thread nD τ).loc main_arg0)) (m ((c : Thread nD τ).loc main_arg1)) (seqOf t) (kOf t 0) (kOf t 1) hk7 hkv.symm, w1_2 (m ((c : Thread nD τ).loc main_arg0)) (m ((c : Thread nD τ).loc main_arg1)) (seqOf t) (kOf t 0) (kOf t 1) hk7 hkv.symm, w1_3 (m ((c : Thread nD τ).loc main_arg0)) (m ((c : Thread nD τ).loc main_arg1)) (seqOf t) (kOf t 0) (kOf t 1) hk7 hkv.symm, p21 _ hj (kOf t 0) hk0, p73 _ hj (kOf t 1) hk1, g23 (hj := hj) (hk := hk0), g24, g25, g28, g75 (hj := hj) (hk := hk1), g76, g79, g83, mc0, mc1, b11, b12, b13, f71, f1, tile2, st4, wholeS, fin3]

set_option maxHeartbeats 4000000 in
/-- The state after a middle tile of a sequence. -/
theorem stB (c : Dev nD) (t : Fin cfg0.N) (hx : ∀ i, Real' ((show FVec Ideal S8x2048x1024 .f32 from (m ((c : Thread nD τ).loc main_arg0))) i)) (hw : ∀ i, Real' ((show FVec Ideal S1x1024x2560 .f32 from (m ((c : Thread nD τ).loc main_arg1))) i)) (h0 : ¬t.val % 4 = 0) (h1 : 1 ≤ t.val % 4) (h2 : ¬t.val % 4 = 3) (hs : (outsAt0 m c (t.val - 1) (Nat.lt_of_le_of_lt (Nat.sub_le _ _) t.isLt)).2.2.2.2 = stateV (show FVec Ideal S8x2048x1024 .f32 from m ((c : Thread nD τ).loc main_arg0)) (show FVec Ideal S1x1024x2560 .f32 from m ((c : Thread nD τ).loc main_arg1)) (seqOf t) (kOf t 0).val) (he : k0_pay6 (View.ld (Val := Elt Ideal) (S := S528x512) (e' := .f32) (outsAt0 m c (t.val - 1) (Nat.lt_of_le_of_lt (Nat.sub_le _ _) t.isLt)).2.2.2.1 (Rect.unit ![512, 0] ![16, 512] inb_S528x512_S16x512_512_0)) = exh (show FVec Ideal S8x2048x1024 .f32 from m ((c : Thread nD τ).loc main_arg0)) (show FVec Ideal S1x1024x2560 .f32 from m ((c : Thread nD τ).loc main_arg1)) (seqOf t) (kOf t 0).val (kof7 t)) :
    (outsAt0 m c t.val t.isLt).2.2.2.2 = stateV (m ((c : Thread nD τ).loc main_arg0)) (m ((c : Thread nD τ).loc main_arg1)) (seqOf t) ((kOf t 1).val + 1) := by
  have hj := coordLt t
  have hk0 := kof0 t
  have hk1 := kof1 t
  have hkv := kofs t
  have hk7 := kof7 t
  rw [outsAt0_B m c t h0 h1 h2]
  frame_out
  simp only [View.readCov_eq_canon', cs0, cs1, hc0, hc512, hc640, hc768, hc896, hc1024, hc1152, hc1280, hc1408, hc1536, hc1664, hc1792, hc1920, hc2048, hc2176, hc2304, hc2432]
  simp only [lx0, lx1, lc2c0, ls2c0, lc2c1, ls2c1, l4_0, l5_0, l6_0, l7_0, l8_0, l9_0, l10_0, l4_1, l5_1, l6_1, l7_1, l8_1, l9_1, l10_1, l4_2, l5_2, l6_2, l7_2, l8_2, l9_2, l10_2, l4_3, l5_3, l6_3, l7_3, l8_3, l9_3, l10_3, l11, l12, l13, p29, p30, p84, p85, p31, p38, p47, p56, p86, p96, p106, p116, p32, p39, p48, p57, p87, p97, p107, p117, p33, p40, p49, p58, p88, p98, p108, p118, p59, p99, p109, p119, p60, p61, p100, p110, p120, p121, o35 (m ((c : Thread nD τ).loc main_arg0)) (m ((c : Thread nD τ).loc main_arg1)) hx hw, o42 (m ((c : Thread nD τ).loc main_arg0)) (m ((c : Thread nD τ).loc main_arg1)) hx hw, o51 (m ((c : Thread nD τ).loc main_arg0)) (m ((c : Thread nD τ).loc main_arg1)) hx hw, o64 (m ((c : Thread nD τ).loc main_arg0)) (m ((c : Thread nD τ).loc main_arg1)) hx hw, o90 (m ((c : Thread nD τ).loc main_arg0)) (m ((c : Thread nD τ).loc main_arg1)) hx hw, o103 (m ((c : Thread nD τ).loc main_arg0)) (m ((c : Thread nD τ).loc main_arg1)) hx hw, o113 (m ((c : Thread nD τ).loc main_arg0)) (m ((c : Thread nD τ).loc main_arg1)) hx hw, o124 (m ((c : Thread nD τ).loc main_arg0)) (m ((c : Thread nD τ).loc main_arg1)) hx hw, s36 (m ((c : Thread nD τ).loc main_arg0)) (m ((c : Thread nD τ).loc main_arg1)) hx hw, s43 (m ((c : Thread nD τ).loc main_arg0)) (m ((c : Thread nD τ).loc main_arg1)) hx hw, s52 (m ((c : Thread nD τ).loc main_arg0)) (m ((c : Thread nD τ).loc main_arg1)) hx hw, s62 (m ((c : Thread nD τ).loc main_arg0)) (m ((c : Thread nD τ).loc main_arg1)) hx hw, s91 (m ((c : Thread nD τ).loc main_arg0)) (m ((c : Thread nD τ).loc main_arg1)) hx hw, s101 (m ((c : Thread nD τ).loc main_arg0)) (m ((c : Thread nD τ).loc main_arg1)) hx hw, s111 (m ((c : Thread nD τ).loc main_arg0)) (m ((c : Thread nD τ).loc main_arg1)) hx hw, s122 (m ((c : Thread nD τ).loc main_arg0)) (m ((c : Thread nD τ).loc main_arg1)) hx hw, n37 (hx := hx) (hw := hw), n46 (hx := hx) (hw := hw), n55 (hx := hx) (hw := hw), n66 (hx := hx) (hw := hw), n95 (hx := hx) (hw := hw), n105 (hx := hx) (hw := hw), n115 (hx := hx) (hw := hw), n127 (hx := hx) (hw := hw), p20, p72, whole3, hit0, hit1, hit2, hit3, skip01, skip02, skip03, skip10, skip12, skip13, skip20, skip21, skip23, skip30, skip31, skip32, sl0, sl1, sl2, sl3, sld0, sld1, sld2, sld3, w0_0, w0_1, w0_2, w0_3, read_unread_whole, hs, he, hkv, ext3 (m ((c : Thread nD τ).loc main_arg0)) (m ((c : Thread nD τ).loc main_arg1)) (seqOf t) (kOf t 0) (kOf t 1) hk7 hkv.symm, w1_0 (m ((c : Thread nD τ).loc main_arg0)) (m ((c : Thread nD τ).loc main_arg1)) (seqOf t) (kOf t 0) (kOf t 1) hk7 hkv.symm, w1_1 (m ((c : Thread nD τ).loc main_arg0)) (m ((c : Thread nD τ).loc main_arg1)) (seqOf t) (kOf t 0) (kOf t 1) hk7 hkv.symm, w1_2 (m ((c : Thread nD τ).loc main_arg0)) (m ((c : Thread nD τ).loc main_arg1)) (seqOf t) (kOf t 0) (kOf t 1) hk7 hkv.symm, w1_3 (m ((c : Thread nD τ).loc main_arg0)) (m ((c : Thread nD τ).loc main_arg1)) (seqOf t) (kOf t 0) (kOf t 1) hk7 hkv.symm, p21 _ hj (kOf t 0) hk0, p73 _ hj (kOf t 1) hk1, g23 (hj := hj) (hk := hk0), g24, g25, g28, g75 (hj := hj) (hk := hk1), g76, g79, g83, mc0, mc1, b11, b12, b13, f71, f1, tile2, st4, wholeS, fin3]

end Cert.KernelEvenIdeal.Value1
-- ==== Proof.EvenOutA.lean ====
module

public import proofs.«01_k».proof.Proof.Gen.KernelEvenIdeal.Frame
public import proofs.«01_k».proof.Proof.EvenVec
public import proofs.«01_k».proof.Proof.EvenOut0
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelEvenIdeal.Value1

open Cert.KernelEvenIdeal Cert.KernelEvenIdeal.Gen Cert.Ffn Cert.Even

variable (x : FVec Ideal S8x2048x1024 .f32) (w : FVec Ideal S1x1024x2560 .f32) (pw : FVec Ideal S1x4x128x128 .f32) (ps gn : FVec Ideal S1x512 .f32)
  (wo : FVec Ideal S1x1024x1024 .f32) (lg lb : FVec Ideal S2x1024 .f32)

variable (m : (ℓ : Loc nD τ sig) → Buf (Elt Ideal) ℓ)

set_option maxHeartbeats 4000000 in
/-- The rows after a first tile of a sequence. -/
theorem rowA (c : Dev nD) (t : Fin cfg0.N) (hx : ∀ i, Real' ((show FVec Ideal S8x2048x1024 .f32 from (m ((c : Thread nD τ).loc main_arg0))) i)) (hw : ∀ i, Real' ((show FVec Ideal S1x1024x2560 .f32 from (m ((c : Thread nD τ).loc main_arg1))) i)) (h0 : t.val % 4 = 0) (h1 : ¬1 ≤ t.val % 4) (h2 : ¬t.val % 4 = 3) (hz5 : k0_pay5 (F := Ideal) = stateV (show FVec Ideal S8x2048x1024 .f32 from m ((c : Thread nD τ).loc main_arg0)) (show FVec Ideal S1x1024x2560 .f32 from m ((c : Thread nD τ).loc main_arg1)) (seqOf t) (kOf t 0).val) (hz4 : k0_pay4 (F := Ideal) = exh (show FVec Ideal S8x2048x1024 .f32 from m ((c : Thread nD τ).loc main_arg0)) (show FVec Ideal S1x1024x2560 .f32 from m ((c : Thread nD τ).loc main_arg1)) (seqOf t) (kOf t 0).val (kof7 t)) :
    (outsAt0 m c t.val t.isLt).1 = tileV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) t := by
  have hj := coordLt t
  have hk0 := kof0 t
  have hk1 := kof1 t
  have hkv := kofs t
  have hk7 := kof7 t
  rw [outsAt0_A m c t h0 h1 h2]
  frame_out
  simp only [View.readCov_eq_canon', cs0, cs1, hc0, hc512, hc640, hc768, hc896, hc1024, hc1152, hc1280, hc1408, hc1536, hc1664, hc1792, hc1920, hc2048, hc2176, hc2304, hc2432]
  simp only [lx0, lx1, lc2c0, ls2c0, lc2c1, ls2c1, l4_0, l5_0, l6_0, l7_0, l8_0, l9_0, l10_0, l4_1, l5_1, l6_1, l7_1, l8_1, l9_1, l10_1, l4_2, l5_2, l6_2, l7_2, l8_2, l9_2, l10_2, l4_3, l5_3, l6_3, l7_3, l8_3, l9_3, l10_3, l11, l12, l13, p29, p30, p84, p85, p31, p38, p47, p56, p86, p96, p106, p116, p32, p39, p48, p57, p87, p97, p107, p117, p33, p40, p49, p58, p88, p98, p108, p118, p59, p99, p109, p119, p60, p61, p100, p110, p120, p121, o35 (m ((c : Thread nD τ).loc main_arg0)) (m ((c : Thread nD τ).loc main_arg1)) hx hw, o42 (m ((c : Thread nD τ).loc main_arg0)) (m ((c : Thread nD τ).loc main_arg1)) hx hw, o51 (m ((c : Thread nD τ).loc main_arg0)) (m ((c : Thread nD τ).loc main_arg1)) hx hw, o64 (m ((c : Thread nD τ).loc main_arg0)) (m ((c : Thread nD τ).loc main_arg1)) hx hw, o90 (m ((c : Thread nD τ).loc main_arg0)) (m ((c : Thread nD τ).loc main_arg1)) hx hw, o103 (m ((c : Thread nD τ).loc main_arg0)) (m ((c : Thread nD τ).loc main_arg1)) hx hw, o113 (m ((c : Thread nD τ).loc main_arg0)) (m ((c : Thread nD τ).loc main_arg1)) hx hw, o124 (m ((c : Thread nD τ).loc main_arg0)) (m ((c : Thread nD τ).loc main_arg1)) hx hw, s36 (m ((c : Thread nD τ).loc main_arg0)) (m ((c : Thread nD τ).loc main_arg1)) hx hw, s43 (m ((c : Thread nD τ).loc main_arg0)) (m ((c : Thread nD τ).loc main_arg1)) hx hw, s52 (m ((c : Thread nD τ).loc main_arg0)) (m ((c : Thread nD τ).loc main_arg1)) hx hw, s62 (m ((c : Thread nD τ).loc main_arg0)) (m ((c : Thread nD τ).loc main_arg1)) hx hw, s91 (m ((c : Thread nD τ).loc main_arg0)) (m ((c : Thread nD τ).loc main_arg1)) hx hw, s101 (m ((c : Thread nD τ).loc main_arg0)) (m ((c : Thread nD τ).loc main_arg1)) hx hw, s111 (m ((c : Thread nD τ).loc main_arg0)) (m ((c : Thread nD τ).loc main_arg1)) hx hw, s122 (m ((c : Thread nD τ).loc main_arg0)) (m ((c : Thread nD τ).loc main_arg1)) hx hw, n37 (hx := hx) (hw := hw), n46 (hx := hx) (hw := hw), n55 (hx := hx) (hw := hw), n66 (hx := hx) (hw := hw), n95 (hx := hx) (hw := hw), n105 (hx := hx) (hw := hw), n115 (hx := hx) (hw := hw), n127 (hx := hx) (hw := hw), p20, p72, whole3, hit0, hit1, hit2, hit3, skip01, skip02, skip03, skip10, skip12, skip13, skip20, skip21, skip23, skip30, skip31, skip32, sl0, sl1, sl2, sl3, sld0, sld1, sld2, sld3, w0_0, w0_1, w0_2, w0_3, hkv, hz5, hz4, ext3 (m ((c : Thread nD τ).loc main_arg0)) (m ((c : Thread nD τ).loc main_arg1)) (seqOf t) (kOf t 0) (kOf t 1) hk7 hkv.symm, w1_0 (m ((c : Thread nD τ).loc main_arg0)) (m ((c : Thread nD τ).loc main_arg1)) (seqOf t) (kOf t 0) (kOf t 1) hk7 hkv.symm, w1_1 (m ((c : Thread nD τ).loc main_arg0)) (m ((c : Thread nD τ).loc main_arg1)) (seqOf t) (kOf t 0) (kOf t 1) hk7 hkv.symm, w1_2 (m ((c : Thread nD τ).loc main_arg0)) (m ((c : Thread nD τ).loc main_arg1)) (seqOf t) (kOf t 0) (kOf t 1) hk7 hkv.symm, w1_3 (m ((c : Thread nD τ).loc main_arg0)) (m ((c : Thread nD τ).loc main_arg1)) (seqOf t) (kOf t 0) (kOf t 1) hk7 hkv.symm, p21 _ hj (kOf t 0) hk0, p73 _ hj (kOf t 1) hk1, g23 (hj := hj) (hk := hk0), g24, g25, g28, g75 (hj := hj) (hk := hk1), g76, g79, g83, mc0, mc1, b11, b12, b13, f71, f1, tile2, st4, wholeS, fin3]

set_option maxHeartbeats 4000000 in
/-- The pooled rows after a first tile of a sequence. -/
theorem extA (c : Dev nD) (t : Fin cfg0.N) (hx : ∀ i, Real' ((show FVec Ideal S8x2048x1024 .f32 from (m ((c : Thread nD τ).loc main_arg0))) i)) (hw : ∀ i, Real' ((show FVec Ideal S1x1024x2560 .f32 from (m ((c : Thread nD τ).loc main_arg1))) i)) (h0 : t.val % 4 = 0) (h1 : ¬1 ≤ t.val % 4) (h2 : ¬t.val % 4 = 3) (hz5 : k0_pay5 (F := Ideal) = stateV (show FVec Ideal S8x2048x1024 .f32 from m ((c : Thread nD τ).loc main_arg0)) (show FVec Ideal S1x1024x2560 .f32 from m ((c : Thread nD τ).loc main_arg1)) (seqOf t) (kOf t 0).val) (hz4 : k0_pay4 (F := Ideal) = exh (show FVec Ideal S8x2048x1024 .f32 from m ((c : Thread nD τ).loc main_arg0)) (show FVec Ideal S1x1024x2560 .f32 from m ((c : Thread nD τ).loc main_arg1)) (seqOf t) (kOf t 0).val (kof7 t)) :
    (outsAt0 m c t.val t.isLt).2.2.2.1 = extV (m ((c : Thread nD τ).loc main_arg0)) (m ((c : Thread nD τ).loc main_arg1)) (seqOf t) (kOf t 0).val (kof7 t) := by
  have hj := coordLt t
  have hk0 := kof0 t
  have hk1 := kof1 t
  have hkv := kofs t
  have hk7 := kof7 t
  rw [outsAt0_A m c t h0 h1 h2]
  frame_out
  simp only [View.readCov_eq_canon', cs0, cs1, hc0, hc512, hc640, hc768, hc896, hc1024, hc1152, hc1280, hc1408, hc1536, hc1664, hc1792, hc1920, hc2048, hc2176, hc2304, hc2432]
  simp only [lx0, lx1, lc2c0, ls2c0, lc2c1, ls2c1, l4_0, l5_0, l6_0, l7_0, l8_0, l9_0, l10_0, l4_1, l5_1, l6_1, l7_1, l8_1, l9_1, l10_1, l4_2, l5_2, l6_2, l7_2, l8_2, l9_2, l10_2, l4_3, l5_3, l6_3, l7_3, l8_3, l9_3, l10_3, l11, l12, l13, p29, p30, p84, p85, p31, p38, p47, p56, p86, p96, p106, p116, p32, p39, p48, p57, p87, p97, p107, p117, p33, p40, p49, p58, p88, p98, p108, p118, p59, p99, p109, p119, p60, p61, p100, p110, p120, p121, o35 (m ((c : Thread nD τ).loc main_arg0)) (m ((c : Thread nD τ).loc main_arg1)) hx hw, o42 (m ((c : Thread nD τ).loc main_arg0)) (m ((c : Thread nD τ).loc main_arg1)) hx hw, o51 (m ((c : Thread nD τ).loc main_arg0)) (m ((c : Thread nD τ).loc main_arg1)) hx hw, o64 (m ((c : Thread nD τ).loc main_arg0)) (m ((c : Thread nD τ).loc main_arg1)) hx hw, o90 (m ((c : Thread nD τ).loc main_arg0)) (m ((c : Thread nD τ).loc main_arg1)) hx hw, o103 (m ((c : Thread nD τ).loc main_arg0)) (m ((c : Thread nD τ).loc main_arg1)) hx hw, o113 (m ((c : Thread nD τ).loc main_arg0)) (m ((c : Thread nD τ).loc main_arg1)) hx hw, o124 (m ((c : Thread nD τ).loc main_arg0)) (m ((c : Thread nD τ).loc main_arg1)) hx hw, s36 (m ((c : Thread nD τ).loc main_arg0)) (m ((c : Thread nD τ).loc main_arg1)) hx hw, s43 (m ((c : Thread nD τ).loc main_arg0)) (m ((c : Thread nD τ).loc main_arg1)) hx hw, s52 (m ((c : Thread nD τ).loc main_arg0)) (m ((c : Thread nD τ).loc main_arg1)) hx hw, s62 (m ((c : Thread nD τ).loc main_arg0)) (m ((c : Thread nD τ).loc main_arg1)) hx hw, s91 (m ((c : Thread nD τ).loc main_arg0)) (m ((c : Thread nD τ).loc main_arg1)) hx hw, s101 (m ((c : Thread nD τ).loc main_arg0)) (m ((c : Thread nD τ).loc main_arg1)) hx hw, s111 (m ((c : Thread nD τ).loc main_arg0)) (m ((c : Thread nD τ).loc main_arg1)) hx hw, s122 (m ((c : Thread nD τ).loc main_arg0)) (m ((c : Thread nD τ).loc main_arg1)) hx hw, n37 (hx := hx) (hw := hw), n46 (hx := hx) (hw := hw), n55 (hx := hx) (hw := hw), n66 (hx := hx) (hw := hw), n95 (hx := hx) (hw := hw), n105 (hx := hx) (hw := hw), n115 (hx := hx) (hw := hw), n127 (hx := hx) (hw := hw), p20, p72, whole3, hit0, hit1, hit2, hit3, skip01, skip02, skip03, skip10, skip12, skip13, skip20, skip21, skip23, skip30, skip31, skip32, sl0, sl1, sl2, sl3, sld0, sld1, sld2, sld3, w0_0, w0_1, w0_2, w0_3, hkv, hz5, hz4, ext3 (m ((c : Thread nD τ).loc main_arg0)) (m ((c : Thread nD τ).loc main_arg1)) (seqOf t) (kOf t 0) (kOf t 1) hk7 hkv.symm, w1_0 (m ((c : Thread nD τ).loc main_arg0)) (m ((c : Thread nD τ).loc main_arg1)) (seqOf t) (kOf t 0) (kOf t 1) hk7 hkv.symm, w1_1 (m ((c : Thread nD τ).loc main_arg0)) (m ((c : Thread nD τ).loc main_arg1)) (seqOf t) (kOf t 0) (kOf t 1) hk7 hkv.symm, w1_2 (m ((c : Thread nD τ).loc main_arg0)) (m ((c : Thread nD τ).loc main_arg1)) (seqOf t) (kOf t 0) (kOf t 1) hk7 hkv.symm, w1_3 (m ((c : Thread nD τ).loc main_arg0)) (m ((c : Thread nD τ).loc main_arg1)) (seqOf t) (kOf t 0) (kOf t 1) hk7 hkv.symm, p21 _ hj (kOf t 0) hk0, p73 _ hj (kOf t 1) hk1, g23 (hj := hj) (hk := hk0), g24, g25, g28, g75 (hj := hj) (hk := hk1), g76, g79, g83, mc0, mc1, b11, b12, b13, f71, f1, tile2, st4, wholeS, fin3]

set_option maxHeartbeats 4000000 in
/-- The state after a first tile of a sequence. -/
theorem stA (c : Dev nD) (t : Fin cfg0.N) (hx : ∀ i, Real' ((show FVec Ideal S8x2048x1024 .f32 from (m ((c : Thread nD τ).loc main_arg0))) i)) (hw : ∀ i, Real' ((show FVec Ideal S1x1024x2560 .f32 from (m ((c : Thread nD τ).loc main_arg1))) i)) (h0 : t.val % 4 = 0) (h1 : ¬1 ≤ t.val % 4) (h2 : ¬t.val % 4 = 3) (hz5 : k0_pay5 (F := Ideal) = stateV (show FVec Ideal S8x2048x1024 .f32 from m ((c : Thread nD τ).loc main_arg0)) (show FVec Ideal S1x1024x2560 .f32 from m ((c : Thread nD τ).loc main_arg1)) (seqOf t) (kOf t 0).val) (hz4 : k0_pay4 (F := Ideal) = exh (show FVec Ideal S8x2048x1024 .f32 from m ((c : Thread nD τ).loc main_arg0)) (show FVec Ideal S1x1024x2560 .f32 from m ((c : Thread nD τ).loc main_arg1)) (seqOf t) (kOf t 0).val (kof7 t)) :
    (outsAt0 m c t.val t.isLt).2.2.2.2 = stateV (m ((c : Thread nD τ).loc main_arg0)) (m ((c : Thread nD τ).loc main_arg1)) (seqOf t) ((kOf t 1).val + 1) := by
  have hj := coordLt t
  have hk0 := kof0 t
  have hk1 := kof1 t
  have hkv := kofs t
  have hk7 := kof7 t
  rw [outsAt0_A m c t h0 h1 h2]
  frame_out
  simp only [View.readCov_eq_canon', cs0, cs1, hc0, hc512, hc640, hc768, hc896, hc1024, hc1152, hc1280, hc1408, hc1536, hc1664, hc1792, hc1920, hc2048, hc2176, hc2304, hc2432]
  simp only [lx0, lx1, lc2c0, ls2c0, lc2c1, ls2c1, l4_0, l5_0, l6_0, l7_0, l8_0, l9_0, l10_0, l4_1, l5_1, l6_1, l7_1, l8_1, l9_1, l10_1, l4_2, l5_2, l6_2, l7_2, l8_2, l9_2, l10_2, l4_3, l5_3, l6_3, l7_3, l8_3, l9_3, l10_3, l11, l12, l13, p29, p30, p84, p85, p31, p38, p47, p56, p86, p96, p106, p116, p32, p39, p48, p57, p87, p97, p107, p117, p33, p40, p49, p58, p88, p98, p108, p118, p59, p99, p109, p119, p60, p61, p100, p110, p120, p121, o35 (m ((c : Thread nD τ).loc main_arg0)) (m ((c : Thread nD τ).loc main_arg1)) hx hw, o42 (m ((c : Thread nD τ).loc main_arg0)) (m ((c : Thread nD τ).loc main_arg1)) hx hw, o51 (m ((c : Thread nD τ).loc main_arg0)) (m ((c : Thread nD τ).loc main_arg1)) hx hw, o64 (m ((c : Thread nD τ).loc main_arg0)) (m ((c : Thread nD τ).loc main_arg1)) hx hw, o90 (m ((c : Thread nD τ).loc main_arg0)) (m ((c : Thread nD τ).loc main_arg1)) hx hw, o103 (m ((c : Thread nD τ).loc main_arg0)) (m ((c : Thread nD τ).loc main_arg1)) hx hw, o113 (m ((c : Thread nD τ).loc main_arg0)) (m ((c : Thread nD τ).loc main_arg1)) hx hw, o124 (m ((c : Thread nD τ).loc main_arg0)) (m ((c : Thread nD τ).loc main_arg1)) hx hw, s36 (m ((c : Thread nD τ).loc main_arg0)) (m ((c : Thread nD τ).loc main_arg1)) hx hw, s43 (m ((c : Thread nD τ).loc main_arg0)) (m ((c : Thread nD τ).loc main_arg1)) hx hw, s52 (m ((c : Thread nD τ).loc main_arg0)) (m ((c : Thread nD τ).loc main_arg1)) hx hw, s62 (m ((c : Thread nD τ).loc main_arg0)) (m ((c : Thread nD τ).loc main_arg1)) hx hw, s91 (m ((c : Thread nD τ).loc main_arg0)) (m ((c : Thread nD τ).loc main_arg1)) hx hw, s101 (m ((c : Thread nD τ).loc main_arg0)) (m ((c : Thread nD τ).loc main_arg1)) hx hw, s111 (m ((c : Thread nD τ).loc main_arg0)) (m ((c : Thread nD τ).loc main_arg1)) hx hw, s122 (m ((c : Thread nD τ).loc main_arg0)) (m ((c : Thread nD τ).loc main_arg1)) hx hw, n37 (hx := hx) (hw := hw), n46 (hx := hx) (hw := hw), n55 (hx := hx) (hw := hw), n66 (hx := hx) (hw := hw), n95 (hx := hx) (hw := hw), n105 (hx := hx) (hw := hw), n115 (hx := hx) (hw := hw), n127 (hx := hx) (hw := hw), p20, p72, whole3, hit0, hit1, hit2, hit3, skip01, skip02, skip03, skip10, skip12, skip13, skip20, skip21, skip23, skip30, skip31, skip32, sl0, sl1, sl2, sl3, sld0, sld1, sld2, sld3, w0_0, w0_1, w0_2, w0_3, hkv, hz5, hz4, ext3 (m ((c : Thread nD τ).loc main_arg0)) (m ((c : Thread nD τ).loc main_arg1)) (seqOf t) (kOf t 0) (kOf t 1) hk7 hkv.symm, w1_0 (m ((c : Thread nD τ).loc main_arg0)) (m ((c : Thread nD τ).loc main_arg1)) (seqOf t) (kOf t 0) (kOf t 1) hk7 hkv.symm, w1_1 (m ((c : Thread nD τ).loc main_arg0)) (m ((c : Thread nD τ).loc main_arg1)) (seqOf t) (kOf t 0) (kOf t 1) hk7 hkv.symm, w1_2 (m ((c : Thread nD τ).loc main_arg0)) (m ((c : Thread nD τ).loc main_arg1)) (seqOf t) (kOf t 0) (kOf t 1) hk7 hkv.symm, w1_3 (m ((c : Thread nD τ).loc main_arg0)) (m ((c : Thread nD τ).loc main_arg1)) (seqOf t) (kOf t 0) (kOf t 1) hk7 hkv.symm, p21 _ hj (kOf t 0) hk0, p73 _ hj (kOf t 1) hk1, g23 (hj := hj) (hk := hk0), g24, g25, g28, g75 (hj := hj) (hk := hk1), g76, g79, g83, mc0, mc1, b11, b12, b13, f71, f1, tile2, st4, wholeS, fin3]

end Cert.KernelEvenIdeal.Value1
-- ==== Proof.EvenInd.lean ====
module

public import proofs.«01_k».proof.Proof.Gen.KernelEvenIdeal.Frame
public import proofs.«01_k».proof.Proof.EvenVec
public import proofs.«01_k».proof.Proof.EvenOutC
public import proofs.«01_k».proof.Proof.EvenOutB
public import proofs.«01_k».proof.Proof.EvenOutA
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelEvenIdeal.Value1

open Cert.KernelEvenIdeal Cert.KernelEvenIdeal.Gen Cert.Ffn Cert.Even

variable (x : FVec Ideal S8x2048x1024 .f32) (w : FVec Ideal S1x1024x2560 .f32) (pw : FVec Ideal S1x4x128x128 .f32) (ps gn : FVec Ideal S1x512 .f32)
  (wo : FVec Ideal S1x1024x1024 .f32) (lg lb : FVec Ideal S2x1024 .f32)

variable (m : (ℓ : Loc nD τ sig) → Buf (Elt Ideal) ℓ)

/-- What the scratch holds after a tile. -/
def Inv (c : Dev nD) (t : Fin cfg0.N) : Prop :=
  (outsAt0 m c t.val t.isLt).2.2.2.2 = stateV (show FVec Ideal S8x2048x1024 .f32 from m ((c : Thread nD τ).loc main_arg0)) (show FVec Ideal S1x1024x2560 .f32 from m ((c : Thread nD τ).loc main_arg1)) (seqOf t) ((kOf t 1).val + 1)
    ∧ (outsAt0 m c t.val t.isLt).2.2.2.1 = extV (show FVec Ideal S8x2048x1024 .f32 from m ((c : Thread nD τ).loc main_arg0)) (show FVec Ideal S1x1024x2560 .f32 from m ((c : Thread nD τ).loc main_arg1)) (seqOf t) (kOf t 0).val (kof7 t)

/-- The zero state before a sequence. -/
theorem zst' (x : FVec Ideal S8x2048x1024 .f32) (w : FVec Ideal S1x1024x2560 .f32) (n : Fin 8) (N : ℕ) (h : N = 0) : k0_pay5 (F := Ideal) = stateV x w n N := by
  subst h
  exact zst x w n

/-- No pooled rows before a sequence. -/
theorem zex' (x : FVec Ideal S8x2048x1024 .f32) (w : FVec Ideal S1x1024x2560 .f32) (n : Fin 8) (N : ℕ) (hk : N < 7) (h : N = 0) : k0_pay4 (F := Ideal) = exh x w n N hk := by
  subst h
  exact zex x w n

/-- The rows carried from one tile to the next. -/
theorem carry' (x : FVec Ideal S8x2048x1024 .f32) (w : FVec Ideal S1x1024x2560 .f32) (n : Fin 8) (k N : ℕ) (hk : k < 7) (hN : N < 7) (h : N = k + 2) :
    k0_pay6 (View.ld (Val := Elt Ideal) (S := S528x512) (e' := .f32) (extV x w n k hk) (Rect.unit ![512, 0] ![16, 512] inb_S528x512_S16x512_512_0)) = exh x w n N hN := by
  subst h
  exact carry x w n k hN

/-- The state the tile before leaves is this tile's. -/
theorem prevS (c : Dev nD) (t : Fin cfg0.N) (h0 : ¬t.val % 4 = 0) (hI : Inv m c ⟨t.val - 1, (Nat.lt_of_le_of_lt (Nat.sub_le _ _) t.isLt)⟩) :
    (outsAt0 m c (t.val - 1) (Nat.lt_of_le_of_lt (Nat.sub_le _ _) t.isLt)).2.2.2.2 = stateV (show FVec Ideal S8x2048x1024 .f32 from m ((c : Thread nD τ).loc main_arg0)) (show FVec Ideal S1x1024x2560 .f32 from m ((c : Thread nD τ).loc main_arg1)) (seqOf t) (kOf t 0).val := by
  refine hI.1.trans ?_
  have e : seqOf ⟨t.val - 1, (Nat.lt_of_le_of_lt (Nat.sub_le _ _) t.isLt)⟩ = seqOf t := Fin.ext (by show (t.val - 1) / 4 = t.val / 4; omega)
  have e' : (kOf ⟨t.val - 1, (Nat.lt_of_le_of_lt (Nat.sub_le _ _) t.isLt)⟩ 1).val + 1 = (kOf t 0).val := by show 2 * ((t.val - 1) % 4) + 1 + 1 = 2 * (t.val % 4) + 0; omega
  rw [e, e']

/-- The pooled rows the tile before leaves are this tile's. -/
theorem prevE (c : Dev nD) (t : Fin cfg0.N) (h0 : ¬t.val % 4 = 0) (hI : Inv m c ⟨t.val - 1, (Nat.lt_of_le_of_lt (Nat.sub_le _ _) t.isLt)⟩) :
    k0_pay6 (View.ld (Val := Elt Ideal) (S := S528x512) (e' := .f32) (outsAt0 m c (t.val - 1) (Nat.lt_of_le_of_lt (Nat.sub_le _ _) t.isLt)).2.2.2.1 (Rect.unit ![512, 0] ![16, 512] inb_S528x512_S16x512_512_0)) = exh (show FVec Ideal S8x2048x1024 .f32 from m ((c : Thread nD τ).loc main_arg0)) (show FVec Ideal S1x1024x2560 .f32 from m ((c : Thread nD τ).loc main_arg1)) (seqOf t) (kOf t 0).val (kof7 t) := by
  have e : seqOf ⟨t.val - 1, (Nat.lt_of_le_of_lt (Nat.sub_le _ _) t.isLt)⟩ = seqOf t := Fin.ext (by show (t.val - 1) / 4 = t.val / 4; omega)
  refine (congrArg (fun z => k0_pay6 (View.ld (Val := Elt Ideal) (S := S528x512) (e' := .f32) z (Rect.unit ![512, 0] ![16, 512] inb_S528x512_S16x512_512_0))) hI.2).trans ?_
  rw [e]
  exact carry' (show FVec Ideal S8x2048x1024 .f32 from m ((c : Thread nD τ).loc main_arg0)) (show FVec Ideal S1x1024x2560 .f32 from m ((c : Thread nD τ).loc main_arg1)) (seqOf t) _ _ _ _ (by show 2 * (t.val % 4) + 0 = 2 * ((t.val - 1) % 4) + 0 + 2; omega)

/-- The scratch after every tile. -/
theorem inv (c : Dev nD) (hx : ∀ i, Real' ((show FVec Ideal S8x2048x1024 .f32 from (m ((c : Thread nD τ).loc main_arg0))) i)) (hw : ∀ i, Real' ((show FVec Ideal S1x1024x2560 .f32 from (m ((c : Thread nD τ).loc main_arg1))) i)) : ∀ (n : ℕ) (h : n < cfg0.N), Inv m c ⟨n, h⟩ := by
  intro n
  induction n with
  | zero =>
    intro h
    exact ⟨stA m c ⟨0, h⟩ hx hw (by rfl) (by show ¬1 ≤ 0 % 4; omega) (by show ¬0 % 4 = 3; omega) (zst' _ _ _ _ rfl) (zex' _ _ _ _ _ rfl),
      extA m c ⟨0, h⟩ hx hw (by rfl) (by show ¬1 ≤ 0 % 4; omega) (by show ¬0 % 4 = 3; omega) (zst' _ _ _ _ rfl) (zex' _ _ _ _ _ rfl)⟩
  | succ n ih =>
    intro h
    have hI := ih (Nat.lt_of_succ_lt h)
    by_cases h0 : (n + 1) % 4 = 0
    · have e0 : (kOf (⟨n + 1, h⟩ : Fin cfg0.N) 0).val = 0 := by show 2 * ((n + 1) % 4) + 0 = 0; omega
      exact ⟨stA m c ⟨n + 1, h⟩ hx hw h0 (by show ¬1 ≤ (n + 1) % 4; omega) (by show ¬(n + 1) % 4 = 3; omega) (zst' _ _ _ _ e0) (zex' _ _ _ _ _ e0),
        extA m c ⟨n + 1, h⟩ hx hw h0 (by show ¬1 ≤ (n + 1) % 4; omega) (by show ¬(n + 1) % 4 = 3; omega) (zst' _ _ _ _ e0) (zex' _ _ _ _ _ e0)⟩
    · by_cases h2 : (n + 1) % 4 = 3
      · exact ⟨stC m c ⟨n + 1, h⟩ hx hw h0 (by show 1 ≤ (n + 1) % 4; omega) h2 (prevS m c ⟨n + 1, h⟩ h0 hI) (prevE m c ⟨n + 1, h⟩ h0 hI),
          extC m c ⟨n + 1, h⟩ hx hw h0 (by show 1 ≤ (n + 1) % 4; omega) h2 (prevS m c ⟨n + 1, h⟩ h0 hI) (prevE m c ⟨n + 1, h⟩ h0 hI)⟩
      · exact ⟨stB m c ⟨n + 1, h⟩ hx hw h0 (by show 1 ≤ (n + 1) % 4; omega) h2 (prevS m c ⟨n + 1, h⟩ h0 hI) (prevE m c ⟨n + 1, h⟩ h0 hI),
          extB m c ⟨n + 1, h⟩ hx hw h0 (by show 1 ≤ (n + 1) % 4; omega) h2 (prevS m c ⟨n + 1, h⟩ h0 hI) (prevE m c ⟨n + 1, h⟩ h0 hI)⟩

/-- The rows of every tile. -/
theorem rows (c : Dev nD) (hx : ∀ i, Real' ((show FVec Ideal S8x2048x1024 .f32 from (m ((c : Thread nD τ).loc main_arg0))) i)) (hw : ∀ i, Real' ((show FVec Ideal S1x1024x2560 .f32 from (m ((c : Thread nD τ).loc main_arg1))) i)) (t : Fin cfg0.N) : (outsAt0 m c t.val t.isLt).1 = tileV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) t := by
  by_cases h0 : t.val % 4 = 0
  · have e0 : (kOf t 0).val = 0 := by show 2 * (t.val % 4) + 0 = 0; omega
    exact rowA m c t hx hw h0 (by omega) (by omega) (zst' _ _ _ _ e0) (zex' _ _ _ _ _ e0)
  · have hI := inv m c hx hw (t.val - 1) (Nat.lt_of_le_of_lt (Nat.sub_le _ _) t.isLt)
    by_cases h2 : t.val % 4 = 3
    · exact rowC m c t hx hw h0 (by omega) h2 (prevS m c t h0 hI) (prevE m c t h0 hI)
    · exact rowB m c t hx hw h0 (by omega) h2 (prevS m c t h0 hI) (prevE m c t h0 hI)

/-- The pooled rows a sequence ends with. -/
theorem tails (c : Dev nD) (hx : ∀ i, Real' ((show FVec Ideal S8x2048x1024 .f32 from (m ((c : Thread nD τ).loc main_arg0))) i)) (hw : ∀ i, Real' ((show FVec Ideal S1x1024x2560 .f32 from (m ((c : Thread nD τ).loc main_arg1))) i)) (t : Fin cfg0.N) (h2 : t.val % 4 = 3) : (outsAt0 m c t.val t.isLt).2.1 = histV (m ((c : Thread nD τ).loc main_arg0)) (m ((c : Thread nD τ).loc main_arg1)) (seqOf t) :=
  have h0 : ¬t.val % 4 = 0 := by omega
  histC m c t hx hw h0 (by omega) h2 (prevS m c t h0 (inv m c hx hw (t.val - 1) (Nat.lt_of_le_of_lt (Nat.sub_le _ _) t.isLt))) (prevE m c t h0 (inv m c hx hw (t.val - 1) (Nat.lt_of_le_of_lt (Nat.sub_le _ _) t.isLt)))

/-- The state a sequence ends with. -/
theorem fins (c : Dev nD) (hx : ∀ i, Real' ((show FVec Ideal S8x2048x1024 .f32 from (m ((c : Thread nD τ).loc main_arg0))) i)) (hw : ∀ i, Real' ((show FVec Ideal S1x1024x2560 .f32 from (m ((c : Thread nD τ).loc main_arg1))) i)) (t : Fin cfg0.N) (h2 : t.val % 4 = 3) : (outsAt0 m c t.val t.isLt).2.2.1 = finV (m ((c : Thread nD τ).loc main_arg0)) (m ((c : Thread nD τ).loc main_arg1)) (seqOf t) ((kOf t 1).val + 1) :=
  have h0 : ¬t.val % 4 = 0 := by omega
  finC m c t hx hw h0 (by omega) h2 (prevS m c t h0 (inv m c hx hw (t.val - 1) (Nat.lt_of_le_of_lt (Nat.sub_le _ _) t.isLt))) (prevE m c t h0 (inv m c hx hw (t.val - 1) (Nat.lt_of_le_of_lt (Nat.sub_le _ _) t.isLt)))

end Cert.KernelEvenIdeal.Value1
-- ==== Proof.EvenFinal.lean ====
module

public import proofs.«01_k».proof.Proof.Gen.KernelEvenIdeal.Frame
public import proofs.«01_k».proof.Proof.EvenVec
public import proofs.«01_k».proof.Proof.EvenRes
public import proofs.«01_k».proof.Proof.EvenInd
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelEvenIdeal.Value1

open Cert.KernelEvenIdeal Cert.KernelEvenIdeal.Gen Cert.Ffn Cert.Even

variable (x : FVec Ideal S8x2048x1024 .f32) (w : FVec Ideal S1x1024x2560 .f32) (pw : FVec Ideal S1x4x128x128 .f32) (ps gn : FVec Ideal S1x512 .f32)
  (wo : FVec Ideal S1x1024x1024 .f32) (lg lb : FVec Ideal S2x1024 .f32)

variable (m : (ℓ : Loc nD τ sig) → Buf (Elt Ideal) ℓ)

/-- The mixer's rows after the run. -/
theorem final14 (c : Dev nD) (hx : ∀ i, Real' ((show FVec Ideal S8x2048x1024 .f32 from (m ((c : Thread nD τ).loc main_arg0))) i)) (hw : ∀ i, Real' ((show FVec Ideal S1x1024x2560 .f32 from (m ((c : Thread nD τ).loc main_arg1))) i)) : (dats m 0 c).arrAt 14 (cfgs 0).N = evenRes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 14 _ (by decide +kernel) fun t hf y => ?_
  have key : ∀ (r : Fin 512) (j : Fin 1024) (i : S16384x1024.Idx), (i 0).val = 512 * t.val + r.val → (i 1).val = j.val →
      (outsAt0 m c t.val t.isLt).1 (ix2 r j) = evenRes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i := fun r j i h0 h1 =>
    (congrFun (rows m c hx hw t) (ix2 r j)).trans (evenRes_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i (seqOf t) (tokOf t r) j
      (by show (i 0).val = 2048 * (t.val / 4) + (512 * (t.val % 4) + r.val); omega) h1).symm
  blk_simp
  rw [after0_14]
  refine (congrArg _ (eq_ix2 y)).trans (key (y 0) (y 1) _ ?_ ?_)
  · blk_simp [idx t]; omega
  · blk_simp [idx t]

/-- The pooled rows handed out, after the run. -/
theorem final15 (c : Dev nD) (hx : ∀ i, Real' ((show FVec Ideal S8x2048x1024 .f32 from (m ((c : Thread nD τ).loc main_arg0))) i)) (hw : ∀ i, Real' ((show FVec Ideal S1x1024x2560 .f32 from (m ((c : Thread nD τ).loc main_arg1))) i)) : (dats m 0 c).arrAt 15 (cfgs 0).N = histRes (m ((c : Thread nD τ).loc main_arg0)) (m ((c : Thread nD τ).loc main_arg1)) := by
  refine (dats m 0 c).arrAt_eq_of_covers 15 _ (by decide +kernel) fun t hf y => ?_
  have hm : t.val % 4 = 3 := (flush0_15 t).mp hf
  have key : ∀ (s : Fin 15) (d : Fin 512) (i : S8x15x512.Idx), (i 0).val = t.val / 4 → (i 1).val = s.val → (i 2).val = d.val →
      (outsAt0 m c t.val t.isLt).2.1 (ix3 0 s d) = histRes (m ((c : Thread nD τ).loc main_arg0)) (m ((c : Thread nD τ).loc main_arg1)) i := fun s d i h0 h1 h2 =>
    (congrFun (tails m c hx hw t hm) (ix3 0 s d)).trans (histRes_at (m ((c : Thread nD τ).loc main_arg0)) (m ((c : Thread nD τ).loc main_arg1)) i (seqOf t) _ _ h0 (by show 2033 + (i 1).val = 2033 + s.val; omega) h2).symm
  blk_simp
  rw [after0_15]
  have hy : y = ix3 0 (y 1) (y 2) := (eq_ix3 y).trans ((ix3_inj ..).2 ⟨Subsingleton.elim _ _, rfl, rfl⟩)
  refine (congrArg _ hy).trans (key (y 1) (y 2) _ ?_ ?_ ?_)
  · blk_simp [idx t]
  · blk_simp [idx t]
  · blk_simp [idx t]

/-- The retention state handed out, after the run. -/
theorem final16 (c : Dev nD) (hx : ∀ i, Real' ((show FVec Ideal S8x2048x1024 .f32 from (m ((c : Thread nD τ).loc main_arg0))) i)) (hw : ∀ i, Real' ((show FVec Ideal S1x1024x2560 .f32 from (m ((c : Thread nD τ).loc main_arg1))) i)) : (dats m 0 c).arrAt 16 (cfgs 0).N = stRes (m ((c : Thread nD τ).loc main_arg0)) (m ((c : Thread nD τ).loc main_arg1)) := by
  refine (dats m 0 c).arrAt_eq_of_covers 16 _ (by decide +kernel) fun t hf y => ?_
  have hm : t.val % 4 = 3 := (flush0_16 t).mp hf
  have e8 : 256 * ((kOf t 1).val + 1) = 2048 := by show 256 * (2 * (t.val % 4) + 1 + 1) = 2048; omega
  have key : ∀ (h : Fin 4) (d e : Fin 128) (i : S8x4x128x128.Idx), (i 0).val = t.val / 4 → (i 1).val = h.val → (i 2).val = d.val → (i 3).val = e.val →
      (outsAt0 m c t.val t.isLt).2.2.1 (ix4 0 h d e) = stRes (m ((c : Thread nD τ).loc main_arg0)) (m ((c : Thread nD τ).loc main_arg1)) i := fun h d e i h0 h1 h2 h3 =>
    (congrFun (fins m c hx hw t hm) (ix4 0 h d e)).trans ((congrArg (fun N => stE (m ((c : Thread nD τ).loc main_arg0)) (m ((c : Thread nD τ).loc main_arg1)) (seqOf t) h N d e) e8).trans
      ((state_num (m ((c : Thread nD τ).loc main_arg0)) (m ((c : Thread nD τ).loc main_arg1)) hx hw (seqOf t) h d e).symm.trans (stRes_at (m ((c : Thread nD τ).loc main_arg0)) (m ((c : Thread nD τ).loc main_arg1)) i (seqOf t) h d e h0 h1 h2 h3).symm))
  blk_simp
  rw [after0_16]
  have hy : y = ix4 0 (y 1) (y 2) (y 3) := (eq_ix4 y).trans ((ix4_inj ..).2 ⟨Subsingleton.elim _ _, rfl, rfl, rfl⟩)
  refine (congrArg _ hy).trans (key (y 1) (y 2) (y 3) _ ?_ ?_ ?_ ?_)
  · blk_simp [idx t]
  · blk_simp [idx t]
  · blk_simp [idx t]
  · blk_simp [idx t]

end Cert.KernelEvenIdeal.Value1
-- ==== Proof.EvenRef.lean ====
module

public import proofs.«01_k».proof.Proof.Gen.ReferenceEvenIdeal.Read
public import proofs.«01_k».proof.Proof.EvenSpec
public import Idealize.ShloMosaic.Lib.Pointwise

@[expose] public section

set_option maxRecDepth 16384

noncomputable section

open Idealize.ShloMosaic Idealize.ShloMosaic.TcCoe Idealize.SL.Sem

namespace Cert.ReferenceEvenIdeal.Value1

open Cert.ReferenceEvenIdeal Cert.ReferenceEvenIdeal.Gen Cert.ReferenceEvenIdeal.Read Cert.Ffn Cert.Even

/-- The input projection, at a token and a column. -/
theorem h_at (x0 : FVec Ideal S8x2048x1024 .f32) (x1 : FVec Ideal S1x1024x2560 .f32) (n : Fin 8) (l : Fin 2048) (c : Fin 2560) :
    val_main_v1 (F := Ideal) x0 x1 (ix3 n l c) = hAt x0 x1 n l c := by
  pointwise [val_main_v0, val_main_v1, hAt]

/-- The pooled part of the projection after the zero history. -/
theorem ext_at (x0 : FVec Ideal S8x2048x1024 .f32) (x1 : FVec Ideal S1x1024x2560 .f32) (n : Fin 8) (p : Fin 2063) (c : Fin 512) :
    val_main_v14 (F := Ideal) x0 x1 (ix3 n p c) = if h : 15 ≤ p.val then hAt x0 x1 n ⟨p.val - 15, by omega⟩ ⟨c.val, by omega⟩ else 0 := by
  have e : val_main_v14 (F := Ideal) x0 x1 (ix3 n p c)
      = if h : 15 ≤ p.val then val_main_v1 (F := Ideal) x0 x1 (ix3 n ⟨p.val - 15, by omega⟩ ⟨c.val, by omega⟩) else 0 := by
    pointwise [val_main_v14, val_main_v10, val_main_v2, val_main_cst]
    by_cases h : p.val < 15
    · rw [dif_pos h, dif_neg (by omega)]
    · rw [dif_neg h, dif_pos (by omega)]
  rw [e]
  by_cases h : 15 ≤ p.val
  · rw [dif_pos h, dif_pos h, h_at]
  · rw [dif_neg h, dif_neg h]

/-- The row `i` tokens earlier. -/
theorem back_at (x0 : FVec Ideal S8x2048x1024 .f32) (x1 : FVec Ideal S1x1024x2560 .f32) (n : Fin 8) (l : Fin 2048) (c c' : Fin 512) (hc : c'.val = c.val) (i : ℕ) (hi : i ≤ 15) (p : Fin 2063)
    (hp : p.val = 15 - i + l.val) : val_main_v14 (F := Ideal) x0 x1 (ix3 n p c') = backAt x0 x1 n l c i := by
  obtain rfl : c' = c := Fin.ext hc
  rw [ext_at]
  unfold backAt
  by_cases h : i ≤ l.val
  · rw [dif_pos (by omega), dif_pos h]
    exact congrArg (fun m => hAt x0 x1 n m _) (Fin.ext (by show p.val - 15 = l.val - i; omega))
  · rw [dif_neg (by omega), dif_neg h]

/-- The present row. -/
theorem u_at (x0 : FVec Ideal S8x2048x1024 .f32) (x1 : FVec Ideal S1x1024x2560 .f32) (n : Fin 8) (l : Fin 2048) (c c' : Fin 512) (hc : c'.val = c.val) :
    val_main_v2 (F := Ideal) x0 x1 (ix3 n l c') = backAt x0 x1 n l c 0 := by
  obtain rfl : c' = c := Fin.ext hc
  have e : val_main_v2 (F := Ideal) x0 x1 (ix3 n l c') = val_main_v1 (F := Ideal) x0 x1 (ix3 n l ⟨c'.val, by omega⟩) := by
    pointwise [val_main_v2]
  rw [e, h_at]
  rfl

/-- Pooling group 0: the mean of the last 2 rows less the present one. -/
theorem row0_at (x0 : FVec Ideal S8x2048x1024 .f32) (x1 : FVec Ideal S1x1024x2560 .f32) (n : Fin 8) (l : Fin 2048) (c : Fin 128) :
    val_main_v26 (F := Ideal) x0 x1 (ix3 n l c)
      = poolRow (Ideal.ofBits .f32 0x40000000#32) 1 ((l.val : ℝ) : EReal) (backAt x0 x1 n l ⟨128 * ((0 : Fin 4)).val + c.val, by show 128 * 0 + c.val < 512; omega⟩) := by
  have e : val_main_v26 (F := Ideal) x0 x1 (ix3 n l c)
      = Ideal.div (val_main_v14 (F := Ideal) x0 x1 (ix3 n ⟨15 + l.val, by omega⟩ ⟨0 + c.val, by omega⟩) + val_main_v14 (F := Ideal) x0 x1 (ix3 n ⟨14 + l.val, by omega⟩ ⟨0 + c.val, by omega⟩))
          (min (Ideal.ofBits .f32 0x40000000#32) (((l.val : ℝ) : EReal) + 1)) - val_main_v2 (F := Ideal) x0 x1 (ix3 n l ⟨0 + c.val, by omega⟩) := by
    pointwise [val_main_v15, val_main_v16, val_main_v17, val_main_v18, val_main_v19, val_main_v20, val_main_v21, val_main_v22, val_main_v23, val_main_v24, val_main_v25, val_main_v26, val_main_cst_0, val_main_cst_1, val_main_v13]
    rw [pos_eq _ l.isLt]
  rw [e]
  exact congrArg₂ (fun a b => Ideal.div a _ - b) (Ideal.add_congr (back_at x0 x1 n l _ _ rfl 0 (by decide) _ (by show 15 + l.val = 15 - 0 + l.val; omega)) (back_at x0 x1 n l _ _ rfl 1 (by decide) _ (by show 14 + l.val = 15 - 1 + l.val; omega))) (u_at x0 x1 n l _ _ rfl)

/-- Pooling group 1: the mean of the last 4 rows less the present one. -/
theorem row1_at (x0 : FVec Ideal S8x2048x1024 .f32) (x1 : FVec Ideal S1x1024x2560 .f32) (n : Fin 8) (l : Fin 2048) (c : Fin 128) :
    val_main_v45 (F := Ideal) x0 x1 (ix3 n l c)
      = poolRow (Ideal.ofBits .f32 0x40800000#32) 3 ((l.val : ℝ) : EReal) (backAt x0 x1 n l ⟨128 * ((1 : Fin 4)).val + c.val, by show 128 * 1 + c.val < 512; omega⟩) := by
  have e : val_main_v45 (F := Ideal) x0 x1 (ix3 n l c)
      = Ideal.div (val_main_v14 (F := Ideal) x0 x1 (ix3 n ⟨15 + l.val, by omega⟩ ⟨128 + c.val, by omega⟩) + val_main_v14 (F := Ideal) x0 x1 (ix3 n ⟨14 + l.val, by omega⟩ ⟨128 + c.val, by omega⟩) + val_main_v14 (F := Ideal) x0 x1 (ix3 n ⟨13 + l.val, by omega⟩ ⟨128 + c.val, by omega⟩) + val_main_v14 (F := Ideal) x0 x1 (ix3 n ⟨12 + l.val, by omega⟩ ⟨128 + c.val, by omega⟩))
          (min (Ideal.ofBits .f32 0x40800000#32) (((l.val : ℝ) : EReal) + 1)) - val_main_v2 (F := Ideal) x0 x1 (ix3 n l ⟨128 + c.val, by omega⟩) := by
    pointwise [val_main_v30, val_main_v31, val_main_v32, val_main_v33, val_main_v34, val_main_v35, val_main_v36, val_main_v37, val_main_v38, val_main_v39, val_main_v40, val_main_v41, val_main_v42, val_main_v43, val_main_v44, val_main_v45, val_main_cst_2, val_main_cst_3, val_main_v13]
    rw [pos_eq _ l.isLt]
  rw [e]
  exact congrArg₂ (fun a b => Ideal.div a _ - b) (Ideal.add_congr (Ideal.add_congr (Ideal.add_congr (back_at x0 x1 n l _ _ rfl 0 (by decide) _ (by show 15 + l.val = 15 - 0 + l.val; omega)) (back_at x0 x1 n l _ _ rfl 1 (by decide) _ (by show 14 + l.val = 15 - 1 + l.val; omega))) (back_at x0 x1 n l _ _ rfl 2 (by decide) _ (by show 13 + l.val = 15 - 2 + l.val; omega))) (back_at x0 x1 n l _ _ rfl 3 (by decide) _ (by show 12 + l.val = 15 - 3 + l.val; omega))) (u_at x0 x1 n l _ _ rfl)

/-- Pooling group 2: the mean of the last 8 rows less the present one. -/
theorem row2_at (x0 : FVec Ideal S8x2048x1024 .f32) (x1 : FVec Ideal S1x1024x2560 .f32) (n : Fin 8) (l : Fin 2048) (c : Fin 128) :
    val_main_v72 (F := Ideal) x0 x1 (ix3 n l c)
      = poolRow (Ideal.ofBits .f32 0x41000000#32) 7 ((l.val : ℝ) : EReal) (backAt x0 x1 n l ⟨128 * ((2 : Fin 4)).val + c.val, by show 128 * 2 + c.val < 512; omega⟩) := by
  have e : val_main_v72 (F := Ideal) x0 x1 (ix3 n l c)
      = Ideal.div (val_main_v14 (F := Ideal) x0 x1 (ix3 n ⟨15 + l.val, by omega⟩ ⟨256 + c.val, by omega⟩) + val_main_v14 (F := Ideal) x0 x1 (ix3 n ⟨14 + l.val, by omega⟩ ⟨256 + c.val, by omega⟩) + val_main_v14 (F := Ideal) x0 x1 (ix3 n ⟨13 + l.val, by omega⟩ ⟨256 + c.val, by omega⟩) + val_main_v14 (F := Ideal) x0 x1 (ix3 n ⟨12 + l.val, by omega⟩ ⟨256 + c.val, by omega⟩) + val_main_v14 (F := Ideal) x0 x1 (ix3 n ⟨11 + l.val, by omega⟩ ⟨256 + c.val, by omega⟩) + val_main_v14 (F := Ideal) x0 x1 (ix3 n ⟨10 + l.val, by omega⟩ ⟨256 + c.val, by omega⟩) + val_main_v14 (F := Ideal) x0 x1 (ix3 n ⟨9 + l.val, by omega⟩ ⟨256 + c.val, by omega⟩) + val_main_v14 (F := Ideal) x0 x1 (ix3 n ⟨8 + l.val, by omega⟩ ⟨256 + c.val, by omega⟩))
          (min (Ideal.ofBits .f32 0x41000000#32) (((l.val : ℝ) : EReal) + 1)) - val_main_v2 (F := Ideal) x0 x1 (ix3 n l ⟨256 + c.val, by omega⟩) := by
    pointwise [val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_cst_4, val_main_cst_5, val_main_v13]
    rw [pos_eq _ l.isLt]
  rw [e]
  exact congrArg₂ (fun a b => Ideal.div a _ - b) (Ideal.add_congr (Ideal.add_congr (Ideal.add_congr (Ideal.add_congr (Ideal.add_congr (Ideal.add_congr (Ideal.add_congr (back_at x0 x1 n l _ _ rfl 0 (by decide) _ (by show 15 + l.val = 15 - 0 + l.val; omega)) (back_at x0 x1 n l _ _ rfl 1 (by decide) _ (by show 14 + l.val = 15 - 1 + l.val; omega))) (back_at x0 x1 n l _ _ rfl 2 (by decide) _ (by show 13 + l.val = 15 - 2 + l.val; omega))) (back_at x0 x1 n l _ _ rfl 3 (by decide) _ (by show 12 + l.val = 15 - 3 + l.val; omega))) (back_at x0 x1 n l _ _ rfl 4 (by decide) _ (by show 11 + l.val = 15 - 4 + l.val; omega))) (back_at x0 x1 n l _ _ rfl 5 (by decide) _ (by show 10 + l.val = 15 - 5 + l.val; omega))) (back_at x0 x1 n l _ _ rfl 6 (by decide) _ (by show 9 + l.val = 15 - 6 + l.val; omega))) (back_at x0 x1 n l _ _ rfl 7 (by decide) _ (by show 8 + l.val = 15 - 7 + l.val; omega))) (u_at x0 x1 n l _ _ rfl)

/-- Pooling group 3: the mean of the last 16 rows less the present one. -/
theorem row3_at (x0 : FVec Ideal S8x2048x1024 .f32) (x1 : FVec Ideal S1x1024x2560 .f32) (n : Fin 8) (l : Fin 2048) (c : Fin 128) :
    val_main_v115 (F := Ideal) x0 x1 (ix3 n l c)
      = poolRow (Ideal.ofBits .f32 0x41800000#32) 15 ((l.val : ℝ) : EReal) (backAt x0 x1 n l ⟨128 * ((3 : Fin 4)).val + c.val, by show 128 * 3 + c.val < 512; omega⟩) := by
  have e : val_main_v115 (F := Ideal) x0 x1 (ix3 n l c)
      = Ideal.div (val_main_v14 (F := Ideal) x0 x1 (ix3 n ⟨15 + l.val, by omega⟩ ⟨384 + c.val, by omega⟩) + val_main_v14 (F := Ideal) x0 x1 (ix3 n ⟨14 + l.val, by omega⟩ ⟨384 + c.val, by omega⟩) + val_main_v14 (F := Ideal) x0 x1 (ix3 n ⟨13 + l.val, by omega⟩ ⟨384 + c.val, by omega⟩) + val_main_v14 (F := Ideal) x0 x1 (ix3 n ⟨12 + l.val, by omega⟩ ⟨384 + c.val, by omega⟩) + val_main_v14 (F := Ideal) x0 x1 (ix3 n ⟨11 + l.val, by omega⟩ ⟨384 + c.val, by omega⟩) + val_main_v14 (F := Ideal) x0 x1 (ix3 n ⟨10 + l.val, by omega⟩ ⟨384 + c.val, by omega⟩) + val_main_v14 (F := Ideal) x0 x1 (ix3 n ⟨9 + l.val, by omega⟩ ⟨384 + c.val, by omega⟩) + val_main_v14 (F := Ideal) x0 x1 (ix3 n ⟨8 + l.val, by omega⟩ ⟨384 + c.val, by omega⟩) + val_main_v14 (F := Ideal) x0 x1 (ix3 n ⟨7 + l.val, by omega⟩ ⟨384 + c.val, by omega⟩) + val_main_v14 (F := Ideal) x0 x1 (ix3 n ⟨6 + l.val, by omega⟩ ⟨384 + c.val, by omega⟩) + val_main_v14 (F := Ideal) x0 x1 (ix3 n ⟨5 + l.val, by omega⟩ ⟨384 + c.val, by omega⟩) + val_main_v14 (F := Ideal) x0 x1 (ix3 n ⟨4 + l.val, by omega⟩ ⟨384 + c.val, by omega⟩) + val_main_v14 (F := Ideal) x0 x1 (ix3 n ⟨3 + l.val, by omega⟩ ⟨384 + c.val, by omega⟩) + val_main_v14 (F := Ideal) x0 x1 (ix3 n ⟨2 + l.val, by omega⟩ ⟨384 + c.val, by omega⟩) + val_main_v14 (F := Ideal) x0 x1 (ix3 n ⟨1 + l.val, by omega⟩ ⟨384 + c.val, by omega⟩) + val_main_v14 (F := Ideal) x0 x1 (ix3 n ⟨0 + l.val, by omega⟩ ⟨384 + c.val, by omega⟩))
          (min (Ideal.ofBits .f32 0x41800000#32) (((l.val : ℝ) : EReal) + 1)) - val_main_v2 (F := Ideal) x0 x1 (ix3 n l ⟨384 + c.val, by omega⟩) := by
    pointwise [val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_cst_6, val_main_cst_7, val_main_v13]
    rw [pos_eq _ l.isLt]
  rw [e]
  exact congrArg₂ (fun a b => Ideal.div a _ - b) (Ideal.add_congr (Ideal.add_congr (Ideal.add_congr (Ideal.add_congr (Ideal.add_congr (Ideal.add_congr (Ideal.add_congr (Ideal.add_congr (Ideal.add_congr (Ideal.add_congr (Ideal.add_congr (Ideal.add_congr (Ideal.add_congr (Ideal.add_congr (Ideal.add_congr (back_at x0 x1 n l _ _ rfl 0 (by decide) _ (by show 15 + l.val = 15 - 0 + l.val; omega)) (back_at x0 x1 n l _ _ rfl 1 (by decide) _ (by show 14 + l.val = 15 - 1 + l.val; omega))) (back_at x0 x1 n l _ _ rfl 2 (by decide) _ (by show 13 + l.val = 15 - 2 + l.val; omega))) (back_at x0 x1 n l _ _ rfl 3 (by decide) _ (by show 12 + l.val = 15 - 3 + l.val; omega))) (back_at x0 x1 n l _ _ rfl 4 (by decide) _ (by show 11 + l.val = 15 - 4 + l.val; omega))) (back_at x0 x1 n l _ _ rfl 5 (by decide) _ (by show 10 + l.val = 15 - 5 + l.val; omega))) (back_at x0 x1 n l _ _ rfl 6 (by decide) _ (by show 9 + l.val = 15 - 6 + l.val; omega))) (back_at x0 x1 n l _ _ rfl 7 (by decide) _ (by show 8 + l.val = 15 - 7 + l.val; omega))) (back_at x0 x1 n l _ _ rfl 8 (by decide) _ (by show 7 + l.val = 15 - 8 + l.val; omega))) (back_at x0 x1 n l _ _ rfl 9 (by decide) _ (by show 6 + l.val = 15 - 9 + l.val; omega))) (back_at x0 x1 n l _ _ rfl 10 (by decide) _ (by show 5 + l.val = 15 - 10 + l.val; omega))) (back_at x0 x1 n l _ _ rfl 11 (by decide) _ (by show 4 + l.val = 15 - 11 + l.val; omega))) (back_at x0 x1 n l _ _ rfl 12 (by decide) _ (by show 3 + l.val = 15 - 12 + l.val; omega))) (back_at x0 x1 n l _ _ rfl 13 (by decide) _ (by show 2 + l.val = 15 - 13 + l.val; omega))) (back_at x0 x1 n l _ _ rfl 14 (by decide) _ (by show 1 + l.val = 15 - 14 + l.val; omega))) (back_at x0 x1 n l _ _ rfl 15 (by decide) _ (by show 0 + l.val = 15 - 15 + l.val; omega))) (u_at x0 x1 n l _ _ rfl)

/-- Pooling group 0: one column of its product, scaled. -/
theorem pool0_at (x0 : FVec Ideal S8x2048x1024 .f32) (x1 : FVec Ideal S1x1024x2560 .f32) (x2 : FVec Ideal S1x4x128x128 .f32) (x3 : FVec Ideal S1x512 .f32) (n : Fin 8) (l : Fin 2048) (e : Fin 128) (c : Fin 512) (hc : c.val = 0 + e.val) :
    val_main_v29 (F := Ideal) x0 x1 x2 (ix3 n l e) * x3 (ix2 0 c)
      = poolAt x0 x1 x2 x3 (Ideal.ofBits .f32 0x40000000#32) 1 0 n l e := by
  have q : val_main_v29 (F := Ideal) x0 x1 x2 (ix3 n l e)
      = ∑ c : Fin 128, val_main_v26 (F := Ideal) x0 x1 (ix3 n l c) * x2 (ix4 0 0 c e) := by
    pointwise [val_main_v27, val_main_v28, val_main_v29, val_main_v11]
  rw [q]
  unfold poolAt
  exact Ideal.mul_congr (Finset.sum_congr rfl fun c _ => Ideal.mul_congr (row0_at x0 x1 n l c) rfl)
    (congrArg (fun c => x3 (ix2 0 c)) (Fin.ext (by show c.val = 128 * 0 + e.val; omega)))

/-- Pooling group 1: one column of its product, scaled. -/
theorem pool1_at (x0 : FVec Ideal S8x2048x1024 .f32) (x1 : FVec Ideal S1x1024x2560 .f32) (x2 : FVec Ideal S1x4x128x128 .f32) (x3 : FVec Ideal S1x512 .f32) (n : Fin 8) (l : Fin 2048) (e : Fin 128) (c : Fin 512) (hc : c.val = 128 + e.val) :
    val_main_v48 (F := Ideal) x0 x1 x2 (ix3 n l e) * x3 (ix2 0 c)
      = poolAt x0 x1 x2 x3 (Ideal.ofBits .f32 0x40800000#32) 3 1 n l e := by
  have q : val_main_v48 (F := Ideal) x0 x1 x2 (ix3 n l e)
      = ∑ c : Fin 128, val_main_v45 (F := Ideal) x0 x1 (ix3 n l c) * x2 (ix4 0 1 c e) := by
    pointwise [val_main_v46, val_main_v47, val_main_v48, val_main_v11]
  rw [q]
  unfold poolAt
  exact Ideal.mul_congr (Finset.sum_congr rfl fun c _ => Ideal.mul_congr (row1_at x0 x1 n l c) rfl)
    (congrArg (fun c => x3 (ix2 0 c)) (Fin.ext (by show c.val = 128 * 1 + e.val; omega)))

/-- Pooling group 2: one column of its product, scaled. -/
theorem pool2_at (x0 : FVec Ideal S8x2048x1024 .f32) (x1 : FVec Ideal S1x1024x2560 .f32) (x2 : FVec Ideal S1x4x128x128 .f32) (x3 : FVec Ideal S1x512 .f32) (n : Fin 8) (l : Fin 2048) (e : Fin 128) (c : Fin 512) (hc : c.val = 256 + e.val) :
    val_main_v75 (F := Ideal) x0 x1 x2 (ix3 n l e) * x3 (ix2 0 c)
      = poolAt x0 x1 x2 x3 (Ideal.ofBits .f32 0x41000000#32) 7 2 n l e := by
  have q : val_main_v75 (F := Ideal) x0 x1 x2 (ix3 n l e)
      = ∑ c : Fin 128, val_main_v72 (F := Ideal) x0 x1 (ix3 n l c) * x2 (ix4 0 2 c e) := by
    pointwise [val_main_v73, val_main_v74, val_main_v75, val_main_v11]
  rw [q]
  unfold poolAt
  exact Ideal.mul_congr (Finset.sum_congr rfl fun c _ => Ideal.mul_congr (row2_at x0 x1 n l c) rfl)
    (congrArg (fun c => x3 (ix2 0 c)) (Fin.ext (by show c.val = 128 * 2 + e.val; omega)))

/-- Pooling group 3: one column of its product, scaled. -/
theorem pool3_at (x0 : FVec Ideal S8x2048x1024 .f32) (x1 : FVec Ideal S1x1024x2560 .f32) (x2 : FVec Ideal S1x4x128x128 .f32) (x3 : FVec Ideal S1x512 .f32) (n : Fin 8) (l : Fin 2048) (e : Fin 128) (c : Fin 512) (hc : c.val = 384 + e.val) :
    val_main_v118 (F := Ideal) x0 x1 x2 (ix3 n l e) * x3 (ix2 0 c)
      = poolAt x0 x1 x2 x3 (Ideal.ofBits .f32 0x41800000#32) 15 3 n l e := by
  have q : val_main_v118 (F := Ideal) x0 x1 x2 (ix3 n l e)
      = ∑ c : Fin 128, val_main_v115 (F := Ideal) x0 x1 (ix3 n l c) * x2 (ix4 0 3 c e) := by
    pointwise [val_main_v116, val_main_v117, val_main_v118, val_main_v11]
  rw [q]
  unfold poolAt
  exact Ideal.mul_congr (Finset.sum_congr rfl fun c _ => Ideal.mul_congr (row3_at x0 x1 n l c) rfl)
    (congrArg (fun c => x3 (ix2 0 c)) (Fin.ext (by show c.val = 128 * 3 + e.val; omega)))

/-- The projection at a column named by its number. -/
theorem h_at' (x0 : FVec Ideal S8x2048x1024 .f32) (x1 : FVec Ideal S1x1024x2560 .f32) (n : Fin 8) (l : Fin 2048) (c c' : Fin 2560) (hc : c.val = c'.val) :
    val_main_v1 (F := Ideal) x0 x1 (ix3 n l c) = hAt x0 x1 n l c' := by
  rw [h_at, Fin.ext hc]

/-- A rotation written with the programs' tables, as the rotation of a row. -/
theorem rot_of (l : Fin 2048) (d : Fin 128) (f : Fin 128 → EReal) (a b : d.val < 64 → EReal) (c e : ¬ d.val < 64 → EReal)
    (ha : ∀ h, a h = f d) (hb : ∀ h : d.val < 64, b h = f ⟨d.val + 64, by omega⟩)
    (hc : ∀ h, c h = f d) (he : ∀ h : ¬ d.val < 64, e h = f ⟨d.val - 64, by omega⟩) :
    (if h : d.val < 64 then
        a h * Ideal.cos (FloatOps.sitofp (F := Ideal) .f32 (BitVec.ofNat 32 l.val) * Ideal.pow (Ideal.ofBits .f32 0x461C4000#32)
              (Ideal.div (-FloatOps.sitofp (F := Ideal) .f32 (BitVec.ofNat 32 d.val)) (Ideal.ofBits .f32 0x42800000#32)))
          - b h * Ideal.sin (FloatOps.sitofp (F := Ideal) .f32 (BitVec.ofNat 32 l.val) * Ideal.pow (Ideal.ofBits .f32 0x461C4000#32)
              (Ideal.div (-FloatOps.sitofp (F := Ideal) .f32 (BitVec.ofNat 32 d.val)) (Ideal.ofBits .f32 0x42800000#32)))
      else
        c h * Ideal.cos (FloatOps.sitofp (F := Ideal) .f32 (BitVec.ofNat 32 l.val) * Ideal.pow (Ideal.ofBits .f32 0x461C4000#32)
              (Ideal.div (-FloatOps.sitofp (F := Ideal) .f32 (BitVec.ofNat 32 (d.val - 64))) (Ideal.ofBits .f32 0x42800000#32)))
          + e h * Ideal.sin (FloatOps.sitofp (F := Ideal) .f32 (BitVec.ofNat 32 l.val) * Ideal.pow (Ideal.ofBits .f32 0x461C4000#32)
              (Ideal.div (-FloatOps.sitofp (F := Ideal) .f32 (BitVec.ofNat 32 (d.val - 64))) (Ideal.ofBits .f32 0x42800000#32))))
      = rot l.val f d := by
  unfold rot
  by_cases h : d.val < 64
  · rw [dif_pos h, dif_pos h, pos_eq _ l.isLt, pos_eq _ (by omega), ang_eq, ha h, hb h, sub_eq_add_neg, ← mul_neg]
    rfl
  · rw [dif_neg h, dif_neg h, pos_eq _ l.isLt, pos_eq _ (by omega), ang_eq, hc h, he h]
    rfl

/-- The rotated query. -/
theorem q_at (x0 : FVec Ideal S8x2048x1024 .f32) (x1 : FVec Ideal S1x1024x2560 .f32) (n : Fin 8) (l : Fin 2048) (h : Fin 4) (d : Fin 128) :
    val_main_v156 (F := Ideal) x0 x1 (ix4 n l h d) = qAt x0 x1 n h l d := by
  pointwise [val_main_v3, val_main_v4, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_cst_8, val_main_cst_9, qAt]
  exact rot_of l d _ _ _ _ _ (fun q => h_at' x0 x1 n l _ _ (by show 512 + (h.val * 128 + d.val) = 512 + 128 * h.val + d.val; omega))
    (fun q => h_at' x0 x1 n l _ _ (by show 512 + (h.val * 128 + (64 + d.val)) = 512 + 128 * h.val + (d.val + 64); omega))
    (fun q => h_at' x0 x1 n l _ _ (by show 512 + (h.val * 128 + (64 + (d.val - 64))) = 512 + 128 * h.val + d.val; omega))
    (fun q => h_at' x0 x1 n l _ _ (by show 512 + (h.val * 128 + (d.val - 64)) = 512 + 128 * h.val + (d.val - 64); omega))

/-- The rotated and scaled key. -/
theorem k_at (x0 : FVec Ideal S8x2048x1024 .f32) (x1 : FVec Ideal S1x1024x2560 .f32) (n : Fin 8) (l : Fin 2048) (h : Fin 4) (d : Fin 128) :
    val_main_v191 (F := Ideal) x0 x1 (ix4 n l h d) = kAt x0 x1 n h l d := by
  pointwise [val_main_v5, val_main_v6, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_cst_10, val_main_cst_11, val_main_cst_12, kAt]
  exact congrArg (· * kscale) (rot_of l d _ _ _ _ _ (fun q => h_at' x0 x1 n l _ _ (by show 1024 + (h.val * 128 + d.val) = 1024 + 128 * h.val + d.val; omega))
    (fun q => h_at' x0 x1 n l _ _ (by show 1024 + (h.val * 128 + (64 + d.val)) = 1024 + 128 * h.val + (d.val + 64); omega))
    (fun q => h_at' x0 x1 n l _ _ (by show 1024 + (h.val * 128 + (64 + (d.val - 64))) = 1024 + 128 * h.val + d.val; omega))
    (fun q => h_at' x0 x1 n l _ _ (by show 1024 + (h.val * 128 + (d.val - 64)) = 1024 + 128 * h.val + (d.val - 64); omega)))

/-- The value. -/
theorem v_at (x0 : FVec Ideal S8x2048x1024 .f32) (x1 : FVec Ideal S1x1024x2560 .f32) (n : Fin 8) (l : Fin 2048) (h : Fin 4) (e : Fin 128) :
    val_main_v8 (F := Ideal) x0 x1 (ix4 n l h e) = vAt x0 x1 n h l e := by
  pointwise [val_main_v7, val_main_v8, vAt]
  exact h_at' x0 x1 n l _ _ (by show 1536 + (h.val * 128 + e.val) = 1536 + 128 * h.val + e.val; omega)

/-- The decay between two tokens. -/
theorem dec_at (h : Fin 4) (l m : Fin 2048) : val_main_v216 (F := Ideal) (ix3 h l m) = decT (lgR h.val) l.val m.val := by
  have z : id (constant (F := Ideal) S_ .f32 0#32) ix0 = 0 := by
    show constant (F := Ideal) S_ .f32 0#32 ix0 = 0
    pointwise [S_]
  pointwise [val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_cst_13, val_main_cst_14, val_main_cst_15, val_main_cst_16, val_main_cst_17, val_main_cst_18, val_main_call0_v0, val_main_call0_v1, val_main_call0_v2]
  rw [z, pos_eq _ l.isLt, pos_eq _ m.isLt, pos_eq _ (by omega), lg_eq]
  exact dec_eq (lgR h.val) l.val m.val 0 rfl

/-- The decay from a token to the end of the sequence. -/
theorem kdec_at (h : Fin 4) (m : Fin 2048) : val_main_v230 (F := Ideal) (ix2 m h) = ((dk (lgR h.val) (2047 - m.val) : ℝ) : EReal) := by
  pointwise [val_main_v192, val_main_v193, val_main_v194, val_main_v195, val_main_v196, val_main_v197, val_main_v198, val_main_v199, val_main_v200, val_main_cst_13, val_main_cst_14, val_main_cst_15, val_main_v223, val_main_v224, val_main_v225, val_main_v226, val_main_v227, val_main_v228, val_main_v229, val_main_v230, val_main_cst_19]
  rw [pos_eq _ m.isLt, pos_eq _ (by omega), lg_eq, lit_2047, ← EReal.coe_sub,
    (by push_cast [Nat.le_sub_one_of_lt m.isLt, Nat.cast_sub (show m.val ≤ 2047 by omega)]; norm_num : (2047 : ℝ) - (m.val : ℝ) = ((2047 - m.val : ℕ) : ℝ)), exp_eq]

/-- The retention of a token. -/
theorem ret_at (x0 : FVec Ideal S8x2048x1024 .f32) (x1 : FVec Ideal S1x1024x2560 .f32) (n : Fin 8) (l : Fin 2048) (h : Fin 4) (e : Fin 128) :
    val_main_v222 (F := Ideal) x0 x1 (ix4 n l h e) = retAt x0 x1 n h l e := by
  pointwise [val_main_v217, val_main_v218, val_main_v219, val_main_v220, val_main_v221, val_main_v222]
  unfold retAt
  refine Finset.sum_congr rfl fun m _ => ?_
  rw [v_at, dec_at, mul_comm]
  exact Ideal.mul_congr (Ideal.mul_congr (Finset.sum_congr rfl fun d _ => Ideal.mul_congr (q_at x0 x1 n l h d) (k_at x0 x1 n m h d)) rfl) rfl

/-- The state after the sequence. -/
theorem st_at (x0 : FVec Ideal S8x2048x1024 .f32) (x1 : FVec Ideal S1x1024x2560 .f32) (n : Fin 8) (h : Fin 4) (d e : Fin 128) :
    val_main_v234 (F := Ideal) x0 x1 (ix4 n h d e) = stateAt x0 x1 n h d e := by
  pointwise [val_main_v231, val_main_v232, val_main_v233, val_main_v234]
  unfold stateAt
  refine Finset.sum_congr rfl fun m _ => ?_
  rw [v_at, kdec_at, k_at]

/-- One column of the normalised and gated retention. -/
theorem head_at (x0 : FVec Ideal S8x2048x1024 .f32) (x1 : FVec Ideal S1x1024x2560 .f32) (x4 : FVec Ideal S1x512 .f32) (n : Fin 8) (l : Fin 2048) (c : Fin 512) :
    val_main_v260 (F := Ideal) x0 x1 x4 (ix3 n l c)
     = headAt x0 x1 x4 n ⟨c.val / 128, by omega⟩ l ⟨c.val % 128, by omega⟩ := by
  have e : val_main_v260 (F := Ideal) x0 x1 x4 (ix3 n l c)
      = gnRow (fun e => val_main_v222 (F := Ideal) x0 x1 (ix4 n l ⟨c.val / 128, by omega⟩ e)) (fun e => val_main_v1 (F := Ideal) x0 x1 (ix3 n l ⟨2048 + c.val, by omega⟩))
          (fun e => x4 (ix2 0 c)) ⟨c.val % 128, by omega⟩ := by
    pointwise [val_main_v9, val_main_v235, val_main_v236, val_main_v237, val_main_v238, val_main_v239, val_main_v240, val_main_v241, val_main_v242, val_main_v243, val_main_v244, val_main_v245, val_main_v246, val_main_v247, val_main_v248, val_main_v249, val_main_v250, val_main_v251, val_main_v252, val_main_v253, val_main_v254, val_main_v255, val_main_v256, val_main_v257, val_main_v258, val_main_v259, val_main_v260, val_main_cst_20, val_main_cst_21, val_main_cst_22, val_main_cst_23, val_main_cst_24, val_main_call1_v0, val_main_call1_v1, val_main_call1_cst, val_main_call1_v2, val_main_call1_v3, val_main_call1_cst_0, val_main_call1_v4, val_main_call1_v5, gnRow, Ideal.logistic]
  rw [e]
  unfold gnRow headAt gnRow
  refine Ideal.mul_congr ?_ (Ideal.mul_congr ?_ ?_)
  · have q : val_main_v1 (F := Ideal) x0 x1 (ix3 n l ⟨2048 + c.val, by omega⟩) = gAt x0 x1 n ⟨c.val / 128, by omega⟩ l ⟨c.val % 128, by omega⟩ :=
      h_at' x0 x1 n l _ _ (by show 2048 + c.val = 2048 + 128 * (c.val / 128) + c.val % 128; omega)
    exact congrArg (fun g => g * Ideal.logistic g) q
  · have q : (fun e => val_main_v222 (F := Ideal) x0 x1 (ix4 n l ⟨c.val / 128, by omega⟩ e)) = retAt x0 x1 n ⟨c.val / 128, by omega⟩ l :=
      funext fun e => ret_at x0 x1 n l _ e
    exact congrArg (fun o : Fin 128 → EReal => (o ⟨c.val % 128, by omega⟩ - Ideal.div (∑ d, o d) hwidth)
        * Ideal.rsqrt (Ideal.div (∑ d, (o d - Ideal.div (∑ d, o d) hwidth) * (o d - Ideal.div (∑ d, o d) hwidth)) hwidth + geps)) q
  · exact congrArg (fun c => x4 (ix2 0 c)) (Fin.ext (by show c.val = 128 * (c.val / 128) + c.val % 128; omega))

/-- One mixed column: a pooling group or a retention head. -/
theorem mix_at (x0 : FVec Ideal S8x2048x1024 .f32) (x1 : FVec Ideal S1x1024x2560 .f32) (x2 : FVec Ideal S1x4x128x128 .f32) (x3 : FVec Ideal S1x512 .f32) (x4 : FVec Ideal S1x512 .f32) (n : Fin 8) (l : Fin 2048) (p : Fin 1024) :
    val_main_v261 (F := Ideal) x0 x1 x2 x3 x4 (ix3 n l p) = mixAt x0 x1 x2 x3 x4 n l p := by
  pointwise [val_main_v12, val_main_v119, val_main_v120, val_main_v121, val_main_v122, val_main_v261]
  unfold mixAt
  by_cases h0 : p.val < 128
  · rw [dif_pos (by omega), dif_pos h0, dif_pos h0]
    exact pool0_at x0 x1 x2 x3 n l _ _ (by show p.val = 0 + p.val; omega)
  by_cases h1 : p.val < 256
  · rw [dif_pos (by omega), dif_neg h0, dif_pos (by omega), dif_neg h0, dif_pos h1]
    exact pool1_at x0 x1 x2 x3 n l _ _ (by show p.val = 128 + (p.val - 128); omega)
  by_cases h2 : p.val < 384
  · rw [dif_pos (by omega), dif_neg h0, dif_neg (by omega), dif_pos (by omega), dif_neg h0, dif_neg h1, dif_pos h2]
    exact pool2_at x0 x1 x2 x3 n l _ _ (by show p.val = 256 + (p.val - 256); omega)
  by_cases h3 : p.val < 512
  · rw [dif_pos (by omega), dif_neg h0, dif_neg (by omega), dif_neg (by omega), dif_neg h0, dif_neg h1, dif_neg h2, dif_pos h3]
    exact pool3_at x0 x1 x2 x3 n l _ _ (by show p.val = 384 + (p.val - 384); omega)
  · rw [dif_neg (by omega), dif_neg h0, dif_neg h1, dif_neg h2, dif_neg h3]
    exact head_at x0 x1 x4 n l ⟨p.val - 512, by omega⟩

/-- The rows handed out. -/
theorem last_at (x0 : FVec Ideal S8x2048x1024 .f32) (x1 : FVec Ideal S1x1024x2560 .f32) (x2 : FVec Ideal S1x4x128x128 .f32) (x3 : FVec Ideal S1x512 .f32) (x4 : FVec Ideal S1x512 .f32) (x5 : FVec Ideal S1x1024x1024 .f32) (x6 x7 : FVec Ideal S2x1024 .f32) (n : Fin 8) (l : Fin 2048) (j : Fin 1024) :
    val_main_v294 (F := Ideal) x0 x1 x2 x3 x4 x5 x6 x7 (ix3 n l j) = evenAt x0 x1 x2 x3 x4 x5 x6 x7 n l j := by
  have e : val_main_v294 (F := Ideal) x0 x1 x2 x3 x4 x5 x6 x7 (ix3 n l j)
      = lnRow (fun i => alpha * x0 (ix3 n l i) + ∑ p, val_main_v261 (F := Ideal) x0 x1 x2 x3 x4 (ix3 n l p) * x5 (ix3 0 p i))
          (fun i => x6 (ix2 0 i)) (fun i => x7 (ix2 0 i)) j := by
    pointwise [val_main_v262, val_main_v263, val_main_v264, val_main_v265, val_main_v266, val_main_v267, val_main_v268, val_main_v269, val_main_v270, val_main_v271, val_main_v272, val_main_v273, val_main_v274, val_main_v275, val_main_v276, val_main_v277, val_main_v278, val_main_v279, val_main_v280, val_main_v281, val_main_v282, val_main_v283, val_main_v284, val_main_v285, val_main_v286, val_main_v287, val_main_v288, val_main_v289, val_main_v290, val_main_v291, val_main_v292, val_main_v293, val_main_v294, val_main_cst_25, val_main_cst_26, val_main_cst_27, val_main_cst_28, val_main_cst_29, val_main_cst_30, lnRow, rowMean]
  rw [e]
  unfold evenAt
  refine congrArg (fun z => lnRow z (fun i => x6 (ix2 0 i)) (fun i => x7 (ix2 0 i)) j) (funext fun i => ?_)
  exact Ideal.add_congr rfl (Finset.sum_congr rfl fun p _ => Ideal.mul_congr (mix_at x0 x1 x2 x3 x4 n l p) rfl)

end Cert.ReferenceEvenIdeal.Value1
-- ==== Proof.EvenRefRes.lean ====
module

public import proofs.«01_k».proof.Proof.EvenRef
public import proofs.«01_k».proof.Proof.EvenRes

@[expose] public section

set_option maxRecDepth 16384

noncomputable section

open Idealize.ShloMosaic Idealize.ShloMosaic.TcCoe Idealize.SL.Sem

namespace Cert.ReferenceEvenIdeal.Value1

open Cert.ReferenceEvenIdeal Cert.ReferenceEvenIdeal.Gen Cert.ReferenceEvenIdeal.Read Cert.Ffn Cert.Even

/-- The reference's rows. -/
theorem even_at (x0 : FVec Ideal S8x2048x1024 .f32) (x1 : FVec Ideal S1x1024x2560 .f32) (x2 : FVec Ideal S1x4x128x128 .f32) (x3 x4 : FVec Ideal S1x512 .f32) (x5 : FVec Ideal S1x1024x1024 .f32) (x6 x7 : FVec Ideal S2x1024 .f32) : val_main_v295 (F := Ideal) x0 x1 x2 x3 x4 x5 x6 x7 = evenRes x0 x1 x2 x3 x4 x5 x6 x7 := by
  funext i
  have h0 : (i 0).val < 16384 := (i 0).isLt
  have h1 : (i 1).val < 1024 := (i 1).isLt
  refine (val_main_v295_apply (F := Ideal) x0 x1 x2 x3 x4 x5 x6 x7 i).trans ?_
  refine (congrArg (val_main_v294 (F := Ideal) x0 x1 x2 x3 x4 x5 x6 x7) (eq_ix3 _)).trans ?_
  refine (last_at x0 x1 x2 x3 x4 x5 x6 x7 (idx_main_v295 i 0) (idx_main_v295 i 1) (idx_main_v295 i 2)).trans ?_
  refine (evenRes_at x0 x1 x2 x3 x4 x5 x6 x7 i (idx_main_v295 i 0) (idx_main_v295 i 1) (idx_main_v295 i 2) ?_ ?_).symm
  · show (i 0).val = 2048 * (((i 0).val * 1024 + (i 1).val) / 2097152) + ((i 0).val * 1024 + (i 1).val) / 1024 % 2048
    omega
  · show (i 1).val = ((i 0).val * 1024 + (i 1).val) % 1024
    omega

/-- The reference's pooled rows. -/
theorem hist_at (x0 : FVec Ideal S8x2048x1024 .f32) (x1 : FVec Ideal S1x1024x2560 .f32) : val_main_v123 (F := Ideal) x0 x1 = histRes x0 x1 := by
  funext i
  have h1 : (i 1).val < 15 := (i 1).isLt
  refine (val_main_v123_apply (F := Ideal) x0 x1 i).trans ?_
  refine (congrArg (val_main_v14 (F := Ideal) x0 x1) (eq_ix3 _)).trans ?_
  refine (ext_at x0 x1 (idx_main_v123 i 0) (idx_main_v123 i 1) (idx_main_v123 i 2)).trans ?_
  have e1 : (idx_main_v123 i 1).val = 2048 + (i 1).val := rfl
  rw [dif_pos (show 15 ≤ (idx_main_v123 i 1).val by omega)]
  exact (histRes_at x0 x1 i _ _ _ rfl (by show 2033 + (i 1).val = (idx_main_v123 i 1).val - 15; omega) rfl).symm

/-- The reference's state. -/
theorem retRes_at (x0 : FVec Ideal S8x2048x1024 .f32) (x1 : FVec Ideal S1x1024x2560 .f32) : val_main_v234 (F := Ideal) x0 x1 = stRes x0 x1 :=
  funext fun i => (congrArg (val_main_v234 (F := Ideal) x0 x1) (eq_ix4 i)).trans (st_at x0 x1 (i 0) (i 1) (i 2) (i 3))

end Cert.ReferenceEvenIdeal.Value1
-- ==== Proof.EvenClaim.lean ====
module

public import proofs.«01_k».proof.Defs
public import proofs.«01_k».proof.Proof.Gen.KernelEvenIdeal.Frame
public import proofs.«01_k».proof.Proof.Gen.ReferenceEvenIdeal.Run
public import proofs.«01_k».proof.Proof.Gen.Pre_finite
public import proofs.«01_k».proof.Proof.EvenFinal
public import proofs.«01_k».proof.Proof.EvenRefRes
public import Idealize.ShloMosaic.Lib.Claim

@[expose] public section

set_option maxRecDepth 16384

noncomputable section

open Idealize.ShloMosaic Idealize.ShloMosaic.TcCoe Idealize.SL.Sem

namespace Cert.LayerEven

/-- The pattern of an infinite float. -/
theorem lit_inf : Ideal.ofBits .f32 0x7F800000#32 = ⊤ := by
  simp [Ideal.ofBits, Ideal.ieee]

/-- A value of finite size is a real number. -/
theorem real_of_lt (a : EReal) (h : max a (-a) < ⊤) : Cert.Even.Real' a := by
  induction a using EReal.rec with
  | bot => simp at h
  | top => simp at h
  | coe r => exact ⟨r, rfl⟩

/-- A size that compares below the infinite float is below the top. -/
theorem lt_of_cmp (a : EReal) (h : Ideal.cmp .olt a (Ideal.ofBits .f32 0x7F800000#32) = 1#1) : a < ⊤ := by
  rw [lit_inf] at h
  by_contra q
  simp [Ideal.cmp, q] at h

/-- The precondition says that the inputs and the weights are real numbers. -/
theorem pre_real (m : (ℓ : Loc Cert.KernelEvenIdeal.nD Cert.KernelEvenIdeal.τ Cert.KernelEvenIdeal.sig) → Buf (Elt Ideal) ℓ) (c : Dev Cert.KernelEvenIdeal.nD)
    (h : Cert.Pre_KernelEvenIdeal_finite (hPre_finite := Cert.Pre_finite.Gen.facts) m) :
    (∀ i, Cert.Even.Real' ((show FVec Ideal Cert.KernelEvenIdeal.S8x2048x1024 .f32 from (m ((c.tc : Thread Cert.KernelEvenIdeal.nD Cert.KernelEvenIdeal.τ).loc Cert.KernelEvenIdeal.main_arg0))) i))
      ∧ ∀ i, Cert.Even.Real' ((show FVec Ideal Cert.KernelEvenIdeal.S1x1024x2560 .f32 from (m ((c.tc : Thread Cert.KernelEvenIdeal.nD Cert.KernelEvenIdeal.τ).loc Cert.KernelEvenIdeal.main_arg1))) i) := by
  have hx := (h c).1
  have hw := (h c).2
  refine ⟨fun i => real_of_lt _ ?_, fun i => real_of_lt _ ?_⟩
  · exact lt_of_cmp _ (congrFun hx i)
  · exact lt_of_cmp _ (congrFun hw i)

/-- The reference's run: the mixer's rows, the last pooled rows and the retention state. -/
theorem refRun (m : (ℓ : Loc Cert.ReferenceEvenIdeal.nD Cert.ReferenceEvenIdeal.τ Cert.ReferenceEvenIdeal.sig) → Buf (Elt Ideal) ℓ) (ρ : Dev Cert.ReferenceEvenIdeal.nD → PrngReg) :
    θ_run (Cert.ReferenceEvenIdeal.defs (F := Ideal)) (onTc (τ := Cert.ReferenceEvenIdeal.τ) (Cert.ReferenceEvenIdeal.main (F := Ideal))) ⟨m, fun _ => 0, ρ⟩ fun r => ∀ c : Dev Cert.ReferenceEvenIdeal.nD,
      r.2.mem ((c.tc : Thread Cert.ReferenceEvenIdeal.nD Cert.ReferenceEvenIdeal.τ).loc Cert.ReferenceEvenIdeal.main_v295) = Cert.Even.evenRes (m ((c.tc : Thread Cert.ReferenceEvenIdeal.nD Cert.ReferenceEvenIdeal.τ).loc Cert.ReferenceEvenIdeal.main_arg0)) (m ((c.tc : Thread Cert.ReferenceEvenIdeal.nD Cert.ReferenceEvenIdeal.τ).loc Cert.ReferenceEvenIdeal.main_arg1)) (m ((c.tc : Thread Cert.ReferenceEvenIdeal.nD Cert.ReferenceEvenIdeal.τ).loc Cert.ReferenceEvenIdeal.main_arg2)) (m ((c.tc : Thread Cert.ReferenceEvenIdeal.nD Cert.ReferenceEvenIdeal.τ).loc Cert.ReferenceEvenIdeal.main_arg3)) (m ((c.tc : Thread Cert.ReferenceEvenIdeal.nD Cert.ReferenceEvenIdeal.τ).loc Cert.ReferenceEvenIdeal.main_arg4)) (m ((c.tc : Thread Cert.ReferenceEvenIdeal.nD Cert.ReferenceEvenIdeal.τ).loc Cert.ReferenceEvenIdeal.main_arg5)) (m ((c.tc : Thread Cert.ReferenceEvenIdeal.nD Cert.ReferenceEvenIdeal.τ).loc Cert.ReferenceEvenIdeal.main_arg6)) (m ((c.tc : Thread Cert.ReferenceEvenIdeal.nD Cert.ReferenceEvenIdeal.τ).loc Cert.ReferenceEvenIdeal.main_arg7))
      ∧ r.2.mem ((c.tc : Thread Cert.ReferenceEvenIdeal.nD Cert.ReferenceEvenIdeal.τ).loc Cert.ReferenceEvenIdeal.main_v123) = Cert.Even.histRes (m ((c.tc : Thread Cert.ReferenceEvenIdeal.nD Cert.ReferenceEvenIdeal.τ).loc Cert.ReferenceEvenIdeal.main_arg0)) (m ((c.tc : Thread Cert.ReferenceEvenIdeal.nD Cert.ReferenceEvenIdeal.τ).loc Cert.ReferenceEvenIdeal.main_arg1))
      ∧ r.2.mem ((c.tc : Thread Cert.ReferenceEvenIdeal.nD Cert.ReferenceEvenIdeal.τ).loc Cert.ReferenceEvenIdeal.main_v234) = Cert.Even.stRes (m ((c.tc : Thread Cert.ReferenceEvenIdeal.nD Cert.ReferenceEvenIdeal.τ).loc Cert.ReferenceEvenIdeal.main_arg0)) (m ((c.tc : Thread Cert.ReferenceEvenIdeal.nD Cert.ReferenceEvenIdeal.τ).loc Cert.ReferenceEvenIdeal.main_arg1))
      ∧ r.2.mem ((c.tc : Thread Cert.ReferenceEvenIdeal.nD Cert.ReferenceEvenIdeal.τ).loc Cert.ReferenceEvenIdeal.main_arg0) = (m ((c.tc : Thread Cert.ReferenceEvenIdeal.nD Cert.ReferenceEvenIdeal.τ).loc Cert.ReferenceEvenIdeal.main_arg0))
      ∧ r.2.mem ((c.tc : Thread Cert.ReferenceEvenIdeal.nD Cert.ReferenceEvenIdeal.τ).loc Cert.ReferenceEvenIdeal.main_arg1) = (m ((c.tc : Thread Cert.ReferenceEvenIdeal.nD Cert.ReferenceEvenIdeal.τ).loc Cert.ReferenceEvenIdeal.main_arg1))
      ∧ r.2.mem ((c.tc : Thread Cert.ReferenceEvenIdeal.nD Cert.ReferenceEvenIdeal.τ).loc Cert.ReferenceEvenIdeal.main_arg2) = (m ((c.tc : Thread Cert.ReferenceEvenIdeal.nD Cert.ReferenceEvenIdeal.τ).loc Cert.ReferenceEvenIdeal.main_arg2))
      ∧ r.2.mem ((c.tc : Thread Cert.ReferenceEvenIdeal.nD Cert.ReferenceEvenIdeal.τ).loc Cert.ReferenceEvenIdeal.main_arg3) = (m ((c.tc : Thread Cert.ReferenceEvenIdeal.nD Cert.ReferenceEvenIdeal.τ).loc Cert.ReferenceEvenIdeal.main_arg3))
      ∧ r.2.mem ((c.tc : Thread Cert.ReferenceEvenIdeal.nD Cert.ReferenceEvenIdeal.τ).loc Cert.ReferenceEvenIdeal.main_arg4) = (m ((c.tc : Thread Cert.ReferenceEvenIdeal.nD Cert.ReferenceEvenIdeal.τ).loc Cert.ReferenceEvenIdeal.main_arg4))
      ∧ r.2.mem ((c.tc : Thread Cert.ReferenceEvenIdeal.nD Cert.ReferenceEvenIdeal.τ).loc Cert.ReferenceEvenIdeal.main_arg5) = (m ((c.tc : Thread Cert.ReferenceEvenIdeal.nD Cert.ReferenceEvenIdeal.τ).loc Cert.ReferenceEvenIdeal.main_arg5))
      ∧ r.2.mem ((c.tc : Thread Cert.ReferenceEvenIdeal.nD Cert.ReferenceEvenIdeal.τ).loc Cert.ReferenceEvenIdeal.main_arg6) = (m ((c.tc : Thread Cert.ReferenceEvenIdeal.nD Cert.ReferenceEvenIdeal.τ).loc Cert.ReferenceEvenIdeal.main_arg6))
      ∧ r.2.mem ((c.tc : Thread Cert.ReferenceEvenIdeal.nD Cert.ReferenceEvenIdeal.τ).loc Cert.ReferenceEvenIdeal.main_arg7) = (m ((c.tc : Thread Cert.ReferenceEvenIdeal.nD Cert.ReferenceEvenIdeal.τ).loc Cert.ReferenceEvenIdeal.main_arg7)) :=
  (θ_run (Cert.ReferenceEvenIdeal.defs (F := Ideal)) _ _).mono (fun _ h c =>
    ⟨(h c).1.trans ((Cert.ReferenceEvenIdeal.Read.val_main_v295_eq (F := Ideal) (StableHlo.launchContents m c)).trans (Cert.ReferenceEvenIdeal.Value1.even_at (m ((c.tc : Thread Cert.ReferenceEvenIdeal.nD Cert.ReferenceEvenIdeal.τ).loc Cert.ReferenceEvenIdeal.main_arg0)) (m ((c.tc : Thread Cert.ReferenceEvenIdeal.nD Cert.ReferenceEvenIdeal.τ).loc Cert.ReferenceEvenIdeal.main_arg1)) (m ((c.tc : Thread Cert.ReferenceEvenIdeal.nD Cert.ReferenceEvenIdeal.τ).loc Cert.ReferenceEvenIdeal.main_arg2)) (m ((c.tc : Thread Cert.ReferenceEvenIdeal.nD Cert.ReferenceEvenIdeal.τ).loc Cert.ReferenceEvenIdeal.main_arg3)) (m ((c.tc : Thread Cert.ReferenceEvenIdeal.nD Cert.ReferenceEvenIdeal.τ).loc Cert.ReferenceEvenIdeal.main_arg4)) (m ((c.tc : Thread Cert.ReferenceEvenIdeal.nD Cert.ReferenceEvenIdeal.τ).loc Cert.ReferenceEvenIdeal.main_arg5)) (m ((c.tc : Thread Cert.ReferenceEvenIdeal.nD Cert.ReferenceEvenIdeal.τ).loc Cert.ReferenceEvenIdeal.main_arg6)) (m ((c.tc : Thread Cert.ReferenceEvenIdeal.nD Cert.ReferenceEvenIdeal.τ).loc Cert.ReferenceEvenIdeal.main_arg7)))),
     (h c).2.1.trans ((Cert.ReferenceEvenIdeal.Read.val_main_v123_eq (F := Ideal) (StableHlo.launchContents m c)).trans (Cert.ReferenceEvenIdeal.Value1.hist_at (m ((c.tc : Thread Cert.ReferenceEvenIdeal.nD Cert.ReferenceEvenIdeal.τ).loc Cert.ReferenceEvenIdeal.main_arg0)) (m ((c.tc : Thread Cert.ReferenceEvenIdeal.nD Cert.ReferenceEvenIdeal.τ).loc Cert.ReferenceEvenIdeal.main_arg1)))),
     (h c).2.2.1.trans ((Cert.ReferenceEvenIdeal.Read.val_main_v234_eq (F := Ideal) (StableHlo.launchContents m c)).trans (Cert.ReferenceEvenIdeal.Value1.retRes_at (m ((c.tc : Thread Cert.ReferenceEvenIdeal.nD Cert.ReferenceEvenIdeal.τ).loc Cert.ReferenceEvenIdeal.main_arg0)) (m ((c.tc : Thread Cert.ReferenceEvenIdeal.nD Cert.ReferenceEvenIdeal.τ).loc Cert.ReferenceEvenIdeal.main_arg1)))),
     (h c).2.2.2⟩) (Cert.ReferenceEvenIdeal.Value.run (F := Ideal) m ρ)

set_option maxHeartbeats 4000000 in
/-- The call's run, for inputs of finite size: the mixer's rows, the last pooled rows and the retention state. -/
theorem kerRun (m : (ℓ : Loc Cert.KernelEvenIdeal.nD Cert.KernelEvenIdeal.τ Cert.KernelEvenIdeal.sig) → Buf (Elt Ideal) ℓ) (ρ : Dev Cert.KernelEvenIdeal.nD → PrngReg)
    (h : Cert.Pre_KernelEvenIdeal_finite (hPre_finite := Cert.Pre_finite.Gen.facts) m) :
    θ_run (Cert.KernelEvenIdeal.defs (F := Ideal)) (onTc (τ := Cert.KernelEvenIdeal.τ) (Cert.KernelEvenIdeal.main (F := Ideal))) ⟨m, fun _ => 0, ρ⟩ fun r => ∀ c : Dev Cert.KernelEvenIdeal.nD,
      r.2.mem ((c.tc : Thread Cert.KernelEvenIdeal.nD Cert.KernelEvenIdeal.τ).loc Cert.KernelEvenIdeal.main_v84_0) = Cert.Even.evenRes (m ((c.tc : Thread Cert.KernelEvenIdeal.nD Cert.KernelEvenIdeal.τ).loc Cert.KernelEvenIdeal.main_arg0)) (m ((c.tc : Thread Cert.KernelEvenIdeal.nD Cert.KernelEvenIdeal.τ).loc Cert.KernelEvenIdeal.main_arg1)) (m ((c.tc : Thread Cert.KernelEvenIdeal.nD Cert.KernelEvenIdeal.τ).loc Cert.KernelEvenIdeal.main_arg2)) (m ((c.tc : Thread Cert.KernelEvenIdeal.nD Cert.KernelEvenIdeal.τ).loc Cert.KernelEvenIdeal.main_arg3)) (m ((c.tc : Thread Cert.KernelEvenIdeal.nD Cert.KernelEvenIdeal.τ).loc Cert.KernelEvenIdeal.main_arg4)) (m ((c.tc : Thread Cert.KernelEvenIdeal.nD Cert.KernelEvenIdeal.τ).loc Cert.KernelEvenIdeal.main_arg5)) (m ((c.tc : Thread Cert.KernelEvenIdeal.nD Cert.KernelEvenIdeal.τ).loc Cert.KernelEvenIdeal.main_arg6)) (m ((c.tc : Thread Cert.KernelEvenIdeal.nD Cert.KernelEvenIdeal.τ).loc Cert.KernelEvenIdeal.main_arg7))
      ∧ r.2.mem ((c.tc : Thread Cert.KernelEvenIdeal.nD Cert.KernelEvenIdeal.τ).loc Cert.KernelEvenIdeal.main_v84_1) = Cert.Even.histRes (m ((c.tc : Thread Cert.KernelEvenIdeal.nD Cert.KernelEvenIdeal.τ).loc Cert.KernelEvenIdeal.main_arg0)) (m ((c.tc : Thread Cert.KernelEvenIdeal.nD Cert.KernelEvenIdeal.τ).loc Cert.KernelEvenIdeal.main_arg1))
      ∧ r.2.mem ((c.tc : Thread Cert.KernelEvenIdeal.nD Cert.KernelEvenIdeal.τ).loc Cert.KernelEvenIdeal.main_v84_2) = Cert.Even.stRes (m ((c.tc : Thread Cert.KernelEvenIdeal.nD Cert.KernelEvenIdeal.τ).loc Cert.KernelEvenIdeal.main_arg0)) (m ((c.tc : Thread Cert.KernelEvenIdeal.nD Cert.KernelEvenIdeal.τ).loc Cert.KernelEvenIdeal.main_arg1))
      ∧ r.2.mem ((c.tc : Thread Cert.KernelEvenIdeal.nD Cert.KernelEvenIdeal.τ).loc Cert.KernelEvenIdeal.main_arg0) = (m ((c.tc : Thread Cert.KernelEvenIdeal.nD Cert.KernelEvenIdeal.τ).loc Cert.KernelEvenIdeal.main_arg0))
      ∧ r.2.mem ((c.tc : Thread Cert.KernelEvenIdeal.nD Cert.KernelEvenIdeal.τ).loc Cert.KernelEvenIdeal.main_arg1) = (m ((c.tc : Thread Cert.KernelEvenIdeal.nD Cert.KernelEvenIdeal.τ).loc Cert.KernelEvenIdeal.main_arg1))
      ∧ r.2.mem ((c.tc : Thread Cert.KernelEvenIdeal.nD Cert.KernelEvenIdeal.τ).loc Cert.KernelEvenIdeal.main_arg2) = (m ((c.tc : Thread Cert.KernelEvenIdeal.nD Cert.KernelEvenIdeal.τ).loc Cert.KernelEvenIdeal.main_arg2))
      ∧ r.2.mem ((c.tc : Thread Cert.KernelEvenIdeal.nD Cert.KernelEvenIdeal.τ).loc Cert.KernelEvenIdeal.main_arg3) = (m ((c.tc : Thread Cert.KernelEvenIdeal.nD Cert.KernelEvenIdeal.τ).loc Cert.KernelEvenIdeal.main_arg3))
      ∧ r.2.mem ((c.tc : Thread Cert.KernelEvenIdeal.nD Cert.KernelEvenIdeal.τ).loc Cert.KernelEvenIdeal.main_arg4) = (m ((c.tc : Thread Cert.KernelEvenIdeal.nD Cert.KernelEvenIdeal.τ).loc Cert.KernelEvenIdeal.main_arg4))
      ∧ r.2.mem ((c.tc : Thread Cert.KernelEvenIdeal.nD Cert.KernelEvenIdeal.τ).loc Cert.KernelEvenIdeal.main_arg5) = (m ((c.tc : Thread Cert.KernelEvenIdeal.nD Cert.KernelEvenIdeal.τ).loc Cert.KernelEvenIdeal.main_arg5))
      ∧ r.2.mem ((c.tc : Thread Cert.KernelEvenIdeal.nD Cert.KernelEvenIdeal.τ).loc Cert.KernelEvenIdeal.main_arg6) = (m ((c.tc : Thread Cert.KernelEvenIdeal.nD Cert.KernelEvenIdeal.τ).loc Cert.KernelEvenIdeal.main_arg6))
      ∧ r.2.mem ((c.tc : Thread Cert.KernelEvenIdeal.nD Cert.KernelEvenIdeal.τ).loc Cert.KernelEvenIdeal.main_arg7) = (m ((c.tc : Thread Cert.KernelEvenIdeal.nD Cert.KernelEvenIdeal.τ).loc Cert.KernelEvenIdeal.main_arg7)) := by
  refine (θ_run (Cert.KernelEvenIdeal.defs (F := Ideal)) _ _).mono (fun r h' c => ?_) (θ_run_and (Cert.KernelEvenIdeal.Gen.unchanged m ρ) (Cert.KernelEvenIdeal.Gen.run_main m ρ))
  refine ⟨((h'.2 c).1 14).trans ?_, ((h'.2 c).1 15).trans ?_, ((h'.2 c).1 16).trans ?_, h'.1 c⟩
  · exact Cert.KernelEvenIdeal.Value1.final14 m c (pre_real m c h).1 (pre_real m c h).2
  · exact Cert.KernelEvenIdeal.Value1.final15 m c (pre_real m c h).1 (pre_real m c h).2
  · exact Cert.KernelEvenIdeal.Value1.final16 m c (pre_real m c h).1 (pre_real m c h).2

/-- The call and the mathematics of the even layer's mixer end with equal results, for inputs of finite size. -/
theorem algebraic : Cert.algebraic_KernelEvenIdeal_ReferenceEvenIdeal_pre_finite (hKernelEvenIdeal := Cert.KernelEvenIdeal.Gen.facts) (hReferenceEvenIdeal := Cert.ReferenceEvenIdeal.Gen.facts) (hPre_finite := Cert.Pre_finite.Gen.facts) := by
  intro m g m' g' hpre hagree
  refine ⟨_, _, _, kerRun m g hpre, (θ_run (Cert.ReferenceEvenIdeal.defs (F := Ideal)) _ _).mono (fun r h c => ?_) (refRun m' g')⟩
  have e := h c
  simp only [hagree c] at e ⊢
  exact e

end Cert.LayerEven
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel0
public import proofs.«01_k».proof.Proof.Gen.Kernel0.Skeleton
public import proofs.«01_k».proof.Proof.Gen.Kernel0.Launch
public import proofs.«01_k».proof.Proof.Gen.Kernel0.Points
public import proofs.«01_k».proof.Proof.Gen.Kernel0.Frame
public import proofs.«01_k».proof.Proof.Gen.Kernel0Ideal
public import proofs.«01_k».proof.Proof.Gen.Kernel0Ideal.Skeleton
public import proofs.«01_k».proof.Proof.Gen.Kernel0Ideal.Launch
public import proofs.«01_k».proof.Proof.Gen.Kernel0Ideal.Points
public import proofs.«01_k».proof.Proof.Gen.Kernel0Ideal.Frame
public import proofs.«01_k».proof.Proof.Gen.Reference0Ideal
public import proofs.«01_k».proof.Proof.Gen.KernelEven
public import proofs.«01_k».proof.Proof.Gen.KernelEven.Skeleton
public import proofs.«01_k».proof.Proof.Gen.KernelEven.Launch
public import proofs.«01_k».proof.Proof.Gen.KernelEven.Points
public import proofs.«01_k».proof.Proof.Gen.KernelEven.Frame
public import proofs.«01_k».proof.Proof.Gen.KernelEvenIdeal
public import proofs.«01_k».proof.Proof.Gen.KernelEvenIdeal.Skeleton
public import proofs.«01_k».proof.Proof.Gen.KernelEvenIdeal.Launch
public import proofs.«01_k».proof.Proof.Gen.KernelEvenIdeal.Points
public import proofs.«01_k».proof.Proof.Gen.KernelEvenIdeal.Frame
public import proofs.«01_k».proof.Proof.Gen.ReferenceEvenIdeal
public import proofs.«01_k».proof.Proof.Gen.Pre_finite
public import proofs.«01_k».proof.Proof.Gen.KernelEvenIdeal.Value
public import proofs.«01_k».proof.Proof.Gen.ReferenceEvenIdeal.Read
public import proofs.«01_k».proof.Proof.Gen.ReferenceEvenIdeal.Run
public import proofs.«01_k».proof.Proof.FfnClaim1
public import proofs.«01_k».proof.Proof.FfnClaim0
public import proofs.«01_k».proof.Proof.EvenClaim
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Every claim of this certificate: the programs run with their arguments unchanged, and each of the three calls ends
    with the results of its reference. -/
theorem claim : Cert.Claim := by
  refine ⟨Cert.Kernel.Gen.facts, Cert.KernelIdeal.Gen.facts, Cert.ReferenceIdeal.Gen.facts, Cert.Kernel0.Gen.facts, Cert.Kernel0Ideal.Gen.facts, Cert.Reference0Ideal.Gen.facts,
    Cert.KernelEven.Gen.facts, Cert.KernelEvenIdeal.Gen.facts, Cert.ReferenceEvenIdeal.Gen.facts, Cert.Pre_finite.Gen.facts,
    fun m g _ => Cert.Kernel.Gen.frame m g, fun m g _ => Cert.KernelIdeal.Gen.frame m g, ?_, fun m g _ => Cert.Kernel0.Gen.frame m g,
    fun m g _ => Cert.Kernel0Ideal.Gen.frame m g, ?_, fun m g _ => Cert.KernelEven.Gen.frame m g, fun m g _ => Cert.KernelEvenIdeal.Gen.frame m g,
    fun m g _ => Cert.KernelEvenIdeal.Gen.frame m g, ?_, ?_, trivial, Cert.Layer1.algebraic, trivial, Cert.Layer0.algebraic, trivial, Cert.LayerEven.algebraic⟩
  · exact fun m g _ => (θ_run (Cert.ReferenceIdeal.defs (F := Ideal)) _ _).mono
      (fun r h => ⟨fun c => (h c).2.2, sem_eq_zero_of_no_sems (by decide) r.2⟩) (Cert.Layer1.refRun m g)
  · exact fun m g _ => (θ_run (Cert.Reference0Ideal.defs (F := Ideal)) _ _).mono
      (fun r h => ⟨fun c => (h c).2.2, sem_eq_zero_of_no_sems (by decide) r.2⟩) (Cert.Layer0.refRun m g)
  · exact fun m g _ => (θ_run (Cert.ReferenceEvenIdeal.defs (F := Ideal)) _ _).mono
      (fun r h => ⟨fun c => (h c).2.2.2, sem_eq_zero_of_no_sems (by decide) r.2⟩) (Cert.LayerEven.refRun m g)
  · exact fun m g _ => (θ_run (Cert.ReferenceEvenIdeal.defs (F := Ideal)) _ _).mono
      (fun r h => ⟨fun c => (h c).2.2.2, sem_eq_zero_of_no_sems (by decide) r.2⟩) (Cert.LayerEven.refRun m g)

end Cert.Proof

end
